-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1))
      ∧ r.2.sem = fun _ => 0)

def preserves_Kernel_KernelIdeal : Prop :=
  IdealRules.named_const.Statement Cert.KernelIdeal.κ "log_zero" .f32 0xC2DC0000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)) →
    ∃ (v0 : (c : Dev Cert.FfnAIdeal.nD) → Buf (Elt Ideal) ((c.tc : Thread Cert.FfnAIdeal.nD Cert.FfnAIdeal.τ).loc Cert.FfnAIdeal.main_v4_0)) (v1 : (c : Dev Cert.FfnAIdeal.nD) → Buf (Elt Ideal) ((c.tc : Thread Cert.FfnAIdeal.nD Cert.FfnAIdeal.τ).loc Cert.FfnAIdeal.main_v4_1)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v4_0) = v0 c
          ∧ r.2.mem ((c.tc : Thread Cert.FfnAIdeal.nD Cert.FfnAIdeal.τ).loc Cert.FfnAIdeal.main_v4_1) = v1 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v8) = v0 c
          ∧ r.2.mem ((c.tc : Thread Cert.FfnARefIdeal.nD Cert.FfnARefIdeal.τ).loc Cert.FfnARefIdeal.main_v22) = v1 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v7) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_v24) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v94_0)) (v1 : (c : Dev Cert.InProjIdeal.nD) → Buf (Elt Ideal) ((c.tc : Thread Cert.InProjIdeal.nD Cert.InProjIdeal.τ).loc Cert.InProjIdeal.main_v94_1)) (v2 : (c : Dev Cert.InProjIdeal.nD) → Buf (Elt Ideal) ((c.tc : Thread Cert.InProjIdeal.nD Cert.InProjIdeal.τ).loc Cert.InProjIdeal.main_v94_2)) (v3 : (c : Dev Cert.InProjIdeal.nD) → Buf (Elt Ideal) ((c.tc : Thread Cert.InProjIdeal.nD Cert.InProjIdeal.τ).loc Cert.InProjIdeal.main_v94_3)) (v4 : (c : Dev Cert.InProjIdeal.nD) → Buf (Elt Ideal) ((c.tc : Thread Cert.InProjIdeal.nD Cert.InProjIdeal.τ).loc Cert.InProjIdeal.main_v94_4)) (v5 : (c : Dev Cert.InProjIdeal.nD) → Buf (Elt Ideal) ((c.tc : Thread Cert.InProjIdeal.nD Cert.InProjIdeal.τ).loc Cert.InProjIdeal.main_v94_5)) (v6 : (c : Dev Cert.InProjIdeal.nD) → Buf (Elt Ideal) ((c.tc : Thread Cert.InProjIdeal.nD Cert.InProjIdeal.τ).loc Cert.InProjIdeal.main_v94_6)) (v7 : (c : Dev Cert.InProjIdeal.nD) → Buf (Elt Ideal) ((c.tc : Thread Cert.InProjIdeal.nD Cert.InProjIdeal.τ).loc Cert.InProjIdeal.main_v94_7)) (v8 : (c : Dev Cert.InProjIdeal.nD) → Buf (Elt Ideal) ((c.tc : Thread Cert.InProjIdeal.nD Cert.InProjIdeal.τ).loc Cert.InProjIdeal.main_v94_8)) (v9 : (c : Dev Cert.InProjIdeal.nD) → Buf (Elt Ideal) ((c.tc : Thread Cert.InProjIdeal.nD Cert.InProjIdeal.τ).loc Cert.InProjIdeal.main_v94_9)) (v10 : (c : Dev Cert.InProjIdeal.nD) → Buf (Elt Ideal) ((c.tc : Thread Cert.InProjIdeal.nD Cert.InProjIdeal.τ).loc Cert.InProjIdeal.main_v94_10)) (v11 : (c : Dev Cert.InProjIdeal.nD) → Buf (Elt Ideal) ((c.tc : Thread Cert.InProjIdeal.nD Cert.InProjIdeal.τ).loc Cert.InProjIdeal.main_v94_11)) (v12 : (c : Dev Cert.InProjIdeal.nD) → Buf (Elt Ideal) ((c.tc : Thread Cert.InProjIdeal.nD Cert.InProjIdeal.τ).loc Cert.InProjIdeal.main_v94_12)) (v13 : (c : Dev Cert.InProjIdeal.nD) → Buf (Elt Ideal) ((c.tc : Thread Cert.InProjIdeal.nD Cert.InProjIdeal.τ).loc Cert.InProjIdeal.main_v94_13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v94_0) = v0 c
          ∧ r.2.mem ((c.tc : Thread Cert.InProjIdeal.nD Cert.InProjIdeal.τ).loc Cert.InProjIdeal.main_v94_1) = v1 c
          ∧ r.2.mem ((c.tc : Thread Cert.InProjIdeal.nD Cert.InProjIdeal.τ).loc Cert.InProjIdeal.main_v94_2) = v2 c
          ∧ r.2.mem ((c.tc : Thread Cert.InProjIdeal.nD Cert.InProjIdeal.τ).loc Cert.InProjIdeal.main_v94_3) = v3 c
          ∧ r.2.mem ((c.tc : Thread Cert.InProjIdeal.nD Cert.InProjIdeal.τ).loc Cert.InProjIdeal.main_v94_4) = v4 c
          ∧ r.2.mem ((c.tc : Thread Cert.InProjIdeal.nD Cert.InProjIdeal.τ).loc Cert.InProjIdeal.main_v94_5) = v5 c
          ∧ r.2.mem ((c.tc : Thread Cert.InProjIdeal.nD Cert.InProjIdeal.τ).loc Cert.InProjIdeal.main_v94_6) = v6 c
          ∧ r.2.mem ((c.tc : Thread Cert.InProjIdeal.nD Cert.InProjIdeal.τ).loc Cert.InProjIdeal.main_v94_7) = v7 c
          ∧ r.2.mem ((c.tc : Thread Cert.InProjIdeal.nD Cert.InProjIdeal.τ).loc Cert.InProjIdeal.main_v94_8) = v8 c
          ∧ r.2.mem ((c.tc : Thread Cert.InProjIdeal.nD Cert.InProjIdeal.τ).loc Cert.InProjIdeal.main_v94_9) = v9 c
          ∧ r.2.mem ((c.tc : Thread Cert.InProjIdeal.nD Cert.InProjIdeal.τ).loc Cert.InProjIdeal.main_v94_10) = v10 c
          ∧ r.2.mem ((c.tc : Thread Cert.InProjIdeal.nD Cert.InProjIdeal.τ).loc Cert.InProjIdeal.main_v94_11) = v11 c
          ∧ r.2.mem ((c.tc : Thread Cert.InProjIdeal.nD Cert.InProjIdeal.τ).loc Cert.InProjIdeal.main_v94_12) = v12 c
          ∧ r.2.mem ((c.tc : Thread Cert.InProjIdeal.nD Cert.InProjIdeal.τ).loc Cert.InProjIdeal.main_v94_13) = v13 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v172) = v0 c
          ∧ r.2.mem ((c.tc : Thread Cert.InProjRefIdeal.nD Cert.InProjRefIdeal.τ).loc Cert.InProjRefIdeal.main_v3) = v1 c
          ∧ r.2.mem ((c.tc : Thread Cert.InProjRefIdeal.nD Cert.InProjRefIdeal.τ).loc Cert.InProjRefIdeal.main_v173) = v2 c
          ∧ r.2.mem ((c.tc : Thread Cert.InProjRefIdeal.nD Cert.InProjRefIdeal.τ).loc Cert.InProjRefIdeal.main_v4) = v3 c
          ∧ r.2.mem ((c.tc : Thread Cert.InProjRefIdeal.nD Cert.InProjRefIdeal.τ).loc Cert.InProjRefIdeal.main_v174) = v4 c
          ∧ r.2.mem ((c.tc : Thread Cert.InProjRefIdeal.nD Cert.InProjRefIdeal.τ).loc Cert.InProjRefIdeal.main_v176) = v5 c
          ∧ r.2.mem ((c.tc : Thread Cert.InProjRefIdeal.nD Cert.InProjRefIdeal.τ).loc Cert.InProjRefIdeal.main_v178) = v6 c
          ∧ r.2.mem ((c.tc : Thread Cert.InProjRefIdeal.nD Cert.InProjRefIdeal.τ).loc Cert.InProjRefIdeal.main_v91) = v7 c
          ∧ r.2.mem ((c.tc : Thread Cert.InProjRefIdeal.nD Cert.InProjRefIdeal.τ).loc Cert.InProjRefIdeal.main_v179) = v8 c
          ∧ r.2.mem ((c.tc : Thread Cert.InProjRefIdeal.nD Cert.InProjRefIdeal.τ).loc Cert.InProjRefIdeal.main_v7) = v9 c
          ∧ r.2.mem ((c.tc : Thread Cert.InProjRefIdeal.nD Cert.InProjRefIdeal.τ).loc Cert.InProjRefIdeal.main_v180) = v10 c
          ∧ r.2.mem ((c.tc : Thread Cert.InProjRefIdeal.nD Cert.InProjRefIdeal.τ).loc Cert.InProjRefIdeal.main_v169) = v11 c
          ∧ r.2.mem ((c.tc : Thread Cert.InProjRefIdeal.nD Cert.InProjRefIdeal.τ).loc Cert.InProjRefIdeal.main_v181) = v12 c
          ∧ r.2.mem ((c.tc : Thread Cert.InProjRefIdeal.nD Cert.InProjRefIdeal.τ).loc Cert.InProjRefIdeal.main_v182) = v13 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)) →
    ∃ (v0 : (c : Dev Cert.InProjSIdeal.nD) → Buf (Elt Ideal) ((c.tc : Thread Cert.InProjSIdeal.nD Cert.InProjSIdeal.τ).loc Cert.InProjSIdeal.main_v94_0)) (v1 : (c : Dev Cert.InProjSIdeal.nD) → Buf (Elt Ideal) ((c.tc : Thread Cert.InProjSIdeal.nD Cert.InProjSIdeal.τ).loc Cert.InProjSIdeal.main_v94_1)) (v2 : (c : Dev Cert.InProjSIdeal.nD) → Buf (Elt Ideal) ((c.tc : Thread Cert.InProjSIdeal.nD Cert.InProjSIdeal.τ).loc Cert.InProjSIdeal.main_v94_2)) (v3 : (c : Dev Cert.InProjSIdeal.nD) → Buf (Elt Ideal) ((c.tc : Thread Cert.InProjSIdeal.nD Cert.InProjSIdeal.τ).loc Cert.InProjSIdeal.main_v94_3)) (v4 : (c : Dev Cert.InProjSIdeal.nD) → Buf (Elt Ideal) ((c.tc : Thread Cert.InProjSIdeal.nD Cert.InProjSIdeal.τ).loc Cert.InProjSIdeal.main_v94_4)) (v5 : (c : Dev Cert.InProjSIdeal.nD) → Buf (Elt Ideal) ((c.tc : Thread Cert.InProjSIdeal.nD Cert.InProjSIdeal.τ).loc Cert.InProjSIdeal.main_v94_5)) (v6 : (c : Dev Cert.InProjSIdeal.nD) → Buf (Elt Ideal) ((c.tc : Thread Cert.InProjSIdeal.nD Cert.InProjSIdeal.τ).loc Cert.InProjSIdeal.main_v94_6)) (v7 : (c : Dev Cert.InProjSIdeal.nD) → Buf (Elt Ideal) ((c.tc : Thread Cert.InProjSIdeal.nD Cert.InProjSIdeal.τ).loc Cert.InProjSIdeal.main_v94_7)) (v8 : (c : Dev Cert.InProjSIdeal.nD) → Buf (Elt Ideal) ((c.tc : Thread Cert.InProjSIdeal.nD Cert.InProjSIdeal.τ).loc Cert.InProjSIdeal.main_v94_8)) (v9 : (c : Dev Cert.InProjSIdeal.nD) → Buf (Elt Ideal) ((c.tc : Thread Cert.InProjSIdeal.nD Cert.InProjSIdeal.τ).loc Cert.InProjSIdeal.main_v94_9)) (v10 : (c : Dev Cert.InProjSIdeal.nD) → Buf (Elt Ideal) ((c.tc : Thread Cert.InProjSIdeal.nD Cert.InProjSIdeal.τ).loc Cert.InProjSIdeal.main_v94_10)) (v11 : (c : Dev Cert.InProjSIdeal.nD) → Buf (Elt Ideal) ((c.tc : Thread Cert.InProjSIdeal.nD Cert.InProjSIdeal.τ).loc Cert.InProjSIdeal.main_v94_11)) (v12 : (c : Dev Cert.InProjSIdeal.nD) → Buf (Elt Ideal) ((c.tc : Thread Cert.InProjSIdeal.nD Cert.InProjSIdeal.τ).loc Cert.InProjSIdeal.main_v94_12)) (v13 : (c : Dev Cert.InProjSIdeal.nD) → Buf (Elt Ideal) ((c.tc : Thread Cert.InProjSIdeal.nD Cert.InProjSIdeal.τ).loc Cert.InProjSIdeal.main_v94_13)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v94_0) = v0 c
          ∧ r.2.mem ((c.tc : Thread Cert.InProjSIdeal.nD Cert.InProjSIdeal.τ).loc Cert.InProjSIdeal.main_v94_1) = v1 c
          ∧ r.2.mem ((c.tc : Thread Cert.InProjSIdeal.nD Cert.InProjSIdeal.τ).loc Cert.InProjSIdeal.main_v94_2) = v2 c
          ∧ r.2.mem ((c.tc : Thread Cert.InProjSIdeal.nD Cert.InProjSIdeal.τ).loc Cert.InProjSIdeal.main_v94_3) = v3 c
          ∧ r.2.mem ((c.tc : Thread Cert.InProjSIdeal.nD Cert.InProjSIdeal.τ).loc Cert.InProjSIdeal.main_v94_4) = v4 c
          ∧ r.2.mem ((c.tc : Thread Cert.InProjSIdeal.nD Cert.InProjSIdeal.τ).loc Cert.InProjSIdeal.main_v94_5) = v5 c
          ∧ r.2.mem ((c.tc : Thread Cert.InProjSIdeal.nD Cert.InProjSIdeal.τ).loc Cert.InProjSIdeal.main_v94_6) = v6 c
          ∧ r.2.mem ((c.tc : Thread Cert.InProjSIdeal.nD Cert.InProjSIdeal.τ).loc Cert.InProjSIdeal.main_v94_7) = v7 c
          ∧ r.2.mem ((c.tc : Thread Cert.InProjSIdeal.nD Cert.InProjSIdeal.τ).loc Cert.InProjSIdeal.main_v94_8) = v8 c
          ∧ r.2.mem ((c.tc : Thread Cert.InProjSIdeal.nD Cert.InProjSIdeal.τ).loc Cert.InProjSIdeal.main_v94_9) = v9 c
          ∧ r.2.mem ((c.tc : Thread Cert.InProjSIdeal.nD Cert.InProjSIdeal.τ).loc Cert.InProjSIdeal.main_v94_10) = v10 c
          ∧ r.2.mem ((c.tc : Thread Cert.InProjSIdeal.nD Cert.InProjSIdeal.τ).loc Cert.InProjSIdeal.main_v94_11) = v11 c
          ∧ r.2.mem ((c.tc : Thread Cert.InProjSIdeal.nD Cert.InProjSIdeal.τ).loc Cert.InProjSIdeal.main_v94_12) = v12 c
          ∧ r.2.mem ((c.tc : Thread Cert.InProjSIdeal.nD Cert.InProjSIdeal.τ).loc Cert.InProjSIdeal.main_v94_13) = v13 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v168) = v0 c
          ∧ r.2.mem ((c.tc : Thread Cert.InProjSRefIdeal.nD Cert.InProjSRefIdeal.τ).loc Cert.InProjSRefIdeal.main_v3) = v1 c
          ∧ r.2.mem ((c.tc : Thread Cert.InProjSRefIdeal.nD Cert.InProjSRefIdeal.τ).loc Cert.InProjSRefIdeal.main_v169) = v2 c
          ∧ r.2.mem ((c.tc : Thread Cert.InProjSRefIdeal.nD Cert.InProjSRefIdeal.τ).loc Cert.InProjSRefIdeal.main_v4) = v3 c
          ∧ r.2.mem ((c.tc : Thread Cert.InProjSRefIdeal.nD Cert.InProjSRefIdeal.τ).loc Cert.InProjSRefIdeal.main_v170) = v4 c
          ∧ r.2.mem ((c.tc : Thread Cert.InProjSRefIdeal.nD Cert.InProjSRefIdeal.τ).loc Cert.InProjSRefIdeal.main_v171) = v5 c
          ∧ r.2.mem ((c.tc : Thread Cert.InProjSRefIdeal.nD Cert.InProjSRefIdeal.τ).loc Cert.InProjSRefIdeal.main_v172) = v6 c
          ∧ r.2.mem ((c.tc : Thread Cert.InProjSRefIdeal.nD Cert.InProjSRefIdeal.τ).loc Cert.InProjSRefIdeal.main_v91) = v7 c
          ∧ r.2.mem ((c.tc : Thread Cert.InProjSRefIdeal.nD Cert.InProjSRefIdeal.τ).loc Cert.InProjSRefIdeal.main_v173) = v8 c
          ∧ r.2.mem ((c.tc : Thread Cert.InProjSRefIdeal.nD Cert.InProjSRefIdeal.τ).loc Cert.InProjSRefIdeal.main_v7) = v9 c
          ∧ r.2.mem ((c.tc : Thread Cert.InProjSRefIdeal.nD Cert.InProjSRefIdeal.τ).loc Cert.InProjSRefIdeal.main_v174) = v10 c
          ∧ r.2.mem ((c.tc : Thread Cert.InProjSRefIdeal.nD Cert.InProjSRefIdeal.τ).loc Cert.InProjSRefIdeal.main_v167) = v11 c
          ∧ r.2.mem ((c.tc : Thread Cert.InProjSRefIdeal.nD Cert.InProjSRefIdeal.τ).loc Cert.InProjSRefIdeal.main_v175) = v12 c
          ∧ r.2.mem ((c.tc : Thread Cert.InProjSRefIdeal.nD Cert.InProjSRefIdeal.τ).loc Cert.InProjSRefIdeal.main_v10) = v13 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnA : Cert.FfnA.Facts) (hFfnAIdeal : Cert.FfnAIdeal.Facts) (hFfnARefIdeal : Cert.FfnARefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_FfnA (hFfnA := hFfnA)
    ∧ quiescent_FfnAIdeal (hFfnAIdeal := hFfnAIdeal)
    ∧ quiescent_FfnARefIdeal (hFfnARefIdeal := hFfnARefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_FfnA_FfnAIdeal
    ∧ algebraic_FfnAIdeal_FfnARefIdeal (hFfnAIdeal := hFfnAIdeal) (hFfnARefIdeal := hFfnARefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
-- ==== Pre_finite_qk.lean ====
abbrev S16384x1024 : Shape := ⟨2, ![16384, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x1024 .bf16) : IVec S16384x1024 1 :=
  let main_v0 : FVec F S16384x1024 .f32 := (extf .f32 · bitsLt_bf16_f32) main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := (extf .f32 · bitsLt_bf16_f32) main_arg0
  let main_cst_0 : FVec F S_ .f32 := constant S_ .f32 0xFF800000#32
  let main_v4 : FVec F S16384x1024 .f32 := broadcastInDim S16384x1024 ![] bcast_S_S16384x1024 main_cst_0
  let main_v5 : IVec S16384x1024 1 := cmpf .ogt main_v3 main_v4
  let main_v6 : IVec S16384x1024 1 := andi main_v2 main_v5
  let main_v7 : FVec F S16384x1024 .f32 := (extf .f32 · bitsLt_bf16_f32) main_arg1
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_v10 : FVec F S16384x1024 .f32 := (extf .f32 · bitsLt_bf16_f32) main_arg1
  let main_cst_2 : FVec F S_ .f32 := constant S_ .f32 0xFF800000#32
  let main_v11 : FVec F S16384x1024 .f32 := broadcastInDim S16384x1024 ![] bcast_S_S16384x1024 main_cst_2
  let main_v12 : IVec S16384x1024 1 := cmpf .ogt main_v10 main_v11
  let main_v13 : IVec S16384x1024 1 := andi main_v9 main_v12
  let main_v14 : IVec S16384x1024 1 := andi main_v6 main_v13
  main_v14
-- ==== Kernel.lean ====
abbrev S16384x1024 : Shape := ⟨2, ![16384, 1024]⟩
abbrev S128x256 : Shape := ⟨2, ![128, 256]⟩
abbrev S_ : Shape := ⟨0, ![]⟩
abbrev S2x8192x1024 : Shape := ⟨3, ![2, 8192, 1024]⟩
abbrev S1x128x1024 : Shape := ⟨3, ![1, 128, 1024]⟩
abbrev S1x8192x1024 : Shape := ⟨3, ![1, 8192, 1024]⟩
abbrev S1024x128 : Shape := ⟨2, ![1024, 128]⟩
abbrev S1x128x128 : Shape := ⟨3, ![1, 128, 128]⟩
abbrev S128x128 : Shape := ⟨2, ![128, 128]⟩
abbrev S1024x256 : Shape := ⟨2, ![1024, 256]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 20
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S128x256, .i32⟩
  | .hbm, ⟨4, _⟩ => ⟨S128x256, .i32⟩
  | .hbm, ⟨5, _⟩ => ⟨S128x256, .i1⟩
  | .hbm, ⟨6, _⟩ => ⟨S_, .i32⟩
  | .hbm, ⟨7, _⟩ => ⟨S128x256, .i32⟩
  | .hbm, ⟨8, _⟩ => ⟨S128x256, .i1⟩
  | .hbm, ⟨9, _⟩ => ⟨S128x256, .i1⟩
  | .hbm, ⟨10, _⟩ => ⟨S_, .f32⟩
  | .hbm, ⟨11, _⟩ => ⟨S128x256, .f32⟩
  | .hbm, ⟨12, _⟩ => ⟨S_, .f32⟩
  | .hbm, ⟨13, _⟩ => ⟨S128x256, .f32⟩
  | .hbm, ⟨14, _⟩ => ⟨S128x256, .f32⟩
  | .hbm, ⟨15, _⟩ => ⟨S128x256, .bf16⟩
  | .hbm, ⟨16, _⟩ => ⟨S2x8192x1024, .bf16⟩
  | .hbm, ⟨17, _⟩ => ⟨S2x8192x1024, .bf16⟩
  | .hbm, ⟨18, _⟩ => ⟨S2x8192x1024, .bf16⟩
  | .hbm, ⟨19, _⟩ => ⟨S2x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x8192x1024, .bf16⟩
  | .local _ .vmem, ⟨3, _⟩ => ⟨S1x8192x1024, .bf16⟩
  | .local _ .vmem, ⟨4, _⟩ => ⟨S128x256, .bf16⟩
  | .local _ .vmem, ⟨5, _⟩ => ⟨S1x128x1024, .bf16⟩
  | .local _ .vmem, ⟨6, _⟩ => ⟨S1x128x1024, .bf16⟩
  | .local _ .vmem, ⟨7, _⟩ => ⟨S1024x128, .f32⟩
  | .local _ .vmem, ⟨8, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32_5 : BitVec 32 := 128#32
  let v22 : BitVec 32 := Scalar.muli arg1 c128_i32_5
  v22
def k0_off1 (i : grid0.Coords) : Fin 3 → Nat :=
  let c0_9 : Index := 0#32
  let arg1 : BitVec 32 := BitVec.ofNat 32 (i 1).val
  let c128_i32_5 : BitVec 32 := 128#32
  let v22 : BitVec 32 := Scalar.muli arg1 c128_i32_5
  let v23 : BitVec 32 := v22
  let v26 : Index := Scalar.indexCast v23
  let c0_10 : Index := 0#32
  ![0, v26.toNat, 0]
def k0_off2 (i : grid0.Coords) : Fin 3 → Nat :=
  let c0_13 : Index := 0#32
  let arg1 : BitVec 32 := BitVec.ofNat 32 (i 1).val
  let c128_i32_5 : BitVec 32 := 128#32
  let v22 : BitVec 32 := Scalar.muli arg1 c128_i32_5
  let v23 : BitVec 32 := v22
  let v32 : Index := Scalar.indexCast v23
  let c128_14 : Index := 128#32
  ![0, v32.toNat, 128]
def k0_off3 (i : grid0.Coords) : Fin 3 → Nat :=
  let c0_18 : Index := 0#32
  let arg1 : BitVec 32 := BitVec.ofNat 32 (i 1).val
  let c128_i32_5 : BitVec 32 := 128#32
  let v22 : BitVec 32 := Scalar.muli arg1 c128_i32_5
  let v23 : BitVec 32 := v22
  let v38 : Index := Scalar.indexCast v23
  let c256_19 : Index := 256#32
  ![0, v38.toNat, 256]
def k0_off4 (i : grid0.Coords) : Fin 3 → Nat :=
  let c0_23 : Index := 0#32
  let arg1 : BitVec 32 := BitVec.ofNat 32 (i 1).val
  let c128_i32_5 : BitVec 32 := 128#32
  let v22 : BitVec 32 := Scalar.muli arg1 c128_i32_5
  let v23 : BitVec 32 := v22
  let v44 : Index := Scalar.indexCast v23
  let c384_24 : Index := 384#32
  ![0, v44.toNat, 384]
def k0_off5 (i : grid0.Coords) : Fin 3 → Nat :=
  let c0_28 : Index := 0#32
  let arg1 : BitVec 32 := BitVec.ofNat 32 (i 1).val
  let c128_i32_5 : BitVec 32 := 128#32
  let v22 : BitVec 32 := Scalar.muli arg1 c128_i32_5
  let v23 : BitVec 32 := v22
  let v50 : Index := Scalar.indexCast v23
  let c512_29 : Index := 512#32
  ![0, v50.toNat, 512]
def k0_off6 (i : grid0.Coords) : Fin 3 → Nat :=
  let c0_33 : Index := 0#32
  let arg1 : BitVec 32 := BitVec.ofNat 32 (i 1).val
  let c128_i32_5 : BitVec 32 := 128#32
  let v22 : BitVec 32 := Scalar.muli arg1 c128_i32_5
  let v23 : BitVec 32 := v22
  let v56 : Index := Scalar.indexCast v23
  let c640_34 : Index := 640#32
  ![0, v56.toNat, 640]
def k0_off7 (i : grid0.Coords) : Fin 3 → Nat :=
  let c0_38 : Index := 0#32
  let arg1 : BitVec 32 := BitVec.ofNat 32 (i 1).val
  let c128_i32_5 : BitVec 32 := 128#32
  let v22 : BitVec 32 := Scalar.muli arg1 c128_i32_5
  let v23 : BitVec 32 := v22
  let v62 : Index := Scalar.indexCast v23
  let c768_39 : Index := 768#32
  ![0, v62.toNat, 768]
def k0_off8 (i : grid0.Coords) : Fin 3 → Nat :=
  let c0_43 : Index := 0#32
  let arg1 : BitVec 32 := BitVec.ofNat 32 (i 1).val
  let c128_i32_5 : BitVec 32 := 128#32
  let v22 : BitVec 32 := Scalar.muli arg1 c128_i32_5
  let v23 : BitVec 32 := v22
  let v68 : Index := Scalar.indexCast v23
  let c896_44 : Index := 896#32
  ![0, v68.toNat, 896]
def k0_mult2 (arg9 : BitVec 32) : BitVec 32 :=
  let c128_i32_126 : BitVec 32 := 128#32
  let v199 : BitVec 32 := Scalar.muli arg9 c128_i32_126
  v199

def k0_off9 (arg9 : BitVec 32) : Fin 3 → Nat :=
  let c0_130 : Index := 0#32
  let c128_i32_126 : BitVec 32 := 128#32
  let v199 : BitVec 32 := Scalar.muli arg9 c128_i32_126
  let v200 : BitVec 32 := v199
  let v203 : Index := Scalar.indexCast v200
  let c0_131 : Index := 0#32
  ![0, v203.toNat, 0]
def k0_off10 (arg9 : BitVec 32) : Fin 3 → Nat :=
  let c0_136 : Index := 0#32
  let c128_i32_126 : BitVec 32 := 128#32
  let v199 : BitVec 32 := Scalar.muli arg9 c128_i32_126
  let v200 : BitVec 32 := v199
  let v209 : Index := Scalar.indexCast v200
  let c128_137 : Index := 128#32
  ![0, v209.toNat, 128]
def k0_off11 (arg9 : BitVec 32) : Fin 3 → Nat :=
  let c0_142 : Index := 0#32
  let c128_i32_126 : BitVec 32 := 128#32
  let v199 : BitVec 32 := Scalar.muli arg9 c128_i32_126
  let v200 : BitVec 32 := v199
  let v215 : Index := Scalar.indexCast v200
  let c256_143 : Index := 256#32
  ![0, v215.toNat, 256]
def k0_off12 (arg9 : BitVec 32) : Fin 3 → Nat :=
  let c0_148 : Index := 0#32
  let c128_i32_126 : BitVec 32 := 128#32
  let v199 : BitVec 32 := Scalar.muli arg9 c128_i32_126
  let v200 : BitVec 32 := v199
  let v221 : Index := Scalar.indexCast v200
  let c384_149 : Index := 384#32
  ![0, v221.toNat, 384]
def k0_off13 (arg9 : BitVec 32) : Fin 3 → Nat :=
  let c0_154 : Index := 0#32
  let c128_i32_126 : BitVec 32 := 128#32
  let v199 : BitVec 32 := Scalar.muli arg9 c128_i32_126
  let v200 : BitVec 32 := v199
  let v227 : Index := Scalar.indexCast v200
  let c512_155 : Index := 512#32
  ![0, v227.toNat, 512]
def k0_off14 (arg9 : BitVec 32) : Fin 3 → Nat :=
  let c0_160 : Index := 0#32
  let c128_i32_126 : BitVec 32 := 128#32
  let v199 : BitVec 32 := Scalar.muli arg9 c128_i32_126
  let v200 : BitVec 32 := v199
  let v233 : Index := Scalar.indexCast v200
  let c640_161 : Index := 640#32
  ![0, v233.toNat, 640]
def k0_off15 (arg9 : BitVec 32) : Fin 3 → Nat :=
  let c0_166 : Index := 0#32
  let c128_i32_126 : BitVec 32 := 128#32
  let v199 : BitVec 32 := Scalar.muli arg9 c128_i32_126
  let v200 : BitVec 32 := v199
  let v239 : Index := Scalar.indexCast v200
  let c768_167 : Index := 768#32
  ![0, v239.toNat, 768]
def k0_off16 (arg9 : BitVec 32) : Fin 3 → Nat :=
  let c0_172 : Index := 0#32
  let c128_i32_126 : BitVec 32 := 128#32
  let v199 : BitVec 32 := Scalar.muli arg9 c128_i32_126
  let v200 : BitVec 32 := v199
  let v245 : Index := Scalar.indexCast v200
  let c896_173 : Index := 896#32
  ![0, v245.toNat, 896]

def k0_chk1 (arg9 : BitVec 32) : Prop :=
  (128 ∣ (k0_mult2 arg9).toNat) ∧
  (∀ a, (k0_off9 arg9) a + S1x128x128.size a ≤ S1x8192x1024.size a) ∧
  (∀ a, (k0_off10 arg9) a + S1x128x128.size a ≤ S1x8192x1024.size a) ∧
  (∀ a, (k0_off11 arg9) a + S1x128x128.size a ≤ S1x8192x1024.size a) ∧
  (∀ a, (k0_off12 arg9) a + S1x128x128.size a ≤ S1x8192x1024.size a) ∧
  (∀ a, (k0_off13 arg9) a + S1x128x128.size a ≤ S1x8192x1024.size a) ∧
  (∀ a, (k0_off14 arg9) a + S1x128x128.size a ≤ S1x8192x1024.size a) ∧
  (∀ a, (k0_off15 arg9) a + S1x128x128.size a ≤ S1x8192x1024.size a) ∧
  (∀ a, (k0_off16 arg9) a + S1x128x128.size a ≤ S1x8192x1024.size a)
theorem k0_mult2_dvd : ∀ (arg9 : BitVec 32) (k0_hw1 : k0_chk1 arg9), 128 ∣ (k0_mult2 arg9).toNat := fun arg9 k0_hw1 => k0_hw1.1
theorem k0_off9_inb : ∀ (arg9 : BitVec 32) (k0_hw1 : k0_chk1 arg9), ∀ a, (k0_off9 arg9) a + S1x128x128.size a ≤ S1x8192x1024.size a := fun arg9 k0_hw1 => k0_hw1.2.1
theorem k0_off10_inb : ∀ (arg9 : BitVec 32) (k0_hw1 : k0_chk1 arg9), ∀ a, (k0_off10 arg9) a + S1x128x128.size a ≤ S1x8192x1024.size a := fun arg9 k0_hw1 => k0_hw1.2.2.1
theorem k0_off11_inb : ∀ (arg9 : BitVec 32) (k0_hw1 : k0_chk1 arg9), ∀ a, (k0_off11 arg9) a + S1x128x128.size a ≤ S1x8192x1024.size a := fun arg9 k0_hw1 => k0_hw1.2.2.2.1
theorem k0_off12_inb : ∀ (arg9 : BitVec 32) (k0_hw1 : k0_chk1 arg9), ∀ a, (k0_off12 arg9) a + S1x128x128.size a ≤ S1x8192x1024.size a := fun arg9 k0_hw1 => k0_hw1.2.2.2.2.1
theorem k0_off13_inb : ∀ (arg9 : BitVec 32) (k0_hw1 : k0_chk1 arg9), ∀ a, (k0_off13 arg9) a + S1x128x128.size a ≤ S1x8192x1024.size a := fun arg9 k0_hw1 => k0_hw1.2.2.2.2.2.1
theorem k0_off14_inb : ∀ (arg9 : BitVec 32) (k0_hw1 : k0_chk1 arg9), ∀ a, (k0_off14 arg9) a + S1x128x128.size a ≤ S1x8192x1024.size a := fun arg9 k0_hw1 => k0_hw1.2.2.2.2.2.2.1
theorem k0_off15_inb : ∀ (arg9 : BitVec 32) (k0_hw1 : k0_chk1 arg9), ∀ a, (k0_off15 arg9) a + S1x128x128.size a ≤ S1x8192x1024.size a := fun arg9 k0_hw1 => k0_hw1.2.2.2.2.2.2.2.1
theorem k0_off16_inb : ∀ (arg9 : BitVec 32) (k0_hw1 : k0_chk1 arg9), ∀ a, (k0_off16 arg9) a + S1x128x128.size a ≤ S1x8192x1024.size a := fun arg9 k0_hw1 => k0_hw1.2.2.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log_zero" => some ⊥
  | _ => none
-- ==== ReferenceIdeal.lean ====
abbrev S16384x1024 : Shape := ⟨2, ![16384, 1024]⟩
abbrev S2x8192x8x128 : Shape := ⟨4, ![2, 8192, 8, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192x8192 : Shape := ⟨4, ![2, 8, 8192, 8192]⟩
abbrev S_ : Shape := ⟨0, ![]⟩
abbrev S2x8x8192x8191 : Shape := ⟨4, ![2, 8, 8192, 8191]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S2x8192x8x128, .f32⟩
  | .hbm, ⟨5, _⟩ => ⟨S16384x1024, .f32⟩
  | .hbm, ⟨6, _⟩ => ⟨S2x8192x8x128, .f32⟩
  | .hbm, ⟨7, _⟩ => ⟨S16384x1024, .f32⟩
  | .hbm, ⟨8, _⟩ => ⟨S2x8192x8x128, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S2x8x8192x8192, .f32⟩
  | .hbm, ⟨16, _⟩ => ⟨S_, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .i1⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S_, .f32⟩
  | .hbm, ⟨54, _⟩ => ⟨S2x8x8192x8192, .i1⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .f32⟩
  | .hbm, ⟨60, _⟩ => ⟨S2x8x8192x8191, .f32⟩
  | .hbm, ⟨61, _⟩ => ⟨S2x8x8192x1, .f32⟩
  | .hbm, ⟨62, _⟩ => ⟨S_, .f32⟩
  | .hbm, ⟨63, _⟩ => ⟨S2x8x8192x1, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S_, .f32⟩
  | .hbm, ⟨68, _⟩ => ⟨S_, .f32⟩
  | .hbm, ⟨69, _⟩ => ⟨S2x8x8192x8192, .i1⟩
  | .hbm, ⟨70, _⟩ => ⟨S2x8x8192x8192, .f32⟩
  | .hbm, ⟨71, _⟩ => ⟨S2x8x8192x8192, .f32⟩
  | .hbm, ⟨72, _⟩ => ⟨S2x8x128x8192, .f32⟩
  | .hbm, ⟨73, _⟩ => ⟨S2x8192x8x128, .f32⟩
  | .hbm, ⟨74, _⟩ => ⟨S2x8192x1024, .f32⟩
  | .hbm, ⟨75, _⟩ => ⟨S2x8192x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v17 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v18 : Ref sig .tc := ⟨.hbm, 56, rfl⟩
abbrev main_call3_cst : Ref sig .tc := ⟨.hbm, 57, rfl⟩
abbrev main_call3_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]
-- ==== Ffn.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FfnA.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnARefIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Gates.lean ====
abbrev S16384x2048 : Shape := ⟨2, ![16384, 2048]⟩
abbrev S2048x4096 : Shape := ⟨2, ![2048, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S2048x4096, .bf16⟩
  | .hbm, ⟨3, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x2048 : Shape := ⟨2, ![16384, 2048]⟩
abbrev S2048x4096 : Shape := ⟨2, ![2048, 4096]⟩
abbrev S16384x4096 : Shape := ⟨2, ![16384, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x4096 : Shape := ⟨2, ![16384, 4096]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x4096, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x2048 : Shape := ⟨2, ![16384, 2048]⟩
abbrev S16384x1024 : Shape := ⟨2, ![16384, 1024]⟩
abbrev S16384x4096 : Shape := ⟨2, ![16384, 4096]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x4096, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x2048, .f32⟩
  | .hbm, ⟨9, _⟩ => ⟨S16384x1024, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== InProj.lean ====
abbrev S16384x2048 : Shape := ⟨2, ![16384, 2048]⟩
abbrev S2048x9808 : Shape := ⟨2, ![2048, 9808]⟩
abbrev S128 : Shape := ⟨1, ![128]⟩
abbrev S2048x256 : Shape := ⟨2, ![2048, 256]⟩
abbrev S2048x64 : Shape := ⟨2, ![2048, 64]⟩
abbrev S_ : Shape := ⟨0, ![]⟩
abbrev S2048x16 : Shape := ⟨2, ![2048, 16]⟩
abbrev S2048x112 : Shape := ⟨2, ![2048, 112]⟩
abbrev S2048x1024 : Shape := ⟨2, ![2048, 1024]⟩
abbrev S1x2048x1024 : Shape := ⟨3, ![1, 2048, 1024]⟩
abbrev S6x2048x1024 : Shape := ⟨3, ![6, 2048, 1024]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S128x1 : Shape := ⟨2, ![128, 1]⟩
abbrev S8192x128 : Shape := ⟨2, ![8192, 128]⟩
abbrev S8 : Shape := ⟨1, ![8]⟩
abbrev S1x8 : Shape := ⟨2, ![1, 8]⟩
abbrev S8192x8 : Shape := ⟨2, ![8192, 8]⟩
abbrev S16384x1024 : Shape := ⟨2, ![16384, 1024]⟩
abbrev S1024x16384 : Shape := ⟨2, ![1024, 16384]⟩
abbrev S16384x256 : Shape := ⟨2, ![16384, 256]⟩
abbrev S32x256x512 : Shape := ⟨3, ![32, 256, 512]⟩
abbrev S16384x64 : Shape := ⟨2, ![16384, 64]⟩
abbrev S16x16384 : Shape := ⟨2, ![16, 16384]⟩
abbrev S512x2048 : Shape := ⟨2, ![512, 2048]⟩
abbrev S512x128 : Shape := ⟨2, ![512, 128]⟩
abbrev S512x1024 : Shape := ⟨2, ![512, 1024]⟩
abbrev S1024x512 : Shape := ⟨2, ![1024, 512]⟩
abbrev S512x256 : Shape := ⟨2, ![512, 256]⟩
abbrev S1x256x512 : Shape := ⟨3, ![1, 256, 512]⟩
abbrev S512x64 : Shape := ⟨2, ![512, 64]⟩
abbrev S16x512 : Shape := ⟨2, ![16, 512]⟩
abbrev S256x512 : Shape := ⟨2, ![256, 512]⟩
abbrev S128x512 : Shape := ⟨2, ![128, 512]⟩

abbrev nBuf : Space → Nat
  | .hbm => 165
  | .vmem => 44
  | .smem => 0
  | _ => 0

abbrev hbmTy0_0 (i : Nat) : BufTy := match i % 128 with
  | 0 => ⟨S16384x2048, .bf16⟩
  | 1 => ⟨S2048x9808, .f32⟩
  | 2 => ⟨S128, .i32⟩
  | 3 => ⟨S128, .i1⟩
  | 4 => ⟨S128, .i1⟩
  | 5 => ⟨S128, .i1⟩
  | 6 => ⟨S128, .i1⟩
  | 7 => ⟨S128, .i1⟩
  | 8 => ⟨S128, .i1⟩
  | 9 => ⟨S128, .i32⟩
  | 10 => ⟨S128, .i1⟩
  | 11 => ⟨S128, .i1⟩
  | 12 => ⟨S128, .i1⟩
  | 13 => ⟨S128, .i1⟩
  | 14 => ⟨S128, .i1⟩
  | 15 => ⟨S128, .i1⟩
  | 16 => ⟨S2048x256, .f32⟩
  | 17 => ⟨S2048x256, .f32⟩
  | 18 => ⟨S2048x64, .f32⟩
  | 19 => ⟨S_, .f32⟩
  | 20 => ⟨S2048x64, .f32⟩
  | 21 => ⟨S2048x16, .f32⟩
  | 22 => ⟨S_, .f32⟩
  | 23 => ⟨S2048x112, .f32⟩
  | 24 => ⟨S_, .f32⟩
  | 25 => ⟨S2048x256, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S1x2048x1024, .f32⟩
  | 33 => ⟨S1x2048x1024, .f32⟩
  | 34 => ⟨S1x2048x1024, .f32⟩
  | 35 => ⟨S1x2048x1024, .f32⟩
  | 36 => ⟨S1x2048x1024, .f32⟩
  | 37 => ⟨S1x2048x1024, .f32⟩
  | 38 => ⟨S6x2048x1024, .f32⟩
  | 39 => ⟨S6x2048x1024, .bf16⟩
  | 40 => ⟨S8192, .i32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S8192, .f32⟩
  | 55 => ⟨S8192x1, .f32⟩
  | 56 => ⟨S1x16, .f32⟩
  | 57 => ⟨S8192x16, .f32⟩
  | 58 => ⟨S8192x16, .f32⟩
  | 59 => ⟨S8192x16, .f32⟩
  | 60 => ⟨S8192x16, .f32⟩
  | 61 => ⟨S8192x16, .f32⟩
  | 62 => ⟨S_, .i32⟩
  | 63 => ⟨S128, .i32⟩
  | 64 => ⟨S128, .i32⟩
  | 65 => ⟨S128, .i32⟩
  | 66 => ⟨S128x1, .i32⟩
  | 67 => ⟨S8192x128, .f32⟩
  | 68 => ⟨S_, .f32⟩
  | 69 => ⟨S_, .f32⟩
  | 70 => ⟨S8192x128, .i1⟩
  | 71 => ⟨S8192x128, .f32⟩
  | 72 => ⟨S8192x128, .f32⟩
  | 73 => ⟨S_, .i32⟩
  | 74 => ⟨S128, .i32⟩
  | 75 => ⟨S128, .i32⟩
  | 76 => ⟨S128, .i32⟩
  | 77 => ⟨S128x1, .i32⟩
  | 78 => ⟨S8192x128, .f32⟩
  | 79 => ⟨S8192x128, .f32⟩
  | 80 => ⟨S_, .f32⟩
  | 81 => ⟨S_, .f32⟩
  | 82 => ⟨S8192x128, .i1⟩
  | 83 => ⟨S8192x128, .f32⟩
  | 84 => ⟨S8192x128, .f32⟩
  | 85 => ⟨S_, .i32⟩
  | 86 => ⟨S128, .i32⟩
  | 87 => ⟨S128, .i32⟩
  | 88 => ⟨S128, .i32⟩
  | 89 => ⟨S128x1, .i32⟩
  | 90 => ⟨S8192x128, .f32⟩
  | 91 => ⟨S_, .f32⟩
  | 92 => ⟨S_, .f32⟩
  | 93 => ⟨S8192x128, .i1⟩
  | 94 => ⟨S8192x128, .f32⟩
  | 95 => ⟨S8192x128, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8192, .f32⟩
  | 110 => ⟨S8192x1, .f32⟩
  | 111 => ⟨S1x8, .f32⟩
  | 112 => ⟨S8192x8, .f32⟩
  | 113 => ⟨S8192x8, .f32⟩
  | 114 => ⟨S8192x8, .f32⟩
  | 115 => ⟨S8192x8, .f32⟩
  | 116 => ⟨S8192x8, .f32⟩
  | 117 => ⟨S_, .i32⟩
  | 118 => ⟨S128, .i32⟩
  | 119 => ⟨S128, .i32⟩
  | 120 => ⟨S128, .i32⟩
  | 121 => ⟨S128x1, .i32⟩
  | 122 => ⟨S8192x128, .f32⟩
  | 123 => ⟨S_, .f32⟩
  | 124 => ⟨S_, .f32⟩
  | 125 => ⟨S8192x128, .i1⟩
  | 126 => ⟨S8192x128, .f32⟩
  | 127 => ⟨S8192x128, .f32⟩
  | _ => ⟨S16384x2048, .bf16⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S8192x128, .f32⟩
  | 6 => ⟨S8192x128, .f32⟩
  | 7 => ⟨S_, .f32⟩
  | 8 => ⟨S_, .f32⟩
  | 9 => ⟨S8192x128, .i1⟩
  | 10 => ⟨S8192x128, .f32⟩
  | 11 => ⟨S8192x128, .f32⟩
  | 12 => ⟨S_, .i32⟩
  | 13 => ⟨S128, .i32⟩
  | 14 => ⟨S128, .i32⟩
  | 15 => ⟨S128, .i32⟩
  | 16 => ⟨S128x1, .i32⟩
  | 17 => ⟨S8192x128, .f32⟩
  | 18 => ⟨S_, .f32⟩
  | 19 => ⟨S_, .f32⟩
  | 20 => ⟨S8192x128, .i1⟩
  | 21 => ⟨S8192x128, .f32⟩
  | 22 => ⟨S8192x128, .f32⟩
  | 23 => ⟨S16384x1024, .bf16⟩
  | 24 => ⟨S16384x1024, .f32⟩
  | 25 => ⟨S16384x1024, .bf16⟩
  | 26 => ⟨S16384x1024, .f32⟩
  | 27 => ⟨S16384x1024, .bf16⟩
  | 28 => ⟨S1024x16384, .bf16⟩
  | 29 => ⟨S1024x16384, .bf16⟩
  | 30 => ⟨S16384x256, .f32⟩
  | 31 => ⟨S16384x256, .bf16⟩
  | 32 => ⟨S16384x256, .f32⟩
  | 33 => ⟨S32x256x512, .bf16⟩
  | 34 => ⟨S16384x64, .f32⟩
  | 35 => ⟨S16384x64, .bf16⟩
  | 36 => ⟨S16x16384, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S512x256, .f32⟩
  | .local _ .vmem, ⟨31, _⟩ => ⟨S512x256, .f32⟩
  | .local _ .vmem, ⟨32, _⟩ => ⟨S512x256, .bf16⟩
  | .local _ .vmem, ⟨33, _⟩ => ⟨S512x256, .bf16⟩
  | .local _ .vmem, ⟨34, _⟩ => ⟨S512x256, .f32⟩
  | .local _ .vmem, ⟨35, _⟩ => ⟨S512x256, .f32⟩
  | .local _ .vmem, ⟨36, _⟩ => ⟨S1x256x512, .bf16⟩
  | .local _ .vmem, ⟨37, _⟩ => ⟨S1x256x512, .bf16⟩
  | .local _ .vmem, ⟨38, _⟩ => ⟨S512x64, .f32⟩
  | .local _ .vmem, ⟨39, _⟩ => ⟨S512x64, .f32⟩
  | .local _ .vmem, ⟨40, _⟩ => ⟨S512x64, .bf16⟩
  | .local _ .vmem, ⟨41, _⟩ => ⟨S512x64, .bf16⟩
  | .local _ .vmem, ⟨42, _⟩ => ⟨S16x512, .f32⟩
  | .local _ .vmem, ⟨43, _⟩ => ⟨S16x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_13 : Ref sig .tc := ⟨.hbm, 22, rfl⟩
abbrev main_v5 : Ref sig .tc := ⟨.hbm, 23, rfl⟩
abbrev main_cst_14 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_15 : Ref sig .tc := ⟨.hbm, 42, rfl⟩
abbrev main_v23 : Ref sig .tc := ⟨.hbm, 43, rfl⟩
abbrev main_v24 : Ref sig .tc := ⟨.hbm, 44, rfl⟩
abbrev main_cst_16 : Ref sig .tc := ⟨.hbm, 45, rfl⟩
abbrev main_v25 : Ref sig .tc := ⟨.hbm, 46, rfl⟩
abbrev main_v26 : Ref sig .tc := ⟨.hbm, 47, rfl⟩
abbrev main_cst_17 : Ref sig .tc := ⟨.hbm, 48, rfl⟩
abbrev main_v27 : Ref sig .tc := ⟨.hbm, 49, rfl⟩
abbrev main_v28 : Ref sig .tc := ⟨.hbm, 50, rfl⟩
abbrev main_cst_18 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_19 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_20 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v44 : Ref sig .tc := ⟨.hbm, 72, rfl⟩
abbrev main_c_21 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_22 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v51 : Ref sig .tc := ⟨.hbm, 84, rfl⟩
abbrev main_c_23 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_24 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v57 : Ref sig .tc := ⟨.hbm, 95, rfl⟩
abbrev main_v58 : Ref sig .tc := ⟨.hbm, 96, rfl⟩
abbrev main_cst_25 : Ref sig .tc := ⟨.hbm, 97, rfl⟩
abbrev main_v59 : Ref sig .tc := ⟨.hbm, 98, rfl⟩
abbrev main_v60 : Ref sig .tc := ⟨.hbm, 99, rfl⟩
abbrev main_cst_26 : Ref sig .tc := ⟨.hbm, 100, rfl⟩
abbrev main_v61 : Ref sig .tc := ⟨.hbm, 101, rfl⟩
abbrev main_v62 : Ref sig .tc := ⟨.hbm, 102, rfl⟩
abbrev main_cst_27 : Ref sig .tc := ⟨.hbm, 103, rfl⟩
abbrev main_v63 : Ref sig .tc := ⟨.hbm, 104, rfl⟩
abbrev main_v64 : Ref sig .tc := ⟨.hbm, 105, rfl⟩
abbrev main_cst_28 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_29 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_30 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v80 : Ref sig .tc := ⟨.hbm, 127, rfl⟩
abbrev main_c_31 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_32 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v87 : Ref sig .tc := ⟨.hbm, 139, rfl⟩
abbrev main_c_33 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_34 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v93 : Ref sig .tc := ⟨.hbm, 150, rfl⟩
abbrev main_v94_0 : Ref sig .tc := ⟨.hbm, 151, rfl⟩
abbrev main_v94_1 : Ref sig .tc := ⟨.hbm, 152, rfl⟩
abbrev main_v94_2 : Ref sig .tc := ⟨.hbm, 153, rfl⟩
abbrev main_v94_3 : Ref sig .tc := ⟨.hbm, 154, rfl⟩
abbrev main_v94_4 : Ref sig .tc := ⟨.hbm, 155, rfl⟩
abbrev main_v94_5 : Ref sig .tc := ⟨.hbm, 156, rfl⟩
abbrev main_v94_6 : Ref sig .tc := ⟨.hbm, 157, rfl⟩
abbrev main_v94_7 : Ref sig .tc := ⟨.hbm, 158, rfl⟩
abbrev main_v94_8 : Ref sig .tc := ⟨.hbm, 159, rfl⟩
abbrev main_v94_9 : Ref sig .tc := ⟨.hbm, 160, rfl⟩
abbrev main_v94_10 : Ref sig .tc := ⟨.hbm, 161, rfl⟩
abbrev main_v94_11 : Ref sig .tc := ⟨.hbm, 162, rfl⟩
abbrev main_v94_12 : Ref sig .tc := ⟨.hbm, 163, rfl⟩
abbrev main_v94_13 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_8 : BitVec 32 := 0#32
  let v18 : BitVec 1 := Scalar.cmpi .ne v17 c0_i32_8
  v18

def k0_cond6 (i : grid0.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== InProjRefIdeal.lean ====
abbrev S16384x2048 : Shape := ⟨2, ![16384, 2048]⟩
abbrev S2048x9808 : Shape := ⟨2, ![2048, 9808]⟩
abbrev S16384x9808 : Shape := ⟨2, ![16384, 9808]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S8192 : Shape := ⟨1, ![8192]⟩
abbrev S2x8192x8x128 : Shape := ⟨4, ![2, 8192, 8, 128]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S2x8192x8x96 : Shape := ⟨4, ![2, 8192, 8, 96]⟩
abbrev S2x8192x2x128 : Shape := ⟨4, ![2, 8192, 2, 128]⟩
abbrev S2x8192x2x16 : Shape := ⟨4, ![2, 8192, 2, 16]⟩
abbrev S2x8192x2x96 : Shape := ⟨4, ![2, 8192, 2, 96]⟩
abbrev S2x8192x16x64 : Shape := ⟨4, ![2, 8192, 16, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S2x8192x16x8 : Shape := ⟨4, ![2, 8192, 16, 8]⟩
abbrev S1x8192x1x8 : Shape := ⟨4, ![1, 8192, 1, 8]⟩
abbrev S2x8192x16x48 : Shape := ⟨4, ![2, 8192, 16, 48]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S32x512x256 : Shape := ⟨3, ![32, 512, 256]⟩
abbrev S32x256x512 : Shape := ⟨3, ![32, 256, 512]⟩
abbrev S1024x16384 : Shape := ⟨2, ![1024, 16384]⟩
abbrev S16x16384 : Shape := ⟨2, ![16, 16384]⟩

abbrev nBuf : Space → Nat
  | .hbm => 201
  | .vmem => 0
  | .smem => 0
  | _ => 0

abbrev hbmTy0_0 (i : Nat) : BufTy := match i % 128 with
  | 0 => ⟨S16384x2048, .bf16⟩
  | 1 => ⟨S2048x9808, .f32⟩
  | 2 => ⟨S16384x2048, .f32⟩
  | 3 => ⟨S16384x9808, .f32⟩
  | 4 => ⟨S16384x1024, .f32⟩
  | 5 => ⟨S16384x1024, .f32⟩
  | 6 => ⟨S16384x1024, .f32⟩
  | 7 => ⟨S16384x1024, .f32⟩
  | 8 => ⟨S16384x256, .f32⟩
  | 9 => ⟨S16384x256, .f32⟩
  | 10 => ⟨S16384x1024, .f32⟩
  | 11 => ⟨S16384x64, .f32⟩
  | 12 => ⟨S16384x16, .f32⟩
  | 13 => ⟨S16384x2048, .f32⟩
  | 14 => ⟨S16384x2048, .f32⟩
  | 15 => ⟨S8192, .i32⟩
  | 16 => ⟨S2x8192x8x128, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S8192, .f32⟩
  | 31 => ⟨S8192x1, .f32⟩
  | 32 => ⟨S1x16, .f32⟩
  | 33 => ⟨S8192x16, .f32⟩
  | 34 => ⟨S8192x16, .f32⟩
  | 35 => ⟨S8192x16, .f32⟩
  | 36 => ⟨S8192x16, .f32⟩
  | 37 => ⟨S8192x1x16, .f32⟩
  | 38 => ⟨S8192x16, .f32⟩
  | 39 => ⟨S8192x1x16, .f32⟩
  | 40 => ⟨S2x8192x8x16, .f32⟩
  | 41 => ⟨S2x8192x8x16, .f32⟩
  | 42 => ⟨S1x8192x1x16, .f32⟩
  | 43 => ⟨S2x8192x8x16, .f32⟩
  | 44 => ⟨S2x8192x8x16, .f32⟩
  | 45 => ⟨S1x8192x1x16, .f32⟩
  | 46 => ⟨S2x8192x8x16, .f32⟩
  | 47 => ⟨S2x8192x8x16, .f32⟩
  | 48 => ⟨S2x8192x8x16, .f32⟩
  | 49 => ⟨S1x8192x1x16, .f32⟩
  | 50 => ⟨S2x8192x8x16, .f32⟩
  | 51 => ⟨S2x8192x8x16, .f32⟩
  | 52 => ⟨S1x8192x1x16, .f32⟩
  | 53 => ⟨S2x8192x8x16, .f32⟩
  | 54 => ⟨S2x8192x8x16, .f32⟩
  | 55 => ⟨S2x8192x8x16, .f32⟩
  | 56 => ⟨S2x8192x8x96, .f32⟩
  | 57 => ⟨S2x8192x8x128, .f32⟩
  | 58 => ⟨S16384x1024, .f32⟩
  | 59 => ⟨S2x8192x2x128, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S8192, .f32⟩
  | 74 => ⟨S8192x1, .f32⟩
  | 75 => ⟨S1x16, .f32⟩
  | 76 => ⟨S8192x16, .f32⟩
  | 77 => ⟨S8192x16, .f32⟩
  | 78 => ⟨S8192x16, .f32⟩
  | 79 => ⟨S8192x16, .f32⟩
  | 80 => ⟨S8192x1x16, .f32⟩
  | 81 => ⟨S8192x16, .f32⟩
  | 82 => ⟨S8192x1x16, .f32⟩
  | 83 => ⟨S2x8192x2x16, .f32⟩
  | 84 => ⟨S2x8192x2x16, .f32⟩
  | 85 => ⟨S1x8192x1x16, .f32⟩
  | 86 => ⟨S2x8192x2x16, .f32⟩
  | 87 => ⟨S2x8192x2x16, .f32⟩
  | 88 => ⟨S1x8192x1x16, .f32⟩
  | 89 => ⟨S2x8192x2x16, .f32⟩
  | 90 => ⟨S2x8192x2x16, .f32⟩
  | 91 => ⟨S2x8192x2x16, .f32⟩
  | 92 => ⟨S1x8192x1x16, .f32⟩
  | 93 => ⟨S2x8192x2x16, .f32⟩
  | 94 => ⟨S2x8192x2x16, .f32⟩
  | 95 => ⟨S1x8192x1x16, .f32⟩
  | 96 => ⟨S2x8192x2x16, .f32⟩
  | 97 => ⟨S2x8192x2x16, .f32⟩
  | 98 => ⟨S2x8192x2x16, .f32⟩
  | 99 => ⟨S2x8192x2x96, .f32⟩
  | 100 => ⟨S2x8192x2x128, .f32⟩
  | 101 => ⟨S16384x256, .f32⟩
  | 102 => ⟨S2x8192x16x64, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S8192, .f32⟩
  | 117 => ⟨S8192x1, .f32⟩
  | 118 => ⟨S1x8, .f32⟩
  | 119 => ⟨S8192x8, .f32⟩
  | 120 => ⟨S8192x8, .f32⟩
  | 121 => ⟨S8192x8, .f32⟩
  | 122 => ⟨S8192x8, .f32⟩
  | 123 => ⟨S8192x1x8, .f32⟩
  | 124 => ⟨S8192x8, .f32⟩
  | 125 => ⟨S8192x1x8, .f32⟩
  | 126 => ⟨S2x8192x16x8, .f32⟩
  | 127 => ⟨S2x8192x16x8, .f32⟩
  | _ => ⟨S16384x2048, .bf16⟩

abbrev hbmTy0_1 (i : Nat) : BufTy := match i % 128 with
  | 0 => ⟨S1x8192x1x8, .f32⟩
  | 1 => ⟨S2x8192x16x8, .f32⟩
  | 2 => ⟨S2x8192x16x8, .f32⟩
  | 3 => ⟨S1x8192x1x8, .f32⟩
  | 4 => ⟨S2x8192x16x8, .f32⟩
  | 5 => ⟨S2x8192x16x8, .f32⟩
  | 6 => ⟨S2x8192x16x8, .f32⟩
  | 7 => ⟨S1x8192x1x8, .f32⟩
  | 8 => ⟨S2x8192x16x8, .f32⟩
  | 9 => ⟨S2x8192x16x8, .f32⟩
  | 10 => ⟨S1x8192x1x8, .f32⟩
  | 11 => ⟨S2x8192x16x8, .f32⟩
  | 12 => ⟨S2x8192x16x8, .f32⟩
  | 13 => ⟨S2x8192x16x8, .f32⟩
  | 14 => ⟨S2x8192x16x48, .f32⟩
  | 15 => ⟨S2x8192x16x64, .f32⟩
  | 16 => ⟨S16384x1024, .f32⟩
  | 17 => ⟨S2x8192x1x64, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S8192, .f32⟩
  | 32 => ⟨S8192x1, .f32⟩
  | 33 => ⟨S1x8, .f32⟩
  | 34 => ⟨S8192x8, .f32⟩
  | 35 => ⟨S8192x8, .f32⟩
  | 36 => ⟨S8192x8, .f32⟩
  | 37 => ⟨S8192x8, .f32⟩
  | 38 => ⟨S8192x1x8, .f32⟩
  | 39 => ⟨S8192x8, .f32⟩
  | 40 => ⟨S8192x1x8, .f32⟩
  | 41 => ⟨S2x8192x1x8, .f32⟩
  | 42 => ⟨S2x8192x1x8, .f32⟩
  | 43 => ⟨S1x8192x1x8, .f32⟩
  | 44 => ⟨S2x8192x1x8, .f32⟩
  | 45 => ⟨S2x8192x1x8, .f32⟩
  | 46 => ⟨S1x8192x1x8, .f32⟩
  | 47 => ⟨S2x8192x1x8, .f32⟩
  | 48 => ⟨S2x8192x1x8, .f32⟩
  | 49 => ⟨S2x8192x1x8, .f32⟩
  | 50 => ⟨S1x8192x1x8, .f32⟩
  | 51 => ⟨S2x8192x1x8, .f32⟩
  | 52 => ⟨S2x8192x1x8, .f32⟩
  | 53 => ⟨S1x8192x1x8, .f32⟩
  | 54 => ⟨S2x8192x1x8, .f32⟩
  | 55 => ⟨S2x8192x1x8, .f32⟩
  | 56 => ⟨S2x8192x1x8, .f32⟩
  | 57 => ⟨S2x8192x1x48, .f32⟩
  | 58 => ⟨S2x8192x1x64, .f32⟩
  | 59 => ⟨S16384x64, .f32⟩
  | 60 => ⟨S32x512x256, .f32⟩
  | 61 => ⟨S32x256x512, .f32⟩
  | 62 => ⟨S16384x1024, .bf16⟩
  | 63 => ⟨S16384x1024, .bf16⟩
  | 64 => ⟨S16384x1024, .bf16⟩
  | 65 => ⟨S1024x16384, .f32⟩
  | 66 => ⟨S1024x16384, .bf16⟩
  | 67 => ⟨S1024x16384, .f32⟩
  | 68 => ⟨S1024x16384, .bf16⟩
  | 69 => ⟨S16384x256, .bf16⟩
  | 70 => ⟨S32x256x512, .bf16⟩
  | 71 => ⟨S16384x64, .bf16⟩
  | 72 => ⟨S16x16384, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_3 : Ref sig .tc := ⟨.hbm, 61, rfl⟩
abbrev main_v55 : Ref sig .tc := ⟨.hbm, 62, rfl⟩
abbrev main_v56 : Ref sig .tc := ⟨.hbm, 63, rfl⟩
abbrev main_cst_4 : Ref sig .tc := ⟨.hbm, 64, rfl⟩
abbrev main_v57 : Ref sig .tc := ⟨.hbm, 65, rfl⟩
abbrev main_v58 : Ref sig .tc := ⟨.hbm, 66, rfl⟩
abbrev main_cst_5 : Ref sig .tc := ⟨.hbm, 67, rfl⟩
abbrev main_v59 : Ref sig .tc := ⟨.hbm, 68, rfl⟩
abbrev main_v60 : Ref sig .tc := ⟨.hbm, 69, rfl⟩
abbrev main_cst_6 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_7 : Ref sig .tc := ⟨.hbm, 104, rfl⟩
abbrev main_v94 : Ref sig .tc := ⟨.hbm, 105, rfl⟩
abbrev main_v95 : Ref sig .tc := ⟨.hbm, 106, rfl⟩
abbrev main_cst_8 : Ref sig .tc := ⟨.hbm, 107, rfl⟩
abbrev main_v96 : Ref sig .tc := ⟨.hbm, 108, rfl⟩
abbrev main_v97 : Ref sig .tc := ⟨.hbm, 109, rfl⟩
abbrev main_cst_9 : Ref sig .tc := ⟨.hbm, 110, rfl⟩
abbrev main_v98 : Ref sig .tc := ⟨.hbm, 111, rfl⟩
abbrev main_v99 : Ref sig .tc := ⟨.hbm, 112, rfl⟩
abbrev main_cst_10 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_cst_11 : Ref sig .tc := ⟨.hbm, 147, rfl⟩
abbrev main_v133 : Ref sig .tc := ⟨.hbm, 148, rfl⟩
abbrev main_v134 : Ref sig .tc := ⟨.hbm, 149, rfl⟩
abbrev main_cst_12 : Ref sig .tc := ⟨.hbm, 150, rfl⟩
abbrev main_v135 : Ref sig .tc := ⟨.hbm, 151, rfl⟩
abbrev main_v136 : Ref sig .tc := ⟨.hbm, 152, rfl⟩
abbrev main_cst_13 : Ref sig .tc := ⟨.hbm, 153, rfl⟩
abbrev main_v137 : Ref sig .tc := ⟨.hbm, 154, rfl⟩
abbrev main_v138 : Ref sig .tc := ⟨.hbm, 155, rfl⟩
abbrev main_cst_14 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩

abbrev nD : Nat := 1
abbrev τ : Topo := Topo.v7x

variable {F : FTy → Type} [FloatOps F]
-- ==== InProjS.lean ====
abbrev S32x2048 : Shape := ⟨2, ![32, 2048]⟩
abbrev S2048x9808 : Shape := ⟨2, ![2048, 9808]⟩
abbrev S128 : Shape := ⟨1, ![128]⟩
abbrev S2048x256 : Shape := ⟨2, ![2048, 256]⟩
abbrev S2048x64 : Shape := ⟨2, ![2048, 64]⟩
abbrev S_ : Shape := ⟨0, ![]⟩
abbrev S2048x16 : Shape := ⟨2, ![2048, 16]⟩
abbrev S2048x112 : Shape := ⟨2, ![2048, 112]⟩
abbrev S2048x1024 : Shape := ⟨2, ![2048, 1024]⟩
abbrev S1x2048x1024 : Shape := ⟨3, ![1, 2048, 1024]⟩
abbrev S6x2048x1024 : Shape := ⟨3, ![6, 2048, 1024]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S128x1 : Shape := ⟨2, ![128, 1]⟩
abbrev S32x128 : Shape := ⟨2, ![32, 128]⟩
abbrev S8 : Shape := ⟨1, ![8]⟩
abbrev S1x8 : Shape := ⟨2, ![1, 8]⟩
abbrev S32x8 : Shape := ⟨2, ![32, 8]⟩
abbrev S32x1024 : Shape := ⟨2, ![32, 1024]⟩
abbrev S32x256 : Shape := ⟨2, ![32, 256]⟩
abbrev S32x64 : Shape := ⟨2, ![32, 64]⟩

abbrev nBuf : Space → Nat
  | .hbm => 166
  | .vmem => 23
  | .smem => 0
  | _ => 0

abbrev hbmTy0_0 (i : Nat) : BufTy := match i % 128 with
  | 0 => ⟨S32x2048, .bf16⟩
  | 1 => ⟨S2048x9808, .f32⟩
  | 2 => ⟨S128, .i32⟩
  | 3 => ⟨S128, .i1⟩
  | 4 => ⟨S128, .i1⟩
  | 5 => ⟨S128, .i1⟩
  | 6 => ⟨S128, .i1⟩
  | 7 => ⟨S128, .i1⟩
  | 8 => ⟨S128, .i1⟩
  | 9 => ⟨S128, .i32⟩
  | 10 => ⟨S128, .i1⟩
  | 11 => ⟨S128, .i1⟩
  | 12 => ⟨S128, .i1⟩
  | 13 => ⟨S128, .i1⟩
  | 14 => ⟨S128, .i1⟩
  | 15 => ⟨S128, .i1⟩
  | 16 => ⟨S2048x256, .f32⟩
  | 17 => ⟨S2048x256, .f32⟩
  | 18 => ⟨S2048x64, .f32⟩
  | 19 => ⟨S_, .f32⟩
  | 20 => ⟨S2048x64, .f32⟩
  | 21 => ⟨S2048x16, .f32⟩
  | 22 => ⟨S_, .f32⟩
  | 23 => ⟨S2048x112, .f32⟩
  | 24 => ⟨S_, .f32⟩
  | 25 => ⟨S2048x256, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S1x2048x1024, .f32⟩
  | 33 => ⟨S1x2048x1024, .f32⟩
  | 34 => ⟨S1x2048x1024, .f32⟩
  | 35 => ⟨S1x2048x1024, .f32⟩
  | 36 => ⟨S1x2048x1024, .f32⟩
  | 37 => ⟨S1x2048x1024, .f32⟩
  | 38 => ⟨S6x2048x1024, .f32⟩
  | 39 => ⟨S6x2048x1024, .bf16⟩
  | 40 => ⟨S_, .i32⟩
  | 41 => ⟨S32, .i32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S32, .f32⟩
  | 56 => ⟨S32x1, .f32⟩
  | 57 => ⟨S1x16, .f32⟩
  | 58 => ⟨S32x16, .f32⟩
  | 59 => ⟨S32x16, .f32⟩
  | 60 => ⟨S32x16, .f32⟩
  | 61 => ⟨S32x16, .f32⟩
  | 62 => ⟨S32x16, .f32⟩
  | 63 => ⟨S_, .i32⟩
  | 64 => ⟨S128, .i32⟩
  | 65 => ⟨S128, .i32⟩
  | 66 => ⟨S128, .i32⟩
  | 67 => ⟨S128x1, .i32⟩
  | 68 => ⟨S32x128, .f32⟩
  | 69 => ⟨S_, .f32⟩
  | 70 => ⟨S_, .f32⟩
  | 71 => ⟨S32x128, .i1⟩
  | 72 => ⟨S32x128, .f32⟩
  | 73 => ⟨S32x128, .f32⟩
  | 74 => ⟨S_, .i32⟩
  | 75 => ⟨S128, .i32⟩
  | 76 => ⟨S128, .i32⟩
  | 77 => ⟨S128, .i32⟩
  | 78 => ⟨S128x1, .i32⟩
  | 79 => ⟨S32x128, .f32⟩
  | 80 => ⟨S32x128, .f32⟩
  | 81 => ⟨S_, .f32⟩
  | 82 => ⟨S_, .f32⟩
  | 83 => ⟨S32x128, .i1⟩
  | 84 => ⟨S32x128, .f32⟩
  | 85 => ⟨S32x128, .f32⟩
  | 86 => ⟨S_, .i32⟩
  | 87 => ⟨S128, .i32⟩
  | 88 => ⟨S128, .i32⟩
  | 89 => ⟨S128, .i32⟩
  | 90 => ⟨S128x1, .i32⟩
  | 91 => ⟨S32x128, .f32⟩
  | 92 => ⟨S_, .f32⟩
  | 93 => ⟨S_, .f32⟩
  | 94 => ⟨S32x128, .i1⟩
  | 95 => ⟨S32x128, .f32⟩
  | 96 => ⟨S32x128, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S32, .f32⟩
  | 111 => ⟨S32x1, .f32⟩
  | 112 => ⟨S1x8, .f32⟩
  | 113 => ⟨S32x8, .f32⟩
  | 114 => ⟨S32x8, .f32⟩
  | 115 => ⟨S32x8, .f32⟩
  | 116 => ⟨S32x8, .f32⟩
  | 117 => ⟨S32x8, .f32⟩
  | 118 => ⟨S_, .i32⟩
  | 119 => ⟨S128, .i32⟩
  | 120 => ⟨S128, .i32⟩
  | 121 => ⟨S128, .i32⟩
  | 122 => ⟨S128x1, .i32⟩
  | 123 => ⟨S32x128, .f32⟩
  | 124 => ⟨S_, .f32⟩
  | 125 => ⟨S_, .f32⟩
  | 126 => ⟨S32x128, .i1⟩
  | 127 => ⟨S32x128, .f32⟩
  | _ => ⟨S32x2048, .bf16⟩

abbrev hbmTy0_1 (i : Nat) : BufTy := match i % 128 with
  | 0 => ⟨S32x128, .f32⟩
  | 1 => ⟨S_, .i32⟩
  | 2 => ⟨S128, .i32⟩
  | 3 => ⟨S128, .i32⟩
  | 4 => ⟨S128, .i32⟩
  | 5 => ⟨S128x1, .i32⟩
  | 6 => ⟨S32x128, .f32⟩
  | 7 => ⟨S32x128, .f32⟩
  | 8 => ⟨S_, .f32⟩
  | 9 => ⟨S_, .f32⟩
  | 10 => ⟨S32x128, .i1⟩
  | 11 => ⟨S32x128, .f32⟩
  | 12 => ⟨S32x128, .f32⟩
  | 13 => ⟨S_, .i32⟩
  | 14 => ⟨S128, .i32⟩
  | 15 => ⟨S128, .i32⟩
  | 16 => ⟨S128, .i32⟩
  | 17 => ⟨S128x1, .i32⟩
  | 18 => ⟨S32x128, .f32⟩
  | 19 => ⟨S_, .f32⟩
  | 20 => ⟨S_, .f32⟩
  | 21 => ⟨S32x128, .i1⟩
  | 22 => ⟨S32x128, .f32⟩
  | 23 => ⟨S32x128, .f32⟩
  | 24 => ⟨S32x1024, .bf16⟩
  | 25 => ⟨S32x1024, .f32⟩
  | 26 => ⟨S32x1024, .bf16⟩
  | 27 => ⟨S32x1024, .f32⟩
  | 28 => ⟨S32x1024, .bf16⟩
  | 29 => ⟨S32x1024, .bf16⟩
  | 30 => ⟨S32x1024, .bf16⟩
  | 31 => ⟨S32x256, .f32⟩
  | 32 => ⟨S32x256, .bf16⟩
  | 33 => ⟨S32x256, .f32⟩
  | 34 => ⟨S32x256, .bf16⟩
  | 35 => ⟨S32x64, .f32⟩
  | 36 => ⟨S32x64, .bf16⟩
  | 37 => ⟨S32x16, .f32⟩
  | _ => ⟨S32x2048, .bf16⟩

abbrev hbmTy (i : Nat) : BufTy := match i / 128 with
  | 0 => hbmTy0_0 i
  | 1 => hbmTy0_1 i
  | _ => ⟨S32x2048, .bf16⟩

abbrev bufTy : (tb : Table) → Fin (tcTables nBuf tb) → BufTy
  | .hbm, ⟨i, _⟩ => hbmTy i
  | .local _ .vmem, ⟨0, _⟩ => ⟨S32x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x1024, .bf16⟩
  | .local _ .vmem, ⟨10, _⟩ => ⟨S32x1024, .f32⟩
  | .local _ .vmem, ⟨11, _⟩ => ⟨S32x1024, .bf16⟩
  | .local _ .vmem, ⟨12, _⟩ => ⟨S32x1024, .f32⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S32x256, .f32⟩
  | .local _ .vmem, ⟨17, _⟩ => ⟨S32x256, .bf16⟩
  | .local _ .vmem, ⟨18, _⟩ => ⟨S32x256, .f32⟩
  | .local _ .vmem, ⟨19, _⟩ => ⟨S32x256, .bf16⟩
  | .local _ .vmem, ⟨20, _⟩ => ⟨S32x64, .f32⟩
  | .local _ .vmem, ⟨21, _⟩ => ⟨S32x64, .bf16⟩
  | .local _ .vmem, ⟨22, _⟩ => ⟨S32x16, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_13 : Ref sig .tc := ⟨.hbm, 22, rfl⟩
abbrev main_v5 : Ref sig .tc := ⟨.hbm, 23, rfl⟩
abbrev main_cst_14 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_15 : Ref sig .tc := ⟨.hbm, 40, rfl⟩
abbrev main_v21 : Ref sig .tc := ⟨.hbm, 41, rfl⟩
abbrev main_v22 : Ref sig .tc := ⟨.hbm, 42, rfl⟩
abbrev main_cst_16 : Ref sig .tc := ⟨.hbm, 43, rfl⟩
abbrev main_v23 : Ref sig .tc := ⟨.hbm, 44, rfl⟩
abbrev main_v24 : Ref sig .tc := ⟨.hbm, 45, rfl⟩
abbrev main_cst_17 : Ref sig .tc := ⟨.hbm, 46, rfl⟩
abbrev main_v25 : Ref sig .tc := ⟨.hbm, 47, rfl⟩
abbrev main_v26 : Ref sig .tc := ⟨.hbm, 48, rfl⟩
abbrev main_cst_18 : Ref sig .tc := ⟨.hbm, 49, rfl⟩
abbrev main_v27 : Ref sig .tc := ⟨.hbm, 50, rfl⟩
abbrev main_v28 : Ref sig .tc := ⟨.hbm, 51, rfl⟩
abbrev main_cst_19 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_20 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_21 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v44 : Ref sig .tc := ⟨.hbm, 73, rfl⟩
abbrev main_c_22 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_23 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v51 : Ref sig .tc := ⟨.hbm, 85, rfl⟩
abbrev main_c_24 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_25 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v57 : Ref sig .tc := ⟨.hbm, 96, rfl⟩
abbrev main_v58 : Ref sig .tc := ⟨.hbm, 97, rfl⟩
abbrev main_cst_26 : Ref sig .tc := ⟨.hbm, 98, rfl⟩
abbrev main_v59 : Ref sig .tc := ⟨.hbm, 99, rfl⟩
abbrev main_v60 : Ref sig .tc := ⟨.hbm, 100, rfl⟩
abbrev main_cst_27 : Ref sig .tc := ⟨.hbm, 101, rfl⟩
abbrev main_v61 : Ref sig .tc := ⟨.hbm, 102, rfl⟩
abbrev main_v62 : Ref sig .tc := ⟨.hbm, 103, rfl⟩
abbrev main_cst_28 : Ref sig .tc := ⟨.hbm, 104, rfl⟩
abbrev main_v63 : Ref sig .tc := ⟨.hbm, 105, rfl⟩
abbrev main_v64 : Ref sig .tc := ⟨.hbm, 106, rfl⟩
abbrev main_cst_29 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_30 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_31 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v80 : Ref sig .tc := ⟨.hbm, 128, rfl⟩
abbrev main_c_32 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_33 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v87 : Ref sig .tc := ⟨.hbm, 140, rfl⟩
abbrev main_c_34 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_35 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v93 : Ref sig .tc := ⟨.hbm, 151, rfl⟩
abbrev main_v94_0 : Ref sig .tc := ⟨.hbm, 152, rfl⟩
abbrev main_v94_1 : Ref sig .tc := ⟨.hbm, 153, rfl⟩
abbrev main_v94_2 : Ref sig .tc := ⟨.hbm, 154, rfl⟩
abbrev main_v94_3 : Ref sig .tc := ⟨.hbm, 155, rfl⟩
abbrev main_v94_4 : Ref sig .tc := ⟨.hbm, 156, rfl⟩
abbrev main_v94_5 : Ref sig .tc := ⟨.hbm, 157, rfl⟩
abbrev main_v94_6 : Ref sig .tc := ⟨.hbm, 158, rfl⟩
abbrev main_v94_7 : Ref sig .tc := ⟨.hbm, 159, rfl⟩
abbrev main_v94_8 : Ref sig .tc := ⟨.hbm, 160, rfl⟩
abbrev main_v94_9 : Ref sig .tc := ⟨.hbm, 161, rfl⟩
abbrev main_v94_10 : Ref sig .tc := ⟨.hbm, 162, rfl⟩
abbrev main_v94_11 : Ref sig .tc := ⟨.hbm, 163, rfl⟩
abbrev main_v94_12 : Ref sig .tc := ⟨.hbm, 164, rfl⟩
abbrev main_v94_13 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_8 : BitVec 32 := 0#32
  let v18 : BitVec 1 := Scalar.cmpi .ne v17 c0_i32_8
  v18

def k0_cond6 (i : grid0.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S32x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S32x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S32x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S32x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]

abbrev stage0_20 : Fin 1 → Memref sig .tc .vmem S32x64 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, false]

abbrev stage0_21 : Fin 1 → Memref sig .tc .vmem S32x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, false]
-- ==== InProjSRefIdeal.lean ====
abbrev S32x2048 : Shape := ⟨2, ![32, 2048]⟩
abbrev S2048x9808 : Shape := ⟨2, ![2048, 9808]⟩
abbrev S32x9808 : Shape := ⟨2, ![32, 9808]⟩
abbrev S32x1024 : Shape := ⟨2, ![32, 1024]⟩
abbrev S32x256 : Shape := ⟨2, ![32, 256]⟩
abbrev S32x64 : Shape := ⟨2, ![32, 64]⟩
abbrev S32x16 : Shape := ⟨2, ![32, 16]⟩
abbrev S1 : Shape := ⟨1, ![1]⟩
abbrev S_ : Shape := ⟨0, ![]⟩
abbrev S32x1x8x128 : Shape := ⟨4, ![32, 1, 8, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S32x1x8x16 : Shape := ⟨4, ![32, 1, 8, 16]⟩
abbrev S1x1x1x16 : Shape := ⟨4, ![1, 1, 1, 16]⟩
abbrev S32x1x8x96 : Shape := ⟨4, ![32, 1, 8, 96]⟩
abbrev S32x1x2x128 : Shape := ⟨4, ![32, 1, 2, 128]⟩
abbrev S32x1x2x16 : Shape := ⟨4, ![32, 1, 2, 16]⟩
abbrev S32x1x2x96 : Shape := ⟨4, ![32, 1, 2, 96]⟩
abbrev S32x1x16x64 : Shape := ⟨4, ![32, 1, 16, 64]⟩
abbrev S8 : Shape := ⟨1, ![8]⟩
abbrev S1x8 : Shape := ⟨2, ![1, 8]⟩
abbrev S1x1x8 : Shape := ⟨3, ![1, 1, 8]⟩
abbrev S32x1x16x8 : Shape := ⟨4, ![32, 1, 16, 8]⟩
abbrev S1x1x1x8 : Shape := ⟨4, ![1, 1, 1, 8]⟩
abbrev S32x1x16x48 : Shape := ⟨4, ![32, 1, 16, 48]⟩
abbrev S32x1x1x64 : Shape := ⟨4, ![32, 1, 1, 64]⟩
abbrev S32x1x1x8 : Shape := ⟨4, ![32, 1, 1, 8]⟩
abbrev S32x1x1x48 : Shape := ⟨4, ![32, 1, 1, 48]⟩

abbrev nBuf : Space → Nat
  | .hbm => 195
  | .vmem => 0
  | .smem => 0
  | _ => 0

abbrev hbmTy0_0 (i : Nat) : BufTy := match i % 128 with
  | 0 => ⟨S32x2048, .bf16⟩
  | 1 => ⟨S2048x9808, .f32⟩
  | 2 => ⟨S32x2048, .f32⟩
  | 3 => ⟨S32x9808, .f32⟩
  | 4 => ⟨S32x1024, .f32⟩
  | 5 => ⟨S32x1024, .f32⟩
  | 6 => ⟨S32x1024, .f32⟩
  | 7 => ⟨S32x1024, .f32⟩
  | 8 => ⟨S32x256, .f32⟩
  | 9 => ⟨S32x256, .f32⟩
  | 10 => ⟨S32x1024, .f32⟩
  | 11 => ⟨S32x64, .f32⟩
  | 12 => ⟨S32x16, .f32⟩
  | 13 => ⟨S32x2048, .f32⟩
  | 14 => ⟨S32x2048, .f32⟩
  | 15 => ⟨S1, .i32⟩
  | 16 => ⟨S_, .i32⟩
  | 17 => ⟨S1, .i32⟩
  | 18 => ⟨S1, .i32⟩
  | 19 => ⟨S32x1x8x128, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S1, .f32⟩
  | 34 => ⟨S1x1, .f32⟩
  | 35 => ⟨S1x16, .f32⟩
  | 36 => ⟨S1x16, .f32⟩
  | 37 => ⟨S1x16, .f32⟩
  | 38 => ⟨S1x16, .f32⟩
  | 39 => ⟨S1x1x16, .f32⟩
  | 40 => ⟨S1x16, .f32⟩
  | 41 => ⟨S1x1x16, .f32⟩
  | 42 => ⟨S32x1x8x16, .f32⟩
  | 43 => ⟨S32x1x8x16, .f32⟩
  | 44 => ⟨S1x1x1x16, .f32⟩
  | 45 => ⟨S32x1x8x16, .f32⟩
  | 46 => ⟨S32x1x8x16, .f32⟩
  | 47 => ⟨S1x1x1x16, .f32⟩
  | 48 => ⟨S32x1x8x16, .f32⟩
  | 49 => ⟨S32x1x8x16, .f32⟩
  | 50 => ⟨S32x1x8x16, .f32⟩
  | 51 => ⟨S1x1x1x16, .f32⟩
  | 52 => ⟨S32x1x8x16, .f32⟩
  | 53 => ⟨S32x1x8x16, .f32⟩
  | 54 => ⟨S1x1x1x16, .f32⟩
  | 55 => ⟨S32x1x8x16, .f32⟩
  | 56 => ⟨S32x1x8x16, .f32⟩
  | 57 => ⟨S32x1x8x16, .f32⟩
  | 58 => ⟨S32x1x8x96, .f32⟩
  | 59 => ⟨S32x1x8x128, .f32⟩
  | 60 => ⟨S32x1024, .f32⟩
  | 61 => ⟨S32x1x2x128, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S1, .f32⟩
  | 76 => ⟨S1x1, .f32⟩
  | 77 => ⟨S1x16, .f32⟩
  | 78 => ⟨S1x16, .f32⟩
  | 79 => ⟨S1x16, .f32⟩
  | 80 => ⟨S1x16, .f32⟩
  | 81 => ⟨S1x1x16, .f32⟩
  | 82 => ⟨S1x16, .f32⟩
  | 83 => ⟨S1x1x16, .f32⟩
  | 84 => ⟨S32x1x2x16, .f32⟩
  | 85 => ⟨S32x1x2x16, .f32⟩
  | 86 => ⟨S1x1x1x16, .f32⟩
  | 87 => ⟨S32x1x2x16, .f32⟩
  | 88 => ⟨S32x1x2x16, .f32⟩
  | 89 => ⟨S1x1x1x16, .f32⟩
  | 90 => ⟨S32x1x2x16, .f32⟩
  | 91 => ⟨S32x1x2x16, .f32⟩
  | 92 => ⟨S32x1x2x16, .f32⟩
  | 93 => ⟨S1x1x1x16, .f32⟩
  | 94 => ⟨S32x1x2x16, .f32⟩
  | 95 => ⟨S32x1x2x16, .f32⟩
  | 96 => ⟨S1x1x1x16, .f32⟩
  | 97 => ⟨S32x1x2x16, .f32⟩
  | 98 => ⟨S32x1x2x16, .f32⟩
  | 99 => ⟨S32x1x2x16, .f32⟩
  | 100 => ⟨S32x1x2x96, .f32⟩
  | 101 => ⟨S32x1x2x128, .f32⟩
  | 102 => ⟨S32x256, .f32⟩
  | 103 => ⟨S32x1x16x64, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S1, .f32⟩
  | 118 => ⟨S1x1, .f32⟩
  | 119 => ⟨S1x8, .f32⟩
  | 120 => ⟨S1x8, .f32⟩
  | 121 => ⟨S1x8, .f32⟩
  | 122 => ⟨S1x8, .f32⟩
  | 123 => ⟨S1x1x8, .f32⟩
  | 124 => ⟨S1x8, .f32⟩
  | 125 => ⟨S1x1x8, .f32⟩
  | 126 => ⟨S32x1x16x8, .f32⟩
  | 127 => ⟨S32x1x16x8, .f32⟩
  | _ => ⟨S32x2048, .bf16⟩

abbrev hbmTy0_1 (i : Nat) : BufTy := match i % 128 with
  | 0 => ⟨S1x1x1x8, .f32⟩
  | 1 => ⟨S32x1x16x8, .f32⟩
  | 2 => ⟨S32x1x16x8, .f32⟩
  | 3 => ⟨S1x1x1x8, .f32⟩
  | 4 => ⟨S32x1x16x8, .f32⟩
  | 5 => ⟨S32x1x16x8, .f32⟩
  | 6 => ⟨S32x1x16x8, .f32⟩
  | 7 => ⟨S1x1x1x8, .f32⟩
  | 8 => ⟨S32x1x16x8, .f32⟩
  | 9 => ⟨S32x1x16x8, .f32⟩
  | 10 => ⟨S1x1x1x8, .f32⟩
  | 11 => ⟨S32x1x16x8, .f32⟩
  | 12 => ⟨S32x1x16x8, .f32⟩
  | 13 => ⟨S32x1x16x8, .f32⟩
  | 14 => ⟨S32x1x16x48, .f32⟩
  | 15 => ⟨S32x1x16x64, .f32⟩
  | 16 => ⟨S32x1024, .f32⟩
  | 17 => ⟨S32x1x1x64, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S1, .f32⟩
  | 32 => ⟨S1x1, .f32⟩
  | 33 => ⟨S1x8, .f32⟩
  | 34 => ⟨S1x8, .f32⟩
  | 35 => ⟨S1x8, .f32⟩
  | 36 => ⟨S1x8, .f32⟩
  | 37 => ⟨S1x1x8, .f32⟩
  | 38 => ⟨S1x8, .f32⟩
  | 39 => ⟨S1x1x8, .f32⟩
  | 40 => ⟨S32x1x1x8, .f32⟩
  | 41 => ⟨S32x1x1x8, .f32⟩
  | 42 => ⟨S1x1x1x8, .f32⟩
  | 43 => ⟨S32x1x1x8, .f32⟩
  | 44 => ⟨S32x1x1x8, .f32⟩
  | 45 => ⟨S1x1x1x8, .f32⟩
  | 46 => ⟨S32x1x1x8, .f32⟩
  | 47 => ⟨S32x1x1x8, .f32⟩
  | 48 => ⟨S32x1x1x8, .f32⟩
  | 49 => ⟨S1x1x1x8, .f32⟩
  | 50 => ⟨S32x1x1x8, .f32⟩
  | 51 => ⟨S32x1x1x8, .f32⟩
  | 52 => ⟨S1x1x1x8, .f32⟩
  | 53 => ⟨S32x1x1x8, .f32⟩
  | 54 => ⟨S32x1x1x8, .f32⟩
  | 55 => ⟨S32x1x1x8, .f32⟩
  | 56 => ⟨S32x1x1x48, .f32⟩
  | 57 => ⟨S32x1x1x64, .f32⟩
  | 58 => ⟨S32x64, .f32⟩
  | 59 => ⟨S32x1024, .bf16⟩
  | 60 => ⟨S32x1024, .bf16⟩
  | 61 => ⟨S32x1024, .bf16⟩
  | 62 => ⟨S32x1024, .bf16⟩
  | 63 => ⟨S32x1024, .bf16⟩
  | 64 => ⟨S32x256, .bf16⟩
  | 65 => ⟨S32x256, .bf16⟩
  | 66 => ⟨S32x64, .bf16⟩
  | _ => ⟨S32x2048, .bf16⟩

abbrev hbmTy (i : Nat) : BufTy := match i / 128 with
  | 0 => hbmTy0_0 i
  | 1 => hbmTy0_1 i
  | _ => ⟨S32x2048, .bf16⟩

abbrev bufTy : (tb : Table) → Fin (tcTables nBuf tb) → BufTy
  | .hbm, ⟨i, _⟩ => hbmTy i
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_cst_11 : Ref sig .tc := ⟨.hbm, 147, rfl⟩
abbrev main_v132 : Ref sig .tc := ⟨.hbm, 148, rfl⟩
abbrev main_v133 : Ref sig .tc := ⟨.hbm, 149, rfl⟩
abbrev main_cst_12 : Ref sig .tc := ⟨.hbm, 150, rfl⟩
abbrev main_v134 : Ref sig .tc := ⟨.hbm, 151, rfl⟩
abbrev main_v135 : Ref sig .tc := ⟨.hbm, 152, rfl⟩
abbrev main_cst_13 : Ref sig .tc := ⟨.hbm, 153, rfl⟩
abbrev main_v136 : Ref sig .tc := ⟨.hbm, 154, rfl⟩
abbrev main_v137 : Ref sig .tc := ⟨.hbm, 155, rfl⟩
abbrev main_cst_14 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩

abbrev nD : Nat := 1
abbrev τ : Topo := Topo.v7x

variable {F : FTy → Type} [FloatOps F]
-- ==== Proof.SB.KernelIdeal.Loop.lean ====
/-
  The stick-breaking attention of a prompt (`Cert.KernelIdeal`): what one block of keys contributes and the loop over the
  earlier blocks. The kernel body walks the key blocks from the diagonal down; the walk is a `while` whose
  counter starts below the diagonal block and which stops early when no row's remaining log-weight is above the
  threshold. `walk` is that loop as a function of the contents of the two scratch buffers; `spec_le` shows the
  loop's label computes it, by induction on the number of blocks that are left.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

set_option maxRecDepth 16384

noncomputable section

namespace Cert.SB.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

/-- Head `h`'s lanes of the query block. -/
abbrev rQ0 : Rect S1x128x1024 := Rect.unit (s := S1x128x1024) ![0, 0, 0] S1x128x128.size inb_S1x128x1024_S1x128x128_0_0_0
abbrev rQ1 : Rect S1x128x1024 := Rect.unit (s := S1x128x1024) ![0, 0, 128] S1x128x128.size inb_S1x128x1024_S1x128x128_0_0_128
abbrev rQ2 : Rect S1x128x1024 := Rect.unit (s := S1x128x1024) ![0, 0, 256] S1x128x128.size inb_S1x128x1024_S1x128x128_0_0_256
abbrev rQ3 : Rect S1x128x1024 := Rect.unit (s := S1x128x1024) ![0, 0, 384] S1x128x128.size inb_S1x128x1024_S1x128x128_0_0_384
abbrev rQ4 : Rect S1x128x1024 := Rect.unit (s := S1x128x1024) ![0, 0, 512] S1x128x128.size inb_S1x128x1024_S1x128x128_0_0_512
abbrev rQ5 : Rect S1x128x1024 := Rect.unit (s := S1x128x1024) ![0, 0, 640] S1x128x128.size inb_S1x128x1024_S1x128x128_0_0_640
abbrev rQ6 : Rect S1x128x1024 := Rect.unit (s := S1x128x1024) ![0, 0, 768] S1x128x128.size inb_S1x128x1024_S1x128x128_0_0_768
abbrev rQ7 : Rect S1x128x1024 := Rect.unit (s := S1x128x1024) ![0, 0, 896] S1x128x128.size inb_S1x128x1024_S1x128x128_0_0_896
/-- A scratch buffer whole. -/
abbrev rS : Rect S1024x128 := Rect.unit (s := S1024x128) ![0, 0] S1024x128.size inb_S1024x128_S1024x128_0_0
/-- The table of sums whole. -/
abbrev rT : Rect S128x256 := Rect.unit (s := S128x256) ![0, 0] S128x256.size inb_S128x256_S128x256_0_0

/-- Head `h`'s lanes of the key (or value) rows of the block a counter names. -/
abbrev rK0 (w : BitVec 32) (h : k0_chk1 w) : Rect S1x8192x1024 := Rect.unit (s := S1x8192x1024) (k0_off9 w) S1x128x128.size (k0_off9_inb w h)
abbrev rK1 (w : BitVec 32) (h : k0_chk1 w) : Rect S1x8192x1024 := Rect.unit (s := S1x8192x1024) (k0_off10 w) S1x128x128.size (k0_off10_inb w h)
abbrev rK2 (w : BitVec 32) (h : k0_chk1 w) : Rect S1x8192x1024 := Rect.unit (s := S1x8192x1024) (k0_off11 w) S1x128x128.size (k0_off11_inb w h)
abbrev rK3 (w : BitVec 32) (h : k0_chk1 w) : Rect S1x8192x1024 := Rect.unit (s := S1x8192x1024) (k0_off12 w) S1x128x128.size (k0_off12_inb w h)
abbrev rK4 (w : BitVec 32) (h : k0_chk1 w) : Rect S1x8192x1024 := Rect.unit (s := S1x8192x1024) (k0_off13 w) S1x128x128.size (k0_off13_inb w h)
abbrev rK5 (w : BitVec 32) (h : k0_chk1 w) : Rect S1x8192x1024 := Rect.unit (s := S1x8192x1024) (k0_off14 w) S1x128x128.size (k0_off14_inb w h)
abbrev rK6 (w : BitVec 32) (h : k0_chk1 w) : Rect S1x8192x1024 := Rect.unit (s := S1x8192x1024) (k0_off15 w) S1x128x128.size (k0_off15_inb w h)
abbrev rK7 (w : BitVec 32) (h : k0_chk1 w) : Rect S1x8192x1024 := Rect.unit (s := S1x8192x1024) (k0_off16 w) S1x128x128.size (k0_off16_inb w h)

/-- One store over a whole scratch buffer covers it. -/
theorem cover_S (p : Vec F S1024x128 .f32) (y : S1024x128.Idx) :
    ∃ pc ∈ ([⟨rS, p⟩] : List (View.Piece (Elt F) S1024x128 .f32)), y ∈ pc.1.set :=
  View.cover_of_tiled [⟨rS, p⟩] S1024x128.size (by rfl) y

/-! ## One earlier block -/

section Trip

variable (w : BitVec 32) (h : k0_chk1 w) (x0 : Vec F S1x128x1024 .bf16) (x1 x2 : Vec F S1x8192x1024 .bf16) (v1 : FVec F S128x256 .bf16)

/-- `log σ` of the block's scores, all heads stacked. -/
def lsB : FVec F S1024x128 .f32 :=
  k0_pay43 (k0_pay38 (View.ld x0 rQ0) (View.ld x1 (rK0 w h))) (k0_pay39 (View.ld x0 rQ1) (View.ld x1 (rK1 w h)))
    (k0_pay40 (View.ld x0 rQ2) (View.ld x1 (rK2 w h))) (k0_pay41 (View.ld x0 rQ3) (View.ld x1 (rK3 w h)))
    (k0_pay42 (View.ld x0 rQ4)) (View.ld x1 (rK4 w h)) (View.ld x0 rQ5) (View.ld x1 (rK5 w h)) (View.ld x0 rQ6) (View.ld x1 (rK6 w h))
    (View.ld x0 rQ7) (View.ld x1 (rK7 w h))
def lrB : FVec F S1024x128 .f32 :=
  k0_pay44 (k0_pay38 (View.ld x0 rQ0) (View.ld x1 (rK0 w h))) (k0_pay39 (View.ld x0 rQ1) (View.ld x1 (rK1 w h)))
    (k0_pay40 (View.ld x0 rQ2) (View.ld x1 (rK2 w h))) (k0_pay41 (View.ld x0 rQ3) (View.ld x1 (rK3 w h)))
    (k0_pay42 (View.ld x0 rQ4)) (View.ld x1 (rK4 w h)) (View.ld x0 rQ5) (View.ld x1 (rK5 w h)) (View.ld x0 rQ6) (View.ld x1 (rK6 w h))
    (View.ld x0 rQ7) (View.ld x1 (rK7 w h))
def hiB : FVec F S1024x128 .f32 :=
  k0_pay45 (k0_pay38 (View.ld x0 rQ0) (View.ld x1 (rK0 w h))) (k0_pay39 (View.ld x0 rQ1) (View.ld x1 (rK1 w h)))
    (k0_pay40 (View.ld x0 rQ2) (View.ld x1 (rK2 w h))) (k0_pay41 (View.ld x0 rQ3) (View.ld x1 (rK3 w h)))
    (k0_pay42 (View.ld x0 rQ4)) (View.ld x1 (rK4 w h)) (View.ld x0 rQ5) (View.ld x1 (rK5 w h)) (View.ld x0 rQ6) (View.ld x1 (rK6 w h))
    (View.ld x0 rQ7) (View.ld x1 (rK7 w h))

/-- The carry buffer after the block, from the carry before it. -/
def tripC (cc : Vec F S1024x128 .f32) : Vec F S1024x128 .f32 :=
  View.canon [⟨rS, k0_pay49 v1 (lsB w h x0 x1) (View.ld cc rS) (lrB w h x0 x1) (hiB w h x0 x1)⟩]
/-- The largest carry after the block: what the loop tests. -/
def tripM (cc : Vec F S1024x128 .f32) : F .f32 :=
  k0_pay7 (k0_pay48 v1 (lsB w h x0 x1) (View.ld cc rS) (lrB w h x0 x1) (hiB w h x0 x1))
/-- The accumulator after the block. -/
def tripA (cc aa : Vec F S1024x128 .f32) : Vec F S1024x128 .f32 :=
  View.canon [⟨rS, k0_pay6 (k0_pay50 v1 (lsB w h x0 x1) (View.ld cc rS) (lrB w h x0 x1) (hiB w h x0 x1))
    (k0_pay51 v1 (lsB w h x0 x1) (View.ld cc rS) (lrB w h x0 x1) (hiB w h x0 x1) (View.ld x2 (rK0 w h)))
    (k0_pay52 v1 (lsB w h x0 x1) (View.ld cc rS) (lrB w h x0 x1) (hiB w h x0 x1) (View.ld x2 (rK1 w h)))
    (k0_pay53 v1 (lsB w h x0 x1) (View.ld cc rS) (lrB w h x0 x1) (hiB w h x0 x1) (View.ld x2 (rK2 w h)))
    (k0_pay54 v1 (lsB w h x0 x1) (View.ld cc rS) (lrB w h x0 x1) (hiB w h x0 x1) (View.ld x2 (rK3 w h)))
    (k0_pay55 v1 (lsB w h x0 x1) (View.ld cc rS) (lrB w h x0 x1) (hiB w h x0 x1)) (View.ld x2 (rK4 w h))
    (View.ld x2 (rK5 w h)) (View.ld x2 (rK6 w h)) (View.ld x2 (rK7 w h)) (View.ld aa rS)⟩]

end Trip

/-! ## The loop -/

/-- The word of block `n`. -/
abbrev bw (n : ℕ) : BitVec 32 := BitVec.ofNat 32 n

/-- The threshold the loop tests the largest carry against. -/
abbrev thr : F .f32 := Named.named κ "log_zero" 0xC2DC0000#32

/-- The two scratch buffers after the blocks `n - 1, …, 0` (as far as the test lets the loop go), from their contents
    `cc`, `aa` and the largest carry `s`. -/
def walk (x0 : Vec F S1x128x1024 .bf16) (x1 x2 : Vec F S1x8192x1024 .bf16) (v1 : FVec F S128x256 .bf16) :
    ℕ → F .f32 → Vec F S1024x128 .f32 → Vec F S1024x128 .f32 → Vec F S1024x128 .f32 × Vec F S1024x128 .f32
  | 0, _, cc, aa => (cc, aa)
  | n + 1, s, cc, aa =>
    if Scalar.cmpf .ogt s (thr (F := F)) = 1#1 then
      if h : k0_chk1 (bw n) then
        walk x0 x1 x2 v1 n (tripM (bw n) h x0 x1 v1 cc) (tripC (bw n) h x0 x1 v1 cc) (tripA (bw n) h x0 x1 x2 v1 cc aa)
      else (cc, aa)
    else (cc, aa)

/-- The counter with `n` blocks left. -/
abbrev cnt (n : ℕ) : BitVec 32 := Scalar.subi (bw n) 1#32

theorem cnt_succ (n : ℕ) : cnt (n + 1) = bw n := by
  unfold cnt bw Scalar.subi IntOp.subi
  apply BitVec.eq_of_toNat_eq
  simp only [BitVec.toNat_sub, BitVec.toNat_ofNat]
  omega

theorem sge_bw : ∀ n < 64, Scalar.cmpi .sge (bw n) 0#32 = 1#1 := by decide
theorem sge_cnt_zero : Scalar.cmpi .sge (cnt 0) 0#32 = 0#1 := by decide
theorem andi_zero (b : BitVec 1) : ¬Scalar.andi 0#1 b = 1#1 := by revert b; decide
theorem andi_one (b : BitVec 1) : Scalar.andi 1#1 b = b := by revert b; decide

/-- Block `n`'s rows are inside the arrays. -/
theorem chk_bw : ∀ n < 64, k0_chk1 (bw n) := by decide

/-- What the loop holds: the query block, the keys, the values, and the two scratch buffers. -/
def held (c : Dev nD) (arg2 : Memref sig .tc .vmem S1x128x1024 .bf16) (arg3 arg4 : Memref sig .tc .vmem S1x8192x1024 .bf16)
    (arg7 arg8 : Memref sig .tc .vmem S1024x128 .f32) (x0 : Vec F S1x128x1024 .bf16) (x1 x2 : Vec F S1x8192x1024 .bf16)
    (p : Vec F S1024x128 .f32 × Vec F S1024x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg7 fullShare p.1 ∗ owns (c : Thread nD τ) arg8 fullShare p.2)

section Label

variable (c : Dev nD) (i : grid0.Coords) (arg2 : Memref sig .tc .vmem S1x128x1024 .bf16) (harg2 : arg2.IsWhole)
  (arg3 : Memref sig .tc .vmem S1x8192x1024 .bf16) (harg3 : arg3.IsWhole)
  (arg4 : Memref sig .tc .vmem S1x8192x1024 .bf16) (harg4 : arg4.IsWhole) (arg7 : Memref sig .tc .vmem S1024x128 .f32) (harg7 : arg7.IsWhole)
  (arg8 : Memref sig .tc .vmem S1024x128 .f32) (harg8 : arg8.IsWhole)
  (x0 : Vec F S1x128x1024 .bf16) (x1 x2 : Vec F S1x8192x1024 .bf16) (v1 : FVec F S128x256 .bf16)

/-- The loop's specification with `n` blocks left: it returns something, the inputs as they were and the scratch
    buffers as `walk` leaves them. -/
def spec (n : ℕ) (s : F .f32) (cc aa : Vec F S1024x128 .f32) : sWPT 𝕄 (BitVec 32 × F .f32) := do
  sWPT.consume (held c arg2 arg3 arg4 arg7 arg8 x0 x1 x2 (cc, aa))
  let r ← sWPT.arbitrary
  sWPT.produce (held c arg2 arg3 arg4 arg7 arg8 x0 x1 x2 (walk x0 x1 x2 v1 n s cc aa))
  pure r

theorem spec_apply (n : ℕ) (s : F .f32) (cc aa : Vec F S1024x128 .f32) (K : BitVec 32 × F .f32 → sProp 𝕄) :
    spec c arg2 arg3 arg4 arg7 arg8 x0 x1 x2 v1 n s cc aa K
      = iprop(held c arg2 arg3 arg4 arg7 arg8 x0 x1 x2 (cc, aa)
          ∗ ∀ r : BitVec 32 × F .f32, held c arg2 arg3 arg4 arg7 arg8 x0 x1 x2 (walk x0 x1 x2 v1 n s cc aa) -∗ K r) := rfl

/-- The kernel's variants: the blocks left. -/
abbrev 𝒱₀ : Variants := Variants.nat

set_option maxHeartbeats 4000000 in
/-- The loop's label meets its specification, by induction on the blocks left. -/
theorem spec_le (E : Set ℕ) :
    ∀ n, n ≤ 64 → ∀ (s : F .f32) (cc aa : Vec F S1024x128 .f32) (K : BitVec 32 × F .f32 → sProp 𝕄),
      spec c arg2 arg3 arg4 arg7 arg8 x0 x1 x2 v1 n s cc aa K
      ⊢ wp frame (wpE (defs₀ (F := F)) 𝒱₀ (c : Thread nD τ) (some n)) E
          (defs₀ (F := F) .tc 1 ⟨i, arg2, harg2, arg3, harg3, arg7, harg7, v1, arg4, harg4, arg8, harg8, cnt n, s⟩) K := by
  intro n
  induction n with
  | zero =>
    intro _ s cc aa K
    rw [spec_apply]
    show _ ⊢ wp frame (wpE (defs₀ (F := F)) 𝒱₀ (c : Thread nD τ) (some 0)) E
      (cc0_while1 i arg2 harg2 arg3 harg3 arg7 harg7 v1 arg4 harg4 arg8 harg8 (cnt 0) s) K
    simp only [cc0_while1_eq_skeleton]; unfold cc0_while1_skel
    simp only [sge_cnt_zero, andi_zero, ↓reduceIte, Prog.pure_eq_ret]
    iintro ⟨H, Hk⟩
    rw [wp_ret]; imodintro
    iapply Hk
    simp only [walk]; iexact H
  | succ n ih =>
    intro hn s cc aa K
    rw [spec_apply]
    show _ ⊢ wp frame (wpE (defs₀ (F := F)) 𝒱₀ (c : Thread nD τ) (some (n + 1))) E
      (cc0_while1 i arg2 harg2 arg3 harg3 arg7 harg7 v1 arg4 harg4 arg8 harg8 (cnt (n + 1)) s) K
    rw [cnt_succ]
    have hchk : k0_chk1 (bw n) := chk_bw n (by omega)
    simp only [cc0_while1_eq_skeleton]; unfold cc0_while1_skel
    by_cases hs : Scalar.cmpf .ogt s (thr (F := F)) = 1#1
    · have hw : walk x0 x1 x2 v1 (n + 1) s cc aa
          = walk x0 x1 x2 v1 n (tripM (bw n) hchk x0 x1 v1 cc) (tripC (bw n) hchk x0 x1 v1 cc) (tripA (bw n) hchk x0 x1 x2 v1 cc aa) := by
        rw [walk, if_pos hs, dif_pos hchk]
      rw [hw]; clear hw
      simp only [sge_bw n (by omega), andi_one, hs, ↓reduceIte]
      generalize hP : held c arg2 arg3 arg4 arg7 arg8 x0 x1 x2 (walk x0 x1 x2 v1 n (tripM (bw n) hchk x0 x1 v1 cc) (tripC (bw n) hchk x0 x1 v1 cc)
        (tripA (bw n) hchk x0 x1 x2 v1 cc aa)) = P
      unfold held owns
      iintro ⟨⟨⟨%f0, %hf0, H0⟩, ⟨%f1, %hf1, H1⟩, ⟨%f2, %hf2, H2⟩, ⟨%f3, %hf3, H3⟩, ⟨%f4, %hf4, H4⟩⟩, Hk⟩
      dsimp only at hf3 hf4
      subst hf0 hf1 hf2 hf3 hf4
      sl_exec
      iapply (wp_call_spec 𝒱₀ (c : Thread nD τ) (some (n + 1)) E
        (spec c arg2 arg3 arg4 arg7 arg8 (View.read (Elt F) arg2.view f0) (View.read (Elt F) arg3.view f1) (View.read (Elt F) arg4.view f2) v1 n
          (tripM (bw n) hchk (View.read (Elt F) arg2.view f0) (View.read (Elt F) arg3.view f1) v1 (View.read (Elt F) arg7.view f3))
          (tripC (bw n) hchk (View.read (Elt F) arg2.view f0) (View.read (Elt F) arg3.view f1) v1 (View.read (Elt F) arg7.view f3))
          (tripA (bw n) hchk (View.read (Elt F) arg2.view f0) (View.read (Elt F) arg3.view f1) (View.read (Elt F) arg4.view f2) v1
            (View.read (Elt F) arg7.view f3) (View.read (Elt F) arg8.view f4))) n
        (fun u hu => by cases hu; exact Nat.lt_succ_self n) (ih (by omega) _ _ _))
      rw [spec_apply, hP]
      isplitl [H0 H1 H2 H3 H4]
      · unfold held owns
        isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists _; isplitr
          swap; · iexact H3
          ipureintro
          exact View.read_writes_eq_canon _ _ _ (cover_S _)
        · iexists _; isplitr
          swap; · iexact H4
          ipureintro
          exact View.read_writes_eq_canon _ _ _ (cover_S _)
      iintro %r HP
      rw [wp_ret]; imodintro
      iapply Hk
      iexact HP
    · have hw : walk x0 x1 x2 v1 (n + 1) s cc aa = (cc, aa) := by rw [walk, if_neg hs]
      rw [hw]
      simp only [sge_bw n (by omega), andi_one, hs, ↓reduceIte, Prog.pure_eq_ret]
      iintro ⟨H, Hk⟩
      rw [wp_ret]; imodintro
      iapply Hk
      iexact H

end Label

end Cert.SB.KernelIdeal

end
-- ==== Proof.SB.KernelIdeal.Frame.lean ====
/-
  The frame of the stick-breaking attention of a prompt (`Cert.KernelIdeal`): what the body leaves in the output block and
  in the two scratch buffers, its triple (the loop by `spec_le` of Loop.lean), the pipeline's proof data, and the run of
  @main. The scratch buffers are filled by the diagonal block and so carry nothing from one grid point to the next:
  the invariant holds them at arbitrary contents.
-/
module

public import proofs.«01_k».proof.Proof.SB.KernelIdeal.Loop
public import Idealize.ShloMosaic.Lib.Claim
public import Idealize.ShloMosaic.Lib.Ring
public import Idealize.ShloMosaic.Lib.WordCmp

@[expose] public section

set_option maxRecDepth 16384

noncomputable section

namespace Cert.SB.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The diagonal block -/

abbrev rD0 (i : grid0.Coords) : Rect S1x8192x1024 := Rect.unit (s := S1x8192x1024) (k0_off1 i) S1x128x128.size (k0_off1_inb i)
abbrev rD1 (i : grid0.Coords) : Rect S1x8192x1024 := Rect.unit (s := S1x8192x1024) (k0_off2 i) S1x128x128.size (k0_off2_inb i)
abbrev rD2 (i : grid0.Coords) : Rect S1x8192x1024 := Rect.unit (s := S1x8192x1024) (k0_off3 i) S1x128x128.size (k0_off3_inb i)
abbrev rD3 (i : grid0.Coords) : Rect S1x8192x1024 := Rect.unit (s := S1x8192x1024) (k0_off4 i) S1x128x128.size (k0_off4_inb i)
abbrev rD4 (i : grid0.Coords) : Rect S1x8192x1024 := Rect.unit (s := S1x8192x1024) (k0_off5 i) S1x128x128.size (k0_off5_inb i)
abbrev rD5 (i : grid0.Coords) : Rect S1x8192x1024 := Rect.unit (s := S1x8192x1024) (k0_off6 i) S1x128x128.size (k0_off6_inb i)
abbrev rD6 (i : grid0.Coords) : Rect S1x8192x1024 := Rect.unit (s := S1x8192x1024) (k0_off7 i) S1x128x128.size (k0_off7_inb i)
abbrev rD7 (i : grid0.Coords) : Rect S1x8192x1024 := Rect.unit (s := S1x8192x1024) (k0_off8 i) S1x128x128.size (k0_off8_inb i)
abbrev rA0 : Rect S1024x128 := Rect.unit (s := S1024x128) ![0, 0] S128x128.size inb_S1024x128_S128x128_0_0
abbrev rA1 : Rect S1024x128 := Rect.unit (s := S1024x128) ![128, 0] S128x128.size inb_S1024x128_S128x128_128_0
abbrev rA2 : Rect S1024x128 := Rect.unit (s := S1024x128) ![256, 0] S128x128.size inb_S1024x128_S128x128_256_0
abbrev rA3 : Rect S1024x128 := Rect.unit (s := S1024x128) ![384, 0] S128x128.size inb_S1024x128_S128x128_384_0
abbrev rA4 : Rect S1024x128 := Rect.unit (s := S1024x128) ![512, 0] S128x128.size inb_S1024x128_S128x128_512_0
abbrev rA5 : Rect S1024x128 := Rect.unit (s := S1024x128) ![640, 0] S128x128.size inb_S1024x128_S128x128_640_0
abbrev rA6 : Rect S1024x128 := Rect.unit (s := S1024x128) ![768, 0] S128x128.size inb_S1024x128_S128x128_768_0
abbrev rA7 : Rect S1024x128 := Rect.unit (s := S1024x128) ![896, 0] S128x128.size inb_S1024x128_S128x128_896_0

section Diag

variable (i : grid0.Coords) (x0 : Vec F S1x128x1024 .bf16) (x1 x2 : Vec F S1x8192x1024 .bf16) (x3 : Vec F S128x256 .bf16)

/-- The table of sums as the body uses it. -/
def tab : FVec F S128x256 .bf16 := k0_pay8 (View.ld x3 rT)
/-- The diagonal block's weights. -/
def aD : FVec F S1024x128 .f32 := k0_pay20 (tab x3) (k0_pay9) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i))
/-- The carry the diagonal block leaves, as a value -/
def lD : FVec F S1024x128 .f32 := k0_pay21 (tab x3) (k0_pay9) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i))
/-- and as the buffer's contents. -/
def carryD : Vec F S1024x128 .f32 := View.canon [⟨rS, k0_pay22 (tab x3) (k0_pay9) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i))⟩]
/-- The accumulator the diagonal block leaves. -/
def accD : Vec F S1024x128 .f32 :=
  View.canon [⟨rS, k0_pay32 (k0_pay24 (aD i x0 x1 x3) (View.ld x2 (rD0 i))) (k0_pay25 (aD i x0 x1 x3) (View.ld x2 (rD1 i))) (k0_pay26 (aD i x0 x1 x3) (View.ld x2 (rD2 i))) (k0_pay27 (aD i x0 x1 x3) (View.ld x2 (rD3 i))) (k0_pay28 (aD i x0 x1 x3) (View.ld x2 (rD4 i))) (k0_pay29 (aD i x0 x1 x3) (View.ld x2 (rD5 i))) (k0_pay30 (aD i x0 x1 x3) (View.ld x2 (rD6 i))) (k0_pay31 (aD i x0 x1 x3)) (View.ld x2 (rD7 i))⟩]
/-- The accumulator after all the blocks. -/
def accAll : Vec F S1024x128 .f32 :=
  (walk x0 x1 x2 (tab x3) (i 1).val (k0_pay33 (lD i x0 x1 x3)) (carryD i x0 x1 x3) (accD i x0 x1 x2 x3)).2

/-- The output block: head `h`'s rows of the accumulator, at head `h`'s lanes. -/
def out4 : Vec F S1x128x1024 .bf16 :=
  View.canon [⟨rQ7, k0_pay5 (View.ld (accAll i x0 x1 x2 x3) rA7)⟩, ⟨rQ6, k0_pay4 (View.ld (accAll i x0 x1 x2 x3) rA6)⟩,
    ⟨rQ5, k0_pay3 (View.ld (accAll i x0 x1 x2 x3) rA5)⟩, ⟨rQ4, k0_pay2 (View.ld (accAll i x0 x1 x2 x3) rA4)⟩,
    ⟨rQ3, k0_pay1 (k0_pay37 (View.ld (accAll i x0 x1 x2 x3) rA3))⟩, ⟨rQ2, k0_pay36 (View.ld (accAll i x0 x1 x2 x3) rA2)⟩,
    ⟨rQ1, k0_pay35 (View.ld (accAll i x0 x1 x2 x3) rA1)⟩, ⟨rQ0, k0_pay34 (View.ld (accAll i x0 x1 x2 x3) rA0)⟩]

end Diag

theorem cover4 (p0 p1 p2 p3 p4 p5 p6 p7 : Vec F S1x128x128 .bf16) (y : S1x128x1024.Idx) :
    ∃ pc ∈ ([⟨rQ7, p7⟩, ⟨rQ6, p6⟩, ⟨rQ5, p5⟩, ⟨rQ4, p4⟩, ⟨rQ3, p3⟩, ⟨rQ2, p2⟩, ⟨rQ1, p1⟩, ⟨rQ0, p0⟩]
      : List (View.Piece (Elt F) S1x128x1024 .bf16)), y ∈ pc.1.set :=
  View.cover_of_tiled [⟨rQ7, p7⟩, ⟨rQ6, p6⟩, ⟨rQ5, p5⟩, ⟨rQ4, p4⟩, ⟨rQ3, p3⟩, ⟨rQ2, p2⟩, ⟨rQ1, p1⟩, ⟨rQ0, p0⟩] S1x128x128.size (by rfl) y

/-! ## The body's triple -/

theorem coord_le (i : grid0.Coords) : (i 1).val ≤ 64 := le_of_lt (i 1).isLt

set_option maxHeartbeats 4000000 in
/-- The body on whole memrefs: the inputs end as they were, the output block at `out4` of them, the scratch buffers at
    something. -/
theorem sound_kernel (c : Dev nD) (i : grid0.Coords) (arg2 : Memref sig .tc .vmem S1x128x1024 .bf16) (harg2 : arg2.IsWhole)
    (arg3 : Memref sig .tc .vmem S1x8192x1024 .bf16) (harg3 : arg3.IsWhole) (arg4 : Memref sig .tc .vmem S1x8192x1024 .bf16) (harg4 : arg4.IsWhole)
    (arg5 : Memref sig .tc .vmem S128x256 .bf16) (harg5 : arg5.IsWhole) (arg6 : Memref sig .tc .vmem S1x128x1024 .bf16) (harg6 : arg6.IsWhole)
    (arg7 : Memref sig .tc .vmem S1024x128 .f32) (harg7 : arg7.IsWhole) (arg8 : Memref sig .tc .vmem S1024x128 .f32) (harg8 : arg8.IsWhole)
    (x0 : Vec F S1x128x1024 .bf16) (x1 x2 : Vec F S1x8192x1024 .bf16) (x3 : Vec F S128x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2 x3)
            ∗ (∃ d, owns (c : Thread nD τ) arg7 fullShare d) ∗ (∃ d, owns (c : Thread nD τ) arg8 fullShare d)) -∗ K ⟨⟩))
      ⊢ wp frame (wpE (defs₀ (F := F)) 𝒱₀ (c : Thread nD τ) none) Set.univ
          (cc0__sb_prompt_kernel i arg2 harg2 arg3 harg3 arg4 harg4 arg5 harg5 arg6 harg6 arg7 harg7 arg8 harg8) K := by
  generalize hP : (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2 x3)
            ∗ (∃ d, owns (c : Thread nD τ) arg7 fullShare d) ∗ (∃ d, owns (c : Thread nD τ) arg8 fullShare d)) : sProp 𝕄) = P
  simp only [cc0__sb_prompt_kernel_eq_skeleton]; unfold cc0__sb_prompt_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  iapply (wp_call_spec 𝒱₀ (c : Thread nD τ) none Set.univ
    (spec c arg2 arg3 arg4 arg7 arg8 (View.read (Elt F) arg2.view f0) (View.read (Elt F) arg3.view f1) (View.read (Elt F) arg4.view f2)
      (tab (View.read (Elt F) arg5.view f3)) (i 1).val
      (k0_pay33 (lD i (View.read (Elt F) arg2.view f0) (View.read (Elt F) arg3.view f1) (View.read (Elt F) arg5.view f3)))
      (carryD i (View.read (Elt F) arg2.view f0) (View.read (Elt F) arg3.view f1) (View.read (Elt F) arg5.view f3))
      (accD i (View.read (Elt F) arg2.view f0) (View.read (Elt F) arg3.view f1) (View.read (Elt F) arg4.view f2) (View.read (Elt F) arg5.view f3)))
    (i 1).val (fun u hu => nomatch hu)
    (spec_le c i arg2 harg2 arg3 harg3 arg4 harg4 arg7 harg7 arg8 harg8 _ _ _ _ Set.univ (i 1).val (coord_le i) _ _ _))
  rw [spec_apply]
  isplitl [H0 H1 H2 H5 H6]
  · unfold held owns
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H5]
    · iexists _; isplitr
      swap; · iexact H5
      ipureintro
      exact View.read_writes_eq_canon _ _ _ (cover_S _)
    · iexists _; isplitr
      swap; · iexact H6
      ipureintro
      exact View.read_writes_eq_canon _ _ _ (cover_S _)
  unfold held owns
  iintro %r ⟨⟨%g0, %hg0, H0⟩, ⟨%g1, %hg1, H1⟩, ⟨%g2, %hg2, H2⟩, ⟨%g5, %hg5, H5⟩, ⟨%g6, %hg6, H6⟩⟩
  obtain ⟨r0, r1⟩ := r
  sl_exec
  sl_step
  iapply Hk
  rw [← hP]
  unfold owns
  isplitl [H0]
  · iexists g0; isplitr; · ipureintro; exact hg0
    iexact H0
  isplitl [H1]
  · iexists g1; isplitr; · ipureintro; exact hg1
    iexact H1
  isplitl [H2]
  · iexists g2; isplitr; · ipureintro; exact hg2
    iexact H2
  isplitl [H3]
  · iexists f3; isplitr; · ipureintro; rfl
    iexact H3
  isplitl [H4]
  · iexists _; isplitr
    swap; · iexact H4
    ipureintro
    refine (View.read_writes_eq_canon _ _ _ (cover4 _ _ _ _ _ _ _ _)).trans ?_
    unfold out4 accAll
    rw [← hg6]
    rfl
  isplitl [H5]
  · iexists _, _; isplitr
    swap; · iexact H5
    ipureintro; rfl
  · iexists _, _; isplitr
    swap; · iexact H6
    ipureintro; rfl

variable (m : (ℓ : Loc nD τ sig) → Buf (Elt F) ℓ) (ρ : Dev nD → PrngReg)

/-! ## @main up to the region -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: each input's buffer stays at its block, the output's holds `out4` of the blocks; the
    scratch buffers are the invariant's, at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t
    = out4 (grid0.coords t) (iblk m c 0 t) (iblk m c 1 t) (iblk m c 2 t) (iblk m c 3 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point: the scratch buffers come out of the invariant and go back into it. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  iintro ⟨⟨⟨⟨%s0, S0⟩, ⟨%s1, S1⟩⟩, Hg⟩, Ho, ⟨%d0, H0⟩, ⟨%d1, H1⟩, ⟨%d2, H2⟩, ⟨%d3, H3⟩, ⟨%d4, H4⟩⟩
  iapply (sound_kernel c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexists s0; rw [owns_whole]; iexact S0
  isplitl [S1]; · iexists s1; rw [owns_whole]; iexact S1
  iintro ⟨H0, H1, H2, H3, H4, ⟨%e0, S0⟩, ⟨%e1, S1⟩⟩
  isplitl [S0 S1 Hg]
  · isplitl [S0 S1]
    · isplitl [S0]
      · iexists e0; rw [owns_whole]; exact .rfl
      · iexists e1; rw [owns_whole]; exact .rfl
    · iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array of the pipeline at what the library computes from the proof data, every other buffer as the
    region found it, every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The arguments end as launched and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide)
        (by show ∀ w : Fin 5, (spec0 w).arr.view.ref ≠ main_arg0; decide))).trans (V_main_arg0 m c),
      ((h.1 c).2 main_arg1 (Pipeline.mem_restRefs_of main_arg1 (by decide)
        (by show ∀ w : Fin 5, (spec0 w).arr.view.ref ≠ main_arg1; decide))).trans (V_main_arg1 m c),
      ((h.1 c).2 main_arg2 (Pipeline.mem_restRefs_of main_arg2 (by decide)
        (by show ∀ w : Fin 5, (spec0 w).arr.view.ref ≠ main_arg2; decide))).trans (V_main_arg2 m c)⟩, h.2⟩) (run_main m ρ)

end Cert.SB.KernelIdeal

end
-- ==== Proof.Ffn.Math.lean ====
/- A feed-forward half in plain terms, one row at a time: the gated hidden row, half of its projection added to the
   residual, and the root-mean-square normalisation of a row. The reference `FfnRefIdeal` is read in these terms, and so are
   the payloads of the kernel `FfnIdeal`. -/
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnV

/-- One hidden unit: the swish of a dot product, times another dot product. -/
def act (h u v : Fin 2048 → EReal) : EReal :=
  (∑ d : Fin 2048, h d * u d) * Ideal.logistic (∑ d : Fin 2048, h d * u d) * (∑ d : Fin 2048, h d * v d)

/-- The residual row after the feed-forward half, at column `l`. -/
def res (x h : Fin 2048 → EReal) (w1 w3 : Fin 2048 → Fin 5632 → EReal) (w2 : Fin 5632 → Fin 2048 → EReal) (l : Fin 2048) : EReal :=
  x l + Ideal.ofBits .f32 0x3F000000#32 * ∑ k : Fin 5632, act h (fun d => w1 d k) (fun d => w3 d k) * w2 k l

/-- A row normalised by its root mean square and scaled, at column `l`. -/
def nrm (r g : Fin 2048 → EReal) (l : Fin 2048) : EReal :=
  r l * Ideal.rsqrt (Ideal.div (∑ k : Fin 2048, r k * r k) (Ideal.ofBits .f32 0x45000000#32)
    + Ideal.ofBits .f32 0x358637BD#32) * g l

section Ref
open Cert.FfnRefIdeal Cert.FfnRefIdeal.Gen

variable (x0 : (⟨S16384x2048, .f32⟩ : BufTy).Contents (Elt Ideal)) (x1 : (⟨S16384x2048, .bf16⟩ : BufTy).Contents (Elt Ideal))
  (x2 x3 : (⟨S2048x5632, .f32⟩ : BufTy).Contents (Elt Ideal)) (x4 : (⟨S5632x2048, .f32⟩ : BufTy).Contents (Elt Ideal))
  (x5 : (⟨S2048, .f32⟩ : BufTy).Contents (Elt Ideal))

/-- The residual as a whole array. -/
def full (i : S16384x2048.Idx) : EReal :=
  res (fun l => x0 (ix2 (i 0) l)) (fun l => x1 (ix2 (i 0) l)) (fun d k => x2 (ix2 d k)) (fun d k => x3 (ix2 d k))
    (fun k l => x4 (ix2 k l)) (i 1)

/-- The normalised residual as a whole array. -/
def fullN (i : S16384x2048.Idx) : EReal :=
  nrm (fun l => full x0 x1 x2 x3 x4 (ix2 (i 0) l)) (fun l => x5 (ix1 l)) (i 1)

/-- The reference's hidden array at an index. -/
theorem hid_apply (r : Fin 16384) (k : Fin 5632) : Read.val_main_v4 (F := Ideal) x1 x2 x3 (ix2 r k)
    = act (fun d => x1 (ix2 r d)) (fun d => x2 (ix2 d k)) (fun d => x3 (ix2 d k)) := by
  unfold act Read.val_main_v4 Read.val_main_v3 Read.val_main_v2 Read.val_main_call0_v5 Read.val_main_call0_v4
    Read.val_main_call0_v3 Read.val_main_call0_v2 Read.val_main_call0_v1 Read.val_main_call0_v0 Read.val_main_call0_cst
    Read.val_main_call0_cst_0 Read.val_main_v1 Read.val_main_v0
  pointwise
  rfl

/-- The reference's residual is `full`. -/
theorem ref_apply (i : S16384x2048.Idx) : Read.val_main_v8 (F := Ideal) x0 x1 x2 x3 x4 i = full x0 x1 x2 x3 x4 i := by
  have hh := hid_apply x1 x2 x3
  unfold full res
  unfold Read.val_main_v8 Read.val_main_v7 Read.val_main_v6 Read.val_main_v5 Read.val_main_cst
  generalize Read.val_main_v4 (F := Ideal) x1 x2 x3 = H at hh ⊢
  pointwise
  exact congrArg (fun s => x0 i + _ * s) (Finset.sum_congr rfl fun k _ => congrArg (· * _) (hh (i 0) k))

/-- The reference's normalised residual is `fullN`. -/
theorem refN_apply (i : S16384x2048.Idx) : Read.val_main_v21 (F := Ideal) x0 x1 x2 x3 x4 x5 i = fullN x0 x1 x2 x3 x4 x5 i := by
  unfold fullN nrm
  simp only [← ref_apply]
  unfold Read.val_main_v21 Read.val_main_v20 Read.val_main_v19 Read.val_main_v18 Read.val_main_v17 Read.val_main_v16
    Read.val_main_v15 Read.val_main_v14 Read.val_main_v13 Read.val_main_v12 Read.val_main_v11 Read.val_main_v10
    Read.val_main_v9 Read.val_main_cst_0 Read.val_main_cst_1 Read.val_main_cst_2
  generalize Read.val_main_v8 (F := Ideal) x0 x1 x2 x3 x4 = R
  pointwise

end Ref

section Ker
open Cert.FfnIdeal Cert.FfnIdeal.Gen

/-- One step of the accumulation, at an index: a tile of 512 hidden units is added. -/
theorem pay2_apply (h : Vec Ideal S512x2048 .bf16) (w1 w3 : Vec Ideal S2048x512 .bf16) (acc : Vec Ideal S512x2048 .f32)
    (w2 : Vec Ideal S512x2048 .bf16) (j : S512x2048.Idx) :
    k0_pay2 h w1 w3 acc w2 j = acc j + ∑ k : Fin 512, act (fun d => h (ix2 (j 0) d)) (fun d => w1 (ix2 d k)) (fun d => w3 (ix2 d k)) * w2 (ix2 k (j 1)) := by
  unfold act
  pointwise [k0_pay2]

/-- The accumulator starts at nought. -/
theorem pay1_apply (j : S512x2048.Idx) : k0_pay1 (F := Ideal) j = 0 := by
  pointwise [k0_pay1]

/-- The normalised residual the last step writes, at an index. -/
theorem pay3_apply (x acc : Vec Ideal S512x2048 .f32) (g : Vec Ideal S1x2048 .f32) (j : S512x2048.Idx) :
    k0_pay3 x acc g j = nrm (fun l => x (ix2 (j 0) l) + Ideal.ofBits .f32 0x3F000000#32 * acc (ix2 (j 0) l)) (fun l => g (ix2 0 l)) (j 1) := by
  unfold nrm
  pointwise [k0_pay3]

end Ker

end Cert.FfnV

end
-- ==== Proof.Ffn.Value.lean ====
/- A feed-forward half: what the kernel `FfnIdeal` leaves in its result, and the claim. The eleven points of a row block
   add up eleven tiles of 512 hidden units, which are the 5632 hidden units. -/
module

public import proofs.«01_k».proof.Proof.Ffn.Math
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnV

section Ker
open Cert.FfnIdeal Cert.FfnIdeal.Gen

variable (m : (ℓ : Loc nD τ sig) → Buf (Elt Ideal) ℓ) (ρ : Dev nD → PrngReg)

/-- The first weights as the region finds them: rounding to bf16 leaves an extended real alone. -/
theorem V_w1 (c : Dev nD) : V m c main_v0
    = truncf (F := Ideal) (s := S2048x5632) (φ := .f32) .bf16 (m ((c : Thread nD τ).loc main_arg2)) bitsLt_bf16_f32 := by
  unfold_abbrev_sides
  after_results

/-- The third weights as the region finds them. -/
theorem V_w3 (c : Dev nD) : V m c main_v1
    = truncf (F := Ideal) (s := S2048x5632) (φ := .f32) .bf16 (m ((c : Thread nD τ).loc main_arg3)) bitsLt_bf16_f32 := by
  unfold_abbrev_sides
  after_results

/-- The second weights as the region finds them. -/
theorem V_w2 (c : Dev nD) : V m c main_v2
    = truncf (F := Ideal) (s := S5632x2048) (φ := .f32) .bf16 (m ((c : Thread nD τ).loc main_arg4)) bitsLt_bf16_f32 := by
  unfold_abbrev_sides
  after_results

/-- The scale row as the region finds it, at a column. -/
theorem V_g (c : Dev nD) (l : Fin 2048) : (V m c main_v3 : S1x2048.Idx → EReal) (ix2 0 l) = m ((c : Thread nD τ).loc main_arg5) (ix1 l) := by
  have h : V m c main_v3 = shapeCast (α := EReal) (s := S2048) S1x2048 (m ((c : Thread nD τ).loc main_arg5)) shapeCasts_S2048_S1x2048 := by
    unfold_abbrev_sides
    after_results
    rfl
  rw [h]
  pointwise

/-- The printed index maps over the grid: point `11 b + j` is at row block `b` and hidden tile `j`. -/
theorem idx_facts : ∀ t : Fin cfg0.N, t.val < 352
    ∧ win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

theorem row_lt (t : Fin cfg0.N) (r : Fin 512) : 512 * (t.val / 11) + r.val < 16384 := by
  have := (idx_facts t).1; omega

theorem hid_lt (t : Fin cfg0.N) (k : Fin 512) : 512 * (t.val % 11) + k.val < 5632 := by omega

/-- Input window 0's block at point `t`, at an index. -/
theorem blk0 (c : Dev nD) (t : Fin cfg0.N) (r : Fin 512) (l : Fin 2048) :
    iblk m c 0 t (ix2 r l) = m ((c : Thread nD τ).loc main_arg0) (ix2 ⟨_, row_lt t r⟩ l) := by
  have e := (idx_facts t).2.1
  unfold iblk
  rw [show V m c (Pipeline.arrRef spec0 0) = _ from V_main_arg0 m c]
  refine congrArg (m ((c : Thread nD τ).loc main_arg0)) (funext fun a => Fin.ext ?_)
  match a with
  | ⟨0, _⟩ => show win0_0.index t (0 : Fin 2) * 512 + 1 * r.val = _; rw [e]; show t.val / 11 * 512 + 1 * r.val = 512 * (t.val / 11) + r.val; omega
  | ⟨1, _⟩ => show win0_0.index t (1 : Fin 2) * 2048 + 1 * l.val = _; rw [e]; show 0 * 2048 + 1 * l.val = l.val; omega

/-- Input window 1's block at point `t`, at an index. -/
theorem blk1 (c : Dev nD) (t : Fin cfg0.N) (r : Fin 512) (l : Fin 2048) :
    iblk m c 1 t (ix2 r l) = m ((c : Thread nD τ).loc main_arg1) (ix2 ⟨_, row_lt t r⟩ l) := by
  have e := (idx_facts t).2.2.1
  unfold iblk
  rw [show V m c (Pipeline.arrRef spec0 1) = _ from V_main_arg1 m c]
  refine congrArg (m ((c : Thread nD τ).loc main_arg1)) (funext fun a => Fin.ext ?_)
  match a with
  | ⟨0, _⟩ => show win0_1.index t (0 : Fin 2) * 512 + 1 * r.val = _; rw [e]; show t.val / 11 * 512 + 1 * r.val = 512 * (t.val / 11) + r.val; omega
  | ⟨1, _⟩ => show win0_1.index t (1 : Fin 2) * 2048 + 1 * l.val = _; rw [e]; show 0 * 2048 + 1 * l.val = l.val; omega

/-- Input window 2's block at point `t`, at an index. -/
theorem blk2 (c : Dev nD) (t : Fin cfg0.N) (r : Fin 2048) (l : Fin 512) :
    iblk m c 2 t (ix2 r l) = m ((c : Thread nD τ).loc main_arg2) (ix2 r ⟨_, hid_lt t l⟩) := by
  have e := (idx_facts t).2.2.2.1
  unfold iblk
  rw [show V m c (Pipeline.arrRef spec0 2) = _ from V_w1 m c]
  refine congrArg (m ((c : Thread nD τ).loc main_arg2)) (funext fun a => Fin.ext ?_)
  match a with
  | ⟨0, _⟩ => show win0_2.index t (0 : Fin 2) * 2048 + 1 * r.val = _; rw [e]; show 0 * 2048 + 1 * r.val = r.val; omega
  | ⟨1, _⟩ => show win0_2.index t (1 : Fin 2) * 512 + 1 * l.val = _; rw [e]; show t.val % 11 * 512 + 1 * l.val = 512 * (t.val % 11) + l.val; omega

/-- Input window 3's block at point `t`, at an index. -/
theorem blk3 (c : Dev nD) (t : Fin cfg0.N) (r : Fin 2048) (l : Fin 512) :
    iblk m c 3 t (ix2 r l) = m ((c : Thread nD τ).loc main_arg3) (ix2 r ⟨_, hid_lt t l⟩) := by
  have e := (idx_facts t).2.2.2.2.1
  unfold iblk
  rw [show V m c (Pipeline.arrRef spec0 3) = _ from V_w3 m c]
  refine congrArg (m ((c : Thread nD τ).loc main_arg3)) (funext fun a => Fin.ext ?_)
  match a with
  | ⟨0, _⟩ => show win0_3.index t (0 : Fin 2) * 2048 + 1 * r.val = _; rw [e]; show 0 * 2048 + 1 * r.val = r.val; omega
  | ⟨1, _⟩ => show win0_3.index t (1 : Fin 2) * 512 + 1 * l.val = _; rw [e]; show t.val % 11 * 512 + 1 * l.val = 512 * (t.val % 11) + l.val; omega

/-- Input window 4's block at point `t`, at an index. -/
theorem blk4 (c : Dev nD) (t : Fin cfg0.N) (r : Fin 512) (l : Fin 2048) :
    iblk m c 4 t (ix2 r l) = m ((c : Thread nD τ).loc main_arg4) (ix2 ⟨_, hid_lt t r⟩ l) := by
  have e := (idx_facts t).2.2.2.2.2.1
  unfold iblk
  rw [show V m c (Pipeline.arrRef spec0 4) = _ from V_w2 m c]
  refine congrArg (m ((c : Thread nD τ).loc main_arg4)) (funext fun a => Fin.ext ?_)
  match a with
  | ⟨0, _⟩ => show win0_4.index t (0 : Fin 2) * 512 + 1 * r.val = _; rw [e]; show t.val % 11 * 512 + 1 * r.val = 512 * (t.val % 11) + r.val; omega
  | ⟨1, _⟩ => show win0_4.index t (1 : Fin 2) * 2048 + 1 * l.val = _; rw [e]; show 0 * 2048 + 1 * l.val = l.val; omega

/-- The scale row's block at point `t`, at a column. -/
theorem blk5 (c : Dev nD) (t : Fin cfg0.N) (l : Fin 2048) :
    iblk m c 5 t (ix2 0 l) = m ((c : Thread nD τ).loc main_arg5) (ix1 l) := by
  have e := (idx_facts t).2.2.2.2.2.2.1
  refine Eq.trans ?_ (V_g m c l)
  unfold iblk
  refine congrArg (V m c main_v3) (funext fun a => Fin.ext ?_)
  match a with
  | ⟨0, _⟩ => show win0_5.index t (0 : Fin 2) * 1 + 1 * 0 = 0; rw [e]; rfl
  | ⟨1, _⟩ => show win0_5.index t (1 : Fin 2) * 2048 + 1 * l.val = l.val; rw [e]; show 0 * 2048 + 1 * l.val = l.val; omega

/-- What point `t` adds to the accumulator: its tile of hidden units. -/
def part (c : Dev nD) (t : Fin cfg0.N) (j : S512x2048.Idx) : EReal :=
  ∑ k : Fin 512, act (fun d => iblk m c 1 t (ix2 (j 0) d)) (fun d => iblk m c 2 t (ix2 d k)) (fun d => iblk m c 3 t (ix2 d k))
    * iblk m c 4 t (ix2 k (j 1))

/-- The accumulator after the first point of a row block. -/
theorem acc_A (c : Dev nD) (t : Fin cfg0.N) (h0 : t.val % 11 = 0) (j : S512x2048.Idx) :
    (outsAt0 m c t.val t.isLt).2 j = 0 + part m c t j := by
  rw [outsAt0_A m c t h0 (by omega)]
  frame_out
  rw [pay2_apply, pay1_apply]
  rfl

/-- The accumulator after a later point, as the body's payload. -/
theorem acc_step (c : Dev nD) (t : Fin cfg0.N) (h0 : ¬t.val % 11 = 0) :
    (outsAt0 m c t.val t.isLt).2 = k0_pay2 (iblk m c 1 t) (iblk m c 2 t) (iblk m c 3 t)
      (outsAt0 m c (t.val - 1) (Nat.lt_of_le_of_lt (Nat.sub_le _ _) t.isLt)).2 (iblk m c 4 t) := by
  by_cases h1 : t.val % 11 = 10
  · rw [outsAt0_C m c t h0 h1]
    frame_out
    simp only [read_unread_whole]
  · rw [outsAt0_B m c t h0 h1]
    frame_out
    simp only [read_unread_whole]

/-- The accumulator after a later point. -/
theorem acc_B (c : Dev nD) (t : Fin cfg0.N) (h0 : ¬t.val % 11 = 0) (j : S512x2048.Idx) :
    (outsAt0 m c t.val t.isLt).2 j
      = (outsAt0 m c (t.val - 1) (Nat.lt_of_le_of_lt (Nat.sub_le _ _) t.isLt)).2 j + part m c t j := by
  rw [acc_step m c t h0, pay2_apply]
  rfl

/-- The accumulator at the last point of a row block: all eleven tiles. -/
theorem acc_last (c : Dev nD) (t : Fin cfg0.N) (h1 : t.val % 11 = 10) (j : S512x2048.Idx) :
    (outsAt0 m c t.val t.isLt).2 j = ∑ s : Fin 11, part m c ⟨11 * (t.val / 11) + s, by have := (idx_facts t).1; have := s.isLt; have := t.isLt; omega⟩ j := by
  have h := Pipeline.eq_sum_fin_of_reset_step_apply_of_flush (fun n h => (outsAt0 m c n h).2) 11 (fun _ => (0 : EReal)) (part m c)
    (fun t h j => acc_A m c t h j) (fun t h j => acc_B m c t h j) t h1 j
  exact h.trans (zero_add _)

/-- The same as the sum over the 5632 hidden units. -/
theorem acc_total (c : Dev nD) (t : Fin cfg0.N) (h1 : t.val % 11 = 10) (r : Fin 512) (l : Fin 2048) :
    (outsAt0 m c t.val t.isLt).2 (ix2 r l) = ∑ k : Fin 5632,
      act (fun d => m ((c : Thread nD τ).loc main_arg1) (ix2 ⟨_, row_lt t r⟩ d)) (fun d => m ((c : Thread nD τ).loc main_arg2) (ix2 d k))
        (fun d => m ((c : Thread nD τ).loc main_arg3) (ix2 d k)) * m ((c : Thread nD τ).loc main_arg4) (ix2 k l) := by
  rw [acc_last m c t h1]
  unfold part
  refine Fin.sum_mul_add_congr (S := 11) (n := 512) (f := _) fun s k hk => ?_
  simp only [ix2_0, ix2_1, blk1, blk2, blk3, blk4]
  have e1 : (11 * (t.val / 11) + s.val) / 11 = t.val / 11 := by have := s.isLt; omega
  have e2 : (11 * (t.val / 11) + s.val) % 11 = s.val := by have := s.isLt; omega
  simp only [e1, e2]
  simp only [Nat.mul_comm 512 s.val]

/-- The residual after the half, of the arguments. -/
abbrev resA (c : Dev nD) : S16384x2048.Idx → EReal :=
  full (m ((c : Thread nD τ).loc main_arg0)) (m ((c : Thread nD τ).loc main_arg1)) (m ((c : Thread nD τ).loc main_arg2))
    (m ((c : Thread nD τ).loc main_arg3)) (m ((c : Thread nD τ).loc main_arg4))

/-- Its normalisation. -/
abbrev nrmA (c : Dev nD) : S16384x2048.Idx → EReal :=
  fullN (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The residual row a row block's last point forms. -/
theorem res_row (c : Dev nD) (t : Fin cfg0.N) (h1 : t.val % 11 = 10) (r : Fin 512) (l : Fin 2048) :
    HAdd.hAdd (α := EReal) (β := EReal) (γ := EReal) (iblk m c 0 t (ix2 r l)) (Ideal.ofBits .f32 0x3F000000#32 * (outsAt0 m c t.val t.isLt).2 (ix2 r l))
      = resA m c (ix2 ⟨_, row_lt t r⟩ l) := by
  rw [blk0, acc_total m c t h1]
  rfl

/-- The block the last point of a row block leaves in result 0. -/
theorem out6 (c : Dev nD) (t : Fin cfg0.N) (h1 : t.val % 11 = 10) (r : Fin 512) (l : Fin 2048) :
    (outsAt0 m c t.val t.isLt).1 (ix2 r l) = nrmA m c (ix2 ⟨_, row_lt t r⟩ l) := by
  have hp : (outsAt0 m c t.val t.isLt).1 = k0_pay3 (iblk m c 0 t) (outsAt0 m c t.val t.isLt).2 (iblk m c 5 t) := by
    rw [acc_step m c t (by omega), outsAt0_C m c t (by omega) h1]
    frame_out
    simp only [read_unread_whole]
  rw [hp, pay3_apply]
  simp only [ix2_0, ix2_1]
  rw [funext (res_row m c t h1 r), funext (blk5 m c t)]
  rfl

/-- What a row block's last point writes back to result 0 is its block of the whole. -/
theorem flushed6 (c : Dev nD) (t : Fin cfg0.N) (hf : (cfg0.win 6).flush t = true) :
    (dats m 0 c).flushed 6 t = ((cfg0.win 6).blk t).view.read (Elt Ideal) (nrmA m c) := by
  rw [Value.flushed6]
  have e := (idx_facts t).2.2.2.2.2.2.2
  funext y
  have h := out6 m c t ((flush0_6 t).mp hf) (y 0) (y 1)
  rw [ix2_eta] at h
  refine h.trans (congrArg (nrmA m c) (funext fun a => Fin.ext ?_))
  match a with
  | ⟨0, _⟩ => show 512 * (t.val / 11) + (y 0).val = win0_6.index t (0 : Fin 2) * 512 + 1 * (y 0).val; rw [e]; show 512 * (t.val / 11) + (y 0).val = t.val / 11 * 512 + 1 * (y 0).val; omega
  | ⟨1, _⟩ => show (y 1).val = win0_6.index t (1 : Fin 2) * 2048 + 1 * (y 1).val; rw [e]; show (y 1).val = 0 * 2048 + 1 * (y 1).val; omega

/-- Result 0 at the end of the grid. -/
theorem final6 (c : Dev nD) : (dats m 0 c).arrAt 6 cfg0.N = nrmA m c := by
  refine (dats m 0 c).arrAt_eq_of_cover 6 _ (fun t hf => flushed6 m c t hf) (fun i => (Value.covered_iff6 i).2 ?_)
  have h0 : (i 0).val < 16384 := (i 0).isLt
  have h1 : (i 1).val < 2048 := (i 1).isLt
  omega

end Ker

/-- The kernel's result and the reference's are the same function of the arguments. -/
theorem algebraic : Cert.algebraic_FfnIdeal_FfnRefIdeal := by
  intro m g m' g' _ hagree
  refine ⟨fun c => nrmA m c, ?_, ?_⟩
  · exact (θ_run _ _ _).mono (fun r h c => ⟨((h c).1).trans (final6 m c), (h c).2⟩) (FfnIdeal.Value.run_blocks m g)
  · refine (θ_run _ _ _).mono (fun r h c => ⟨((h c).1).trans ?_, (h c).2⟩) (FfnRefIdeal.Value.run m' g')
    refine (FfnRefIdeal.Read.val_main_v21_eq _ _ _ _ _ _).trans (funext fun i => ?_)
    rw [refN_apply]
    obtain ⟨e0, e1, e2, e3, e4, e5⟩ := hagree c
    rw [e0, e1, e2, e3, e4, e5]

end Cert.FfnV

end
-- ==== Proof.FfnA.Math.lean ====
/- A feed-forward half in plain terms, one row at a time: the gated hidden row, half of its projection added to the
   residual, and the root-mean-square normalisation of a row. The reference `FfnARefIdeal` is read in these terms, and so are
   the payloads of the kernel `FfnAIdeal`. -/
module

public import proofs.«01_k».proof.Defs
public import proofs.«01_k».proof.Proof.Gen.FfnAIdeal.Value
public import proofs.«01_k».proof.Proof.Gen.FfnARefIdeal.Run
public import proofs.«01_k».proof.Proof.Gen.FfnARefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnAV

/-- One hidden unit: the swish of a dot product, times another dot product. -/
def act (h u v : Fin 2048 → EReal) : EReal :=
  (∑ d : Fin 2048, h d * u d) * Ideal.logistic (∑ d : Fin 2048, h d * u d) * (∑ d : Fin 2048, h d * v d)

/-- The residual row after the feed-forward half, at column `l`. -/
def res (x h : Fin 2048 → EReal) (w1 w3 : Fin 2048 → Fin 5632 → EReal) (w2 : Fin 5632 → Fin 2048 → EReal) (l : Fin 2048) : EReal :=
  x l + Ideal.ofBits .f32 0x3F000000#32 * ∑ k : Fin 5632, act h (fun d => w1 d k) (fun d => w3 d k) * w2 k l

/-- A row normalised by its root mean square and scaled, at column `l`. -/
def nrm (r g : Fin 2048 → EReal) (l : Fin 2048) : EReal :=
  r l * Ideal.rsqrt (Ideal.div (∑ k : Fin 2048, r k * r k) (Ideal.ofBits .f32 0x45000000#32)
    + Ideal.ofBits .f32 0x358637BD#32) * g l

section Ref
open Cert.FfnARefIdeal Cert.FfnARefIdeal.Gen

variable (x0 : (⟨S16384x2048, .f32⟩ : BufTy).Contents (Elt Ideal)) (x1 : (⟨S16384x2048, .bf16⟩ : BufTy).Contents (Elt Ideal))
  (x2 x3 : (⟨S2048x5632, .f32⟩ : BufTy).Contents (Elt Ideal)) (x4 : (⟨S5632x2048, .f32⟩ : BufTy).Contents (Elt Ideal))
  (x5 : (⟨S2048, .f32⟩ : BufTy).Contents (Elt Ideal))

/-- The residual as a whole array. -/
def full (i : S16384x2048.Idx) : EReal :=
  res (fun l => x0 (ix2 (i 0) l)) (fun l => x1 (ix2 (i 0) l)) (fun d k => x2 (ix2 d k)) (fun d k => x3 (ix2 d k))
    (fun k l => x4 (ix2 k l)) (i 1)

/-- The normalised residual as a whole array. -/
def fullN (i : S16384x2048.Idx) : EReal :=
  nrm (fun l => full x0 x1 x2 x3 x4 (ix2 (i 0) l)) (fun l => x5 (ix1 l)) (i 1)

/-- The reference's hidden array at an index. -/
theorem hid_apply (r : Fin 16384) (k : Fin 5632) : Read.val_main_v4 (F := Ideal) x1 x2 x3 (ix2 r k)
    = act (fun d => x1 (ix2 r d)) (fun d => x2 (ix2 d k)) (fun d => x3 (ix2 d k)) := by
  unfold act Read.val_main_v4 Read.val_main_v3 Read.val_main_v2 Read.val_main_call0_v5 Read.val_main_call0_v4
    Read.val_main_call0_v3 Read.val_main_call0_v2 Read.val_main_call0_v1 Read.val_main_call0_v0 Read.val_main_call0_cst
    Read.val_main_call0_cst_0 Read.val_main_v1 Read.val_main_v0
  pointwise
  rfl

/-- The reference's residual is `full`. -/
theorem ref_apply (i : S16384x2048.Idx) : Read.val_main_v8 (F := Ideal) x0 x1 x2 x3 x4 i = full x0 x1 x2 x3 x4 i := by
  have hh := hid_apply x1 x2 x3
  unfold full res
  unfold Read.val_main_v8 Read.val_main_v7 Read.val_main_v6 Read.val_main_v5 Read.val_main_cst
  generalize Read.val_main_v4 (F := Ideal) x1 x2 x3 = H at hh ⊢
  pointwise
  exact congrArg (fun s => x0 i + _ * s) (Finset.sum_congr rfl fun k _ => congrArg (· * _) (hh (i 0) k))

/-- The reference's normalised residual is `fullN`. -/
theorem refN_apply (i : S16384x2048.Idx) : Read.val_main_v22 (F := Ideal) x0 x1 x2 x3 x4 x5 i = fullN x0 x1 x2 x3 x4 x5 i := by
  unfold fullN nrm
  simp only [← ref_apply]
  unfold Read.val_main_v22 Read.val_main_v21 Read.val_main_v20 Read.val_main_v19 Read.val_main_v18 Read.val_main_v17 Read.val_main_v16
    Read.val_main_v15 Read.val_main_v14 Read.val_main_v13 Read.val_main_v12 Read.val_main_v11 Read.val_main_v10
    Read.val_main_v9 Read.val_main_cst_0 Read.val_main_cst_1 Read.val_main_cst_2
  generalize Read.val_main_v8 (F := Ideal) x0 x1 x2 x3 x4 = R
  pointwise

end Ref

section Ker
open Cert.FfnAIdeal Cert.FfnAIdeal.Gen

/-- One step of the accumulation, at an index: a tile of 512 hidden units is added. -/
theorem pay2_apply (h : Vec Ideal S512x2048 .bf16) (w1 w3 : Vec Ideal S2048x512 .bf16) (acc : Vec Ideal S512x2048 .f32)
    (w2 : Vec Ideal S512x2048 .bf16) (j : S512x2048.Idx) :
    k0_pay2 h w1 w3 acc w2 j = acc j + ∑ k : Fin 512, act (fun d => h (ix2 (j 0) d)) (fun d => w1 (ix2 d k)) (fun d => w3 (ix2 d k)) * w2 (ix2 k (j 1)) := by
  unfold act
  pointwise [k0_pay2]

/-- The accumulator starts at nought. -/
theorem pay1_apply (j : S512x2048.Idx) : k0_pay1 (F := Ideal) j = 0 := by
  pointwise [k0_pay1]

/-- The residual the last step writes, at an index. -/
theorem pay3_apply (x acc : Vec Ideal S512x2048 .f32) (j : S512x2048.Idx) :
    k0_pay3 x acc j = x j + Ideal.ofBits .f32 0x3F000000#32 * acc j := by
  pointwise [k0_pay3]

/-- The normalised residual the last step writes, at an index. -/
theorem pay4_apply (x acc : Vec Ideal S512x2048 .f32) (g : Vec Ideal S1x2048 .f32) (j : S512x2048.Idx) :
    k0_pay4 x acc g j = nrm (fun l => x (ix2 (j 0) l) + Ideal.ofBits .f32 0x3F000000#32 * acc (ix2 (j 0) l)) (fun l => g (ix2 0 l)) (j 1) := by
  unfold nrm
  pointwise [k0_pay4, k0_pay3]

end Ker

end Cert.FfnAV

end
-- ==== Proof.FfnA.Value.lean ====
/- A feed-forward half: what the kernel `FfnAIdeal` leaves in its results, and the claim. The eleven points of a row block
   add up eleven tiles of 512 hidden units, which are the 5632 hidden units. -/
module

public import proofs.«01_k».proof.Proof.FfnA.Math
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnAV

section Ker
open Cert.FfnAIdeal Cert.FfnAIdeal.Gen

variable (m : (ℓ : Loc nD τ sig) → Buf (Elt Ideal) ℓ) (ρ : Dev nD → PrngReg)

/-- The first weights as the region finds them: rounding to bf16 leaves an extended real alone. -/
theorem V_w1 (c : Dev nD) : V m c main_v0
    = truncf (F := Ideal) (s := S2048x5632) (φ := .f32) .bf16 (m ((c : Thread nD τ).loc main_arg2)) bitsLt_bf16_f32 := by
  unfold_abbrev_sides
  after_results

/-- The third weights as the region finds them. -/
theorem V_w3 (c : Dev nD) : V m c main_v1
    = truncf (F := Ideal) (s := S2048x5632) (φ := .f32) .bf16 (m ((c : Thread nD τ).loc main_arg3)) bitsLt_bf16_f32 := by
  unfold_abbrev_sides
  after_results

/-- The second weights as the region finds them. -/
theorem V_w2 (c : Dev nD) : V m c main_v2
    = truncf (F := Ideal) (s := S5632x2048) (φ := .f32) .bf16 (m ((c : Thread nD τ).loc main_arg4)) bitsLt_bf16_f32 := by
  unfold_abbrev_sides
  after_results

/-- The scale row as the region finds it, at a column. -/
theorem V_g (c : Dev nD) (l : Fin 2048) : (V m c main_v3 : S1x2048.Idx → EReal) (ix2 0 l) = m ((c : Thread nD τ).loc main_arg5) (ix1 l) := by
  have h : V m c main_v3 = shapeCast (α := EReal) (s := S2048) S1x2048 (m ((c : Thread nD τ).loc main_arg5)) shapeCasts_S2048_S1x2048 := by
    unfold_abbrev_sides
    after_results
    rfl
  rw [h]
  pointwise

/-- The printed index maps over the grid: point `11 b + j` is at row block `b` and hidden tile `j`. -/
theorem idx_facts : ∀ t : Fin cfg0.N, t.val < 352
    ∧ win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

theorem row_lt (t : Fin cfg0.N) (r : Fin 512) : 512 * (t.val / 11) + r.val < 16384 := by
  have := (idx_facts t).1; omega

theorem hid_lt (t : Fin cfg0.N) (k : Fin 512) : 512 * (t.val % 11) + k.val < 5632 := by omega

/-- Input window 0's block at point `t`, at an index. -/
theorem blk0 (c : Dev nD) (t : Fin cfg0.N) (r : Fin 512) (l : Fin 2048) :
    iblk m c 0 t (ix2 r l) = m ((c : Thread nD τ).loc main_arg0) (ix2 ⟨_, row_lt t r⟩ l) := by
  have e := (idx_facts t).2.1
  unfold iblk
  rw [show V m c (Pipeline.arrRef spec0 0) = _ from V_main_arg0 m c]
  refine congrArg (m ((c : Thread nD τ).loc main_arg0)) (funext fun a => Fin.ext ?_)
  match a with
  | ⟨0, _⟩ => show win0_0.index t (0 : Fin 2) * 512 + 1 * r.val = _; rw [e]; show t.val / 11 * 512 + 1 * r.val = 512 * (t.val / 11) + r.val; omega
  | ⟨1, _⟩ => show win0_0.index t (1 : Fin 2) * 2048 + 1 * l.val = _; rw [e]; show 0 * 2048 + 1 * l.val = l.val; omega

/-- Input window 1's block at point `t`, at an index. -/
theorem blk1 (c : Dev nD) (t : Fin cfg0.N) (r : Fin 512) (l : Fin 2048) :
    iblk m c 1 t (ix2 r l) = m ((c : Thread nD τ).loc main_arg1) (ix2 ⟨_, row_lt t r⟩ l) := by
  have e := (idx_facts t).2.2.1
  unfold iblk
  rw [show V m c (Pipeline.arrRef spec0 1) = _ from V_main_arg1 m c]
  refine congrArg (m ((c : Thread nD τ).loc main_arg1)) (funext fun a => Fin.ext ?_)
  match a with
  | ⟨0, _⟩ => show win0_1.index t (0 : Fin 2) * 512 + 1 * r.val = _; rw [e]; show t.val / 11 * 512 + 1 * r.val = 512 * (t.val / 11) + r.val; omega
  | ⟨1, _⟩ => show win0_1.index t (1 : Fin 2) * 2048 + 1 * l.val = _; rw [e]; show 0 * 2048 + 1 * l.val = l.val; omega

/-- Input window 2's block at point `t`, at an index. -/
theorem blk2 (c : Dev nD) (t : Fin cfg0.N) (r : Fin 2048) (l : Fin 512) :
    iblk m c 2 t (ix2 r l) = m ((c : Thread nD τ).loc main_arg2) (ix2 r ⟨_, hid_lt t l⟩) := by
  have e := (idx_facts t).2.2.2.1
  unfold iblk
  rw [show V m c (Pipeline.arrRef spec0 2) = _ from V_w1 m c]
  refine congrArg (m ((c : Thread nD τ).loc main_arg2)) (funext fun a => Fin.ext ?_)
  match a with
  | ⟨0, _⟩ => show win0_2.index t (0 : Fin 2) * 2048 + 1 * r.val = _; rw [e]; show 0 * 2048 + 1 * r.val = r.val; omega
  | ⟨1, _⟩ => show win0_2.index t (1 : Fin 2) * 512 + 1 * l.val = _; rw [e]; show t.val % 11 * 512 + 1 * l.val = 512 * (t.val % 11) + l.val; omega

/-- Input window 3's block at point `t`, at an index. -/
theorem blk3 (c : Dev nD) (t : Fin cfg0.N) (r : Fin 2048) (l : Fin 512) :
    iblk m c 3 t (ix2 r l) = m ((c : Thread nD τ).loc main_arg3) (ix2 r ⟨_, hid_lt t l⟩) := by
  have e := (idx_facts t).2.2.2.2.1
  unfold iblk
  rw [show V m c (Pipeline.arrRef spec0 3) = _ from V_w3 m c]
  refine congrArg (m ((c : Thread nD τ).loc main_arg3)) (funext fun a => Fin.ext ?_)
  match a with
  | ⟨0, _⟩ => show win0_3.index t (0 : Fin 2) * 2048 + 1 * r.val = _; rw [e]; show 0 * 2048 + 1 * r.val = r.val; omega
  | ⟨1, _⟩ => show win0_3.index t (1 : Fin 2) * 512 + 1 * l.val = _; rw [e]; show t.val % 11 * 512 + 1 * l.val = 512 * (t.val % 11) + l.val; omega

/-- Input window 4's block at point `t`, at an index. -/
theorem blk4 (c : Dev nD) (t : Fin cfg0.N) (r : Fin 512) (l : Fin 2048) :
    iblk m c 4 t (ix2 r l) = m ((c : Thread nD τ).loc main_arg4) (ix2 ⟨_, hid_lt t r⟩ l) := by
  have e := (idx_facts t).2.2.2.2.2.1
  unfold iblk
  rw [show V m c (Pipeline.arrRef spec0 4) = _ from V_w2 m c]
  refine congrArg (m ((c : Thread nD τ).loc main_arg4)) (funext fun a => Fin.ext ?_)
  match a with
  | ⟨0, _⟩ => show win0_4.index t (0 : Fin 2) * 512 + 1 * r.val = _; rw [e]; show t.val % 11 * 512 + 1 * r.val = 512 * (t.val % 11) + r.val; omega
  | ⟨1, _⟩ => show win0_4.index t (1 : Fin 2) * 2048 + 1 * l.val = _; rw [e]; show 0 * 2048 + 1 * l.val = l.val; omega

/-- The scale row's block at point `t`, at a column. -/
theorem blk5 (c : Dev nD) (t : Fin cfg0.N) (l : Fin 2048) :
    iblk m c 5 t (ix2 0 l) = m ((c : Thread nD τ).loc main_arg5) (ix1 l) := by
  have e := (idx_facts t).2.2.2.2.2.2.1
  refine Eq.trans ?_ (V_g m c l)
  unfold iblk
  refine congrArg (V m c main_v3) (funext fun a => Fin.ext ?_)
  match a with
  | ⟨0, _⟩ => show win0_5.index t (0 : Fin 2) * 1 + 1 * 0 = 0; rw [e]; rfl
  | ⟨1, _⟩ => show win0_5.index t (1 : Fin 2) * 2048 + 1 * l.val = l.val; rw [e]; show 0 * 2048 + 1 * l.val = l.val; omega

/-- What point `t` adds to the accumulator: its tile of hidden units. -/
def part (c : Dev nD) (t : Fin cfg0.N) (j : S512x2048.Idx) : EReal :=
  ∑ k : Fin 512, act (fun d => iblk m c 1 t (ix2 (j 0) d)) (fun d => iblk m c 2 t (ix2 d k)) (fun d => iblk m c 3 t (ix2 d k))
    * iblk m c 4 t (ix2 k (j 1))

/-- The accumulator after the first point of a row block. -/
theorem acc_A (c : Dev nD) (t : Fin cfg0.N) (h0 : t.val % 11 = 0) (j : S512x2048.Idx) :
    (outsAt0 m c t.val t.isLt).2.2 j = 0 + part m c t j := by
  rw [outsAt0_A m c t h0 (by omega)]
  frame_out
  rw [pay2_apply, pay1_apply]
  rfl

/-- The accumulator after a later point, as the body's payload. -/
theorem acc_step (c : Dev nD) (t : Fin cfg0.N) (h0 : ¬t.val % 11 = 0) :
    (outsAt0 m c t.val t.isLt).2.2 = k0_pay2 (iblk m c 1 t) (iblk m c 2 t) (iblk m c 3 t)
      (outsAt0 m c (t.val - 1) (Nat.lt_of_le_of_lt (Nat.sub_le _ _) t.isLt)).2.2 (iblk m c 4 t) := by
  by_cases h1 : t.val % 11 = 10
  · rw [outsAt0_C m c t h0 h1]
    frame_out
    simp only [read_unread_whole]
  · rw [outsAt0_B m c t h0 h1]
    frame_out
    simp only [read_unread_whole]

/-- The accumulator after a later point. -/
theorem acc_B (c : Dev nD) (t : Fin cfg0.N) (h0 : ¬t.val % 11 = 0) (j : S512x2048.Idx) :
    (outsAt0 m c t.val t.isLt).2.2 j
      = (outsAt0 m c (t.val - 1) (Nat.lt_of_le_of_lt (Nat.sub_le _ _) t.isLt)).2.2 j + part m c t j := by
  rw [acc_step m c t h0, pay2_apply]
  rfl

/-- The accumulator at the last point of a row block: all eleven tiles. -/
theorem acc_last (c : Dev nD) (t : Fin cfg0.N) (h1 : t.val % 11 = 10) (j : S512x2048.Idx) :
    (outsAt0 m c t.val t.isLt).2.2 j = ∑ s : Fin 11, part m c ⟨11 * (t.val / 11) + s, by have := (idx_facts t).1; have := s.isLt; have := t.isLt; omega⟩ j := by
  have h := Pipeline.eq_sum_fin_of_reset_step_apply_of_flush (fun n h => (outsAt0 m c n h).2.2) 11 (fun _ => (0 : EReal)) (part m c)
    (fun t h j => acc_A m c t h j) (fun t h j => acc_B m c t h j) t h1 j
  exact h.trans (zero_add _)

/-- The same as the sum over the 5632 hidden units. -/
theorem acc_total (c : Dev nD) (t : Fin cfg0.N) (h1 : t.val % 11 = 10) (r : Fin 512) (l : Fin 2048) :
    (outsAt0 m c t.val t.isLt).2.2 (ix2 r l) = ∑ k : Fin 5632,
      act (fun d => m ((c : Thread nD τ).loc main_arg1) (ix2 ⟨_, row_lt t r⟩ d)) (fun d => m ((c : Thread nD τ).loc main_arg2) (ix2 d k))
        (fun d => m ((c : Thread nD τ).loc main_arg3) (ix2 d k)) * m ((c : Thread nD τ).loc main_arg4) (ix2 k l) := by
  rw [acc_last m c t h1]
  unfold part
  refine Fin.sum_mul_add_congr (S := 11) (n := 512) (f := _) fun s k hk => ?_
  simp only [ix2_0, ix2_1, blk1, blk2, blk3, blk4]
  have e1 : (11 * (t.val / 11) + s.val) / 11 = t.val / 11 := by have := s.isLt; omega
  have e2 : (11 * (t.val / 11) + s.val) % 11 = s.val := by have := s.isLt; omega
  simp only [e1, e2]
  simp only [Nat.mul_comm 512 s.val]

/-- The residual after the half, of the arguments. -/
abbrev resA (c : Dev nD) : S16384x2048.Idx → EReal :=
  full (m ((c : Thread nD τ).loc main_arg0)) (m ((c : Thread nD τ).loc main_arg1)) (m ((c : Thread nD τ).loc main_arg2))
    (m ((c : Thread nD τ).loc main_arg3)) (m ((c : Thread nD τ).loc main_arg4))

/-- Its normalisation. -/
abbrev nrmA (c : Dev nD) : S16384x2048.Idx → EReal :=
  fullN (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The residual row a row block's last point forms. -/
theorem res_row (c : Dev nD) (t : Fin cfg0.N) (h1 : t.val % 11 = 10) (r : Fin 512) (l : Fin 2048) :
    HAdd.hAdd (α := EReal) (β := EReal) (γ := EReal) (iblk m c 0 t (ix2 r l)) (Ideal.ofBits .f32 0x3F000000#32 * (outsAt0 m c t.val t.isLt).2.2 (ix2 r l))
      = resA m c (ix2 ⟨_, row_lt t r⟩ l) := by
  rw [blk0, acc_total m c t h1]
  rfl

/-- The block the last point of a row block leaves in result 0. -/
theorem out6 (c : Dev nD) (t : Fin cfg0.N) (h1 : t.val % 11 = 10) (r : Fin 512) (l : Fin 2048) :
    (outsAt0 m c t.val t.isLt).1 (ix2 r l) = resA m c (ix2 ⟨_, row_lt t r⟩ l) := by
  have hp : (outsAt0 m c t.val t.isLt).1 = k0_pay3 (iblk m c 0 t) (outsAt0 m c t.val t.isLt).2.2 := by
    rw [acc_step m c t (by omega), outsAt0_C m c t (by omega) h1]
    frame_out
    simp only [read_unread_whole]
  rw [hp, pay3_apply]
  exact res_row m c t h1 r l

/-- What a row block's last point writes back to result 0 is its block of the whole. -/
theorem flushed6 (c : Dev nD) (t : Fin cfg0.N) (hf : (cfg0.win 6).flush t = true) :
    (dats m 0 c).flushed 6 t = ((cfg0.win 6).blk t).view.read (Elt Ideal) (resA m c) := by
  rw [Value.flushed6]
  have e := (idx_facts t).2.2.2.2.2.2.2.1
  funext y
  have h := out6 m c t ((flush0_6 t).mp hf) (y 0) (y 1)
  rw [ix2_eta] at h
  refine h.trans (congrArg (resA m c) (funext fun a => Fin.ext ?_))
  match a with
  | ⟨0, _⟩ => show 512 * (t.val / 11) + (y 0).val = win0_6.index t (0 : Fin 2) * 512 + 1 * (y 0).val; rw [e]; show 512 * (t.val / 11) + (y 0).val = t.val / 11 * 512 + 1 * (y 0).val; omega
  | ⟨1, _⟩ => show (y 1).val = win0_6.index t (1 : Fin 2) * 2048 + 1 * (y 1).val; rw [e]; show (y 1).val = 0 * 2048 + 1 * (y 1).val; omega

/-- Result 0 at the end of the grid. -/
theorem final6 (c : Dev nD) : (dats m 0 c).arrAt 6 cfg0.N = resA m c := by
  refine (dats m 0 c).arrAt_eq_of_cover 6 _ (fun t hf => flushed6 m c t hf) (fun i => (Value.covered_iff6 i).2 ?_)
  have h0 : (i 0).val < 16384 := (i 0).isLt
  have h1 : (i 1).val < 2048 := (i 1).isLt
  omega

/-- The block the last point of a row block leaves in result 1. -/
theorem out7 (c : Dev nD) (t : Fin cfg0.N) (h1 : t.val % 11 = 10) (r : Fin 512) (l : Fin 2048) :
    (outsAt0 m c t.val t.isLt).2.1 (ix2 r l) = nrmA m c (ix2 ⟨_, row_lt t r⟩ l) := by
  have hp : (outsAt0 m c t.val t.isLt).2.1 = k0_pay4 (iblk m c 0 t) (outsAt0 m c t.val t.isLt).2.2 (iblk m c 5 t) := by
    rw [acc_step m c t (by omega), outsAt0_C m c t (by omega) h1]
    frame_out
    simp only [read_unread_whole]
  rw [hp, pay4_apply]
  simp only [ix2_0, ix2_1]
  rw [funext (res_row m c t h1 r), funext (blk5 m c t)]
  rfl

/-- What a row block's last point writes back to result 1 is its block of the whole. -/
theorem flushed7 (c : Dev nD) (t : Fin cfg0.N) (hf : (cfg0.win 7).flush t = true) :
    (dats m 0 c).flushed 7 t = ((cfg0.win 7).blk t).view.read (Elt Ideal) (nrmA m c) := by
  rw [Value.flushed7]
  have e := (idx_facts t).2.2.2.2.2.2.2.2
  funext y
  have h := out7 m c t ((flush0_7 t).mp hf) (y 0) (y 1)
  rw [ix2_eta] at h
  refine h.trans (congrArg (nrmA m c) (funext fun a => Fin.ext ?_))
  match a with
  | ⟨0, _⟩ => show 512 * (t.val / 11) + (y 0).val = win0_7.index t (0 : Fin 2) * 512 + 1 * (y 0).val; rw [e]; show 512 * (t.val / 11) + (y 0).val = t.val / 11 * 512 + 1 * (y 0).val; omega
  | ⟨1, _⟩ => show (y 1).val = win0_7.index t (1 : Fin 2) * 2048 + 1 * (y 1).val; rw [e]; show (y 1).val = 0 * 2048 + 1 * (y 1).val; omega

/-- Result 1 at the end of the grid. -/
theorem final7 (c : Dev nD) : (dats m 0 c).arrAt 7 cfg0.N = nrmA m c := by
  refine (dats m 0 c).arrAt_eq_of_cover 7 _ (fun t hf => flushed7 m c t hf) (fun i => (Value.covered_iff7 i).2 ?_)
  have h0 : (i 0).val < 16384 := (i 0).isLt
  have h1 : (i 1).val < 2048 := (i 1).isLt
  omega

end Ker

/-- The kernel's result and the reference's are the same function of the arguments. -/
theorem algebraic : Cert.algebraic_FfnAIdeal_FfnARefIdeal := by
  intro m g m' g' _ hagree
  refine ⟨fun c => resA m c, fun c => nrmA m c, ?_, ?_⟩
  · exact (θ_run _ _ _).mono (fun r h c => ⟨((h c).1).trans (final6 m c), ((h c).2.1).trans (final7 m c), (h c).2.2⟩) (FfnAIdeal.Value.run_blocks m g)
  · refine (θ_run _ _ _).mono (fun r h c => ⟨((h c).1).trans ?_, ((h c).2.1).trans ?_, (h c).2.2⟩) (FfnARefIdeal.Value.run m' g')
    · refine (FfnARefIdeal.Read.val_main_v8_eq _ _ _ _ _).trans (funext fun i => ?_)
      rw [ref_apply]
      obtain ⟨e0, e1, e2, e3, e4, e5⟩ := hagree c
      rw [e0, e1, e2, e3, e4]
    · refine (FfnARefIdeal.Read.val_main_v22_eq _ _ _ _ _ _).trans (funext fun i => ?_)
      rw [refN_apply]
      obtain ⟨e0, e1, e2, e3, e4, e5⟩ := hagree c
      rw [e0, e1, e2, e3, e4, e5]

end Cert.FfnAV

end
-- ==== Proof.Gates.Value.lean ====
/- The two gates: what the kernel `GatesIdeal` leaves in its result, element by element, and the same of the
   reference. Both are the logistic function of the dot product of a row of `h` and a column of the weights. -/
module

public import proofs.«01_k».proof.Defs
public import proofs.«01_k».proof.Proof.Gen.GatesIdeal.Value
public import proofs.«01_k».proof.Proof.Gen.GatesRefIdeal.Run
public import proofs.«01_k».proof.Proof.Gen.GatesRefIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GatesV

/-- A gate at row `i 0` and column `i 1`: the logistic function of the dot product. -/
def gate (h : (⟨2, ![16384, 2048]⟩ : Shape).Idx → EReal) (w : (⟨2, ![2048, 4096]⟩ : Shape).Idx → EReal)
    (i : (⟨2, ![16384, 4096]⟩ : Shape).Idx) : EReal :=
  Ideal.logistic (∑ k : Fin 2048, h (ix2 (i 0) k) * w (ix2 k (i 1)))

section Ref
open Cert.GatesRefIdeal Cert.GatesRefIdeal.Gen

/-- The reference's result at an index is the gate. -/
theorem ref_apply (x0 : (⟨S16384x2048, .bf16⟩ : BufTy).Contents (Elt Ideal))
    (x1 : (⟨S2048x4096, .f32⟩ : BufTy).Contents (Elt Ideal)) (i : S16384x4096.Idx) :
    Read.val_main_v7 (F := Ideal) x0 x1 i = gate x0 x1 i := by
  unfold Read.val_main_v7 Read.val_main_v6 Read.val_main_v5 Read.val_main_v4 Read.val_main_v3 Read.val_main_v2
    Read.val_main_v1 Read.val_main_v0 Read.val_main_cst Read.val_main_cst_0 gate
  pointwise
  rfl

end Ref

section Ker
open Cert.GatesIdeal Cert.GatesIdeal.Gen

variable (m : (ℓ : Loc nD τ sig) → Buf (Elt Ideal) ℓ) (ρ : Dev nD → PrngReg)

/-- The weights as the region finds them: rounding to bf16 leaves an extended real alone. -/
theorem V_w (c : Dev nD) : V m c main_v0
    = truncf (F := Ideal) (s := S2048x4096) (φ := .f32) .bf16 (m ((c : Thread nD τ).loc main_arg1)) bitsLt_bf16_f32 := by
  unfold_abbrev_sides
  after_results

/-- The body's one store, at an index of the block. -/
theorem pay_apply (a : Vec Ideal S512x2048 .bf16) (b : Vec Ideal S2048x1024 .bf16) (y : S512x1024.Idx) :
    out0_2 a b y = Ideal.logistic (∑ k : Fin 2048, a (ix2 (y 0) k) * b (ix2 k (y 1))) := by
  unfold out0_2
  refine (congrFun (View.canon_unit_zero (by funext a; fin_cases a <;> rfl) _ _) y).trans ?_
  pointwise [k0_pay1, r0_0, r0_1]

/-- The printed index maps over the grid. -/
theorem idx_facts : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

/-- Every block of the result is some point's. -/
theorem idx_onto : ∀ (q0 : Fin 32) (q1 : Fin 4), ∃ t : Fin cfg0.N, (cfg0.win 2).flush t = true
    ∧ win0_2.index t = ![q0.val, q1.val] :=
  (by decide +kernel : ∀ (q0 : Fin 32) (q1 : Fin 4), ∃ t : Fin grid0.N, win0_2.flush t = true
    ∧ win0_2.index t = ![q0.val, q1.val])

/-- What point `t` writes back is block `t` of the gates of the two arguments. -/
theorem flushed_eq (c : Dev nD) (t : Fin cfg0.N) :
    (dats m 0 c).flushed 2 t = ((cfg0.win 2).blk t).view.read (Elt Ideal)
      (gate (m ((c : Thread nD τ).loc main_arg0)) (m ((c : Thread nD τ).loc main_arg1))) := by
  rw [Value.flushed2]
  obtain ⟨e0, e1, e2, e3⟩ := idx_facts t
  funext y
  show out0_2 (iblk m c 0 t) (iblk m c 1 t) ((cfg0.win 2).xinj (grid0.coords t) y) = gate _ _ (((cfg0.win 2).blk t).view.emb y)
  rw [pay_apply]
  unfold gate
  refine congrArg _ (Finset.sum_congr rfl fun k _ => ?_)
  have ha : iblk m c 0 t (ix2 ((cfg0.win 2).xinj (grid0.coords t) y 0) k)
      = m ((c : Thread nD τ).loc main_arg0) (ix2 (((cfg0.win 2).blk t).view.emb y 0) k) := by
    unfold iblk
    rw [show V m c (Pipeline.arrRef spec0 0) = _ from V_main_arg0 m c]
    refine congrArg (m ((c : Thread nD τ).loc main_arg0)) (funext fun a => Fin.ext ?_)
    match a with
    | ⟨0, _⟩ => show win0_0.index t (0 : Fin 2) * 512 + 1 * (y 0).val = win0_2.index t (0 : Fin 2) * 512 + 1 * (y 0).val; rw [e0]
    | ⟨1, _⟩ => show win0_0.index t (1 : Fin 2) * 2048 + 1 * k.val = k.val; rw [e1]; omega
  have hb : iblk m c 1 t (ix2 k ((cfg0.win 2).xinj (grid0.coords t) y 1))
      = m ((c : Thread nD τ).loc main_arg1) (ix2 k (((cfg0.win 2).blk t).view.emb y 1)) := by
    unfold iblk
    rw [show V m c (Pipeline.arrRef spec0 1) = _ from V_w m c]
    refine congrArg (m ((c : Thread nD τ).loc main_arg1)) (funext fun a => Fin.ext ?_)
    match a with
    | ⟨0, _⟩ => show win0_1.index t (0 : Fin 2) * 2048 + 1 * k.val = k.val; rw [e2]; omega
    | ⟨1, _⟩ => show win0_1.index t (1 : Fin 2) * 1024 + 1 * (y 1).val = win0_2.index t (1 : Fin 2) * 1024 + 1 * (y 1).val; rw [e3]
  exact congrArg₂ _ ha hb

/-- An index is in point `t`'s block iff each coordinate is in the block's range. -/
theorem mem_blk (t : Fin cfg0.N) (i : S16384x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- The result array after the run: the gates. -/
theorem final (c : Dev nD) : (dats m 0 c).arrAt 2 cfg0.N
    = gate (m ((c : Thread nD τ).loc main_arg0)) (m ((c : Thread nD τ).loc main_arg1)) :=
  (dats m 0 c).arrAt_eq_of_cover 2 _ (fun t _ => flushed_eq m c t) (fun i => by
    have h0 : (i 0).val < 16384 := (i 0).isLt
    have h1 : (i 1).val < 4096 := (i 1).isLt
    obtain ⟨t, hft, ht⟩ := idx_onto ⟨(i 0).val / 512, by omega⟩ ⟨(i 1).val / 1024, by omega⟩
    have q0 : win0_2.index t (0 : Fin 2) = (i 0).val / 512 := congrFun ht 0
    have q1 : win0_2.index t (1 : Fin 2) = (i 1).val / 1024 := congrFun ht 1
    refine ⟨t, hft, ?_⟩
    rw [mem_blk]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega)

end Ker

/-- The claim: from arguments that agree the kernel and the reference end with the same gates. -/
theorem algebraic : Cert.algebraic_GatesIdeal_GatesRefIdeal := by
  intro m g m' g' _ hagree
  refine ⟨fun c => gate (m ((c.tc : Thread GatesIdeal.nD GatesIdeal.τ).loc GatesIdeal.main_arg0)) (m ((c.tc : Thread GatesIdeal.nD GatesIdeal.τ).loc GatesIdeal.main_arg1)), ?_, ?_⟩
  · exact (θ_run _ _ _).mono (fun r h c => ⟨((h c).1).trans (final m c), (h c).2⟩) (GatesIdeal.Value.run_blocks m g)
  · refine (θ_run _ _ _).mono (fun r h c => ⟨((h c).1).trans ?_, (h c).2⟩) (GatesRefIdeal.Value.run m' g')
    refine (GatesRefIdeal.Read.val_main_v7_eq _ _).trans (funext fun i => ?_)
    rw [ref_apply]
    exact congrArg₂ (fun a b => gate a b i) (hagree c).1 (hagree c).2

end Cert.GatesV

end
-- ==== Proof.Merge.Math.lean ====
/- The merge of the two attentions in plain terms, one row at a time: the gated sum of the two projected attention
   outputs, projected and added to the residual, and the root-mean-square normalisation of a row. The reference is
   read in these terms, and so is what the kernel's body leaves in its two blocks. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeV

/-- The gated sum of the two projected rows, at column `l`. -/
def mix (g0 g1 : Fin 2048 → EReal) (oa ob : Fin 1024 → EReal) (wa wb : Fin 1024 → Fin 2048 → EReal) (l : Fin 2048) : EReal :=
  g0 l * (∑ k : Fin 1024, oa k * wa k l) + g1 l * (∑ k : Fin 1024, ob k * wb k l)

/-- The residual row after the merge, at column `l`. -/
def res (x g0 g1 : Fin 2048 → EReal) (oa ob : Fin 1024 → EReal) (wa wb : Fin 1024 → Fin 2048 → EReal)
    (wo : Fin 2048 → Fin 2048 → EReal) (l : Fin 2048) : EReal :=
  x l + ∑ k : Fin 2048, mix g0 g1 oa ob wa wb k * wo k l

/-- A row normalised by its root mean square and scaled, at column `l`. -/
def nrm (r g : Fin 2048 → EReal) (l : Fin 2048) : EReal :=
  r l * Ideal.rsqrt (Ideal.div (∑ k : Fin 2048, r k * r k) (Ideal.ofBits .f32 0x45000000#32)
    + Ideal.ofBits .f32 0x358637BD#32) * g l

section Ref
open Cert.MergeRefIdeal Cert.MergeRefIdeal.Gen

variable (x0 : (⟨S16384x2048, .f32⟩ : BufTy).Contents (Elt Ideal)) (x1 x2 : (⟨S16384x1024, .bf16⟩ : BufTy).Contents (Elt Ideal))
  (x3 : (⟨S16384x4096, .f32⟩ : BufTy).Contents (Elt Ideal)) (x4 x5 : (⟨S1024x2048, .f32⟩ : BufTy).Contents (Elt Ideal))
  (x6 : (⟨S2048x2048, .f32⟩ : BufTy).Contents (Elt Ideal)) (x7 : (⟨S2048, .f32⟩ : BufTy).Contents (Elt Ideal))

/-- The residual after the merge as a whole array. -/
def full (i : S16384x2048.Idx) : EReal :=
  res (fun l => x0 (ix2 (i 0) l)) (fun l => x3 (ix2 (i 0) ⟨l.val, by omega⟩)) (fun l => x3 (ix2 (i 0) ⟨2048 + l.val, by omega⟩))
    (fun k => x1 (ix2 (i 0) k)) (fun k => x2 (ix2 (i 0) k)) (fun k l => x4 (ix2 k l)) (fun k l => x5 (ix2 k l))
    (fun k l => x6 (ix2 k l)) (i 1)

/-- The normalised residual as a whole array. -/
def fullN (i : S16384x2048.Idx) : EReal :=
  nrm (fun l => full x0 x1 x2 x3 x4 x5 x6 (ix2 (i 0) l)) (fun l => x7 (ix1 l)) (i 1)

/-- The reference's first result is the residual after the merge. -/
theorem ref_apply (i : S16384x2048.Idx) : Read.val_main_v10 (F := Ideal) x0 x1 x2 x3 x4 x5 x6 i = full x0 x1 x2 x3 x4 x5 x6 i := by
  unfold full res mix Read.val_main_v10 Read.val_main_v9 Read.val_main_v8 Read.val_main_v7 Read.val_main_v6 Read.val_main_v5
    Read.val_main_v4 Read.val_main_v3 Read.val_main_v2 Read.val_main_v1 Read.val_main_v0
  pointwise

/-- The reference's second result is its normalisation. -/
theorem refN_apply (i : S16384x2048.Idx) : Read.val_main_v24 (F := Ideal) x0 x1 x2 x3 x4 x5 x6 x7 i = fullN x0 x1 x2 x3 x4 x5 x6 x7 i := by
  unfold fullN nrm
  simp only [← ref_apply]
  unfold Read.val_main_v24 Read.val_main_v23 Read.val_main_v22 Read.val_main_v21 Read.val_main_v20 Read.val_main_v19
    Read.val_main_v18 Read.val_main_v17 Read.val_main_v16 Read.val_main_v15 Read.val_main_v14 Read.val_main_v13
    Read.val_main_v12 Read.val_main_v11 Read.val_main_cst Read.val_main_cst_0 Read.val_main_cst_1
  generalize Read.val_main_v10 (F := Ideal) x0 x1 x2 x3 x4 x5 x6 = R
  pointwise

end Ref

section Ker
open Cert.MergeIdeal Cert.MergeIdeal.Gen

variable (x0 x3 x4 : Vec Ideal S256x2048 .f32) (x1 x2 : Vec Ideal S256x1024 .bf16) (x5 x6 : Vec Ideal S1024x2048 .bf16)
  (x7 : Vec Ideal S2048x2048 .bf16) (x8 : Vec Ideal S1x2048 .f32)

/-- The body's first store at an index of the block. -/
theorem out9_apply (y : S256x2048.Idx) : out0_9 x0 x1 x2 x3 x4 x5 x6 x7 x8 y
    = res (fun l => x0 (ix2 (y 0) l)) (fun l => x3 (ix2 (y 0) l)) (fun l => x4 (ix2 (y 0) l)) (fun k => x1 (ix2 (y 0) k))
        (fun k => x2 (ix2 (y 0) k)) (fun k l => x5 (ix2 k l)) (fun k l => x6 (ix2 k l)) (fun k l => x7 (ix2 k l)) (y 1) := by
  unfold out0_9
  refine (congrFun (View.canon_unit_zero (by funext a; fin_cases a <;> rfl) _ _) y).trans ?_
  unfold res mix
  pointwise [k0_pay2, r0_0, r0_1, r0_2, r0_3]

/-- The body's first store, whole. -/
theorem out9_eq : out0_9 x0 x1 x2 x3 x4 x5 x6 x7 x8 = k0_pay2 (View.ld x3 r0_0) (View.ld x1 r0_1) (View.ld x5 r0_2)
    (View.ld x4 r0_0) (View.ld x2 r0_1) (View.ld x6 r0_2) (View.ld x0 r0_0) (View.ld x7 r0_3) := by
  unfold out0_9
  exact View.canon_unit_zero (by funext a; fin_cases a <;> rfl) _ _

/-- The body's second store at an index of the block. -/
theorem out10_apply (y : S256x2048.Idx) : out0_10 x0 x1 x2 x3 x4 x5 x6 x7 x8 y
    = nrm (fun l => out0_9 x0 x1 x2 x3 x4 x5 x6 x7 x8 (ix2 (y 0) l)) (fun l => x8 (ix2 0 l)) (y 1) := by
  rw [out9_eq]
  unfold out0_10
  refine (congrFun (View.canon_unit_zero (by funext a; fin_cases a <;> rfl) _ _) y).trans ?_
  unfold k0_pay4
  generalize k0_pay2 (F := Ideal) _ _ _ _ _ _ _ _ = R
  unfold nrm
  pointwise [k0_pay1, k0_pay3, r0_4]

end Ker

end Cert.MergeV

end
-- ==== Proof.Merge.Value.lean ====
/- The merge of the two attentions: what the kernel `MergeIdeal` leaves in its two results, and the claim. -/
module

public import proofs.«01_k».proof.Proof.Merge.Math

@[expose] public section

set_option maxRecDepth 16384

noncomputable section

open Idealize.ShloMosaic Idealize.ShloMosaic.TcCoe Idealize.SL.Sem
open Idealize.ShloMosaic.Pipeline (Dat)

namespace Cert.MergeV

section Ker
open Cert.MergeIdeal Cert.MergeIdeal.Gen

variable (m : (ℓ : Loc nD τ sig) → Buf (Elt Ideal) ℓ) (ρ : Dev nD → PrngReg)

/-- Weights 0 as the region finds them. -/
theorem V_w0 (c : Dev nD) : V m c main_v0
    = truncf (F := Ideal) (s := S1024x2048) (φ := .f32) .bf16 (m ((c : Thread nD τ).loc main_arg4)) bitsLt_bf16_f32 := by
  unfold_abbrev_sides
  after_results

/-- Weights 1 as the region finds them. -/
theorem V_w1 (c : Dev nD) : V m c main_v1
    = truncf (F := Ideal) (s := S1024x2048) (φ := .f32) .bf16 (m ((c : Thread nD τ).loc main_arg5)) bitsLt_bf16_f32 := by
  unfold_abbrev_sides
  after_results

/-- Weights 2 as the region finds them. -/
theorem V_w2 (c : Dev nD) : V m c main_v2
    = truncf (F := Ideal) (s := S2048x2048) (φ := .f32) .bf16 (m ((c : Thread nD τ).loc main_arg6)) bitsLt_bf16_f32 := by
  unfold_abbrev_sides
  after_results

/-- The scale row as the region finds it, at a column. -/
theorem V_g (c : Dev nD) (l : Fin 2048) : (V m c main_v3 : S1x2048.Idx → EReal) (ix2 0 l) = m ((c : Thread nD τ).loc main_arg7) (ix1 l) := by
  have h : V m c main_v3 = shapeCast (α := EReal) (s := S2048) S1x2048 (m ((c : Thread nD τ).loc main_arg7)) shapeCasts_S2048_S1x2048 := by
    unfold_abbrev_sides
    after_results
    rfl
  rw [h]
  pointwise

/-- The printed index maps over the grid: the row windows are at block row `t`, the weights are whole. -/
theorem idx_facts : ∀ t : Fin cfg0.N, t.val < 64
    ∧ win0_0.index t = ![t.val, 0] ∧ win0_1.index t = ![t.val, 0] ∧ win0_2.index t = ![t.val, 0]
    ∧ win0_3.index t = ![t.val, 0] ∧ win0_4.index t = ![t.val, 1]
    ∧ win0_5.index t = ![0, 0] ∧ win0_6.index t = ![0, 0] ∧ win0_7.index t = ![0, 0] ∧ win0_8.index t = ![0, 0]
    ∧ win0_9.index t = ![t.val, 0] ∧ win0_10.index t = ![t.val, 0] :=
  (by decide +kernel : ∀ t : Fin grid0.N, _)

/-- Input window 0's block at point `t`, at an index. -/
theorem blk0 (c : Dev nD) (t : Fin cfg0.N) (r : Fin 256) (l : Fin 2048) :
    iblk m c 0 t (ix2 r l) = m ((c : Thread nD τ).loc main_arg0) (ix2 ⟨256 * t.val + r.val, by have := (idx_facts t).1; omega⟩ l) := by
  have e := (idx_facts t).2.1
  unfold iblk
  rw [show V m c (Pipeline.arrRef spec0 0) = _ from V_main_arg0 m c]
  refine congrArg (m ((c : Thread nD τ).loc main_arg0)) (funext fun a => Fin.ext ?_)
  match a with
  | ⟨0, _⟩ => show win0_0.index t (0 : Fin 2) * 256 + 1 * r.val = 256 * t.val + r.val; rw [e]; show t.val * 256 + 1 * r.val = 256 * t.val + r.val; omega
  | ⟨1, _⟩ => show win0_0.index t (1 : Fin 2) * 2048 + 1 * l.val = l.val; rw [e]; show 0 * 2048 + 1 * l.val = l.val; omega

/-- Input window 1's block at point `t`, at an index. -/
theorem blk1 (c : Dev nD) (t : Fin cfg0.N) (r : Fin 256) (l : Fin 1024) :
    iblk m c 1 t (ix2 r l) = m ((c : Thread nD τ).loc main_arg1) (ix2 ⟨256 * t.val + r.val, by have := (idx_facts t).1; omega⟩ l) := by
  have e := (idx_facts t).2.2.1
  unfold iblk
  rw [show V m c (Pipeline.arrRef spec0 1) = _ from V_main_arg1 m c]
  refine congrArg (m ((c : Thread nD τ).loc main_arg1)) (funext fun a => Fin.ext ?_)
  match a with
  | ⟨0, _⟩ => show win0_1.index t (0 : Fin 2) * 256 + 1 * r.val = 256 * t.val + r.val; rw [e]; show t.val * 256 + 1 * r.val = 256 * t.val + r.val; omega
  | ⟨1, _⟩ => show win0_1.index t (1 : Fin 2) * 1024 + 1 * l.val = l.val; rw [e]; show 0 * 1024 + 1 * l.val = l.val; omega

/-- Input window 2's block at point `t`, at an index. -/
theorem blk2 (c : Dev nD) (t : Fin cfg0.N) (r : Fin 256) (l : Fin 1024) :
    iblk m c 2 t (ix2 r l) = m ((c : Thread nD τ).loc main_arg2) (ix2 ⟨256 * t.val + r.val, by have := (idx_facts t).1; omega⟩ l) := by
  have e := (idx_facts t).2.2.2.1
  unfold iblk
  rw [show V m c (Pipeline.arrRef spec0 2) = _ from V_main_arg2 m c]
  refine congrArg (m ((c : Thread nD τ).loc main_arg2)) (funext fun a => Fin.ext ?_)
  match a with
  | ⟨0, _⟩ => show win0_2.index t (0 : Fin 2) * 256 + 1 * r.val = 256 * t.val + r.val; rw [e]; show t.val * 256 + 1 * r.val = 256 * t.val + r.val; omega
  | ⟨1, _⟩ => show win0_2.index t (1 : Fin 2) * 1024 + 1 * l.val = l.val; rw [e]; show 0 * 1024 + 1 * l.val = l.val; omega

/-- Input window 3's block at point `t`, at an index. -/
theorem blk3 (c : Dev nD) (t : Fin cfg0.N) (r : Fin 256) (l : Fin 2048) :
    iblk m c 3 t (ix2 r l) = m ((c : Thread nD τ).loc main_arg3) (ix2 ⟨256 * t.val + r.val, by have := (idx_facts t).1; omega⟩ ⟨l.val, by omega⟩) := by
  have e := (idx_facts t).2.2.2.2.1
  unfold iblk
  rw [show V m c (Pipeline.arrRef spec0 3) = _ from V_main_arg3 m c]
  refine congrArg (m ((c : Thread nD τ).loc main_arg3)) (funext fun a => Fin.ext ?_)
  match a with
  | ⟨0, _⟩ => show win0_3.index t (0 : Fin 2) * 256 + 1 * r.val = 256 * t.val + r.val; rw [e]; show t.val * 256 + 1 * r.val = 256 * t.val + r.val; omega
  | ⟨1, _⟩ => show win0_3.index t (1 : Fin 2) * 2048 + 1 * l.val = l.val; rw [e]; show 0 * 2048 + 1 * l.val = l.val; omega

/-- Input window 4's block at point `t`, at an index. -/
theorem blk4 (c : Dev nD) (t : Fin cfg0.N) (r : Fin 256) (l : Fin 2048) :
    iblk m c 4 t (ix2 r l) = m ((c : Thread nD τ).loc main_arg3) (ix2 ⟨256 * t.val + r.val, by have := (idx_facts t).1; omega⟩ ⟨2048 + l.val, by omega⟩) := by
  have e := (idx_facts t).2.2.2.2.2.1
  unfold iblk
  rw [show V m c (Pipeline.arrRef spec0 4) = _ from V_main_arg3 m c]
  refine congrArg (m ((c : Thread nD τ).loc main_arg3)) (funext fun a => Fin.ext ?_)
  match a with
  | ⟨0, _⟩ => show win0_4.index t (0 : Fin 2) * 256 + 1 * r.val = 256 * t.val + r.val; rw [e]; show t.val * 256 + 1 * r.val = 256 * t.val + r.val; omega
  | ⟨1, _⟩ => show win0_4.index t (1 : Fin 2) * 2048 + 1 * l.val = 2048 + l.val; rw [e]; show 1 * 2048 + 1 * l.val = 2048 + l.val; omega

/-- Input window 5's block at point `t`, at an index. -/
theorem blk5 (c : Dev nD) (t : Fin cfg0.N) (r : Fin 1024) (l : Fin 2048) :
    iblk m c 5 t (ix2 r l) = m ((c : Thread nD τ).loc main_arg4) (ix2 r l) := by
  have e := (idx_facts t).2.2.2.2.2.2.1
  unfold iblk
  rw [show V m c (Pipeline.arrRef spec0 5) = _ from V_w0 m c]
  refine congrArg (m ((c : Thread nD τ).loc main_arg4)) (funext fun a => Fin.ext ?_)
  match a with
  | ⟨0, _⟩ => show win0_5.index t (0 : Fin 2) * 1024 + 1 * r.val = r.val; rw [e]; show 0 * 1024 + 1 * r.val = r.val; omega
  | ⟨1, _⟩ => show win0_5.index t (1 : Fin 2) * 2048 + 1 * l.val = l.val; rw [e]; show 0 * 2048 + 1 * l.val = l.val; omega

/-- Input window 6's block at point `t`, at an index. -/
theorem blk6 (c : Dev nD) (t : Fin cfg0.N) (r : Fin 1024) (l : Fin 2048) :
    iblk m c 6 t (ix2 r l) = m ((c : Thread nD τ).loc main_arg5) (ix2 r l) := by
  have e := (idx_facts t).2.2.2.2.2.2.2.1
  unfold iblk
  rw [show V m c (Pipeline.arrRef spec0 6) = _ from V_w1 m c]
  refine congrArg (m ((c : Thread nD τ).loc main_arg5)) (funext fun a => Fin.ext ?_)
  match a with
  | ⟨0, _⟩ => show win0_6.index t (0 : Fin 2) * 1024 + 1 * r.val = r.val; rw [e]; show 0 * 1024 + 1 * r.val = r.val; omega
  | ⟨1, _⟩ => show win0_6.index t (1 : Fin 2) * 2048 + 1 * l.val = l.val; rw [e]; show 0 * 2048 + 1 * l.val = l.val; omega

/-- Input window 7's block at point `t`, at an index. -/
theorem blk7 (c : Dev nD) (t : Fin cfg0.N) (r : Fin 2048) (l : Fin 2048) :
    iblk m c 7 t (ix2 r l) = m ((c : Thread nD τ).loc main_arg6) (ix2 r l) := by
  have e := (idx_facts t).2.2.2.2.2.2.2.2.1
  unfold iblk
  rw [show V m c (Pipeline.arrRef spec0 7) = _ from V_w2 m c]
  refine congrArg (m ((c : Thread nD τ).loc main_arg6)) (funext fun a => Fin.ext ?_)
  match a with
  | ⟨0, _⟩ => show win0_7.index t (0 : Fin 2) * 2048 + 1 * r.val = r.val; rw [e]; show 0 * 2048 + 1 * r.val = r.val; omega
  | ⟨1, _⟩ => show win0_7.index t (1 : Fin 2) * 2048 + 1 * l.val = l.val; rw [e]; show 0 * 2048 + 1 * l.val = l.val; omega

/-- The scale row's block at point `t`, at a column. -/
theorem blk8 (c : Dev nD) (t : Fin cfg0.N) (l : Fin 2048) :
    iblk m c 8 t (ix2 0 l) = m ((c : Thread nD τ).loc main_arg7) (ix1 l) := by
  have e := (idx_facts t).2.2.2.2.2.2.2.2.2.1
  refine Eq.trans ?_ (V_g m c l)
  unfold iblk
  refine congrArg (V m c main_v3) (funext fun a => Fin.ext ?_)
  match a with
  | ⟨0, _⟩ => show win0_8.index t (0 : Fin 2) * 1 + 1 * 0 = 0; rw [e]; rfl
  | ⟨1, _⟩ => show win0_8.index t (1 : Fin 2) * 2048 + 1 * l.val = l.val; rw [e]; show 0 * 2048 + 1 * l.val = l.val; omega

/-- The residual after the merge, of the arguments. -/
abbrev resA (c : Dev nD) : S16384x2048.Idx → EReal :=
  full (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Its normalisation. -/
abbrev nrmA (c : Dev nD) : S16384x2048.Idx → EReal :=
  fullN (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The first block the body leaves at point `t`. -/
theorem outA (c : Dev nD) (t : Fin cfg0.N) (r : Fin 256) (l : Fin 2048) :
    out0_9 (iblk m c 0 t) (iblk m c 1 t) (iblk m c 2 t) (iblk m c 3 t) (iblk m c 4 t) (iblk m c 5 t) (iblk m c 6 t) (iblk m c 7 t) (iblk m c 8 t) (ix2 r l)
      = resA m c (ix2 ⟨256 * t.val + r.val, by have := (idx_facts t).1; omega⟩ l) := by
  rw [out9_apply]
  unfold resA full
  have h0 := blk0 m c t r; have h1 := blk1 m c t r; have h2 := blk2 m c t r
  have h3 := blk3 m c t r; have h4 := blk4 m c t r
  have h5 := blk5 m c t; have h6 := blk6 m c t; have h7 := blk7 m c t
  simp only [ix2_0, ix2_1]
  rw [funext h0, funext h1, funext h2, funext h3, funext h4, funext fun k => funext (h5 k), funext fun k => funext (h6 k),
    funext fun k => funext (h7 k)]

/-- The second block the body leaves at point `t`. -/
theorem outB (c : Dev nD) (t : Fin cfg0.N) (r : Fin 256) (l : Fin 2048) :
    out0_10 (iblk m c 0 t) (iblk m c 1 t) (iblk m c 2 t) (iblk m c 3 t) (iblk m c 4 t) (iblk m c 5 t) (iblk m c 6 t) (iblk m c 7 t) (iblk m c 8 t) (ix2 r l)
      = nrmA m c (ix2 ⟨256 * t.val + r.val, by have := (idx_facts t).1; omega⟩ l) := by
  rw [out10_apply]
  unfold nrmA fullN
  simp only [ix2_0, ix2_1]
  rw [funext (outA m c t r), funext (blk8 m c t)]

/-- What point `t` writes back to result 0 is its block of the whole. -/
theorem flushed9 (c : Dev nD) (t : Fin cfg0.N) :
    (dats m 0 c).flushed 9 t = ((cfg0.win 9).blk t).view.read (Elt Ideal) (resA m c) := by
  rw [Value.flushed9]
  have e := (idx_facts t).2.2.2.2.2.2.2.2.2.2.1
  funext y
  have h := outA m c t (y 0) (y 1)
  rw [ix2_eta] at h
  refine h.trans (congrArg (resA m c) (funext fun a => Fin.ext ?_))
  match a with
  | ⟨0, _⟩ => show 256 * t.val + (y 0).val = win0_9.index t (0 : Fin 2) * 256 + 1 * (y 0).val; rw [e]; show 256 * t.val + (y 0).val = t.val * 256 + 1 * (y 0).val; omega
  | ⟨1, _⟩ => show (y 1).val = win0_9.index t (1 : Fin 2) * 2048 + 1 * (y 1).val; rw [e]; show (y 1).val = 0 * 2048 + 1 * (y 1).val; omega

/-- Result 0 after the run. -/
theorem final9 (c : Dev nD) : (dats m 0 c).arrAt 9 cfg0.N = resA m c :=
  (dats m 0 c).arrAt_eq_of_cover 9 _ (fun t _ => flushed9 m c t) (fun i => by
    have h0 : (i 0).val < 16384 := (i 0).isLt
    have h1 : (i 1).val < 2048 := (i 1).isLt
    have hf : ∀ q : Fin 64, ∃ t : Fin cfg0.N, (cfg0.win 9).flush t = true ∧ t.val = q.val :=
      (by decide +kernel : ∀ q : Fin 64, ∃ t : Fin grid0.N, win0_9.flush t = true ∧ t.val = q.val)
    obtain ⟨t, hft, ht⟩ := hf ⟨(i 0).val / 256, by omega⟩
    have e := (idx_facts t).2.2.2.2.2.2.2.2.2.2.1
    have q0 : win0_9.index t (0 : Fin 2) = (i 0).val / 256 := (congrFun e 0).trans ht
    have q1 : win0_9.index t (1 : Fin 2) = 0 := congrFun e 1
    refine ⟨t, hft, ?_⟩
    show i ∈ ((View.whole main_v4_0).slice (win0_9.rect t)).set
    rw [View.set_slice_whole, Rect.mem_set_unit]
    intro a
    match a with
    | ⟨0, _⟩ => show win0_9.index t (0 : Fin 2) * 256 ≤ (i 0).val ∧ (i 0).val < win0_9.index t (0 : Fin 2) * 256 + 256; omega
    | ⟨1, _⟩ => show win0_9.index t (1 : Fin 2) * 2048 ≤ (i 1).val ∧ (i 1).val < win0_9.index t (1 : Fin 2) * 2048 + 2048; omega)

/-- What point `t` writes back to result 1 is its block of the whole. -/
theorem flushed10 (c : Dev nD) (t : Fin cfg0.N) :
    (dats m 0 c).flushed 10 t = ((cfg0.win 10).blk t).view.read (Elt Ideal) (nrmA m c) := by
  rw [Value.flushed10]
  have e := (idx_facts t).2.2.2.2.2.2.2.2.2.2.2
  funext y
  have h := outB m c t (y 0) (y 1)
  rw [ix2_eta] at h
  refine h.trans (congrArg (nrmA m c) (funext fun a => Fin.ext ?_))
  match a with
  | ⟨0, _⟩ => show 256 * t.val + (y 0).val = win0_10.index t (0 : Fin 2) * 256 + 1 * (y 0).val; rw [e]; show 256 * t.val + (y 0).val = t.val * 256 + 1 * (y 0).val; omega
  | ⟨1, _⟩ => show (y 1).val = win0_10.index t (1 : Fin 2) * 2048 + 1 * (y 1).val; rw [e]; show (y 1).val = 0 * 2048 + 1 * (y 1).val; omega

/-- Result 1 after the run. -/
theorem final10 (c : Dev nD) : (dats m 0 c).arrAt 10 cfg0.N = nrmA m c :=
  (dats m 0 c).arrAt_eq_of_cover 10 _ (fun t _ => flushed10 m c t) (fun i => by
    have h0 : (i 0).val < 16384 := (i 0).isLt
    have h1 : (i 1).val < 2048 := (i 1).isLt
    have hf : ∀ q : Fin 64, ∃ t : Fin cfg0.N, (cfg0.win 10).flush t = true ∧ t.val = q.val :=
      (by decide +kernel : ∀ q : Fin 64, ∃ t : Fin grid0.N, win0_10.flush t = true ∧ t.val = q.val)
    obtain ⟨t, hft, ht⟩ := hf ⟨(i 0).val / 256, by omega⟩
    have e := (idx_facts t).2.2.2.2.2.2.2.2.2.2.2
    have q0 : win0_10.index t (0 : Fin 2) = (i 0).val / 256 := (congrFun e 0).trans ht
    have q1 : win0_10.index t (1 : Fin 2) = 0 := congrFun e 1
    refine ⟨t, hft, ?_⟩
    show i ∈ ((View.whole main_v4_1).slice (win0_10.rect t)).set
    rw [View.set_slice_whole, Rect.mem_set_unit]
    intro a
    match a with
    | ⟨0, _⟩ => show win0_10.index t (0 : Fin 2) * 256 ≤ (i 0).val ∧ (i 0).val < win0_10.index t (0 : Fin 2) * 256 + 256; omega
    | ⟨1, _⟩ => show win0_10.index t (1 : Fin 2) * 2048 ≤ (i 1).val ∧ (i 1).val < win0_10.index t (1 : Fin 2) * 2048 + 2048; omega)

end Ker

/-- The claim: from arguments that agree the kernel and the reference end with the same two results. -/
theorem algebraic : Cert.algebraic_MergeIdeal_MergeRefIdeal := by
  intro m g m' g' _ hagree
  refine ⟨fun c => resA m c, fun c => nrmA m c, ?_, ?_⟩
  · exact (θ_run _ _ _).mono (fun r h c => ⟨((h c).1).trans (final9 m c), ((h c).2.1).trans (final10 m c), (h c).2.2⟩) (MergeIdeal.Value.run_blocks m g)
  · refine (θ_run _ _ _).mono (fun r h c => ⟨((h c).1).trans ?_, ((h c).2.1).trans ?_, (h c).2.2⟩) (MergeRefIdeal.Value.run m' g')
    · refine (MergeRefIdeal.Read.val_main_v10_eq _ _ _ _ _ _ _).trans (funext fun i => ?_)
      rw [ref_apply]
      obtain ⟨e0, e1, e2, e3, e4, e5, e6, e7⟩ := hagree c
      rw [e0, e1, e2, e3, e4, e5, e6]
    · refine (MergeRefIdeal.Read.val_main_v24_eq _ _ _ _ _ _ _ _).trans (funext fun i => ?_)
      rw [refN_apply]
      obtain ⟨e0, e1, e2, e3, e4, e5, e6, e7⟩ := hagree c
      rw [e0, e1, e2, e3, e4, e5, e6, e7]

end Cert.MergeV

end
-- ==== Proof.SB.Math.lean ====
/-
  The arithmetic of one row of stick-breaking attention. A query at position `t` gives the key at `s < t` the weight
  `exp (log σ(z s) + ∑ log σ(-z u))`, the sum over the keys `u` strictly between them. The lemmas split the sum over
  the keys at block borders: what a kernel's walk over blocks of 128 keys, from the query's own block down to the
  first, adds up to. Scores are real numbers here; the values may be any extended real.
-/
module

public import Idealize.ShloMosaic.PureOps.Ideal

@[expose] public section

noncomputable section

namespace Cert.SBV

open Idealize.ShloMosaic
open Finset (range Ico)

/-! ## The logarithm of the logistic function -/

/-- `log σ` of a real number, in the form that never takes the exponential of a positive one. -/
def lsr (x : ℝ) : ℝ := min x 0 - Real.log (1 + Real.exp (-|x|))

/-- `log σ(-x)`. -/
def rest (x : ℝ) : ℝ := lsr x - x

/-- The same on extended reals, as the kernel writes it. -/
def lsig (x : EReal) : EReal := min x 0 - Ideal.log (1 + Ideal.exp (0 - max x (-x)))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = (Real.exp x : EReal) := rfl

theorem log_coe {x : ℝ} (hx : 0 < x) : Ideal.log (x : EReal) = (Real.log x : EReal) := by
  show (if x ≤ 0 then (⊥ : EReal) else (Real.log x : EReal)) = _
  rw [if_neg (not_le.mpr hx)]

theorem max_neg_coe (x : ℝ) : max (x : EReal) (-(x : EReal)) = ((|x| : ℝ) : EReal) := by
  rw [← EReal.coe_neg, abs_eq_max_neg, EReal.coe_strictMono.monotone.map_max]

theorem log1p_exp_coe (x : ℝ) : Ideal.log (1 + Ideal.exp (((-|x| : ℝ)) : EReal)) = ((Real.log (1 + Real.exp (-|x|)) : ℝ) : EReal) := by
  rw [exp_coe, ← EReal.coe_one, ← EReal.coe_add, log_coe (by positivity)]

theorem lsig_coe (x : ℝ) : lsig (x : EReal) = (lsr x : EReal) := by
  unfold lsig lsr
  rw [max_neg_coe, zero_sub, ← EReal.coe_neg, log1p_exp_coe, ← EReal.coe_zero, ← EReal.coe_strictMono.monotone.map_min, ← EReal.coe_sub]

theorem rest_eq (x : ℝ) : lsr (-x) = rest x := by
  unfold rest lsr
  rw [abs_neg]
  rcases le_total x 0 with h | h
  · rw [min_eq_left h, min_eq_right (by linarith)]; ring
  · rw [min_eq_right h, min_eq_left (by linarith)]; ring

/-- The form the host's `log_sigmoid` prints: minus the softplus of minus the score. -/
theorem softplus_form (x : ℝ) :
    -(max (-(x : EReal)) 0 + Ideal.log (1 + Ideal.exp (((-|x| : ℝ)) : EReal))) = (lsr x : EReal) := by
  rw [log1p_exp_coe, ← EReal.coe_neg, ← EReal.coe_zero, ← EReal.coe_strictMono.monotone.map_max, ← EReal.coe_add, ← EReal.coe_neg]
  unfold lsr
  congr 1
  rcases le_total x 0 with h | h
  · rw [min_eq_left h, max_eq_left (by linarith)]; ring
  · rw [min_eq_right h, max_eq_right (by linarith)]; ring

/-! ## Sums over the keys of a block -/

variable (f : ℕ → ℝ)

/-- The entries `a ≤ j < b` of a block of 128, summed, are a stretch of the whole row. -/
theorem sum_window (B a b : ℕ) (hb : b ≤ 128) :
    ∑ j : Fin 128, (if a ≤ j.val ∧ j.val < b then f (B + j.val) else 0) = ∑ u ∈ Ico (B + a) (B + b), f u := by
  rw [Fin.sum_univ_eq_sum_range (fun j => if a ≤ j ∧ j < b then f (B + j) else 0) 128, ← Finset.sum_filter,
    show (range 128).filter (fun j => a ≤ j ∧ j < b) = Ico a b by
      ext j; simp only [Finset.mem_filter, Finset.mem_range, Finset.mem_Ico]; omega,
    Finset.sum_Ico_add f a b B]
  rw [add_comm B a, add_comm B b]

/-- One row's weight for the key `s`, the query at `t`. -/
def wt (z : ℕ → ℝ) (t s : ℕ) : ℝ := Real.exp (lsr (z s) + ∑ u ∈ Ico (s + 1) t, rest (z u))

/-- One row's result: the values of the keys before `t`, weighted. -/
def rowOut (z : ℕ → ℝ) (v : ℕ → EReal) (t : ℕ) : EReal := ∑ s ∈ range t, (wt z t s : EReal) * v s

/-- What the blocks below block `n` contribute when the keys from block `n` on have used up `C`. -/
def below (z : ℕ → ℝ) (v : ℕ → EReal) (n : ℕ) (C : ℝ) : EReal :=
  ∑ s ∈ range (n * 128), (Real.exp (lsr (z s) + ∑ u ∈ Ico (s + 1) (n * 128), rest (z u) + C) : EReal) * v s

variable (z : ℕ → ℝ) (v : ℕ → EReal)

theorem below_zero (C : ℝ) : below z v 0 C = 0 := by simp [below]

theorem sum_split (a b c : ℕ) (h₁ : a ≤ b) (h₂ : b ≤ c) : ∑ u ∈ Ico a c, f u = ∑ u ∈ Ico a b, f u + ∑ u ∈ Ico b c, f u :=
  (Finset.sum_Ico_consecutive f h₁ h₂).symm

/-- One block off the walk. -/
theorem below_succ (n : ℕ) (C : ℝ) :
    below z v (n + 1) C
      = (∑ k : Fin 128, (Real.exp (lsr (z (n * 128 + k.val)) + ∑ u ∈ Ico (n * 128 + (k.val + 1)) (n * 128 + 128), rest (z u) + C) : EReal)
          * v (n * 128 + k.val))
        + below z v n (C + ∑ u ∈ Ico (n * 128 + 0) (n * 128 + 128), rest (z u)) := by
  unfold below
  rw [Nat.succ_mul, Finset.sum_range_add]
  refine (add_comm _ _).trans ?_
  refine congrArg₂ (· + ·) ?_ ?_
  · rw [Fin.sum_univ_eq_sum_range (fun k => (Real.exp (lsr (z (n * 128 + k)) + ∑ u ∈ Ico (n * 128 + (k + 1)) (n * 128 + 128), rest (z u) + C) : EReal)
      * v (n * 128 + k)) 128]
    rfl
  · refine Finset.sum_congr rfl fun s hs => ?_
    have hs := Finset.mem_range.mp hs
    rw [sum_split (fun u => rest (z u)) (s + 1) (n * 128) (n * 128 + 128) (by omega) (by omega), Nat.add_zero (n * 128)]
    congr 3
    ring

/-- The diagonal block and the blocks below it are the whole row. -/
theorem row_split (q r : ℕ) (hr : r < 128) :
    (∑ k : Fin 128, (if k.val < r then ((Real.exp (lsr (z (q * 128 + k.val)) + ∑ u ∈ Ico (q * 128 + (k.val + 1)) (q * 128 + r), rest (z u)) : ℝ) : EReal) else 0)
          * v (q * 128 + k.val))
        + below z v q (∑ u ∈ Ico (q * 128 + 0) (q * 128 + r), rest (z u))
      = rowOut z v (q * 128 + r) := by
  unfold below rowOut
  rw [Finset.sum_range_add, add_comm]
  congr 1
  · refine Finset.sum_congr rfl fun s hs => ?_
    have hs := Finset.mem_range.mp hs
    unfold wt
    rw [sum_split (fun u => rest (z u)) (s + 1) (q * 128) (q * 128 + r) (by omega) (by omega), Nat.add_zero (q * 128), add_assoc]
  · rw [Fin.sum_univ_eq_sum_range (fun k => (if k < r then ((Real.exp (lsr (z (q * 128 + k)) + ∑ u ∈ Ico (q * 128 + (k + 1)) (q * 128 + r), rest (z u)) : ℝ) : EReal) else 0)
      * v (q * 128 + k)) 128, ← Finset.sum_subset (Finset.range_subset_range.mpr hr.le)]
    · refine Finset.sum_congr rfl fun k hk => ?_
      rw [if_pos (Finset.mem_range.mp hk)]
      rfl
    · intro k _ hk
      rw [if_neg (fun h => hk (Finset.mem_range.mpr h)), zero_mul]

/-- A row's result as the reference sums it: over every key, those from `t` on at weight zero. -/
theorem row_all (t : ℕ) (ht : t ≤ 8192) :
    ∑ s : Fin 8192, v s.val * (if s.val < t then (wt z t s.val : EReal) else 0) = rowOut z v t := by
  unfold rowOut
  rw [Fin.sum_univ_eq_sum_range (fun s => v s * (if s < t then (wt z t s : EReal) else 0)) 8192,
    ← Finset.sum_subset (Finset.range_subset_range.mpr ht)]
  · refine Finset.sum_congr rfl fun s hs => ?_
    rw [if_pos (Finset.mem_range.mp hs), mul_comm]
  · intro s _ hs
    rw [if_neg (fun h => hs (Finset.mem_range.mpr h)), mul_zero]

end Cert.SBV

end
-- ==== Proof.SB.Pay.lean ====
/-
  What the stick-breaking kernel's payloads are, entry by entry: the heads stacked along the rows, the blocks a
  counter names, the scaled scores of a block and the logarithm of their logistic function, the mask of the diagonal
  block and the table of sums.
-/
module

public import proofs.«01_k».proof.Proof.SB.KernelIdeal.Frame
public import proofs.«01_k».proof.Proof.SB.Math
public import Idealize.ShloMosaic.Lib.Pointwise
public import Idealize.ShloMosaic.Lib.Pipeline.ValueKit

@[expose] public section

set_option maxRecDepth 16384

noncomputable section

namespace Cert.SBV

open Cert.KernelIdeal Cert.KernelIdeal.Gen Cert.SB.KernelIdeal
open Idealize.ShloMosaic

/-! ## Rows and lanes -/

/-- The head a row of the stacked scores belongs to. -/
def headOf (p : Fin 1024) : Fin 8 := ⟨p.val / 128, by omega⟩
/-- The query row of the block it belongs to. -/
def rowOf (p : Fin 1024) : Fin 128 := ⟨p.val % 128, by omega⟩
/-- Lane `k` of head `h` among the 1024 lanes. -/
def lane (h : Fin 8) (k : Fin 128) : Fin 1024 := ⟨h.val * 128 + k.val, by omega⟩
/-- Row `j` of block `n` among the 8192 rows. -/
def key (n : Fin 64) (j : Fin 128) : Fin 8192 := ⟨n.val * 128 + j.val, by omega⟩

theorem cat8 (f : Fin 8 → FVec Ideal S128x128 .f32) (hc) (p : Fin 1024) (l : Fin 128) :
    concatenate (α := Ideal .f32) S1024x128 0 [⟨S128x128, f 0⟩, ⟨S128x128, f 1⟩, ⟨S128x128, f 2⟩, ⟨S128x128, f 3⟩, ⟨S128x128, f 4⟩,
      ⟨S128x128, f 5⟩, ⟨S128x128, f 6⟩, ⟨S128x128, f 7⟩] hc (ix2 p l) = f (headOf p) (ix2 (rowOf p) l) := by
  have hp := p.isLt
  pointwise
  split_ifs
  all_goals
    refine congrArg₂ (fun a b => f a (ix2 b l)) (Fin.ext ?_) (Fin.ext ?_)
    · simp only [headOf, Fin.isValue, Fin.val_zero, Fin.val_one, Fin.val_two] <;> (try simp) <;> omega
    · simp only [rowOf] <;> omega

/-! ## The rectangles -/

theorem ldQ (x0 : Vec Ideal S1x128x1024 .bf16) (a k : Fin 128) :
    View.ld x0 rQ0 (ix3 0 a k) = x0 (ix3 0 a (lane 0 k)) ∧ View.ld x0 rQ1 (ix3 0 a k) = x0 (ix3 0 a (lane 1 k))
      ∧ View.ld x0 rQ2 (ix3 0 a k) = x0 (ix3 0 a (lane 2 k)) ∧ View.ld x0 rQ3 (ix3 0 a k) = x0 (ix3 0 a (lane 3 k))
      ∧ View.ld x0 rQ4 (ix3 0 a k) = x0 (ix3 0 a (lane 4 k)) ∧ View.ld x0 rQ5 (ix3 0 a k) = x0 (ix3 0 a (lane 5 k))
      ∧ View.ld x0 rQ6 (ix3 0 a k) = x0 (ix3 0 a (lane 6 k)) ∧ View.ld x0 rQ7 (ix3 0 a k) = x0 (ix3 0 a (lane 7 k)) := by
  refine ⟨?_, ?_, ?_, ?_, ?_, ?_, ?_, ?_⟩
  all_goals
    refine View.ld_unit_apply_of x0 _ _ _ _ _ fun c => ?_
    match c with
    | ⟨0, _⟩ => rfl
    | ⟨1, _⟩ => exact (Nat.zero_add _).symm
    | ⟨2, _⟩ => rfl

theorem offs : ∀ n < 64, ∀ c : Fin 3, k0_off9 (bw n) c = ![0, n * 128, 0] c ∧ k0_off10 (bw n) c = ![0, n * 128, 128] c
    ∧ k0_off11 (bw n) c = ![0, n * 128, 256] c ∧ k0_off12 (bw n) c = ![0, n * 128, 384] c ∧ k0_off13 (bw n) c = ![0, n * 128, 512] c
    ∧ k0_off14 (bw n) c = ![0, n * 128, 640] c ∧ k0_off15 (bw n) c = ![0, n * 128, 768] c ∧ k0_off16 (bw n) c = ![0, n * 128, 896] c := by
  decide +kernel

theorem ldKx (x1 : Vec Ideal S1x8192x1024 .bf16) (n : Fin 64) (h : Fin 8) (off : Fin 3 → ℕ) (inb) (o : ℕ) (ho : o = h.val * 128)
    (hoff : ∀ c, off c = ![0, n.val * 128, o] c) (a k : Fin 128) :
    View.ld x1 (Rect.unit (s := S1x8192x1024) off S1x128x128.size inb) (ix3 0 a k) = x1 (ix3 0 (key n a) (lane h k)) := by
  subst ho
  refine View.ld_unit_apply_of x1 _ _ _ _ _ fun c => ?_
  rw [hoff c]
  match c with
  | ⟨0, _⟩ => rfl
  | ⟨1, _⟩ => rfl
  | ⟨2, _⟩ => rfl

theorem ldK (x1 : Vec Ideal S1x8192x1024 .bf16) (n : Fin 64) (hk : k0_chk1 (bw n.val)) (a k : Fin 128) :
    View.ld x1 (rK0 (bw n.val) hk) (ix3 0 a k) = x1 (ix3 0 (key n a) (lane 0 k)) ∧ View.ld x1 (rK1 (bw n.val) hk) (ix3 0 a k) = x1 (ix3 0 (key n a) (lane 1 k))
      ∧ View.ld x1 (rK2 (bw n.val) hk) (ix3 0 a k) = x1 (ix3 0 (key n a) (lane 2 k)) ∧ View.ld x1 (rK3 (bw n.val) hk) (ix3 0 a k) = x1 (ix3 0 (key n a) (lane 3 k))
      ∧ View.ld x1 (rK4 (bw n.val) hk) (ix3 0 a k) = x1 (ix3 0 (key n a) (lane 4 k)) ∧ View.ld x1 (rK5 (bw n.val) hk) (ix3 0 a k) = x1 (ix3 0 (key n a) (lane 5 k))
      ∧ View.ld x1 (rK6 (bw n.val) hk) (ix3 0 a k) = x1 (ix3 0 (key n a) (lane 6 k)) ∧ View.ld x1 (rK7 (bw n.val) hk) (ix3 0 a k) = x1 (ix3 0 (key n a) (lane 7 k)) := by
  have ho := offs n.val n.isLt
  exact ⟨ldKx x1 n 0 _ _ 0 rfl (fun c => (ho c).1) a k, ldKx x1 n 1 _ _ 128 rfl (fun c => (ho c).2.1) a k,
    ldKx x1 n 2 _ _ 256 rfl (fun c => (ho c).2.2.1) a k, ldKx x1 n 3 _ _ 384 rfl (fun c => (ho c).2.2.2.1) a k,
    ldKx x1 n 4 _ _ 512 rfl (fun c => (ho c).2.2.2.2.1) a k, ldKx x1 n 5 _ _ 640 rfl (fun c => (ho c).2.2.2.2.2.1) a k,
    ldKx x1 n 6 _ _ 768 rfl (fun c => (ho c).2.2.2.2.2.2.1) a k, ldKx x1 n 7 _ _ 896 rfl (fun c => (ho c).2.2.2.2.2.2.2) a k⟩

/-! ## The scores of a block -/

/-- The scaled score of the query of row `p` with key `s`, in the row's head. -/
def sc (x0 : S1x128x1024.Idx → EReal) (x1 : S1x8192x1024.Idx → EReal) (p : Fin 1024) (s : Fin 8192) : EReal :=
  (∑ k : Fin 128, x0 (ix3 0 (rowOf p) (lane (headOf p) k)) * x1 (ix3 0 s (lane (headOf p) k))) * Ideal.ofBits .f32 0x3DB504F3#32

theorem mmT (q k : Vec Ideal S1x128x128 .bf16) (a b : Fin 128) :
    k0_pay38 (F := Ideal) q k (ix2 a b) = (∑ x : Fin 128, (q (ix3 0 a x) : EReal) * (k (ix3 0 b x) : EReal) : EReal) := by
  pointwise [k0_pay38]

variable (n : Fin 64) (hk : k0_chk1 (bw n.val)) (x0 : Vec Ideal S1x128x1024 .bf16) (x1 x2 : Vec Ideal S1x8192x1024 .bf16)

/-- The eight heads' products of a block. -/
def prods : Fin 8 → FVec Ideal S128x128 .f32 :=
  ![k0_pay38 (View.ld x0 rQ0) (View.ld x1 (rK0 (bw n.val) hk)), k0_pay38 (View.ld x0 rQ1) (View.ld x1 (rK1 (bw n.val) hk)),
    k0_pay38 (View.ld x0 rQ2) (View.ld x1 (rK2 (bw n.val) hk)), k0_pay38 (View.ld x0 rQ3) (View.ld x1 (rK3 (bw n.val) hk)),
    k0_pay38 (View.ld x0 rQ4) (View.ld x1 (rK4 (bw n.val) hk)), k0_pay38 (View.ld x0 rQ5) (View.ld x1 (rK5 (bw n.val) hk)),
    k0_pay38 (View.ld x0 rQ6) (View.ld x1 (rK6 (bw n.val) hk)), k0_pay38 (View.ld x0 rQ7) (View.ld x1 (rK7 (bw n.val) hk))]

theorem prods_apply (h : Fin 8) (a b : Fin 128) :
    prods n hk x0 x1 h (ix2 a b) = (∑ k : Fin 128, (x0 (ix3 0 a (lane h k)) : EReal) * (x1 (ix3 0 (key n b) (lane h k)) : EReal) : EReal) := by
  match h with
  | ⟨0, _⟩ => exact (mmT _ _ a b).trans (Finset.sum_congr rfl fun k _ => congrArg₂ (· * · : EReal → EReal → EReal) (ldQ x0 a k).1 (ldK x1 n hk b k).1)
  | ⟨1, _⟩ => exact (mmT _ _ a b).trans (Finset.sum_congr rfl fun k _ => congrArg₂ (· * · : EReal → EReal → EReal) (ldQ x0 a k).2.1 (ldK x1 n hk b k).2.1)
  | ⟨2, _⟩ => exact (mmT _ _ a b).trans (Finset.sum_congr rfl fun k _ => congrArg₂ (· * · : EReal → EReal → EReal) (ldQ x0 a k).2.2.1 (ldK x1 n hk b k).2.2.1)
  | ⟨3, _⟩ => exact (mmT _ _ a b).trans (Finset.sum_congr rfl fun k _ => congrArg₂ (· * · : EReal → EReal → EReal) (ldQ x0 a k).2.2.2.1 (ldK x1 n hk b k).2.2.2.1)
  | ⟨4, _⟩ => exact (mmT _ _ a b).trans (Finset.sum_congr rfl fun k _ => congrArg₂ (· * · : EReal → EReal → EReal) (ldQ x0 a k).2.2.2.2.1 (ldK x1 n hk b k).2.2.2.2.1)
  | ⟨5, _⟩ => exact (mmT _ _ a b).trans (Finset.sum_congr rfl fun k _ => congrArg₂ (· * · : EReal → EReal → EReal) (ldQ x0 a k).2.2.2.2.2.1 (ldK x1 n hk b k).2.2.2.2.2.1)
  | ⟨6, _⟩ => exact (mmT _ _ a b).trans (Finset.sum_congr rfl fun k _ => congrArg₂ (· * · : EReal → EReal → EReal) (ldQ x0 a k).2.2.2.2.2.2.1 (ldK x1 n hk b k).2.2.2.2.2.2.1)
  | ⟨7, _⟩ => exact (mmT _ _ a b).trans (Finset.sum_congr rfl fun k _ => congrArg₂ (· * · : EReal → EReal → EReal) (ldQ x0 a k).2.2.2.2.2.2.2 (ldK x1 n hk b k).2.2.2.2.2.2.2)

theorem lsB_apply (p : Fin 1024) (j : Fin 128) : lsB (F := Ideal) (bw n.val) hk x0 x1 (ix2 p j) = sc x0 x1 p (key n j) :=
  congrArg (fun y : EReal => y * Ideal.ofBits .f32 0x3DB504F3#32)
    ((cat8 (prods n hk x0 x1) _ p j).trans
      (prods_apply n hk x0 x1 (headOf p) (rowOf p) j))

/-- The logarithm of the logistic function of a block's scores. -/
theorem lg_apply (p : Fin 1024) (j : Fin 128) :
    k0_pay46 (F := Ideal) (lrB (bw n.val) hk x0 x1) (hiB (bw n.val) hk x0 x1) (ix2 p j) = lsig (sc x0 x1 p (key n j)) := by
  rw [← lsB_apply n hk x0 x1 p j]
  show (min (lsB (F := Ideal) (bw n.val) hk x0 x1 (ix2 p j)) (Ideal.ofBits .f32 0x00000000#32) - Ideal.log (Ideal.ofBits .f32 0x3F800000#32
      + Ideal.exp (Ideal.ofBits .f32 0x00000000#32 - max (lsB (F := Ideal) (bw n.val) hk x0 x1 (ix2 p j)) (-(lsB (F := Ideal) (bw n.val) hk x0 x1 (ix2 p j))))) : EReal) = _
  have h0 : Ideal.ofBits .f32 0x00000000#32 = (0 : EReal) := by pointwise
  have h1 : Ideal.ofBits .f32 0x3F800000#32 = (1 : EReal) := by pointwise
  rw [h0, h1]
  rfl

/-! ## The diagonal block's mask -/

theorem row_word : ∀ p : Fin 1024,
    (Scalar.select
        (IntOp.andi
          (IntOp.xori
            (IntOp.cmpi CmpIPredicate.slt
              (IntOp.remsi ArithUnit.vector (BitVec.ofNat 32 p.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 p.val)
              (Scalar.select (Scalar.cmpi CmpIPredicate.eq 128#32 0#32) 1#32 128#32))
            0#32))
        (IntOp.addi
          (IntOp.remsi ArithUnit.vector (BitVec.ofNat 32 p.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 p.val)
          (Scalar.select (Scalar.cmpi CmpIPredicate.eq 128#32 0#32) 1#32 128#32)))
      = BitVec.ofNat 32 (p.val % 128) := by
  decide +kernel

theorem lt_word : ∀ l r : Fin 128,
    IntOp.cmpi CmpIPredicate.slt (BitVec.ofNat 32 l.val) (BitVec.ofNat 32 r.val) = if l.val < r.val then 1#1 else 0#1 := by
  decide +kernel

/-- A row of the diagonal block takes the keys before its own. -/
theorem mask_apply (p : Fin 1024) (l : Fin 128) : k0_pay9 (ix2 p l) = if l.val < (rowOf p).val then 1#1 else 0#1 := by
  rw [← lt_word]
  pointwise [k0_pay9]
  rw [row_word]
  rfl

theorem tab_apply (x3 : Vec Ideal S128x256 .bf16) (j : Fin 128) (c : Fin 256) : tab (F := Ideal) x3 (ix2 j c) = x3 (ix2 j c) := by
  unfold tab k0_pay8
  pointwise

end Cert.SBV

end
-- ==== Proof.SB.Step.lean ====
/-
  The stick-breaking kernel's walk over the blocks of keys, as sums: what one earlier block adds to the accumulator and
  to the carry when the scores are real numbers, the walk down to the first block by induction, and what the diagonal
  block leaves.
-/
module

public import proofs.«01_k».proof.Proof.SB.Pay

@[expose] public section

set_option maxRecDepth 16384

noncomputable section

namespace Cert.SBV

open Cert.KernelIdeal Cert.KernelIdeal.Gen Cert.SB.KernelIdeal
open Idealize.ShloMosaic
open Finset (range Ico)

/-- The value row `p` weights at key `s`, dimension `d`, over all natural numbers `s`. -/
def vals (x2 : S1x8192x1024.Idx → EReal) (p : Fin 1024) (d : Fin 128) (s : ℕ) : EReal :=
  if h : s < 8192 then x2 (ix3 0 ⟨s, h⟩ (lane (headOf p) d)) else 0

section Blocks

variable (n : Fin 64) (hk : k0_chk1 (bw n.val)) (x0 : Vec Ideal S1x128x1024 .bf16) (x1 x2 : Vec Ideal S1x8192x1024 .bf16)
  (v1 : FVec Ideal S128x256 .bf16) (z : Fin 1024 → ℕ → ℝ)
  (hz : ∀ p s, sc x0 x1 p s = ((z p s.val : ℝ) : EReal))
  (hT : ∀ (j : Fin 128) (c : Fin 256), v1 (ix2 j c) = if 128 ≤ c.val ∨ c.val < j.val then (1 : EReal) else 0)

include hz hT in
/-- The two products with the table: sums of `log σ(-z)` over the block's columns the table names. -/
theorem p47_apply (p : Fin 1024) (c : Fin 256) :
    k0_pay47 (F := Ideal) v1 (lsB (bw n.val) hk x0 x1) (lrB (bw n.val) hk x0 x1) (hiB (bw n.val) hk x0 x1) (ix2 p c)
      = ((∑ j : Fin 128, (if 128 ≤ c.val ∨ c.val < j.val then rest (z p (n.val * 128 + j.val)) else 0) : ℝ) : EReal) := by
  have hl : ∀ j : Fin 128, lsB (F := Ideal) (bw n.val) hk x0 x1 (ix2 p j) = ((z p (n.val * 128 + j.val) : ℝ) : EReal) :=
    fun j => (lsB_apply n hk x0 x1 p j).trans (hz p (key n j))
  have hg : ∀ j : Fin 128, k0_pay46 (F := Ideal) (lrB (bw n.val) hk x0 x1) (hiB (bw n.val) hk x0 x1) (ix2 p j) = ((lsr (z p (n.val * 128 + j.val)) : ℝ) : EReal) :=
    fun j => (lg_apply n hk x0 x1 p j).trans ((congrArg lsig (hz p (key n j))).trans (lsig_coe _))
  rw [coe_sum]
  pointwise [k0_pay47]
  simp only [hl, hg, hT]
  rw [← Finset.sum_add_distrib]
  refine Finset.sum_congr rfl fun j _ => ?_
  rw [← EReal.coe_sub, ← EReal.coe_sub, sub_self, EReal.coe_zero, zero_mul, add_zero]
  by_cases h : 128 ≤ c.val ∨ c.val < j.val
  · rw [if_pos h, if_pos h, mul_one]; rfl
  · rw [if_neg h, if_neg h, mul_zero]; rfl

variable (C : Fin 1024 → ℝ) (cc aa : Vec Ideal S1024x128 .f32) (hcc : ∀ p l, cc (ix2 p l) = ((C p : ℝ) : EReal))

/-- What a block takes off the stick. -/
def used (z : Fin 1024 → ℕ → ℝ) (n : ℕ) (p : Fin 1024) : ℝ := ∑ u ∈ Ico (n * 128 + 0) (n * 128 + 128), rest (z p u)

include hz hT hcc in
theorem p48_apply (p : Fin 1024) (l : Fin 128) :
    k0_pay48 (F := Ideal) v1 (lsB (bw n.val) hk x0 x1) cc (lrB (bw n.val) hk x0 x1) (hiB (bw n.val) hk x0 x1) (ix2 p l)
      = ((C p + used z n.val p : ℝ) : EReal) := by
  have h := p47_apply n hk x0 x1 v1 z hz hT p ⟨128 + l.val, by omega⟩
  have e : ∑ j : Fin 128, (if 128 ≤ 128 + l.val ∨ 128 + l.val < j.val then rest (z p (n.val * 128 + j.val)) else 0) = used z n.val p := by
    unfold used
    rw [← sum_window (fun u => rest (z p u)) (n.val * 128) 0 128 le_rfl]
    refine Finset.sum_congr rfl fun j _ => ?_
    rw [if_pos (Or.inl (Nat.le_add_right _ _)), if_pos ⟨Nat.zero_le _, j.isLt⟩]
  rw [e] at h
  rw [EReal.coe_add, ← hcc p l, ← h]
  pointwise [k0_pay48]

include hz hT hcc in
theorem p50_apply (p : Fin 1024) (k : Fin 128) :
    k0_pay50 (F := Ideal) v1 (lsB (bw n.val) hk x0 x1) cc (lrB (bw n.val) hk x0 x1) (hiB (bw n.val) hk x0 x1) (ix2 p k)
      = ((Real.exp (lsr (z p (n.val * 128 + k.val)) + ∑ u ∈ Ico (n.val * 128 + (k.val + 1)) (n.val * 128 + 128), rest (z p u) + C p) : ℝ) : EReal) := by
  have h := p47_apply n hk x0 x1 v1 z hz hT p ⟨k.val, by omega⟩
  have hg : k0_pay46 (F := Ideal) (lrB (bw n.val) hk x0 x1) (hiB (bw n.val) hk x0 x1) (ix2 p k) = ((lsr (z p (n.val * 128 + k.val)) : ℝ) : EReal) :=
    (lg_apply n hk x0 x1 p k).trans ((congrArg lsig (hz p (key n k))).trans (lsig_coe _))
  have e : ∑ j : Fin 128, (if 128 ≤ k.val ∨ k.val < j.val then rest (z p (n.val * 128 + j.val)) else 0)
      = ∑ u ∈ Ico (n.val * 128 + (k.val + 1)) (n.val * 128 + 128), rest (z p u) := by
    rw [← sum_window (fun u => rest (z p u)) (n.val * 128) (k.val + 1) 128 le_rfl]
    refine Finset.sum_congr rfl fun j _ => if_congr ?_ rfl rfl
    have := k.isLt
    have := j.isLt
    omega
  rw [e] at h
  rw [← exp_coe, EReal.coe_add, EReal.coe_add, ← hcc p k, ← h, ← hg]
  pointwise [k0_pay50]

theorem tripC_eq : tripC (F := Ideal) (bw n.val) hk x0 x1 v1 cc
    = k0_pay48 v1 (lsB (bw n.val) hk x0 x1) cc (lrB (bw n.val) hk x0 x1) (hiB (bw n.val) hk x0 x1) := by
  unfold tripC
  rw [View.canon_cons_unit_lit (by decide)  _ _ (by decide), View.ld_unit_lit (by decide) cc (by decide)]
  funext i
  rw [eq_ix2 i]
  pointwise [k0_pay49]

/-- The eight heads' blocks on top of each other. -/
def stack (f : Fin 8 → FVec Ideal S128x128 .f32) : FVec Ideal S1024x128 .f32 :=
  concatenate S1024x128 0 [⟨S128x128, f 0⟩, ⟨S128x128, f 1⟩, ⟨S128x128, f 2⟩, ⟨S128x128, f 3⟩, ⟨S128x128, f 4⟩, ⟨S128x128, f 5⟩,
    ⟨S128x128, f 6⟩, ⟨S128x128, f 7⟩] concatenates_S128x128_S128x128_S128x128_S128x128_S128x128_S128x128_S128x128_S128x128_S1024x128_d0

theorem stack_apply (f : Fin 8 → FVec Ideal S128x128 .f32) (p : Fin 1024) (l : Fin 128) : stack f (ix2 p l) = f (headOf p) (ix2 (rowOf p) l) :=
  cat8 f _ p l

theorem cast_self (x : FVec Ideal S1024x128 .f32) (hc) (p : Fin 1024) (d : Fin 128) : shapeCast S1024x128 x hc (ix2 p d) = x (ix2 p d) := by
  pointwise

/-- The last head's sum of weighted values. -/
def out7 (w : FVec Ideal S1024x128 .bf16) (y : Vec Ideal S1x128x128 .bf16) : FVec Ideal S128x128 .f32 :=
  have e : FVec Ideal S128x128 .bf16 := shapeCast S128x128 y shapeCasts_S1x128x128_S128x128
  matmul dot_S128x128_S128x128_S128x128_1_0_0_1_n_n none (k0_pay31 (F := Ideal) w) e (constant S128x128 .f32 0x00000000#32)

/-- The eight heads' sums of weighted values of a block, from the weights. -/
def outs (w : FVec Ideal S1024x128 .bf16) (y : Fin 8 → Vec Ideal S1x128x128 .bf16) : Fin 8 → FVec Ideal S128x128 .f32 :=
  ![k0_pay24 (F := Ideal) w (y 0), k0_pay25 (F := Ideal) w (y 1), k0_pay26 (F := Ideal) w (y 2), k0_pay27 (F := Ideal) w (y 3),
    k0_pay28 (F := Ideal) w (y 4), k0_pay29 (F := Ideal) w (y 5), k0_pay30 (F := Ideal) w (y 6),
    out7 w (y 7)]

theorem outs_apply (w : FVec Ideal S1024x128 .bf16) (y : Fin 8 → Vec Ideal S1x128x128 .bf16) (p : Fin 1024) (d : Fin 128) :
    outs w y (headOf p) (ix2 (rowOf p) d) = (∑ k : Fin 128, (w (ix2 p k) : EReal) * (y (headOf p) (ix3 0 k d) : EReal) : EReal) := by
  have hp : ∃ (h : Fin 8) (r : Fin 128), headOf p = h ∧ rowOf p = r ∧ p.val = h.val * 128 + r.val :=
    ⟨_, _, rfl, rfl, by simp only [headOf, rowOf]; omega⟩
  obtain ⟨h, r, e₁, e₂, e₃⟩ := hp
  rw [e₁, e₂]
  have e₄ : p = ⟨h.val * 128 + r.val, by omega⟩ := Fin.ext e₃
  rw [e₄]
  clear e₁ e₂ e₄
  match h with
  | ⟨0, _⟩ => show k0_pay24 (F := Ideal) w (y 0) (ix2 r d) = _; pointwise [k0_pay24, k0_pay23]
  | ⟨1, _⟩ => show k0_pay25 (F := Ideal) w (y 1) (ix2 r d) = _; pointwise [k0_pay25, k0_pay23]
  | ⟨2, _⟩ => show k0_pay26 (F := Ideal) w (y 2) (ix2 r d) = _; pointwise [k0_pay26, k0_pay23]
  | ⟨3, _⟩ => show k0_pay27 (F := Ideal) w (y 3) (ix2 r d) = _; pointwise [k0_pay27, k0_pay23]
  | ⟨4, _⟩ => show k0_pay28 (F := Ideal) w (y 4) (ix2 r d) = _; pointwise [k0_pay28, k0_pay23]
  | ⟨5, _⟩ => show k0_pay29 (F := Ideal) w (y 5) (ix2 r d) = _; pointwise [k0_pay29, k0_pay23]
  | ⟨6, _⟩ => show k0_pay30 (F := Ideal) w (y 6) (ix2 r d) = _; pointwise [k0_pay30, k0_pay23]
  | ⟨7, _⟩ => show out7 w (y 7) (ix2 r d) = _; pointwise [out7, k0_pay31, k0_pay23]

/-- A block's rows of the eight heads' lanes of `x2`. -/
def slabs (x2 : Vec Ideal S1x8192x1024 .bf16) : Fin 8 → Vec Ideal S1x128x128 .bf16 :=
  ![View.ld x2 (rK0 (bw n.val) hk), View.ld x2 (rK1 (bw n.val) hk), View.ld x2 (rK2 (bw n.val) hk), View.ld x2 (rK3 (bw n.val) hk),
    View.ld x2 (rK4 (bw n.val) hk), View.ld x2 (rK5 (bw n.val) hk), View.ld x2 (rK6 (bw n.val) hk), View.ld x2 (rK7 (bw n.val) hk)]

theorem slabs_apply (h : Fin 8) (k d : Fin 128) : slabs n hk x2 h (ix3 0 k d) = x2 (ix3 0 (key n k) (lane h d)) := by
  have e := ldK x2 n hk k d
  match h with
  | ⟨0, _⟩ => exact e.1
  | ⟨1, _⟩ => exact e.2.1
  | ⟨2, _⟩ => exact e.2.2.1
  | ⟨3, _⟩ => exact e.2.2.2.1
  | ⟨4, _⟩ => exact e.2.2.2.2.1
  | ⟨5, _⟩ => exact e.2.2.2.2.2.1
  | ⟨6, _⟩ => exact e.2.2.2.2.2.2.1
  | ⟨7, _⟩ => exact e.2.2.2.2.2.2.2

theorem weighed (w : FVec Ideal S1024x128 .bf16) (f : Fin 128 → EReal) (p : Fin 1024) (d : Fin 128) (hw : ∀ k, w (ix2 p k) = f k) :
    outs w (slabs n hk x2) (headOf p) (ix2 (rowOf p) d) = ∑ k : Fin 128, f k * vals x2 p d (n.val * 128 + k.val) := by
  rw [outs_apply]
  refine Finset.sum_congr rfl fun k _ => ?_
  rw [hw k, slabs_apply]
  unfold vals
  rw [dif_pos (show n.val * 128 + k.val < 8192 by omega)]
  rfl

include hz hT hcc in
theorem tripA_apply (p : Fin 1024) (d : Fin 128) : tripA (F := Ideal) (bw n.val) hk x0 x1 x2 v1 cc aa (ix2 p d)
    = (aa (ix2 p d) : EReal) + ∑ k : Fin 128, ((Real.exp (lsr (z p (n.val * 128 + k.val)) + ∑ u ∈ Ico (n.val * 128 + (k.val + 1)) (n.val * 128 + 128), rest (z p u) + C p) : ℝ) : EReal)
        * vals x2 p d (n.val * 128 + k.val) := by
  rw [← weighed n hk x2 (k0_pay50 (F := Ideal) v1 (lsB (bw n.val) hk x0 x1) cc (lrB (bw n.val) hk x0 x1) (hiB (bw n.val) hk x0 x1)) _ p d
    (fun k => p50_apply n hk x0 x1 v1 z hz hT C cc hcc p k), ← stack_apply (outs _ _) p d]
  unfold tripA
  rw [View.canon_cons_unit_lit (by decide)  _ _ (by decide), View.ld_unit_lit (by decide) cc (by decide), View.ld_unit_lit (by decide) aa (by decide)]
  exact cast_self (addf aa (stack (outs (k0_pay50 (F := Ideal) v1 (lsB (bw n.val) hk x0 x1) cc (lrB (bw n.val) hk x0 x1) (hiB (bw n.val) hk x0 x1)) (slabs n hk x2))))
    shapeCasts_S1024x128_S1024x128 p d

/-- The largest carry is above `-∞` when the carries are real numbers. -/
theorem max_real (x : FVec Ideal S1024x128 .f32) (hx : ∀ p l, ∃ r : ℝ, x (ix2 p l) = (r : EReal)) : (⊥ : EReal) < k0_pay33 (F := Ideal) x := by
  unfold k0_pay33
  pointwise
  rw [Finset.lt_fold_max]
  obtain ⟨r, hr⟩ := hx 0 0
  exact Or.inr ⟨(0, 0), Finset.mem_univ _, by rw [hr]; exact EReal.bot_lt_coe r⟩

theorem go_of_lt (s : EReal) (hs : ⊥ < s) : Scalar.cmpf (F := Ideal) (φ := .f32) .ogt s (thr (F := Ideal)) = 1#1 := by
  have e : (thr (F := Ideal) : EReal) = ⊥ := IdealRules.named_const.ideal_named_scalar _ _ _ _ rfl
  show BitVec.ofBool (decide ((thr (F := Ideal) : EReal) < s)) = 1#1
  rw [e, decide_eq_true hs]
  rfl

end Blocks

variable (x0 : Vec Ideal S1x128x1024 .bf16) (x1 x2 : Vec Ideal S1x8192x1024 .bf16)
  (v1 : FVec Ideal S128x256 .bf16) (z : Fin 1024 → ℕ → ℝ)
  (hz : ∀ p s, sc x0 x1 p s = ((z p s.val : ℝ) : EReal))
  (hT : ∀ (j : Fin 128) (c : Fin 256), v1 (ix2 j c) = if 128 ≤ c.val ∨ c.val < j.val then (1 : EReal) else 0)

include hz hT in
/-- The walk over `n` blocks never stops early, and adds what the blocks contribute. -/
theorem walk_apply : ∀ n, n ≤ 64 → ∀ (s : EReal) (C : Fin 1024 → ℝ) (cc aa : Vec Ideal S1024x128 .f32), ⊥ < s →
    (∀ p l, cc (ix2 p l) = ((C p : ℝ) : EReal)) → ∀ (p : Fin 1024) (d : Fin 128),
    (walk (F := Ideal) x0 x1 x2 v1 n s cc aa).2 (ix2 p d) = (aa (ix2 p d) : EReal) + below (z p) (vals x2 p d) n (C p)
  | 0, _, s, C, cc, aa, _, _, p, d => by
      rw [below_zero, add_zero]
      rfl
  | n + 1, hn, s, C, cc, aa, hs, hcc, p, d => by
      have hk : k0_chk1 (bw n) := chk_bw n (by omega)
      have h48 := p48_apply ⟨n, by omega⟩ hk x0 x1 v1 z hz hT C cc hcc
      unfold walk
      rw [if_pos (go_of_lt s hs), dif_pos hk]
      rw [walk_apply n (by omega) _ (fun p => C p + used z n p) (tripC (bw n) hk x0 x1 v1 cc) (tripA (bw n) hk x0 x1 x2 v1 cc aa) ?_ ?_ p d,
        tripA_apply ⟨n, by omega⟩ hk x0 x1 x2 v1 z hz hT C cc aa hcc p d, below_succ, add_assoc]
      · rfl
      · refine max_real _ fun p l => ⟨C p + used z n p, ?_⟩
        rw [View.ld_unit_lit (by decide) cc (by decide)]
        exact h48 p l
      · intro p l
        rw [tripC_eq ⟨n, by omega⟩ hk x0 x1 v1 cc]
        exact h48 p l

/-! ## The diagonal block -/

variable (i : grid0.Coords) (x3 : Vec Ideal S128x256 .bf16)

/-- The query block's number. -/
def qb (i : grid0.Coords) : Fin 64 := ⟨(i 1).val, (i 1).isLt⟩

theorem h17 (p : Fin 1024) (j : Fin 128) : k0_pay17 (F := Ideal) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i)) (ix2 p j)
    = sc x0 x1 p (key (qb i) j) :=
  lsB_apply (qb i) (chk_bw _ (qb i).isLt) x0 x1 p j

theorem h18 (p : Fin 1024) (j : Fin 128) : k0_pay18 (F := Ideal) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i)) (ix2 p j)
    = lsig (sc x0 x1 p (key (qb i) j)) :=
  lg_apply (qb i) (chk_bw _ (qb i).isLt) x0 x1 p j

theorem sel_one (a b : EReal) : Scalar.select 1#1 a b = a := rfl
theorem sel_zero (a b : EReal) : Scalar.select 0#1 a b = b := rfl

include hz hT in
/-- The products with the table, the columns a row does not take cleared first. -/
theorem p19_apply (p : Fin 1024) (c : Fin 256) :
    k0_pay19 (F := Ideal) v1 (k0_pay9) (k0_pay10 (View.ld x0 rQ0) (View.ld x1 (rD0 i))) (k0_pay11 (View.ld x0 rQ1) (View.ld x1 (rD1 i))) (k0_pay12 (View.ld x0 rQ2) (View.ld x1 (rD2 i))) (k0_pay13 (View.ld x0 rQ3) (View.ld x1 (rD3 i))) (k0_pay14 (View.ld x0 rQ4) (View.ld x1 (rD4 i))) (k0_pay15 (View.ld x0 rQ5) (View.ld x1 (rD5 i))) (k0_pay16 (View.ld x0 rQ6) (View.ld x1 (rD6 i))) (View.ld x0 rQ7) (View.ld x1 (rD7 i)) (ix2 p c)
      = ((∑ j : Fin 128, (if (128 ≤ c.val ∨ c.val < j.val) ∧ j.val < (rowOf p).val then rest (z p ((qb i).val * 128 + j.val)) else 0) : ℝ) : EReal) := by
  have hl := fun j : Fin 128 => (h17 x0 x1 i p j).trans (hz p (key (qb i) j))
  have hg := fun j : Fin 128 => (h18 x0 x1 i p j).trans ((congrArg lsig (hz p (key (qb i) j))).trans (lsig_coe _))
  rw [coe_sum]
  pointwise [k0_pay19]
  simp only [hl, hg, hT, mask_apply]
  rw [← Finset.sum_add_distrib]
  refine Finset.sum_congr rfl fun j _ => ?_
  by_cases hr : j.val < (rowOf p).val
  · rw [if_pos hr, sel_one, sel_one, ← EReal.coe_sub, ← EReal.coe_sub, sub_self, EReal.coe_zero, zero_mul, add_zero]
    by_cases h : 128 ≤ c.val ∨ c.val < j.val
    · rw [if_pos h, if_pos ⟨h, hr⟩, mul_one]; rfl
    · rw [if_neg h, if_neg (fun e => h e.1), mul_zero]; rfl
  · rw [if_neg hr, sel_zero, sel_zero, sub_zero, zero_mul, add_zero, if_neg (fun e => hr e.2)]
    rfl

variable (hT3 : ∀ (j : Fin 128) (c : Fin 256), tab (F := Ideal) x3 (ix2 j c) = if 128 ≤ c.val ∨ c.val < j.val then (1 : EReal) else 0)

include hz hT3 in
/-- What the diagonal block takes off the stick. -/
theorem lD_apply (p : Fin 1024) (l : Fin 128) : lD (F := Ideal) i x0 x1 x3 (ix2 p l)
    = ((∑ u ∈ Ico ((qb i).val * 128 + 0) ((qb i).val * 128 + (rowOf p).val), rest (z p u) : ℝ) : EReal) := by
  have h := p19_apply x0 x1 (tab x3) z hz hT3 i p ⟨128 + l.val, by omega⟩
  have e : ∑ j : Fin 128, (if (128 ≤ 128 + l.val ∨ 128 + l.val < j.val) ∧ j.val < (rowOf p).val then rest (z p ((qb i).val * 128 + j.val)) else 0)
      = ∑ u ∈ Ico ((qb i).val * 128 + 0) ((qb i).val * 128 + (rowOf p).val), rest (z p u) := by
    rw [← sum_window (fun u => rest (z p u)) ((qb i).val * 128) 0 (rowOf p).val (rowOf p).isLt.le]
    refine Finset.sum_congr rfl fun j _ => if_congr ?_ rfl rfl
    omega
  rw [e] at h
  rw [← h]
  unfold lD
  pointwise [k0_pay21]

include hz hT3 in
theorem aD_apply (p : Fin 1024) (k : Fin 128) : aD (F := Ideal) i x0 x1 x3 (ix2 p k)
    = if k.val < (rowOf p).val then ((Real.exp (lsr (z p ((qb i).val * 128 + k.val))
        + ∑ u ∈ Ico ((qb i).val * 128 + (k.val + 1)) ((qb i).val * 128 + (rowOf p).val), rest (z p u)) : ℝ) : EReal) else 0 := by
  have h := p19_apply x0 x1 (tab x3) z hz hT3 i p ⟨k.val, by omega⟩
  have hg := (h18 x0 x1 i p k).trans ((congrArg lsig (hz p (key (qb i) k))).trans (lsig_coe _))
  have e : ∑ j : Fin 128, (if (128 ≤ k.val ∨ k.val < j.val) ∧ j.val < (rowOf p).val then rest (z p ((qb i).val * 128 + j.val)) else 0)
      = ∑ u ∈ Ico ((qb i).val * 128 + (k.val + 1)) ((qb i).val * 128 + (rowOf p).val), rest (z p u) := by
    rw [← sum_window (fun u => rest (z p u)) ((qb i).val * 128) (k.val + 1) (rowOf p).val (rowOf p).isLt.le]
    refine Finset.sum_congr rfl fun j _ => if_congr ?_ rfl rfl
    have := k.isLt
    omega
  rw [e] at h
  rw [← exp_coe, EReal.coe_add, ← h, show ((lsr (z p ((qb i).val * 128 + k.val)) : ℝ) : EReal) = _ from hg.symm]
  unfold aD
  pointwise [k0_pay20]
  rw [mask_apply]
  by_cases hr : k.val < (rowOf p).val
  · rw [if_pos hr, if_pos hr, sel_one]
  · rw [if_neg hr, if_neg hr, sel_zero]

theorem carryD_eq : carryD (F := Ideal) i x0 x1 x3 = lD i x0 x1 x3 := by
  unfold carryD lD
  rw [View.canon_cons_unit_lit (by decide) _ _ (by decide)]
  funext j
  rw [eq_ix2 j]
  pointwise [k0_pay22]

include hz hT3 in
theorem accD_apply (p : Fin 1024) (d : Fin 128) : accD (F := Ideal) i x0 x1 x2 x3 (ix2 p d)
    = ∑ k : Fin 128, (if k.val < (rowOf p).val then ((Real.exp (lsr (z p ((qb i).val * 128 + k.val))
        + ∑ u ∈ Ico ((qb i).val * 128 + (k.val + 1)) ((qb i).val * 128 + (rowOf p).val), rest (z p u)) : ℝ) : EReal) else 0)
        * vals x2 p d ((qb i).val * 128 + k.val) := by
  rw [← weighed (qb i) (chk_bw _ (qb i).isLt) x2 (aD (F := Ideal) i x0 x1 x3) _ p d
    (fun k => aD_apply x0 x1 z hz i x3 hT3 p k), ← stack_apply (outs _ _) p d]
  unfold accD
  rw [View.canon_cons_unit_lit (by decide) _ _ (by decide)]
  exact cast_self (stack (outs (aD (F := Ideal) i x0 x1 x3) (slabs (qb i) (chk_bw _ (qb i).isLt) x2))) shapeCasts_S1024x128_S1024x128 p d

include hz hT3 in
/-- The accumulator at the end: each row's weighted values, over the keys before its query. -/
theorem accAll_apply (p : Fin 1024) (d : Fin 128) : accAll (F := Ideal) i x0 x1 x2 x3 (ix2 p d)
    = rowOut (z p) (vals x2 p d) ((qb i).val * 128 + (rowOf p).val) := by
  unfold accAll
  refine (walk_apply x0 x1 x2 (tab x3) z hz hT3 (qb i).val (qb i).isLt.le _
    (fun p => ∑ u ∈ Ico ((qb i).val * 128 + 0) ((qb i).val * 128 + (rowOf p).val), rest (z p u)) _ _ ?_ ?_ p d).trans ?_
  · exact max_real _ fun p l => ⟨_, lD_apply x0 x1 z hz i x3 hT3 p l⟩
  · intro p l
    rw [carryD_eq]
    exact lD_apply x0 x1 z hz i x3 hT3 p l
  · rw [accD_apply x0 x1 x2 z hz i x3 hT3 p d]
    exact row_split (z p) (vals x2 p d) (qb i).val (rowOf p).val (rowOf p).isLt

end Cert.SBV

end
-- ==== Proof.SB.Ref.lean ====
/-
  What the plainly written stick-breaking attention gives at an index. Its masked logarithms are summed from the far
  end by a windowed sum over the keys, shifted by one place; at a query `t` the entries before `t` are real numbers and
  the others zero, so the sum at a key `s < t` is the sum over the keys strictly between `s` and `t`.
-/
module

public import proofs.«01_k».proof.Proof.Gen.ReferenceIdeal.Read
public import proofs.«01_k».proof.Proof.SB.Math
public import Idealize.ShloMosaic.Lib.Pointwise

@[expose] public section

set_option maxRecDepth 16384

noncomputable section

namespace Cert.SBV

open Cert.ReferenceIdeal Cert.ReferenceIdeal.Gen Cert.ReferenceIdeal.Read
open Idealize.ShloMosaic
open Finset (range Ico)

/-! ## A windowed sum over the last axis -/

theorem foldl_plus {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The sum of the entries from position `j 3` on. -/
theorem tail_sum (x : S2x8x8192x8192.Idx → EReal) (h) (b : Fin 2) (e : Fin 8) (t s : Fin 8192) :
    Ideal.hostReduceWindowAdd (t := S2x8x8192x8192) ![1, 1, 1, 8192] ![1, 1, 1, 1] ![0, 0, 0, 0] ![0, 0, 0, 8191] h x 0 (ix4 b e t s)
      = ∑ n : Fin 8192, if hn : s.val + n.val < 8192 then x (ix4 b e t ⟨s.val + n.val, hn⟩) else 0 := by
  unfold Ideal.hostReduceWindowAdd Host.reduceWindow
  refine (foldl_plus _ _ _).trans ?_
  rw [zero_add, ← Fin.sum_univ_def]
  let W : Shape := ⟨4, ![1, 1, 1, 8192]⟩
  let G : W.Idx → EReal := fun w => if hn : s.val + (w 3).val < 8192 then x (ix4 b e t ⟨s.val + (w 3).val, hn⟩) else 0
  refine Eq.trans (b := ∑ n, G (W.rowMajor.symm n)) (Finset.sum_congr rfl fun n _ => ?_) ?_
  · let w : W.Idx := W.rowMajor.symm n
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    show _ = G w
    by_cases hn : s.val + (w 3).val < 8192
    · rw [show G w = _ from dif_pos hn, dif_pos]
      · refine congrArg x (funext fun a => Fin.ext ?_)
        match a with
        | ⟨0, _⟩ => show b.val * 1 + (w 0).val - 0 = b.val; omega
        | ⟨1, _⟩ => show e.val * 1 + (w 1).val - 0 = e.val; omega
        | ⟨2, _⟩ => show t.val * 1 + (w 2).val - 0 = t.val; omega
        | ⟨3, _⟩ => show s.val * 1 + (w 3).val - 0 = s.val + (w 3).val; omega
      · intro a
        match a with
        | ⟨0, _⟩ => show 0 ≤ b.val * 1 + (w 0).val ∧ b.val * 1 + (w 0).val - 0 < 2; omega
        | ⟨1, _⟩ => show 0 ≤ e.val * 1 + (w 1).val ∧ e.val * 1 + (w 1).val - 0 < 8; omega
        | ⟨2, _⟩ => show 0 ≤ t.val * 1 + (w 2).val ∧ t.val * 1 + (w 2).val - 0 < 8192; omega
        | ⟨3, _⟩ => show 0 ≤ s.val * 1 + (w 3).val ∧ s.val * 1 + (w 3).val - 0 < 8192; omega
    · rw [show G w = _ from dif_neg hn, dif_neg]
      intro hall
      have h3 : 0 ≤ s.val * 1 + (w 3).val ∧ s.val * 1 + (w 3).val - 0 < 8192 := hall 3
      omega
  · rw [Equiv.sum_comp W.rowMajor.symm G]
    refine (sum_idx4 G).trans ?_
    simp only [Fin.sum_univ_one]
    rfl

/-- A sum over a row shifted by `s`, of real numbers. -/
theorem shift_sum (f : ℕ → ℝ) (s : Fin 8192) (x : Fin 8192 → EReal) (hx : ∀ u, x u = (f u.val : EReal)) :
    (∑ n : Fin 8192, if hn : s.val + n.val < 8192 then x ⟨s.val + n.val, hn⟩ else 0) = ((∑ u ∈ Ico s.val 8192, f u : ℝ) : EReal) := by
  have hs := s.isLt
  rw [Finset.sum_congr rfl fun n _ => show (if hn : s.val + n.val < 8192 then x ⟨s.val + n.val, hn⟩ else 0)
      = (fun n : ℕ => if s.val + n < 8192 then (f (s.val + n) : EReal) else 0) n.val by
    by_cases hn : s.val + n.val < 8192
    · rw [dif_pos hn, hx]; exact (if_pos hn).symm
    · rw [dif_neg hn]; exact (if_neg hn).symm]
  rw [Fin.sum_univ_eq_sum_range (fun n : ℕ => if s.val + n < 8192 then (f (s.val + n) : EReal) else 0) 8192, ← Finset.sum_filter,
    show (range 8192).filter (fun n => s.val + n < 8192) = range (8192 - s.val) by
      ext n; simp only [Finset.mem_filter, Finset.mem_range]; omega,
    Finset.sum_Ico_eq_sum_range, coe_sum]

/-- Masked at `t`, the sum over the keys from `s` on stops at `t`. -/
theorem masked_sum (f : ℕ → ℝ) (s t : ℕ) (ht : t ≤ 8192) :
    ∑ u ∈ Ico s 8192, (if u < t then f u else 0) = ∑ u ∈ Ico s t, f u := by
  rw [← Finset.sum_filter]
  congr 1
  ext u; simp only [Finset.mem_filter, Finset.mem_Ico]; omega

/-! ## The entries -/

variable (x0 x1 x2 : S16384x1024.Idx → EReal)

/-- Head `h`'s lane `k` of row `t` of batch `b`. -/
def at4 (x : S16384x1024.Idx → EReal) (b : Fin 2) (t : Fin 8192) (h : Fin 8) (k : Fin 128) : EReal :=
  x (ix2 ⟨b.val * 8192 + t.val, by omega⟩ ⟨h.val * 128 + k.val, by omega⟩)

/-- The scaled score of the key `s` for the query `t`. -/
def score (b : Fin 2) (h : Fin 8) (t s : Fin 8192) : EReal :=
  (∑ k : Fin 128, at4 x0 b t h k * at4 x1 b s h k) * Ideal.ofBits .f32 0x3DB504F3#32

theorem v1_at (b : Fin 2) (t : Fin 8192) (h : Fin 8) (k : Fin 128) : val_main_v1 (F := Ideal) x0 (ix4 b t h k) = at4 x0 b t h k := by
  rw [val_main_v1_apply]
  refine congrArg x0 (funext fun a => Fin.ext ?_)
  match a with
  | ⟨0, _⟩ => show (((b.val * 8192 + t.val) * 8 + h.val) * 128 + k.val) / 1024 = b.val * 8192 + t.val; omega
  | ⟨1, _⟩ => show (((b.val * 8192 + t.val) * 8 + h.val) * 128 + k.val) % 1024 = h.val * 128 + k.val; omega

theorem v3_at (b : Fin 2) (t : Fin 8192) (h : Fin 8) (k : Fin 128) : val_main_v3 (F := Ideal) x1 (ix4 b t h k) = at4 x1 b t h k := v1_at x1 b t h k
theorem v5_at (b : Fin 2) (t : Fin 8192) (h : Fin 8) (k : Fin 128) : val_main_v5 (F := Ideal) x2 (ix4 b t h k) = at4 x2 b t h k := v1_at x2 b t h k

theorem v14_at (b : Fin 2) (h : Fin 8) (t s : Fin 8192) : val_main_v14 (F := Ideal) x0 x1 (ix4 b h t s) = score x0 x1 b h t s := by
  rw [val_main_v14_apply, val_main_v12_apply, val_main_v13_apply]
  refine congrArg₂ (fun a b : EReal => a * b) (Finset.sum_congr rfl fun k _ => ?_) rfl
  refine congrArg₂ (fun a b : EReal => a * b) (Eq.trans (congrArg _ (funext fun a => ?_)) (v1_at x0 b t h k)) (Eq.trans (congrArg _ (funext fun a => ?_)) (v3_at x1 b s h k))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The host's form of minus the softplus of minus a score. -/
def hostForm (z : EReal) : EReal :=
  -(Scalar.select (Ideal.cmp .une (-z - Ideal.ofBits .f32 0x00000000#32) (-z - Ideal.ofBits .f32 0x00000000#32))
      (-z + Ideal.ofBits .f32 0x00000000#32)
      (max (-z) (Ideal.ofBits .f32 0x00000000#32)
        + Ideal.log (1 + Ideal.exp (-(max (-z - Ideal.ofBits .f32 0x00000000#32) (-(-z - Ideal.ofBits .f32 0x00000000#32)))))))

theorem hostForm_coe (x : ℝ) : hostForm (x : EReal) = (lsr x : EReal) := by
  unfold hostForm
  have e0 : Ideal.ofBits .f32 0x00000000#32 = 0 := by simp [Ideal.ofBits, Ideal.ieee]
  rw [e0, sub_zero, neg_neg, max_comm (-(x : EReal)) (x : EReal), max_neg_coe, ← EReal.coe_neg (|x|)]
  have hc : Ideal.cmp .une (-(x : EReal)) (-(x : EReal)) = 0#1 := by
    simp [Ideal.cmp]
  rw [hc]
  exact softplus_form x

theorem v15_form (i) : val_main_v15 (F := Ideal) x0 x1 i = hostForm (val_main_v14 (F := Ideal) x0 x1 i) := rfl
theorem v17_form (i) : val_main_v17 (F := Ideal) x0 x1 i = hostForm (-(val_main_v14 (F := Ideal) x0 x1 i)) := rfl

/-- The mask of the keys before the query. -/
theorem v11_at (t s : Fin 8192) : val_main_v11 (F := Ideal) (ix2 t s) = BitVec.ofBool (decide (s.val < t.val)) := by
  rw [val_main_v11_apply, val_main_v9_apply, val_main_v10_apply, val_main_v7_apply, val_main_v8_apply, val_main_v6_apply, val_main_v6_apply]
  show BitVec.ofBool (BitVec.slt (BitVec.ofNat 32 s.val) (BitVec.ofNat 32 t.val)) = _
  have hs := s.isLt; have ht := t.isLt
  congr 1
  have word : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  rw [BitVec.slt_eq_decide, word _ hs, word _ ht]
  exact decide_eq_decide.mpr Int.ofNat_lt

theorem c2_at (b : Fin 2) (h : Fin 8) (t s : Fin 8192) : val_main_call2_v1 (F := Ideal) (ix4 b h t s) = val_main_v11 (F := Ideal) (ix2 t s) := by
  rw [val_main_call2_v1_apply]
  refine congrArg _ (funext fun a => ?_)
  match a with
  | ⟨0, _⟩ => rfl
  | ⟨1, _⟩ => rfl

theorem c4_at (b : Fin 2) (h : Fin 8) (t s : Fin 8192) : val_main_call4_v1 (F := Ideal) (ix4 b h t s) = val_main_v11 (F := Ideal) (ix2 t s) := by
  rw [val_main_call4_v1_apply]
  refine congrArg _ (funext fun a => ?_)
  match a with
  | ⟨0, _⟩ => rfl
  | ⟨1, _⟩ => rfl

theorem pick {α : Type} (p : Prop) [Decidable p] (a b : α) : Scalar.select (BitVec.ofBool (decide p)) a b = if p then a else b := by
  by_cases hp : p <;> simp [Scalar.select, hp]

variable (z : ℕ → ℝ) (b : Fin 2) (h : Fin 8) (t : Fin 8192) (hz : ∀ s : Fin 8192, score x0 x1 b h t s = (z s.val : EReal))

include hz

theorem v18_at (s : Fin 8192) : val_main_v18 (F := Ideal) x0 x1 (ix4 b h t s) = ((if s.val < t.val then rest (z s.val) else 0 : ℝ) : EReal) := by
  have e0 : Ideal.ofBits .f32 0x00000000#32 = 0 := by simp [Ideal.ofBits, Ideal.ieee]
  rw [val_main_v18_apply, c2_at, v11_at, pick, v17_form, v14_at, hz, ← EReal.coe_neg, hostForm_coe, rest_eq, val_main_call2_v2_apply]
  split
  · rfl
  · exact e0

/-- The sum of what the keys from `s` on take. -/
theorem v19_at (s : Fin 8192) : val_main_v19 (F := Ideal) x0 x1 (ix4 b h t s) = ((∑ u ∈ Ico s.val t.val, rest (z u) : ℝ) : EReal) := by
  have e0 : Ideal.ofBits .f32 0x00000000#32 = 0 := by simp [Ideal.ofBits, Ideal.ieee]
  have e1 : val_main_call3_v0 (F := Ideal) (Shape.Idx.first h_S_) = (0 : EReal) := by rw [val_main_call3_v0_apply]; exact e0
  have ht := t.isLt
  unfold val_main_v19 Host.reduceWindowAdd
  rw [Ideal.hostReduceWindowAdd_def, e1, tail_sum]
  refine (shift_sum (fun u => if u < t.val then rest (z u) else 0) s (fun u => val_main_v18 (F := Ideal) x0 x1 (ix4 b h t u)) (v18_at x0 x1 z b h t hz)).trans ?_
  rw [masked_sum _ _ _ ht.le]

theorem v23_at (s : Fin 8192) : val_main_v23 (F := Ideal) x0 x1 (ix4 b h t s) = ((∑ u ∈ Ico (s.val + 1) t.val, rest (z u) : ℝ) : EReal) := by
  have e0 : Ideal.ofBits .f32 0x00000000#32 = 0 := by simp [Ideal.ofBits, Ideal.ieee]
  have ht := t.isLt
  unfold val_main_v23
  by_cases hs : s.val < 8191
  · refine (concatenate_pair_apply_left (t := S2x8x8192x8192) (s₁ := S2x8x8192x8191) (s₂ := S2x8x8192x1) 3 _ _ _ (ix4 b h t s) rfl (ix4 b h t ⟨s.val, hs⟩) (fun a => ?_)).trans ?_
    · match a with
      | ⟨0, _⟩ => rfl
      | ⟨1, _⟩ => rfl
      | ⟨2, _⟩ => rfl
      | ⟨3, _⟩ => rfl
    · rw [val_main_v20_apply]
      refine Eq.trans (congrArg _ (funext fun a => Fin.ext ?_)) (v19_at x0 x1 z b h t hz ⟨s.val + 1, by omega⟩)
      match a with
      | ⟨0, _⟩ => show _ = b.val; simp
      | ⟨1, _⟩ => show _ = h.val; simp
      | ⟨2, _⟩ => show _ = t.val; simp
      | ⟨3, _⟩ => show _ = s.val + 1; simp; omega
  · have hs' : s.val = 8191 := by omega
    refine (concatenate_pair_apply_right (t := S2x8x8192x8192) (s₁ := S2x8x8192x8191) (s₂ := S2x8x8192x1) 3 _ _ _ (ix4 b h t s) rfl rfl (ix4 b h t 0) (fun a ha => ?_) ?_).trans ?_
    · match a with
      | ⟨0, _⟩ => rfl
      | ⟨1, _⟩ => rfl
      | ⟨2, _⟩ => rfl
      | ⟨3, _⟩ => exact absurd rfl ha
    · show 0 + 8191 = s.val; omega
    · rw [val_main_v22_apply, Finset.Ico_eq_empty (by omega), Finset.sum_empty]
      exact e0

theorem v26_at (s : Fin 8192) : val_main_v26 (F := Ideal) x0 x1 (ix4 b h t s) = if s.val < t.val then (wt z t.val s.val : EReal) else 0 := by
  have e0 : Ideal.ofBits .f32 0x00000000#32 = 0 := by simp [Ideal.ofBits, Ideal.ieee]
  rw [val_main_v26_apply, c4_at, v11_at, pick, val_main_v25_apply, val_main_v24_apply, v15_form, v14_at, hz, hostForm_coe, v23_at x0 x1 z b h t hz, val_main_call4_v2_apply]
  split
  · show Ideal.exp ((lsr (z s.val) : EReal) + ((∑ u ∈ Ico (s.val + 1) t.val, rest (z u) : ℝ) : EReal)) = _
    rw [← EReal.coe_add]
    rfl
  · exact e0

/-- The result of the plainly written attention at a head's lane. -/
theorem v30_at (d : Fin 128) : val_main_v30 (F := Ideal) x0 x1 x2 (ix3 b t ⟨h.val * 128 + d.val, by omega⟩)
    = rowOut z (fun s => if hs : s < 8192 then at4 x2 b ⟨s, hs⟩ h d else 0) t.val := by
  have ht := t.isLt
  rw [val_main_v30_apply]
  show val_main_v29 (F := Ideal) x0 x1 x2 _ = _
  rw [val_main_v29_apply, val_main_v28_apply, val_main_v27_apply, ← row_all z _ t.val ht.le]
  refine Finset.sum_congr rfl fun s _ => congrArg₂ (fun a b : EReal => a * b) ?_ ?_
  · rw [dif_pos s.isLt]
    refine Eq.trans (congrArg _ (funext fun a => Fin.ext ?_)) (v5_at x2 b s h d)
    match a with
    | ⟨0, _⟩ => show _ = b.val; simp; omega
    | ⟨1, _⟩ => rfl
    | ⟨2, _⟩ => show _ = h.val; simp; omega
    | ⟨3, _⟩ => show _ = d.val; simp; omega
  · refine Eq.trans (congrArg _ (funext fun a => Fin.ext ?_)) (v26_at x0 x1 z b h t hz s)
    match a with
    | ⟨0, _⟩ => show _ = b.val; simp; omega
    | ⟨1, _⟩ => show _ = h.val; simp; omega
    | ⟨2, _⟩ => show _ = t.val; simp; omega
    | ⟨3, _⟩ => rfl

end Cert.SBV

end
-- ==== Proof.SB.Value.lean ====
/-
  The stick-breaking attention: what the kernel `KernelIdeal` leaves in its result, and the claim. Block `(b, q)` of the
  result is the heads' accumulators at the end of the body, each query row weighted over the keys before it; the
  reference sums the same weights over every key with the later ones at zero.
-/
module

public import proofs.«01_k».proof.Defs
public import proofs.«01_k».proof.Proof.SB.Step
public import proofs.«01_k».proof.Proof.SB.Ref

@[expose] public section

set_option maxRecDepth 16384

noncomputable section

open Idealize.ShloMosaic Idealize.ShloMosaic.TcCoe Idealize.SL.Sem
open Idealize.ShloMosaic.Pipeline (Dat)

namespace Cert.SBV

/-! ## The result block -/

section Block
open Cert.KernelIdeal Cert.KernelIdeal.Gen Cert.SB.KernelIdeal

theorem cut_apply (v : Vec Ideal S128x128 .f32) (r d : Fin 128) :
    k0_pay34 (F := Ideal) v (ix3 0 r d) = v (ix2 r d) := by
  pointwise [k0_pay34]

/-- The result block at a head's lane: the accumulator at the head's rows. -/
theorem out4_apply (i : grid0.Coords) (x0 : Vec Ideal S1x128x1024 .bf16) (x1 x2 : Vec Ideal S1x8192x1024 .bf16) (x3 : Vec Ideal S128x256 .bf16)
    (r : Fin 128) (h : Fin 8) (d : Fin 128) :
    out4 (F := Ideal) i x0 x1 x2 x3 (ix3 0 r (lane h d)) = accAll i x0 x1 x2 x3 (ix2 ⟨h.val * 128 + r.val, by omega⟩ d) := by
  unfold out4
  generalize accAll (F := Ideal) i x0 x1 x2 x3 = A
  have hr := r.isLt; have hd := d.isLt; have hh := h.isLt
  canon_tiles x hx
  all_goals
    have g0 : x = ix3 0 (x 1) (x 2) := by
      funext a
      match a with
      | ⟨0, _⟩ => exact Fin.ext (by have : (x 0).val < 1 := (x 0).isLt; show (x 0).val = 0; omega)
      | ⟨1, _⟩ => rfl
      | ⟨2, _⟩ => rfl
    change r.val = _ at hx1
    change h.val * 128 + d.val = _ at hx2
    rw [g0]
    refine (cut_apply _ (x 1) (x 2)).trans (View.ld_unit_apply_of A _ _ _ _ _ fun c => ?_)
    match c with
    | ⟨0, _⟩ => show h.val * 128 + r.val = _; simp; omega
    | ⟨1, _⟩ => show d.val = _; simp; omega

/-! ## The blocks -/

variable (m : (ℓ : Loc nD τ sig) → Buf (Elt Ideal) ℓ) (ρ : Dev nD → PrngReg)

/-- The queries as the region finds them. -/
theorem V_q (c : Dev nD) (b : Fin 2) (t : Fin 8192) (e : Fin 1024) :
    (V m c main_v10 : S2x8192x1024.Idx → EReal) (ix3 b t e) = m ((c : Thread nD τ).loc main_arg0) (ix2 ⟨b.val * 8192 + t.val, by omega⟩ e) := by
  have h : V m c main_v10 = shapeCast (α := EReal) (s := S16384x1024) S2x8192x1024 (m ((c : Thread nD τ).loc main_arg0)) shapeCasts_S16384x1024_S2x8192x1024 := by
    unfold_abbrev_sides
    after_results
    rfl
  rw [h]
  pointwise

/-- The keys as the region finds them. -/
theorem V_k (c : Dev nD) (b : Fin 2) (t : Fin 8192) (e : Fin 1024) :
    (V m c main_v11 : S2x8192x1024.Idx → EReal) (ix3 b t e) = m ((c : Thread nD τ).loc main_arg1) (ix2 ⟨b.val * 8192 + t.val, by omega⟩ e) := by
  have h : V m c main_v11 = shapeCast (α := EReal) (s := S16384x1024) S2x8192x1024 (m ((c : Thread nD τ).loc main_arg1)) shapeCasts_S16384x1024_S2x8192x1024 := by
    unfold_abbrev_sides
    after_results
    rfl
  rw [h]
  pointwise

/-- The values as the region finds them. -/
theorem V_v (c : Dev nD) (b : Fin 2) (t : Fin 8192) (e : Fin 1024) :
    (V m c main_v12 : S2x8192x1024.Idx → EReal) (ix3 b t e) = m ((c : Thread nD τ).loc main_arg2) (ix2 ⟨b.val * 8192 + t.val, by omega⟩ e) := by
  have h : V m c main_v12 = shapeCast (α := EReal) (s := S16384x1024) S2x8192x1024 (m ((c : Thread nD τ).loc main_arg2)) shapeCasts_S16384x1024_S2x8192x1024 := by
    unfold_abbrev_sides
    after_results
    rfl
  rw [h]
  pointwise

theorem gt_word (j : Fin 128) (c : Fin 256) :
    IntOp.ori (IntOp.cmpi CmpIPredicate.sgt (BitVec.ofNat 32 j.val) (BitVec.ofNat 32 c.val)) (IntOp.cmpi CmpIPredicate.sge (BitVec.ofNat 32 c.val) 128#32)
      = if 128 ≤ c.val ∨ c.val < j.val then 1#1 else 0#1 := by
  revert j c
  decide +kernel

/-- The table of sums as the region finds it: ones after each key, then a block of ones. -/
theorem V_t (c : Dev nD) (j : Fin 128) (l : Fin 256) :
    (V m c main_v9 : S128x256.Idx → EReal) (ix2 j l) = if 128 ≤ l.val ∨ l.val < j.val then (1 : EReal) else 0 := by
  have h : V m c main_v9 = truncf (F := Ideal) (s := S128x256) (φ := .f32) .bf16
      (select (ori (cmpi .sgt (iotaInDim S128x256 32 0) (iotaInDim S128x256 32 1)) (cmpi .sge (iotaInDim S128x256 32 1) (fun _ => 128#32)))
        (fun _ => (Ideal.ofBits .f32 0x3F800000#32 : EReal)) (fun _ => (Ideal.ofBits .f32 0x00000000#32 : EReal))) bitsLt_bf16_f32 := by
    unfold_abbrev_sides
    after_results
    rfl
  have e0 : Ideal.ofBits .f32 0x00000000#32 = 0 := by simp [Ideal.ofBits, Ideal.ieee]
  have e1 : Ideal.ofBits .f32 0x3F800000#32 = 1 := by simp [Ideal.ofBits, Ideal.ieee, -EReal.coe_mul]; norm_num
  rw [h]
  show Scalar.select (IntOp.ori (IntOp.cmpi CmpIPredicate.sgt (BitVec.ofNat 32 j.val) (BitVec.ofNat 32 l.val))
    (IntOp.cmpi CmpIPredicate.sge (BitVec.ofNat 32 l.val) 128#32)) (Ideal.ofBits .f32 0x3F800000#32) (Ideal.ofBits .f32 0x00000000#32) = _
  rw [gt_word, e0, e1]
  by_cases hc : 128 ≤ l.val ∨ l.val < j.val
  · rw [if_pos hc, if_pos hc]; rfl
  · rw [if_neg hc, if_neg hc]; rfl

set_option maxRecDepth 100000 in
/-- The printed index maps over the grid: point `t` is block `t % 64` of batch `t / 64`. -/
theorem idx_facts : ∀ t : Fin (cfg0 (F := Ideal)).N, t.val < 128
    ∧ win0_0.index t = ![t.val / 64, t.val % 64, 0] ∧ win0_1.index t = ![t.val / 64, 0, 0] ∧ win0_2.index t = ![t.val / 64, 0, 0]
    ∧ win0_3.index t = ![0, 0] ∧ win0_4.index t = ![t.val / 64, t.val % 64, 0] ∧ (grid0.coords t 1).val = t.val % 64 :=
  (by decide +kernel : ∀ t : Fin grid0.N, _)

/-- The batch of point `t`. -/
def bt (t : Fin (cfg0 (F := Ideal)).N) : Fin 2 := ⟨t.val / 64, by have := (idx_facts t).1; omega⟩
/-- Row `r` of the block of point `t`. -/
def row (t : Fin (cfg0 (F := Ideal)).N) (r : Fin 128) : Fin 8192 := ⟨t.val % 64 * 128 + r.val, by omega⟩

theorem blk0 (c : Dev nD) (t : Fin (cfg0 (F := Ideal)).N) (r : Fin 128) (e : Fin 1024) :
    iblk m c 0 t (ix3 0 r e) = m ((c : Thread nD τ).loc main_arg0) (ix2 ⟨(bt t).val * 8192 + (row t r).val, by omega⟩ e) := by
  have f := (idx_facts t).2.1
  refine Eq.trans ?_ (V_q m c (bt t) (row t r) e)
  unfold iblk
  refine congrArg (V m c main_v10) (funext fun a => Fin.ext ?_)
  match a with
  | ⟨0, _⟩ => show win0_0.index t (0 : Fin 3) * 1 + 1 * 0 = t.val / 64; rw [f]; show t.val / 64 * 1 + 1 * 0 = t.val / 64; omega
  | ⟨1, _⟩ => show win0_0.index t (1 : Fin 3) * 128 + 1 * r.val = t.val % 64 * 128 + r.val; rw [f]; show t.val % 64 * 128 + 1 * r.val = _; omega
  | ⟨2, _⟩ => show win0_0.index t (2 : Fin 3) * 1024 + 1 * e.val = e.val; rw [f]; show 0 * 1024 + 1 * e.val = e.val; omega

theorem blk1 (c : Dev nD) (t : Fin (cfg0 (F := Ideal)).N) (s : Fin 8192) (e : Fin 1024) :
    iblk m c 1 t (ix3 0 s e) = m ((c : Thread nD τ).loc main_arg1) (ix2 ⟨(bt t).val * 8192 + s.val, by omega⟩ e) := by
  have f := (idx_facts t).2.2.1
  refine Eq.trans ?_ (V_k m c (bt t) s e)
  unfold iblk
  refine congrArg (V m c main_v11) (funext fun a => Fin.ext ?_)
  match a with
  | ⟨0, _⟩ => show win0_1.index t (0 : Fin 3) * 1 + 1 * 0 = t.val / 64; rw [f]; show t.val / 64 * 1 + 1 * 0 = t.val / 64; omega
  | ⟨1, _⟩ => show win0_1.index t (1 : Fin 3) * 8192 + 1 * s.val = s.val; rw [f]; show 0 * 8192 + 1 * s.val = s.val; omega
  | ⟨2, _⟩ => show win0_1.index t (2 : Fin 3) * 1024 + 1 * e.val = e.val; rw [f]; show 0 * 1024 + 1 * e.val = e.val; omega

theorem blk2 (c : Dev nD) (t : Fin (cfg0 (F := Ideal)).N) (s : Fin 8192) (e : Fin 1024) :
    iblk m c 2 t (ix3 0 s e) = m ((c : Thread nD τ).loc main_arg2) (ix2 ⟨(bt t).val * 8192 + s.val, by omega⟩ e) := by
  have f := (idx_facts t).2.2.2.1
  refine Eq.trans ?_ (V_v m c (bt t) s e)
  unfold iblk
  refine congrArg (V m c main_v12) (funext fun a => Fin.ext ?_)
  match a with
  | ⟨0, _⟩ => show win0_2.index t (0 : Fin 3) * 1 + 1 * 0 = t.val / 64; rw [f]; show t.val / 64 * 1 + 1 * 0 = t.val / 64; omega
  | ⟨1, _⟩ => show win0_2.index t (1 : Fin 3) * 8192 + 1 * s.val = s.val; rw [f]; show 0 * 8192 + 1 * s.val = s.val; omega
  | ⟨2, _⟩ => show win0_2.index t (2 : Fin 3) * 1024 + 1 * e.val = e.val; rw [f]; show 0 * 1024 + 1 * e.val = e.val; omega

theorem blk3 (c : Dev nD) (t : Fin (cfg0 (F := Ideal)).N) (j : Fin 128) (l : Fin 256) :
    iblk m c 3 t (ix2 j l) = if 128 ≤ l.val ∨ l.val < j.val then (1 : EReal) else 0 := by
  have f := (idx_facts t).2.2.2.2.1
  refine Eq.trans ?_ (V_t m c j l)
  unfold iblk
  refine congrArg (V m c main_v9) (funext fun a => Fin.ext ?_)
  match a with
  | ⟨0, _⟩ => show win0_3.index t (0 : Fin 2) * 128 + 1 * j.val = j.val; rw [f]; show 0 * 128 + 1 * j.val = j.val; omega
  | ⟨1, _⟩ => show win0_3.index t (1 : Fin 2) * 256 + 1 * l.val = l.val; rw [f]; show 0 * 256 + 1 * l.val = l.val; omega

/-! ## The scores are real numbers -/

/-- Every entry is a real number. -/
def AllReal (x : S16384x1024.Idx → EReal) : Prop := ∀ i, ∃ r : ℝ, x i = (r : EReal)

theorem scale_real : ∃ r : ℝ, Ideal.ofBits .f32 0x3DB504F3#32 = (r : EReal) := by
  show ∃ r : ℝ, Ideal.ieee 8 23 0x3DB504F3#32 = (r : EReal)
  unfold Ideal.ieee
  dsimp only
  rw [if_neg (by decide), if_neg (by decide)]
  exact ⟨_, rfl⟩

theorem score_real (x0 x1 : S16384x1024.Idx → EReal) (h0 : AllReal x0) (h1 : AllReal x1) (b : Fin 2) (h : Fin 8) (t s : Fin 8192) :
    ∃ r : ℝ, score x0 x1 b h t s = (r : EReal) := by
  choose f0 e0 using h0
  choose f1 e1 using h1
  obtain ⟨w, hw⟩ := scale_real
  unfold score at4
  simp only [e0, e1, hw, ← EReal.coe_mul]
  rw [← coe_sum, ← EReal.coe_mul]
  exact ⟨_, rfl⟩

/-! ## The result -/

/-- The plainly written attention, of the arguments. -/
abbrev resA (c : Dev nD) : S2x8192x1024.Idx → EReal :=
  ReferenceIdeal.Read.val_main_v30 (F := Ideal) (m ((c : Thread nD τ).loc main_arg0)) (m ((c : Thread nD τ).loc main_arg1)) (m ((c : Thread nD τ).loc main_arg2))

/-- What the precondition says of device `c`'s queries and keys. -/
def FiniteQK (c : Dev nD) : Prop := AllReal (m ((c : Thread nD τ).loc main_arg0)) ∧ AllReal (m ((c : Thread nD τ).loc main_arg1))

theorem outA (c : Dev nD) (hf : FiniteQK m c) (t : Fin (cfg0 (F := Ideal)).N) (r : Fin 128) (h : Fin 8) (d : Fin 128) :
    out4 (F := Ideal) (grid0.coords t) (iblk m c 0 t) (iblk m c 1 t) (iblk m c 2 t) (iblk m c 3 t) (ix3 0 r (lane h d))
      = resA m c (ix3 (bt t) (row t r) (lane h d)) := by
  obtain ⟨h0, h1⟩ := hf
  choose ζ hζ using score_real _ _ h0 h1 (bt t)
  let zz : Fin 8 → Fin 8192 → ℕ → ℝ := fun h t s => if hs : s < 8192 then ζ h t ⟨s, hs⟩ else 0
  have hzz : ∀ h t (s : Fin 8192), score _ _ _ h t s = ((zz h t s.val : ℝ) : EReal) := fun h t s => by
    rw [hζ, show zz h t s.val = ζ h t s from dif_pos s.isLt]
  rw [out4_apply]
  rw [accAll_apply (iblk m c 0 t) (iblk m c 1 t) (iblk m c 2 t) (fun p => zz (headOf p) (row t (rowOf p))) (fun p s => ?_) (grid0.coords t) (iblk m c 3 t) (fun j l => ?_)]
  · have eh : headOf ⟨h.val * 128 + r.val, by omega⟩ = h := Fin.ext (by show (h.val * 128 + r.val) / 128 = h.val; omega)
    have er : rowOf ⟨h.val * 128 + r.val, by omega⟩ = r := Fin.ext (by show (h.val * 128 + r.val) % 128 = r.val; omega)
    refine Eq.trans ?_ (v30_at _ _ _ (zz h (row t r)) (bt t) h (row t r) (hzz h (row t r)) d).symm
    rw [eh, er, show (qb (grid0.coords t)).val * 128 + r.val = (row t r).val by
      show (grid0.coords t 1).val * 128 + r.val = t.val % 64 * 128 + r.val; rw [(idx_facts t).2.2.2.2.2.2]]
    congr 1
    funext s
    unfold vals
    rw [eh]
    split
    · exact blk2 m c t _ _
    · rfl
  · rw [← hzz]
    unfold sc score at4
    refine congrArg₂ (fun a b : EReal => a * b) (Finset.sum_congr rfl fun k _ => ?_) rfl
    exact congrArg₂ (fun a b : EReal => a * b) (blk0 m c t _ _) (blk1 m c t _ _)
  · rw [tab_apply]
    exact blk3 m c t j l

/-- What point `t` writes back is its block of the whole. -/
theorem flushed4 (c : Dev nD) (hf : FiniteQK m c) (t : Fin (cfg0 (F := Ideal)).N) :
    (dats m 0 c).flushed 4 t = (((cfg0 (F := Ideal)).win 4).blk t).view.read (Elt Ideal) (resA m c) := by
  show ((cfg0 (F := Ideal)).win 4).cut (grid0.coords t) ((dats m 0 c).after 4 t) = _
  rw [after0_4]
  have f := (idx_facts t).2.2.2.2.2.1
  funext y
  have y0 : (y 0).val < 1 := (y 0).isLt
  have y2 : (y 2).val < 1024 := (y 2).isLt
  have h := outA m c hf t (y 1) ⟨(y 2).val / 128, by omega⟩ ⟨(y 2).val % 128, by omega⟩
  have ey : (ix3 0 (y 1) (lane ⟨(y 2).val / 128, by omega⟩ ⟨(y 2).val % 128, by omega⟩) : S1x128x1024.Idx) = y := by
    funext a
    match a with
    | ⟨0, _⟩ => exact Fin.ext (by show 0 = (y 0).val; omega)
    | ⟨1, _⟩ => rfl
    | ⟨2, _⟩ => exact Fin.ext (by show (y 2).val / 128 * 128 + (y 2).val % 128 = (y 2).val; omega)
  rw [ey] at h
  refine h.trans (congrArg (resA m c) (funext fun a => Fin.ext ?_))
  match a with
  | ⟨0, _⟩ => show t.val / 64 = win0_4.index t (0 : Fin 3) * 1 + 1 * (y 0).val; rw [f]; show t.val / 64 = t.val / 64 * 1 + 1 * (y 0).val; omega
  | ⟨1, _⟩ => show t.val % 64 * 128 + (y 1).val = win0_4.index t (1 : Fin 3) * 128 + 1 * (y 1).val; rw [f]; show _ = t.val % 64 * 128 + 1 * (y 1).val; omega
  | ⟨2, _⟩ => show (y 2).val / 128 * 128 + (y 2).val % 128 = win0_4.index t (2 : Fin 3) * 1024 + 1 * (y 2).val; rw [f]; show _ = 0 * 1024 + 1 * (y 2).val; omega

/-- The result after the run. -/
theorem final4 (c : Dev nD) (hf : FiniteQK m c) : (dats m 0 c).arrAt 4 (cfg0 (F := Ideal)).N = resA m c :=
  (dats m 0 c).arrAt_eq_of_cover 4 _ (fun t _ => flushed4 m c hf t) (fun i => by
    have h0 : (i 0).val < 2 := (i 0).isLt
    have h1 : (i 1).val < 8192 := (i 1).isLt
    have h2 : (i 2).val < 1024 := (i 2).isLt
    have hf : ∀ q : Fin 128, ∃ t : Fin (cfg0 (F := Ideal)).N, ((cfg0 (F := Ideal)).win 4).flush t = true ∧ t.val = q.val :=
      (by decide +kernel : ∀ q : Fin 128, ∃ t : Fin grid0.N, win0_4.flush t = true ∧ t.val = q.val)
    obtain ⟨t, hft, ht⟩ := hf ⟨(i 0).val * 64 + (i 1).val / 128, by omega⟩
    have ht : t.val = (i 0).val * 64 + (i 1).val / 128 := ht
    have f := (idx_facts t).2.2.2.2.2.1
    have q0 : win0_4.index t (0 : Fin 3) = t.val / 64 := congrFun f 0
    have q1 : win0_4.index t (1 : Fin 3) = t.val % 64 := congrFun f 1
    have q2 : win0_4.index t (2 : Fin 3) = 0 := congrFun f 2
    refine ⟨t, hft, ?_⟩
    show i ∈ ((View.whole main_v13).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 128 ≤ (i 1).val ∧ (i 1).val < win0_4.index t (1 : Fin 3) * 128 + 128; omega
    | ⟨2, _⟩ => show win0_4.index t (2 : Fin 3) * 1024 ≤ (i 2).val ∧ (i 2).val < win0_4.index t (2 : Fin 3) * 1024 + 1024; omega)

/-- The kernel's run: its result and its arguments. -/
theorem run_result (hf : ∀ c, FiniteQK m c) : θ_run defs (onTc (τ := τ) (main (F := Ideal))) ⟨m, fun _ => 0, ρ⟩ fun r => ∀ c : Dev nD,
      r.2.mem ((c.tc : Thread nD τ).loc main_v13) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h.1 c).1 4).trans (final4 m c (hf c)),
      ((h.1 c).2 main_arg0 (Pipeline.mem_restRefs_of main_arg0 (by decide)
        (by show ∀ w : Fin 5, (spec0 w).arr.view.ref ≠ main_arg0; decide))).trans (V_main_arg0 m c),
      ((h.1 c).2 main_arg1 (Pipeline.mem_restRefs_of main_arg1 (by decide)
        (by show ∀ w : Fin 5, (spec0 w).arr.view.ref ≠ main_arg1; decide))).trans (V_main_arg1 m c),
      ((h.1 c).2 main_arg2 (Pipeline.mem_restRefs_of main_arg2 (by decide)
        (by show ∀ w : Fin 5, (spec0 w).arr.view.ref ≠ main_arg2; decide))).trans (V_main_arg2 m c)⟩) (run_main m ρ)

end Block

/-! ## The precondition -/

theorem pre_facts : Cert.Pre_finite_qk.Facts := ⟨by decide, by decide⟩

theorem between {x : EReal} (h₁ : x < ⊤) (h₂ : ⊥ < x) : ∃ r : ℝ, x = (r : EReal) :=
  ⟨x.toReal, (EReal.coe_toReal h₁.ne h₂.ne').symm⟩

theorem pre_reads [Cert.Pre_finite_qk.Facts] (x0 x1 x2 : FVec Ideal Cert.Pre_finite_qk.S16384x1024 .bf16)
    (h : Cert.Pre_finite_qk.fn (F := Ideal) x0 x1 x2 = fun _ => 1#1) : AllReal x0 ∧ AllReal x1 := by
  have et : Ideal.ofBits .f32 0x7F800000#32 = ⊤ := by simp [Ideal.ofBits, Ideal.ieee]
  have eb : Ideal.ofBits .f32 0xFF800000#32 = ⊥ := by simp [Ideal.ofBits, Ideal.ieee]
  have key : ∀ i, ((x0 i : EReal) < ⊤ ∧ ⊥ < (x0 i : EReal)) ∧ ((x1 i : EReal) < ⊤ ∧ ⊥ < (x1 i : EReal)) := fun i => by
    have hi : IntOp.andi
        (IntOp.andi (BitVec.ofBool (decide ((x0 i : EReal) < Ideal.ofBits .f32 0x7F800000#32))) (BitVec.ofBool (decide (Ideal.ofBits .f32 0xFF800000#32 < (x0 i : EReal)))))
        (IntOp.andi (BitVec.ofBool (decide ((x1 i : EReal) < Ideal.ofBits .f32 0x7F800000#32))) (BitVec.ofBool (decide (Ideal.ofBits .f32 0xFF800000#32 < (x1 i : EReal))))) = 1#1 :=
      congrFun h i
    rw [et, eb] at hi
    by_cases a : (x0 i : EReal) < ⊤ <;> by_cases b : ⊥ < (x0 i : EReal) <;> by_cases c : (x1 i : EReal) < ⊤ <;> by_cases d : ⊥ < (x1 i : EReal) <;>
      simp [a, b, c, d, IntOp.andi] at hi ⊢
  exact ⟨fun i => between (key i).1.1 (key i).1.2, fun i => between (key i).2.1 (key i).2.2⟩

/-- The claim: from finite queries and keys, and arguments that agree, the kernel and the reference end with the same result. -/
theorem algebraic [Cert.Pre_finite_qk.Facts] : Cert.algebraic_KernelIdeal_ReferenceIdeal_pre_finite_qk := by
  intro m g m' g' hpre hagree
  refine ⟨fun c => resA m c, ?_, ?_⟩
  · exact run_result m g fun c => pre_reads _ _ _ (hpre c)
  · refine (θ_run _ _ _).mono (fun r h c => ⟨((h c).1).trans ?_, (h c).2⟩) (ReferenceIdeal.Value.run m' g')
    obtain ⟨e0, e1, e2⟩ := hagree c
    refine (ReferenceIdeal.Read.val_main_v30_eq _ _).trans ?_
    rw [e0, e1, e2]

end Cert.SBV

end
-- ==== Proof.InP.Math.lean ====
/- The input projection as mathematics over the extended reals: the product of `h` and the weights, read by row and
   column, and the rotary position rotation of the leading lanes of each head. -/
module

public import Idealize.ShloMosaic.Lib.Pointwise
public import Idealize.ShloMosaic.Lib.ValueIdxCore

@[expose] public section

noncomputable section

open Idealize.ShloMosaic

namespace Cert.InPV

/-- A matrix at a row and a column given as numbers. -/
def at2 {R C : ℕ} (X : (⟨2, ![R, C]⟩ : Shape).Idx → EReal) (r c : ℕ) : EReal :=
  if h : r < R ∧ c < C then X (ix2 ⟨r, h.1⟩ ⟨c, h.2⟩) else 0

theorem at2_of {R C : ℕ} (X : (⟨2, ![R, C]⟩ : Shape).Idx → EReal) (a : Fin R) (b : Fin C) (r c : ℕ) (hr : r = a.val) (hc : c = b.val) :
    X (ix2 a b) = at2 X r c := by
  subst hr; subst hc
  rw [at2, dif_pos (⟨a.isLt, b.isLt⟩ : a.val < R ∧ b.val < C)]

/-- The product of `h` and the weights. -/
def prod {R : ℕ} (h : (⟨2, ![R, 2048]⟩ : Shape).Idx → EReal) (w : (⟨2, ![2048, 9808]⟩ : Shape).Idx → EReal)
    (y : (⟨2, ![R, 9808]⟩ : Shape).Idx) : EReal :=
  ∑ k : Fin 2048, h (ix2 (y 0) k) * w (ix2 k (y 1))

/-- The angle of frequency `k` at position `p`: `p / θ^(2k / rot)`, `rot` given by its word. -/
def angle (rotw : BitVec 32) (p k : ℕ) : EReal :=
  FloatOps.sitofp (F := Ideal) FTy.f32 (BitVec.ofNat 32 p) *
    Ideal.div 1 (Ideal.pow (Ideal.ofBits FTy.f32 1223959552#32)
      (Ideal.div (FloatOps.sitofp (F := Ideal) FTy.f32 (BitVec.ofNat 32 k) * Ideal.ofBits FTy.f32 1073741824#32) (Ideal.ofBits FTy.f32 rotw)))

/-- A head's lane `l` rotated: the first `half` lanes and the next `half` in pairs, the others left alone. -/
def ropeS (half : ℕ) (C S x : ℕ → EReal) (l : ℕ) : EReal :=
  if l < half then x l * C l - x (l + half) * S l
  else if l < 2 * half then x l * C (l - half) + x (l - half) * S (l - half) else x l

/-- Column `c` of the columns from `base` on, in heads of width `d`, rotated at row `r`, whose
    position is `pos r`. -/
def ropeAt {R N : ℕ} (pos : ℕ → ℕ) (half d : ℕ) (rotw : BitVec 32) (base : ℕ) (X : (⟨2, ![R, N]⟩ : Shape).Idx → EReal) (r c : ℕ) : EReal :=
  ropeS half (fun k => Ideal.cos (angle rotw (pos r) k)) (fun k => Ideal.sin (angle rotw (pos r) k))
    (fun l => at2 X r (base + c / d * d + l)) (c % d)

section Cases
variable {R N : ℕ} (pos : ℕ → ℕ) (half d : ℕ) (rotw : BitVec 32) (base : ℕ) (X : (⟨2, ![R, N]⟩ : Shape).Idx → EReal) (r c : ℕ)

theorem ropeAt_lo (h : c % d < half) (a : Fin R) (i j : Fin N) (p k : ℕ) (ha : r = a.val) (hi : base + c / d * d + c % d = i.val)
    (hj : base + c / d * d + (c % d + half) = j.val) (hp : p = pos r) (hk : k = c % d) :
    X (ix2 a i) * Ideal.cos (angle rotw p k) - X (ix2 a j) * Ideal.sin (angle rotw p k) = ropeAt pos half d rotw base X r c := by
  unfold ropeAt ropeS
  rw [if_pos h, at2_of X a i _ _ ha hi, at2_of X a j _ _ ha hj, hp, hk]

theorem ropeAt_mid (h : ¬ c % d < half) (h' : c % d < 2 * half) (a : Fin R) (i j : Fin N) (p k : ℕ) (ha : r = a.val)
    (hi : base + c / d * d + c % d = i.val) (hj : base + c / d * d + (c % d - half) = j.val) (hp : p = pos r) (hk : k = c % d - half) :
    X (ix2 a i) * Ideal.cos (angle rotw p k) + X (ix2 a j) * Ideal.sin (angle rotw p k) = ropeAt pos half d rotw base X r c := by
  unfold ropeAt ropeS
  rw [if_neg h, if_pos h', at2_of X a i _ _ ha hi, at2_of X a j _ _ ha hj, hp, hk]

theorem ropeAt_hi (h : ¬ c % d < half) (h' : ¬ c % d < 2 * half) (a : Fin R) (i : Fin N) (ha : r = a.val)
    (hi : base + c / d * d + c % d = i.val) : X (ix2 a i) = ropeAt pos half d rotw base X r c := by
  unfold ropeAt ropeS
  rw [if_neg h, if_neg h', at2_of X a i _ _ ha hi]
end Cases

/-- The tables of a head's rotation, by the lane of a group of 128 lanes. -/
def tabC (half d : ℕ) (C : ℕ → EReal) (l : ℕ) : EReal := if l % d < half then C (l % d) else if l % d < 2 * half then C (l % d - half) else 1
def tabL (half d : ℕ) (S : ℕ → EReal) (l : ℕ) : EReal := if l % d < half then -S (l % d) else 0
def tabH (half d : ℕ) (S : ℕ → EReal) (l : ℕ) : EReal := if l % d < half then 0 else if l % d < 2 * half then S (l % d - half) else 0

/-- The rotation by tables: with the lane's own entry, the lane `half` above and the lane `half` below, each times its
    table, is the rotation in pairs. The tables are zero where the lane of another head would be read. -/
theorem rot_tables (half d : ℕ) (hd : d = 64 ∨ d = 128) (hh : 2 * half ≤ d) (C S a : ℕ → EReal) (q : ℕ) :
    a q * tabC half d C (q % 128) + a (q / 128 * 128 + (q % 128 + half) % 128) * tabL half d S (q % 128)
      + a (q / 128 * 128 + (q % 128 + 128 - half) % 128) * tabH half d S (q % 128)
    = ropeS half C S (fun l => a (q / d * d + l)) (q % d) := by
  have e : q % 128 % d = q % d := by rcases hd with rfl | rfl <;> omega
  have e1 : q = q / d * d + q % d := (Nat.div_add_mod' q d).symm
  unfold tabC tabL tabH ropeS
  rw [e]
  by_cases h : q % d < half
  · have e2 : q / 128 * 128 + (q % 128 + half) % 128 = q / d * d + (q % d + half) := by rcases hd with rfl | rfl <;> omega
    simp only [if_pos h, mul_zero, add_zero, mul_neg]
    rw [e2, ← e1, sub_eq_add_neg]
  · by_cases h' : q % d < 2 * half
    · have e2 : q / 128 * 128 + (q % 128 + 128 - half) % 128 = q / d * d + (q % d - half) := by rcases hd with rfl | rfl <;> omega
      simp only [if_neg h, if_pos h', mul_zero, add_zero]
      rw [e2, ← e1]
    · simp only [if_neg h, if_neg h', mul_zero, add_zero, mul_one]
      rw [← e1]

/-- Columns from `base` on, and the same with rows and columns exchanged. -/
def cols {R W : ℕ} (base : ℕ) (X : (⟨2, ![R, 9808]⟩ : Shape).Idx → EReal) (y : (⟨2, ![R, W]⟩ : Shape).Idx) : EReal :=
  at2 X (y 0).val (base + (y 1).val)
def colsT {W : ℕ} (base : ℕ) (X : (⟨2, ![16384, 9808]⟩ : Shape).Idx → EReal) (y : (⟨2, ![W, 16384]⟩ : Shape).Idx) : EReal :=
  at2 X (y 1).val (base + (y 0).val)
/-- Columns from 4352 on in blocks of 512 rows, each with rows and columns exchanged. -/
def colsB (X : (⟨2, ![16384, 9808]⟩ : Shape).Idx → EReal) (y : (⟨3, ![32, 256, 512]⟩ : Shape).Idx) : EReal :=
  at2 X ((y 0).val * 512 + (y 2).val) (4352 + (y 1).val)
/-- The rotated columns, and the same with rows and columns exchanged. -/
def ropes {R W : ℕ} (pos : ℕ → ℕ) (half d : ℕ) (rotw : BitVec 32) (base : ℕ) (X : (⟨2, ![R, 9808]⟩ : Shape).Idx → EReal) (y : (⟨2, ![R, W]⟩ : Shape).Idx) : EReal :=
  ropeAt pos half d rotw base X (y 0).val (y 1).val
def ropesT {W : ℕ} (pos : ℕ → ℕ) (half d : ℕ) (rotw : BitVec 32) (base : ℕ) (X : (⟨2, ![16384, 9808]⟩ : Shape).Idx → EReal) (y : (⟨2, ![W, 16384]⟩ : Shape).Idx) : EReal :=
  ropeAt pos half d rotw base X (y 1).val (y 0).val

theorem canon_z {s : Shape} {α : EltTy} {off : Fin s.rank → ℕ} (h0 : off = 0) (h) (x : s.Idx → Elt Ideal α) :
    View.canon [(⟨Rect.unit (s := s) off s.size h, x⟩ : View.Piece (Elt Ideal) s α)] = x :=
  funext fun y => congrFun (View.canon_unit_zero h0 _ _) y

/-- A column `q` of the product in its group of 128, rotated by the tables' row. -/
def rot (half : ℕ) (a : ℕ → EReal) (c lo hi : Fin 128 → EReal) (q : ℕ) : EReal :=
  a q * c ⟨q % 128, Nat.mod_lt _ (by decide)⟩ + a (q / 128 * 128 + (q % 128 + half) % 128) * lo ⟨q % 128, Nat.mod_lt _ (by decide)⟩
    + a (q / 128 * 128 + (q % 128 + 128 - half) % 128) * hi ⟨q % 128, Nat.mod_lt _ (by decide)⟩

theorem rot_of (half : ℕ) (a : ℕ → EReal) (c lo hi : Fin 128 → EReal) (q o i j k : ℕ) (p : Fin 128) (ho : o % 128 = 0) (hq : q = o + p.val)
    (h1 : i = q) (h2 : j = o + (p.val + half) % 128) (h3 : k = o + (p.val + 128 - half) % 128) :
    a i * c p + a j * lo p + a k * hi p = rot half a c lo hi q := by
  have hp := p.isLt
  have e : (⟨q % 128, Nat.mod_lt _ (by decide)⟩ : Fin 128) = p := Fin.ext (by show q % 128 = p.val; omega)
  have eo : q / 128 * 128 = o := by omega
  have em : q % 128 = p.val := by omega
  unfold rot
  rw [e, eo, em, h1, h2, h3]

theorem ropeS_congr (half d : ℕ) (hh : 2 * half ≤ d) (C S x x' : ℕ → EReal) (l : ℕ) (hl : l < d) (h : ∀ l < d, x l = x' l) :
    ropeS half C S x l = ropeS half C S x' l := by
  unfold ropeS
  split
  · rw [h _ hl, h _ (by omega)]
  · split
    · rw [h _ hl, h _ (by omega)]
    · exact h _ hl

/-- The rotation by the tables of row `r` is the rotation in pairs of the whole's columns. -/
theorem rot_rope {R N : ℕ} (pos : ℕ → ℕ) (half d : ℕ) (hd : d = 64 ∨ d = 128) (hh : 2 * half ≤ d) (rotw : BitVec 32) (base : ℕ)
    (X : (⟨2, ![R, N]⟩ : Shape).Idx → EReal) (r : ℕ) (a : ℕ → EReal) (c lo hi : Fin 128 → EReal) (q q0 y : ℕ)
    (hq : q = q0 + y) (hq0 : q0 % 128 = 0)
    (hc : ∀ l, c l = tabC half d (fun k => Ideal.cos (angle rotw (pos r) k)) l.val)
    (hlo : ∀ l, lo l = tabL half d (fun k => Ideal.sin (angle rotw (pos r) k)) l.val)
    (hhi : ∀ l, hi l = tabH half d (fun k => Ideal.sin (angle rotw (pos r) k)) l.val)
    (ha : ∀ l < d, a (q0 + (y / d * d + l)) = at2 X r (base + y / d * d + l)) :
    rot half a c lo hi q = ropeAt pos half d rotw base X r y := by
  unfold rot
  rw [hc, hlo, hhi]
  refine (rot_tables half d hd hh _ _ a q).trans ?_
  have e : q % d = y % d := by rcases hd with rfl | rfl <;> omega
  have e' : q / d * d = q0 + y / d * d := by rcases hd with rfl | rfl <;> omega
  rw [e, e']
  unfold ropeAt
  refine ropeS_congr half d hh _ _ _ _ _ (Nat.mod_lt _ (by rcases hd with rfl | rfl <;> omega)) fun l hl => ?_
  rw [add_assoc]
  exact ha l hl

/-! ## The gather of whole columns -/

section Gather
variable {α : Type}

/-- Where `y` reads its column number. -/
abbrev gIdx {P L : ℕ} (y : (⟨2, ![P, L]⟩ : Shape).Idx) : (⟨2, ![L, 1]⟩ : Shape).Idx := ix2 (y 1) 0

/-- The gather of whole columns. -/
abbrev colDims {P N L : ℕ} (wf : GatherDims.WF ⟨2, ![P, N]⟩ ⟨2, ![L, 1]⟩ ⟨2, ![P, L]⟩ [0] [1] [] [1] [] 1 ![P, 1]) :
    GatherDims ⟨2, ![P, N]⟩ ⟨2, ![L, 1]⟩ ⟨2, ![P, L]⟩ where
  offsetDims := [0]
  collapsedSliceDims := [1]
  operandBatchingDims := []
  startIndicesBatchingDims := []
  startIndexMap := [1]
  indexVectorDim := 1
  sliceSizes := ![P, 1]
  wf := wf

/-- The gather of whole columns read at `(p, l)`: the operand at row `p` and the column named by entry `l`, clamped. -/
theorem gather_columns {P N L w : ℕ} (hN : 0 < N)
    (wf : GatherDims.WF ⟨2, ![P, N]⟩ ⟨2, ![L, 1]⟩ ⟨2, ![P, L]⟩ [0] [1] [] [1] [] 1 ![P, 1])
    (x : (⟨2, ![P, N]⟩ : Shape).Idx → α) (idx : IVec ⟨2, ![L, 1]⟩ w) (y : (⟨2, ![P, L]⟩ : Shape).Idx) :
    Host.gather (colDims wf) x idx y = x (ix2 (y 0) ⟨min (idx (gIdx y)).toInt.toNat (N - 1), by omega⟩) := by
  unfold Host.gather
  congr 1
  funext a
  refine Fin.ext ?_
  have h01 : a = 0 ∨ a = 1 := by
    match a with
    | ⟨0, _⟩ => exact Or.inl rfl
    | ⟨1, _⟩ => exact Or.inr rfl
  show GatherDims.start _ y idx a + GatherDims.batchCoord _ y a + GatherDims.offCoord _ y a = _
  rcases h01 with rfl | rfl
  · rw [GatherDims.batchCoord_eq_zero _ _ _ (fun h => by simp at h)]
    unfold GatherDims.start
    rw [dif_neg (show (0 : Fin 2) ∉ ([1] : List (Fin 2)) from by decide)]
    simp only [Nat.zero_add]
    unfold GatherDims.offCoord
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ k : Fin (colDims wf).startIndexMap.length, (colDims wf).siIdx y k = gIdx y := by
      intro k
      funext b; refine Fin.ext ?_
      match b with
      | ⟨0, _⟩ => rfl
      | ⟨1, _⟩ =>
        have hk := k.isLt
        have hk : k.val < 1 := hk
        show k.val = 0
        omega
    rw [hsi]
    rfl
end Gather

end Cert.InPV

end
-- ==== Proof.InP.InProjIdeal.Body.lean ====
/-
  The input projection (`Cert.InProjIdeal`): what the body leaves in each result's block, by the column tile the grid point is
  at, and the body's triple at each of the six tiles. Each tile stores into its own results and leaves the others alone.
-/
module

public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import Idealize.ShloMosaic.Lib.Claim
public import Idealize.ShloMosaic.Lib.Pipeline.FrameBody
public import Idealize.ShloMosaic.Lib.Pipeline.Frame
public import Idealize.ShloMosaic.Lib.Ring
public import Idealize.ShloMosaic.Lib.Tactic

@[expose] public section

set_option maxRecDepth 16384

noncomputable section

namespace Cert.InP.InProjIdeal

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕋" => Thread nD τ
local notation "𝕄" => MT nD τ sig Unit (Elt F) ℕ (UR sig nD τ) ℕ

abbrev rH : Rect S512x2048 := Rect.unit (s := S512x2048) ![0, 0] S512x2048.size inb_S512x2048_S512x2048_0_0
abbrev rW : Rect S1x2048x1024 := Rect.unit (s := S1x2048x1024) ![0, 0, 0] S1x2048x1024.size inb_S1x2048x1024_S1x2048x1024_0_0_0
abbrev rT : Rect S512x128 := Rect.unit (s := S512x128) ![0, 0] S512x128.size inb_S512x128_S512x128_0_0
abbrev rM : Rect S512x1024 := Rect.unit (s := S512x1024) ![0, 0] S512x1024.size inb_S512x1024_S512x1024_0_0
abbrev rL : Rect S1024x512 := Rect.unit (s := S1024x512) ![0, 0] S1024x512.size inb_S1024x512_S1024x512_0_0
abbrev rV : Rect S512x256 := Rect.unit (s := S512x256) ![0, 0] S512x256.size inb_S512x256_S512x256_0_0
abbrev rB : Rect S1x256x512 := Rect.unit (s := S1x256x512) ![0, 0, 0] S1x256x512.size inb_S1x256x512_S1x256x512_0_0_0
abbrev rI : Rect S512x64 := Rect.unit (s := S512x64) ![0, 0] S512x64.size inb_S512x64_S512x64_0_0
abbrev rG : Rect S16x512 := Rect.unit (s := S16x512) ![0, 0] S16x512.size inb_S16x512_S16x512_0_0

/-! ## The blocks of the results -/

def o8 (x0 : Vec F S512x2048 .bf16) (x1 : Vec F S1x2048x1024 .bf16) : Vec F S512x1024 .bf16 := View.canon [⟨rM, k0_pay2 (View.ld x0 rH) (View.ld x1 rW)⟩]
def o9 (x0 : Vec F S512x2048 .bf16) (x1 : Vec F S1x2048x1024 .bf16) : Vec F S512x1024 .f32 := View.canon [⟨rM, k0_pay1 (View.ld x0 rH) (View.ld x1 rW)⟩]
def o10 (x0 : Vec F S512x2048 .bf16) (x1 : Vec F S1x2048x1024 .bf16) : Vec F S512x1024 .bf16 := View.canon [⟨rM, k0_pay3 (View.ld x0 rH) (View.ld x1 rW)⟩]
def o11 (x0 : Vec F S512x2048 .bf16) (x1 : Vec F S1x2048x1024 .bf16) : Vec F S512x1024 .f32 := View.canon [⟨rM, k0_pay1 (View.ld x0 rH) (View.ld x1 rW)⟩]
def o12 (x0 : Vec F S512x2048 .bf16) (x1 : Vec F S1x2048x1024 .bf16) : Vec F S512x1024 .bf16 := View.canon [⟨rM, k0_pay4 (View.ld x0 rH) (View.ld x1 rW)⟩]
def o13 (x0 : Vec F S512x2048 .bf16) (x1 : Vec F S1x2048x1024 .bf16) (x2 : Vec F S512x128 .f32) (x3 : Vec F S512x128 .f32) (x4 : Vec F S512x128 .f32) : Vec F S1024x512 .bf16 := View.canon [⟨rL, k0_pay5 (View.ld x0 rH) (View.ld x1 rW) (k0_pay11 (View.ld x2 rT)) (k0_pay12 (View.ld x3 rT)) (k0_pay13 (View.ld x4 rT)) (k0_pay14 (k0_pay1 (View.ld x0 rH) (View.ld x1 rW)) (View.ld x2 rT) (View.ld x3 rT) (View.ld x4 rT)) (k0_pay15 (k0_pay1 (View.ld x0 rH) (View.ld x1 rW)) (View.ld x2 rT) (View.ld x3 rT) (View.ld x4 rT)) (k0_pay16 (k0_pay1 (View.ld x0 rH) (View.ld x1 rW)) (View.ld x2 rT) (View.ld x3 rT) (View.ld x4 rT)) (k0_pay17 (k0_pay1 (View.ld x0 rH) (View.ld x1 rW)) (View.ld x2 rT) (View.ld x3 rT) (View.ld x4 rT)) (k0_pay19 (k0_pay1 (View.ld x0 rH) (View.ld x1 rW)) (View.ld x2 rT) (View.ld x3 rT)) (k0_pay20 (k0_pay1 (View.ld x0 rH) (View.ld x1 rW)))⟩]
def o14 (x0 : Vec F S512x2048 .bf16) (x1 : Vec F S1x2048x1024 .bf16) (x5 : Vec F S512x128 .f32) (x6 : Vec F S512x128 .f32) (x7 : Vec F S512x128 .f32) : Vec F S1024x512 .bf16 := View.canon [⟨rL, k0_pay6 (View.ld x0 rH) (View.ld x1 rW) (k0_pay21 (View.ld x5 rT)) (k0_pay22 (View.ld x6 rT)) (k0_pay23 (View.ld x7 rT)) (k0_pay24 (k0_pay1 (View.ld x0 rH) (View.ld x1 rW)) (View.ld x5 rT) (View.ld x6 rT) (View.ld x7 rT)) (k0_pay25 (k0_pay1 (View.ld x0 rH) (View.ld x1 rW)) (View.ld x5 rT) (View.ld x6 rT) (View.ld x7 rT)) (k0_pay26 (k0_pay1 (View.ld x0 rH) (View.ld x1 rW)) (View.ld x5 rT) (View.ld x6 rT) (View.ld x7 rT)) (k0_pay27 (k0_pay1 (View.ld x0 rH) (View.ld x1 rW)) (View.ld x5 rT) (View.ld x6 rT) (View.ld x7 rT)) (k0_pay29 (k0_pay1 (View.ld x0 rH) (View.ld x1 rW)) (View.ld x5 rT) (View.ld x6 rT)) (k0_pay30 (k0_pay1 (View.ld x0 rH) (View.ld x1 rW)))⟩]
def o15 (x0 : Vec F S512x2048 .bf16) (x1 : Vec F S1x2048x1024 .bf16) (x2 : Vec F S512x128 .f32) (x3 : Vec F S512x128 .f32) (x4 : Vec F S512x128 .f32) : Vec F S512x256 .f32 := View.canon [⟨rV, k0_pay31 (k0_pay1 (View.ld x0 rH) (View.ld x1 rW)) (View.ld x2 rT) (View.ld x3 rT) (View.ld x4 rT)⟩]
def o16 (x0 : Vec F S512x2048 .bf16) (x1 : Vec F S1x2048x1024 .bf16) (x2 : Vec F S512x128 .f32) (x3 : Vec F S512x128 .f32) (x4 : Vec F S512x128 .f32) : Vec F S512x256 .bf16 := View.canon [⟨rV, k0_pay32 (k0_pay1 (View.ld x0 rH) (View.ld x1 rW)) (View.ld x2 rT) (View.ld x3 rT) (View.ld x4 rT)⟩]
def o17 (x0 : Vec F S512x2048 .bf16) (x1 : Vec F S1x2048x1024 .bf16) : Vec F S512x256 .f32 := View.canon [⟨rV, k0_pay33 (k0_pay1 (View.ld x0 rH) (View.ld x1 rW))⟩]
def o18 (x0 : Vec F S512x2048 .bf16) (x1 : Vec F S1x2048x1024 .bf16) : Vec F S1x256x512 .bf16 := View.canon [⟨rB, k0_pay9 (k0_pay33 (k0_pay1 (View.ld x0 rH) (View.ld x1 rW)))⟩]
def o19 (x0 : Vec F S512x2048 .bf16) (x1 : Vec F S1x2048x1024 .bf16) (x5 : Vec F S512x128 .f32) (x6 : Vec F S512x128 .f32) (x7 : Vec F S512x128 .f32) : Vec F S512x64 .f32 := View.canon [⟨rI, k0_pay7 (k0_pay34 (k0_pay1 (View.ld x0 rH) (View.ld x1 rW))) (k0_pay35 (View.ld x5 rT)) (k0_pay36 (View.ld x6 rT)) (View.ld x7 rT)⟩]
def o20 (x0 : Vec F S512x2048 .bf16) (x1 : Vec F S1x2048x1024 .bf16) (x5 : Vec F S512x128 .f32) (x6 : Vec F S512x128 .f32) (x7 : Vec F S512x128 .f32) : Vec F S512x64 .bf16 := View.canon [⟨rI, k0_pay8 (k0_pay34 (k0_pay1 (View.ld x0 rH) (View.ld x1 rW))) (k0_pay35 (View.ld x5 rT)) (k0_pay36 (View.ld x6 rT)) (View.ld x7 rT)⟩]
def o21 (x0 : Vec F S512x2048 .bf16) (x1 : Vec F S1x2048x1024 .bf16) : Vec F S16x512 .f32 := View.canon [⟨rG, k0_pay10 (View.ld x0 rH) (View.ld x1 rW)⟩]

theorem cover_rM {e : EltTy} (p : Vec F S512x1024 e) (y : S512x1024.Idx) : ∃ pc ∈ ([⟨rM, p⟩] : List (View.Piece (Elt F) S512x1024 e)), y ∈ pc.1.set :=
  View.cover_of_tiled [⟨rM, p⟩] S512x1024.size (by rfl) y

theorem cover_rL {e : EltTy} (p : Vec F S1024x512 e) (y : S1024x512.Idx) : ∃ pc ∈ ([⟨rL, p⟩] : List (View.Piece (Elt F) S1024x512 e)), y ∈ pc.1.set :=
  View.cover_of_tiled [⟨rL, p⟩] S1024x512.size (by rfl) y

theorem cover_rV {e : EltTy} (p : Vec F S512x256 e) (y : S512x256.Idx) : ∃ pc ∈ ([⟨rV, p⟩] : List (View.Piece (Elt F) S512x256 e)), y ∈ pc.1.set :=
  View.cover_of_tiled [⟨rV, p⟩] S512x256.size (by rfl) y

theorem cover_rB {e : EltTy} (p : Vec F S1x256x512 e) (y : S1x256x512.Idx) : ∃ pc ∈ ([⟨rB, p⟩] : List (View.Piece (Elt F) S1x256x512 e)), y ∈ pc.1.set :=
  View.cover_of_tiled [⟨rB, p⟩] S1x256x512.size (by rfl) y

theorem cover_rI {e : EltTy} (p : Vec F S512x64 e) (y : S512x64.Idx) : ∃ pc ∈ ([⟨rI, p⟩] : List (View.Piece (Elt F) S512x64 e)), y ∈ pc.1.set :=
  View.cover_of_tiled [⟨rI, p⟩] S512x64.size (by rfl) y

theorem cover_rG {e : EltTy} (p : Vec F S16x512 e) (y : S16x512.Idx) : ∃ pc ∈ ([⟨rG, p⟩] : List (View.Piece (Elt F) S16x512 e)), y ∈ pc.1.set :=
  View.cover_of_tiled [⟨rG, p⟩] S16x512.size (by rfl) y

/-- The whole of a block held by the core. -/
abbrev own (c : Dev nD) {sp : Space} {s : Shape} {e : EltTy} (a : Memref sig .tc sp s e) (v : Vec F s e) : sProp 𝕄 :=
  owns (c : 𝕋) a fullShare v

/-! ## The body at each column tile -/

variable (c : Dev nD) (i : grid0.Coords) {arg2 : Memref sig .tc .vmem S512x2048 .bf16} {harg2 : arg2.IsWhole} {arg3 : Memref sig .tc .vmem S1x2048x1024 .bf16} {harg3 : arg3.IsWhole} {arg4 : Memref sig .tc .vmem S512x128 .f32} {harg4 : arg4.IsWhole} {arg5 : Memref sig .tc .vmem S512x128 .f32} {harg5 : arg5.IsWhole} {arg6 : Memref sig .tc .vmem S512x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S512x128 .f32} {harg9 : arg9.IsWhole} {arg10 : Memref sig .tc .vmem S512x1024 .bf16} {harg10 : arg10.IsWhole} {arg11 : Memref sig .tc .vmem S512x1024 .f32} {harg11 : arg11.IsWhole} {arg12 : Memref sig .tc .vmem S512x1024 .bf16} {harg12 : arg12.IsWhole} {arg13 : Memref sig .tc .vmem S512x1024 .f32} {harg13 : arg13.IsWhole} {arg14 : Memref sig .tc .vmem S512x1024 .bf16} {harg14 : arg14.IsWhole} {arg15 : Memref sig .tc .vmem S1024x512 .bf16} {harg15 : arg15.IsWhole} {arg16 : Memref sig .tc .vmem S1024x512 .bf16} {harg16 : arg16.IsWhole} {arg17 : Memref sig .tc .vmem S512x256 .f32} {harg17 : arg17.IsWhole} {arg18 : Memref sig .tc .vmem S512x256 .bf16} {harg18 : arg18.IsWhole} {arg19 : Memref sig .tc .vmem S512x256 .f32} {harg19 : arg19.IsWhole} {arg20 : Memref sig .tc .vmem S1x256x512 .bf16} {harg20 : arg20.IsWhole} {arg21 : Memref sig .tc .vmem S512x64 .f32} {harg21 : arg21.IsWhole} {arg22 : Memref sig .tc .vmem S512x64 .bf16} {harg22 : arg22.IsWhole} {arg23 : Memref sig .tc .vmem S16x512 .f32} {harg23 : arg23.IsWhole}

set_option maxHeartbeats 4000000 in
/-- Column tile 0. -/
theorem run_0
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1)
    (x0 : Vec F S512x2048 .bf16) (x1 : Vec F S1x2048x1024 .bf16) (K : PUnit → sProp 𝕄) (P : sProp 𝕄)
    (hP : iprop(own c arg2 x0 ∗ own c arg3 x1 ∗ own c arg10 (o8 x0 x1)) = P) :
    iprop(own c arg2 x0 ∗ own c arg3 x1 ∗ (∃ d, own c arg10 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d10, %g10, -, G10⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  · iexists _; isplitr
    swap; · iexact G10
    ipureintro; exact View.read_writes_eq_canon _ _ _ (cover_rM _)

set_option maxHeartbeats 4000000 in
/-- Column tile 1. -/
theorem run_1
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x0 : Vec F S512x2048 .bf16) (x1 : Vec F S1x2048x1024 .bf16) (K : PUnit → sProp 𝕄) (P : sProp 𝕄)
    (hP : iprop(own c arg2 x0 ∗ own c arg3 x1 ∗ own c arg11 (o9 x0 x1) ∗ own c arg12 (o10 x0 x1)) = P) :
    iprop(own c arg2 x0 ∗ own c arg3 x1 ∗ (∃ d, own c arg11 d) ∗ (∃ d, own c arg12 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d11, %g11, -, G11⟩, ⟨%d12, %g12, -, G12⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [G11]
  · iexists _; isplitr
    swap; · iexact G11
    ipureintro; exact View.read_writes_eq_canon _ _ _ (cover_rM _)
  · iexists _; isplitr
    swap; · iexact G12
    ipureintro; exact View.read_writes_eq_canon _ _ _ (cover_rM _)

set_option maxHeartbeats 4000000 in
/-- Column tile 2. -/
theorem run_2
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1)
    (x0 : Vec F S512x2048 .bf16) (x1 : Vec F S1x2048x1024 .bf16) (K : PUnit → sProp 𝕄) (P : sProp 𝕄)
    (hP : iprop(own c arg2 x0 ∗ own c arg3 x1 ∗ own c arg13 (o11 x0 x1) ∗ own c arg14 (o12 x0 x1)) = P) :
    iprop(own c arg2 x0 ∗ own c arg3 x1 ∗ (∃ d, own c arg13 d) ∗ (∃ d, own c arg14 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d13, %g13, -, G13⟩, ⟨%d14, %g14, -, G14⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [G13]
  · iexists _; isplitr
    swap; · iexact G13
    ipureintro; exact View.read_writes_eq_canon _ _ _ (cover_rM _)
  · iexists _; isplitr
    swap; · iexact G14
    ipureintro; exact View.read_writes_eq_canon _ _ _ (cover_rM _)

set_option maxHeartbeats 4000000 in
/-- Column tile 3. -/
theorem run_3
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1)
    (x0 : Vec F S512x2048 .bf16) (x1 : Vec F S1x2048x1024 .bf16) (x2 : Vec F S512x128 .f32) (x3 : Vec F S512x128 .f32) (x4 : Vec F S512x128 .f32) (K : PUnit → sProp 𝕄) (P : sProp 𝕄)
    (hP : iprop(own c arg2 x0 ∗ own c arg3 x1 ∗ own c arg4 x2 ∗ own c arg5 x3 ∗ own c arg6 x4 ∗ own c arg15 (o13 x0 x1 x2 x3 x4)) = P) :
    iprop(own c arg2 x0 ∗ own c arg3 x1 ∗ own c arg4 x2 ∗ own c arg5 x3 ∗ own c arg6 x4 ∗ (∃ d, own c arg15 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%d15, %g15, -, G15⟩, Hk⟩
  subst hf0 hf1 hf2 hf3 hf4
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  · iexists _; isplitr
    swap; · iexact G15
    ipureintro; exact View.read_writes_eq_canon _ _ _ (cover_rL _)

set_option maxHeartbeats 4000000 in
/-- Column tile 4. -/
theorem run_4
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1)
    (x0 : Vec F S512x2048 .bf16) (x1 : Vec F S1x2048x1024 .bf16) (x5 : Vec F S512x128 .f32) (x6 : Vec F S512x128 .f32) (x7 : Vec F S512x128 .f32) (K : PUnit → sProp 𝕄) (P : sProp 𝕄)
    (hP : iprop(own c arg2 x0 ∗ own c arg3 x1 ∗ own c arg7 x5 ∗ own c arg8 x6 ∗ own c arg9 x7 ∗ own c arg16 (o14 x0 x1 x5 x6 x7)) = P) :
    iprop(own c arg2 x0 ∗ own c arg3 x1 ∗ own c arg7 x5 ∗ own c arg8 x6 ∗ own c arg9 x7 ∗ (∃ d, own c arg16 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f5, %hf5, H5⟩, ⟨%f6, %hf6, H6⟩, ⟨%f7, %hf7, H7⟩, ⟨%d16, %g16, -, G16⟩, Hk⟩
  subst hf0 hf1 hf5 hf6 hf7
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  · iexists _; isplitr
    swap; · iexact G16
    ipureintro; exact View.read_writes_eq_canon _ _ _ (cover_rL _)

set_option maxHeartbeats 4000000 in
/-- Column tile 5. -/
theorem run_5
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1)
    (x0 : Vec F S512x2048 .bf16) (x1 : Vec F S1x2048x1024 .bf16) (x2 : Vec F S512x128 .f32) (x3 : Vec F S512x128 .f32) (x4 : Vec F S512x128 .f32) (x5 : Vec F S512x128 .f32) (x6 : Vec F S512x128 .f32) (x7 : Vec F S512x128 .f32) (K : PUnit → sProp 𝕄) (P : sProp 𝕄)
    (hP : iprop(own c arg2 x0 ∗ own c arg3 x1 ∗ own c arg4 x2 ∗ own c arg5 x3 ∗ own c arg6 x4 ∗ own c arg7 x5 ∗ own c arg8 x6 ∗ own c arg9 x7 ∗ own c arg17 (o15 x0 x1 x2 x3 x4) ∗ own c arg18 (o16 x0 x1 x2 x3 x4) ∗ own c arg19 (o17 x0 x1) ∗ own c arg20 (o18 x0 x1) ∗ own c arg21 (o19 x0 x1 x5 x6 x7) ∗ own c arg22 (o20 x0 x1 x5 x6 x7) ∗ own c arg23 (o21 x0 x1)) = P) :
    iprop(own c arg2 x0 ∗ own c arg3 x1 ∗ own c arg4 x2 ∗ own c arg5 x3 ∗ own c arg6 x4 ∗ own c arg7 x5 ∗ own c arg8 x6 ∗ own c arg9 x7 ∗ (∃ d, own c arg17 d) ∗ (∃ d, own c arg18 d) ∗ (∃ d, own c arg19 d) ∗ (∃ d, own c arg20 d) ∗ (∃ d, own c arg21 d) ∗ (∃ d, own c arg22 d) ∗ (∃ d, own c arg23 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d17, %g17, -, G17⟩, ⟨%d18, %g18, -, G18⟩, ⟨%d19, %g19, -, G19⟩, ⟨%d20, %g20, -, G20⟩, ⟨%d21, %g21, -, G21⟩, ⟨%d22, %g22, -, G22⟩, ⟨%d23, %g23, -, G23⟩, Hk⟩
  subst hf0 hf1 hf2 hf3 hf4 hf5 hf6 hf7
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [G17]
  · iexists _; isplitr
    swap; · iexact G17
    ipureintro; exact View.read_writes_eq_canon _ _ _ (cover_rV _)
  isplitl [G18]
  · iexists _; isplitr
    swap; · iexact G18
    ipureintro; exact View.read_writes_eq_canon _ _ _ (cover_rV _)
  isplitl [G19]
  · iexists _; isplitr
    swap; · iexact G19
    ipureintro; exact View.read_writes_eq_canon _ _ _ (cover_rV _)
  isplitl [G20]
  · iexists _; isplitr
    swap; · iexact G20
    ipureintro; exact View.read_writes_eq_canon _ _ _ (cover_rB _)
  isplitl [G21]
  · iexists _; isplitr
    swap; · iexact G21
    ipureintro; exact View.read_writes_eq_canon _ _ _ (cover_rI _)
  isplitl [G22]
  · iexists _; isplitr
    swap; · iexact G22
    ipureintro; exact View.read_writes_eq_canon _ _ _ (cover_rI _)
  · iexists _; isplitr
    swap; · iexact G23
    ipureintro; exact View.read_writes_eq_canon _ _ _ (cover_rG _)

end Cert.InP.InProjIdeal

end
-- ==== Proof.InP.Host.lean ====
/- What the host arrays of the input projection hold: the tiles of the weights and the six tables of the rotations. -/
module

public import proofs.«01_k».proof.Proof.InP.Math
public import proofs.«01_k».proof.Proof.InP.InProjIdeal.Body
public import Idealize.ShloMosaic.Lib.StableHlo.ReadAt
public import Idealize.ShloMosaic.Lib.ValueIdxCore

@[expose] public section

set_option maxRecDepth 16384

noncomputable section

open Idealize.ShloMosaic Idealize.ShloMosaic.TcCoe Idealize.SL.Sem

namespace Cert.InPV.Host
open Cert.InProjIdeal Cert.InProjIdeal.Gen Cert.InPV

variable (m : (ℓ : Loc nD τ sig) → Buf (Elt Ideal) ℓ)

/-! ## The weight tiles -/

set_option maxHeartbeats 4000000 in
/-- Tile 0: columns 0 to 1024. -/
theorem V_w0 (c : Dev nD) (k : Fin 2048) (l : Fin 1024) :
    (V m c main_v20 (ix3 (⟨0, by decide⟩ : Fin 6) k l) : EReal) = at2 (R := 2048) (C := 9808) (m ((c.tc : Thread nD τ).loc main_arg1)) k.val (0 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 1: columns 1024 to 2048. -/
theorem V_w1 (c : Dev nD) (k : Fin 2048) (l : Fin 1024) :
    (V m c main_v20 (ix3 (⟨1, by decide⟩ : Fin 6) k l) : EReal) = at2 (R := 2048) (C := 9808) (m ((c.tc : Thread nD τ).loc main_arg1)) k.val (1024 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 2: columns 2048 to 3072. -/
theorem V_w2 (c : Dev nD) (k : Fin 2048) (l : Fin 1024) :
    (V m c main_v20 (ix3 (⟨2, by decide⟩ : Fin 6) k l) : EReal) = at2 (R := 2048) (C := 9808) (m ((c.tc : Thread nD τ).loc main_arg1)) k.val (2048 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 3: columns 3072 to 4096. -/
theorem V_w3 (c : Dev nD) (k : Fin 2048) (l : Fin 1024) :
    (V m c main_v20 (ix3 (⟨3, by decide⟩ : Fin 6) k l) : EReal) = at2 (R := 2048) (C := 9808) (m ((c.tc : Thread nD τ).loc main_arg1)) k.val (3072 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 4: columns 4608 to 5632. -/
theorem V_w4 (c : Dev nD) (k : Fin 2048) (l : Fin 1024) :
    (V m c main_v20 (ix3 (⟨4, by decide⟩ : Fin 6) k l) : EReal) = at2 (R := 2048) (C := 9808) (m ((c.tc : Thread nD τ).loc main_arg1)) k.val (4608 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 5, lanes 0 to 512: columns from 4096 on. -/
theorem V_w5a (c : Dev nD) (k : Fin 2048) (l : Fin 1024) (h0 : 0 ≤ l.val) (h1 : l.val < 512) :
    (V m c main_v20 (ix3 (⟨5, by decide⟩ : Fin 6) k l) : EReal) = at2 (R := 2048) (C := 9808) (m ((c.tc : Thread nD τ).loc main_arg1)) k.val (4096 + (l.val - 0)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

set_option maxHeartbeats 4000000 in
/-- Tile 5, lanes 512 to 576: columns from 5632 on. -/
theorem V_w5b (c : Dev nD) (k : Fin 2048) (l : Fin 1024) (h0 : 512 ≤ l.val) (h1 : l.val < 576) :
    (V m c main_v20 (ix3 (⟨5, by decide⟩ : Fin 6) k l) : EReal) = at2 (R := 2048) (C := 9808) (m ((c.tc : Thread nD τ).loc main_arg1)) k.val (5632 + (l.val - 512)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

set_option maxHeartbeats 4000000 in
/-- Tile 5, lanes 640 to 656: columns from 5696 on. -/
theorem V_w5c (c : Dev nD) (k : Fin 2048) (l : Fin 1024) (h0 : 640 ≤ l.val) (h1 : l.val < 656) :
    (V m c main_v20 (ix3 (⟨5, by decide⟩ : Fin 6) k l) : EReal) = at2 (R := 2048) (C := 9808) (m ((c.tc : Thread nD τ).loc main_arg1)) k.val (5696 + (l.val - 640)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

/-! ## The tables -/

section Tables

variable {α : Type}

theorem gather16 (x : S8192x16.Idx → α) (idx : IVec S128x1 32) (p : Fin 8192) (l : Fin 128) :
    Host.gather gather_S8192x16_S128x1_S8192x128_0_1_n_n_1_1_81921 x idx (ix2 p l) = x (ix2 p ⟨min (idx (ix2 l 0)).toInt.toNat 15, by omega⟩) :=
  gather_columns (by decide) gather_S8192x16_S128x1_S8192x128_0_1_n_n_1_1_81921.wf x idx (ix2 p l)

theorem gather8 (x : S8192x8.Idx → α) (idx : IVec S128x1 32) (p : Fin 8192) (l : Fin 128) :
    Host.gather gather_S8192x8_S128x1_S8192x128_0_1_n_n_1_1_81921 x idx (ix2 p l) = x (ix2 p ⟨min (idx (ix2 l 0)).toInt.toNat 7, by omega⟩) :=
  gather_columns (by decide) gather_S8192x8_S128x1_S8192x128_0_1_n_n_1_1_81921.wf x idx (ix2 p l)

theorem one_id : id (constant (F := Ideal) S_ FTy.f32 1065353216#32) ix0 = (1 : EReal) := Ideal.ofBits_one_f32
theorem zero_id : id (constant (F := Ideal) S_ FTy.f32 0#32) ix0 = (0 : EReal) := Ideal.ofBits_zero_f32

theorem idx16 : ∀ l : Fin 128, min (lit0 (S128.rowMajor (ix1 l))).toInt.toNat 15
    = if l.val % 128 < 16 then l.val % 128 else if l.val % 128 < 2 * 16 then l.val % 128 - 16 else 0 := by decide +kernel
theorem idx8 : ∀ l : Fin 128, min (lit4 (S128.rowMajor (ix1 l))).toInt.toNat 7
    = if l.val % 64 < 8 then l.val % 64 else if l.val % 64 < 2 * 8 then l.val % 64 - 8 else 0 := by decide +kernel
theorem m1 : ∀ l : Fin 128, lit1 (S128.rowMajor (ix1 l)) = if l.val % 128 < 16 then 1#1 else if l.val % 128 < 2 * 16 then 1#1 else 0#1 := by decide +kernel
theorem m2 : ∀ l : Fin 128, lit2 (S128.rowMajor (ix1 l)) = if l.val % 128 < 16 then 1#1 else 0#1 := by decide +kernel
theorem m3 : ∀ l : Fin 128, lit3 (S128.rowMajor (ix1 l)) = if l.val % 128 < 16 then 0#1 else if l.val % 128 < 2 * 16 then 1#1 else 0#1 := by decide +kernel
theorem m5 : ∀ l : Fin 128, lit5 (S128.rowMajor (ix1 l)) = if l.val % 64 < 8 then 1#1 else if l.val % 64 < 2 * 8 then 1#1 else 0#1 := by decide +kernel
theorem m6 : ∀ l : Fin 128, lit6 (S128.rowMajor (ix1 l)) = if l.val % 64 < 8 then 1#1 else 0#1 := by decide +kernel
theorem m7 : ∀ l : Fin 128, lit7 (S128.rowMajor (ix1 l)) = if l.val % 64 < 8 then 0#1 else if l.val % 64 < 2 * 8 then 1#1 else 0#1 := by decide +kernel

set_option maxHeartbeats 4000000 in
/-- The table `v44`. -/
theorem V_v44 (c : Dev nD) (p : Fin 8192) (l : Fin 128) :
    (V m c main_v44 (ix2 p l) : EReal) = tabC 16 128 (fun k => Ideal.cos (angle 1107296256#32 p.val k)) l.val := by
  unfold V
  after_reads_at
  rw [gather16]
  pointwise
  rw [idx16, m1, one_id]
  unfold tabC angle
  split_ifs <;> first | rfl | exact if_pos rfl | exact if_neg (by decide)

set_option maxHeartbeats 4000000 in
/-- The table `v51`. -/
theorem V_v51 (c : Dev nD) (p : Fin 8192) (l : Fin 128) :
    (V m c main_v51 (ix2 p l) : EReal) = tabL 16 128 (fun k => Ideal.sin (angle 1107296256#32 p.val k)) l.val := by
  unfold V
  after_reads_at
  rw [gather16]
  pointwise
  rw [idx16, m2, zero_id]
  unfold tabL angle
  split_ifs <;> first | rfl | exact if_pos rfl | exact if_neg (by decide)

set_option maxHeartbeats 4000000 in
/-- The table `v57`. -/
theorem V_v57 (c : Dev nD) (p : Fin 8192) (l : Fin 128) :
    (V m c main_v57 (ix2 p l) : EReal) = tabH 16 128 (fun k => Ideal.sin (angle 1107296256#32 p.val k)) l.val := by
  unfold V
  after_reads_at
  rw [gather16]
  pointwise
  rw [idx16, m3, zero_id]
  unfold tabH angle
  split_ifs <;> first | rfl | exact if_pos rfl | exact if_neg (by decide)

set_option maxHeartbeats 4000000 in
/-- The table `v80`. -/
theorem V_v80 (c : Dev nD) (p : Fin 8192) (l : Fin 128) :
    (V m c main_v80 (ix2 p l) : EReal) = tabC 8 64 (fun k => Ideal.cos (angle 1098907648#32 p.val k)) l.val := by
  unfold V
  after_reads_at
  rw [gather8]
  pointwise
  rw [idx8, m5, one_id]
  unfold tabC angle
  split_ifs <;> first | rfl | exact if_pos rfl | exact if_neg (by decide)

set_option maxHeartbeats 4000000 in
/-- The table `v87`. -/
theorem V_v87 (c : Dev nD) (p : Fin 8192) (l : Fin 128) :
    (V m c main_v87 (ix2 p l) : EReal) = tabL 8 64 (fun k => Ideal.sin (angle 1098907648#32 p.val k)) l.val := by
  unfold V
  after_reads_at
  rw [gather8]
  pointwise
  rw [idx8, m6, zero_id]
  unfold tabL angle
  split_ifs <;> first | rfl | exact if_pos rfl | exact if_neg (by decide)

set_option maxHeartbeats 4000000 in
/-- The table `v93`. -/
theorem V_v93 (c : Dev nD) (p : Fin 8192) (l : Fin 128) :
    (V m c main_v93 (ix2 p l) : EReal) = tabH 8 64 (fun k => Ideal.sin (angle 1098907648#32 p.val k)) l.val := by
  unfold V
  after_reads_at
  rw [gather8]
  pointwise
  rw [idx8, m7, zero_id]
  unfold tabH angle
  split_ifs <;> first | rfl | exact if_pos rfl | exact if_neg (by decide)

end Tables

end Cert.InPV.Host

end
-- ==== Proof.InP.Pay.lean ====
/- The blocks the body stores, at an index of the block, over the extended reals: each is a dot product of a row of `h`
   and a column of the weight tile, or the rotation of three such by the tables. -/
module

public import proofs.«01_k».proof.Proof.InP.InProjIdeal.Body
public import proofs.«01_k».proof.Proof.InP.Math

@[expose] public section

set_option maxRecDepth 16384

noncomputable section

open Idealize.ShloMosaic Idealize.ShloMosaic.TcCoe Idealize.SL.Sem

namespace Cert.InPV
open Cert.InProjIdeal Cert.InProjIdeal.Gen Cert.InP.InProjIdeal

theorem ldH (x0 : Vec Ideal S512x2048 .bf16) : View.ld x0 rH = x0 := by funext y; pointwise [rH]
theorem ldW (x1 : Vec Ideal S1x2048x1024 .bf16) : View.ld x1 rW = x1 := by
  funext y
  pointwise [rW]
  refine congrArg x1 (funext fun a => Fin.ext ?_)
  match a with
  | ⟨0, _⟩ => show 0 = (y 0).val; have h : (y 0).val < 1 := (y 0).isLt; omega
  | ⟨1, _⟩ => rfl
  | ⟨2, _⟩ => rfl
theorem ldT (x : Vec Ideal S512x128 .f32) : View.ld x rT = x := by funext y; pointwise [rT]

/-- The product of row `r` of the block of `h` and column `q` of the tile. -/
def acc (x0 : Vec Ideal S512x2048 .bf16) (x1 : Vec Ideal S1x2048x1024 .bf16) (r : Fin 512) (q : ℕ) : EReal :=
  if h : q < 1024 then ∑ k : Fin 2048, x0 (ix2 r k) * x1 (ix3 (0 : Fin 1) k ⟨q, h⟩) else 0

theorem pay1_eq (x0 : Vec Ideal S512x2048 .bf16) (x1 : Vec Ideal S1x2048x1024 .bf16) :
    k0_pay1 x0 x1 = fun y => acc x0 x1 (y 0) (y 1).val := by
  funext y
  refine Eq.trans ?_ (dif_pos (c := (y 1).val < 1024) (y 1).isLt).symm
  pointwise [k0_pay1]

theorem o8_apply (x0 : Vec Ideal S512x2048 .bf16) (x1 : Vec Ideal S1x2048x1024 .bf16) (y : S512x1024.Idx) : o8 x0 x1 y = acc x0 x1 (y 0) (y 1).val := by
  unfold o8
  rw [canon_z (by funext a; fin_cases a <;> rfl), ldH, ldW]
  unfold k0_pay2
  rw [pay1_eq]
  pointwise []

theorem o10_apply (x0 : Vec Ideal S512x2048 .bf16) (x1 : Vec Ideal S1x2048x1024 .bf16) (y : S512x1024.Idx) : o10 x0 x1 y = acc x0 x1 (y 0) (y 1).val := by
  unfold o10
  rw [canon_z (by funext a; fin_cases a <;> rfl), ldH, ldW]
  unfold k0_pay3
  rw [pay1_eq]
  pointwise []

theorem o12_apply (x0 : Vec Ideal S512x2048 .bf16) (x1 : Vec Ideal S1x2048x1024 .bf16) (y : S512x1024.Idx) : o12 x0 x1 y = acc x0 x1 (y 0) (y 1).val := by
  unfold o12
  rw [canon_z (by funext a; fin_cases a <;> rfl), ldH, ldW]
  unfold k0_pay4
  rw [pay1_eq]
  pointwise []

theorem o9_apply (x0 : Vec Ideal S512x2048 .bf16) (x1 : Vec Ideal S1x2048x1024 .bf16) (y : S512x1024.Idx) : o9 x0 x1 y = acc x0 x1 (y 0) (y 1).val := by
  unfold o9
  rw [canon_z (by funext a; fin_cases a <;> rfl), ldH, ldW]
  rw [pay1_eq]

theorem o11_apply (x0 : Vec Ideal S512x2048 .bf16) (x1 : Vec Ideal S1x2048x1024 .bf16) (y : S512x1024.Idx) : o11 x0 x1 y = acc x0 x1 (y 0) (y 1).val := by
  unfold o11
  rw [canon_z (by funext a; fin_cases a <;> rfl), ldH, ldW]
  rw [pay1_eq]

theorem o13_apply (x0 : Vec Ideal S512x2048 .bf16) (x1 : Vec Ideal S1x2048x1024 .bf16) (x2 x3 x4 : Vec Ideal S512x128 .f32) (y : S1024x512.Idx) : o13 x0 x1 x2 x3 x4 y = rot 16 (acc x0 x1 (y 1)) (fun l => x2 (ix2 (y 1) l)) (fun l => x3 (ix2 (y 1) l)) (fun l => x4 (ix2 (y 1) l)) (y 0).val := by
  unfold o13
  rw [canon_z (by funext a; fin_cases a <;> rfl), ldH, ldW, ldT, ldT, ldT]
  unfold k0_pay5 k0_pay11 k0_pay12 k0_pay13 k0_pay14 k0_pay15 k0_pay16 k0_pay17 k0_pay19 k0_pay20 k0_pay18
  rw [pay1_eq]
  pointwise [k0_pay11, k0_pay12, k0_pay13]
  have hy : (y 0).val < 1024 := (y 0).isLt
  repeat' split
  all_goals exact rot_of 16 (acc x0 x1 (y 1)) (fun l => x2 (ix2 (y 1) l)) (fun l => x3 (ix2 (y 1) l)) (fun l => x4 (ix2 (y 1) l)) (y 0).val ((y 0).val / 128 * 128) _ _ _ _ (by omega) (by (try dsimp only) <;> omega) (by (try dsimp only) <;> omega) (by (try dsimp only) <;> omega) (by (try dsimp only) <;> omega)

theorem o14_apply (x0 : Vec Ideal S512x2048 .bf16) (x1 : Vec Ideal S1x2048x1024 .bf16) (x5 x6 x7 : Vec Ideal S512x128 .f32) (y : S1024x512.Idx) : o14 x0 x1 x5 x6 x7 y = rot 8 (acc x0 x1 (y 1)) (fun l => x5 (ix2 (y 1) l)) (fun l => x6 (ix2 (y 1) l)) (fun l => x7 (ix2 (y 1) l)) (y 0).val := by
  unfold o14
  rw [canon_z (by funext a; fin_cases a <;> rfl), ldH, ldW, ldT, ldT, ldT]
  unfold k0_pay6 k0_pay21 k0_pay22 k0_pay23 k0_pay24 k0_pay25 k0_pay26 k0_pay27 k0_pay29 k0_pay30 k0_pay28
  rw [pay1_eq]
  pointwise [k0_pay21, k0_pay22, k0_pay23]
  have hy : (y 0).val < 1024 := (y 0).isLt
  repeat' split
  all_goals exact rot_of 8 (acc x0 x1 (y 1)) (fun l => x5 (ix2 (y 1) l)) (fun l => x6 (ix2 (y 1) l)) (fun l => x7 (ix2 (y 1) l)) (y 0).val ((y 0).val / 128 * 128) _ _ _ _ (by omega) (by (try dsimp only) <;> omega) (by (try dsimp only) <;> omega) (by (try dsimp only) <;> omega) (by (try dsimp only) <;> omega)

theorem o15_apply (x0 : Vec Ideal S512x2048 .bf16) (x1 : Vec Ideal S1x2048x1024 .bf16) (x2 x3 x4 : Vec Ideal S512x128 .f32) (y : S512x256.Idx) : o15 x0 x1 x2 x3 x4 y = rot 16 (acc x0 x1 (y 0)) (fun l => x2 (ix2 (y 0) l)) (fun l => x3 (ix2 (y 0) l)) (fun l => x4 (ix2 (y 0) l)) (y 1).val := by
  unfold o15
  rw [canon_z (by funext a; fin_cases a <;> rfl), ldH, ldW, ldT, ldT, ldT]
  unfold k0_pay31
  rw [pay1_eq]
  pointwise []
  have hy : (y 1).val < 256 := (y 1).isLt
  repeat' split
  all_goals exact rot_of 16 (acc x0 x1 (y 0)) (fun l => x2 (ix2 (y 0) l)) (fun l => x3 (ix2 (y 0) l)) (fun l => x4 (ix2 (y 0) l)) (y 1).val ((y 1).val / 128 * 128) _ _ _ _ (by omega) (by (try dsimp only) <;> omega) (by (try dsimp only) <;> omega) (by (try dsimp only) <;> omega) (by (try dsimp only) <;> omega)

theorem o16_apply (x0 : Vec Ideal S512x2048 .bf16) (x1 : Vec Ideal S1x2048x1024 .bf16) (x2 x3 x4 : Vec Ideal S512x128 .f32) (y : S512x256.Idx) : o16 x0 x1 x2 x3 x4 y = rot 16 (acc x0 x1 (y 0)) (fun l => x2 (ix2 (y 0) l)) (fun l => x3 (ix2 (y 0) l)) (fun l => x4 (ix2 (y 0) l)) (y 1).val := by
  unfold o16
  rw [canon_z (by funext a; fin_cases a <;> rfl), ldH, ldW, ldT, ldT, ldT]
  unfold k0_pay32 k0_pay31
  rw [pay1_eq]
  pointwise []
  have hy : (y 1).val < 256 := (y 1).isLt
  repeat' split
  all_goals exact rot_of 16 (acc x0 x1 (y 0)) (fun l => x2 (ix2 (y 0) l)) (fun l => x3 (ix2 (y 0) l)) (fun l => x4 (ix2 (y 0) l)) (y 1).val ((y 1).val / 128 * 128) _ _ _ _ (by omega) (by (try dsimp only) <;> omega) (by (try dsimp only) <;> omega) (by (try dsimp only) <;> omega) (by (try dsimp only) <;> omega)

theorem o17_apply (x0 : Vec Ideal S512x2048 .bf16) (x1 : Vec Ideal S1x2048x1024 .bf16) (y : S512x256.Idx) : o17 x0 x1 y = acc x0 x1 (y 0) (256 + (y 1).val) := by
  unfold o17
  rw [canon_z (by funext a; fin_cases a <;> rfl), ldH, ldW]
  unfold k0_pay33
  rw [pay1_eq]
  pointwise []

theorem o18_apply (x0 : Vec Ideal S512x2048 .bf16) (x1 : Vec Ideal S1x2048x1024 .bf16) (y : S1x256x512.Idx) : o18 x0 x1 y = acc x0 x1 (y 2) (256 + (y 1).val) := by
  unfold o18
  rw [canon_z (by funext a; fin_cases a <;> rfl), ldH, ldW]
  unfold k0_pay9 k0_pay33
  rw [pay1_eq]
  pointwise []

theorem o19_apply (x0 : Vec Ideal S512x2048 .bf16) (x1 : Vec Ideal S1x2048x1024 .bf16) (x5 x6 x7 : Vec Ideal S512x128 .f32) (y : S512x64.Idx) : o19 x0 x1 x5 x6 x7 y = rot 8 (acc x0 x1 (y 0)) (fun l => x5 (ix2 (y 0) l)) (fun l => x6 (ix2 (y 0) l)) (fun l => x7 (ix2 (y 0) l)) (512 + (y 1).val) := by
  unfold o19
  rw [canon_z (by funext a; fin_cases a <;> rfl), ldH, ldW, ldT, ldT, ldT]
  unfold k0_pay7 k0_pay34 k0_pay35 k0_pay36
  rw [pay1_eq]
  pointwise []
  have hy : (y 1).val < 64 := (y 1).isLt
  exact rot_of 8 (acc x0 x1 (y 0)) (fun l => x5 (ix2 (y 0) l)) (fun l => x6 (ix2 (y 0) l)) (fun l => x7 (ix2 (y 0) l)) (512 + (y 1).val) 512 _ _ _ _ (by omega) (by (try dsimp only) <;> omega) (by (try dsimp only) <;> omega) (by (try dsimp only) <;> omega) (by (try dsimp only) <;> omega)

theorem o20_apply (x0 : Vec Ideal S512x2048 .bf16) (x1 : Vec Ideal S1x2048x1024 .bf16) (x5 x6 x7 : Vec Ideal S512x128 .f32) (y : S512x64.Idx) : o20 x0 x1 x5 x6 x7 y = rot 8 (acc x0 x1 (y 0)) (fun l => x5 (ix2 (y 0) l)) (fun l => x6 (ix2 (y 0) l)) (fun l => x7 (ix2 (y 0) l)) (512 + (y 1).val) := by
  unfold o20
  rw [canon_z (by funext a; fin_cases a <;> rfl), ldH, ldW, ldT, ldT, ldT]
  unfold k0_pay8 k0_pay7 k0_pay34 k0_pay35 k0_pay36
  rw [pay1_eq]
  pointwise []
  have hy : (y 1).val < 64 := (y 1).isLt
  exact rot_of 8 (acc x0 x1 (y 0)) (fun l => x5 (ix2 (y 0) l)) (fun l => x6 (ix2 (y 0) l)) (fun l => x7 (ix2 (y 0) l)) (512 + (y 1).val) 512 _ _ _ _ (by omega) (by (try dsimp only) <;> omega) (by (try dsimp only) <;> omega) (by (try dsimp only) <;> omega) (by (try dsimp only) <;> omega)

theorem o21_apply (x0 : Vec Ideal S512x2048 .bf16) (x1 : Vec Ideal S1x2048x1024 .bf16) (y : S16x512.Idx) : o21 x0 x1 y = acc x0 x1 (y 1) (640 + (y 0).val) := by
  unfold o21
  rw [canon_z (by funext a; fin_cases a <;> rfl), ldH, ldW]
  unfold k0_pay10
  rw [pay1_eq]
  pointwise []

end Cert.InPV

end
-- ==== Proof.InP.Keep.lean ====
/-
  A pipelined result whose block is stored at one of the six column tiles of a row block and written back at the last:
  what the block holds at the tiles between, for any such pipeline.
-/
module

public import Idealize.ShloMosaic.Lib.Pipeline.Frame
public import Idealize.ShloMosaic.Lib.Tactic

@[expose] public section

noncomputable section

namespace Cert.InPK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

theorem off {b : BitVec 1} {n j : ℕ} (h : b = 1#1 ↔ n % 6 = j) (hn : n % 6 ≠ j) : ¬b = 1#1 := fun e => hn (h.mp e)

theorem idle_of {b : BitVec 1} {n j : ℕ} (h : b = 1#1 ↔ n % 6 = j) : (!(b == 1#1)) = !(decide (n % 6 = j)) := by
  by_cases hb : b = 1#1
  · rw [decide_eq_true (h.mp hb), hb]; rfl
  · rw [decide_eq_false (fun e => hb (h.mpr e)), beq_eq_false_iff_ne.mpr hb]

/-! ## A result's block between its store and its write-back -/

section Keep
variable {nD : Nat} {τ : Topo} {sig : RefSig} {Val : EltTy → Type} {Λ₀ : Labels} {Ix : Type} [DecidableEq Ix]
  {Name : Type} [DecidableEq Name] {U : Type} [URA U] {Lvl : Type} {cfg : Cfg sig Λ₀}

local notation "𝕄" => MT nD τ sig Ix Val Name U Lvl

variable {c : Dev nD} (dat : Dat τ Val Ix Name U Lvl cfg c) (w : Fin cfg.W)
  (hw : (cfg.win w).isOut = true) (hclip : ∀ (i : cfg.grid.Coords) a, (cfg.win w).clip i a = none)
  (j : ℕ) (hidle : ∀ t : Fin cfg.N, cfg.idle w (cfg.grid.coords t) = !(decide (t.val % 6 = j)))
  (hflush : ∀ t : Fin cfg.N, (cfg.win w).flush t = true ↔ t.val % 6 = 5)
  (hafter : ∀ t t' : Fin cfg.N, t.val / 6 = t'.val / 6 → dat.after w t = dat.after w t')

include hw hclip hidle hflush hafter in
/-- After the tile that stores it, the block is still there. -/
theorem keep (n : ℕ) : ∀ (t : Fin cfg.N), t.val % 6 = j + 1 + n → ∀ d, dat.before w t d = dat.after w t := by
  induction n with
  | zero =>
    intro t ht d
    have h0 : t.val ≠ 0 := fun h => by rw [h] at ht; omega
    have hf : (cfg.win w).flush ⟨t.val - 1, Nat.lt_of_le_of_lt (Nat.sub_le _ _) t.isLt⟩ = false := by
      rw [Bool.eq_false_iff]; intro h; have := (hflush _).mp h; have : (t.val - 1) % 6 = 5 := this; omega
    rw [dat.before_of_pos w t h0 ((cfg.win w).fetch_out hw t), hf, if_neg Bool.false_ne_true]
    unfold Dat.left
    rw [hidle, decide_eq_true (show (t.val - 1) % 6 = j by omega)]
    show dat.kept w _ d = _
    unfold Dat.kept
    rw [Pipeline.fill_of_clip_none w _ (hclip _) d (dat.after w _), Pipeline.Window.fill_cut]
    exact hafter _ _ (by show (t.val - 1) / 6 = t.val / 6; omega)
  | succ n ih =>
    intro t ht d
    have h0 : t.val ≠ 0 := fun h => by rw [h] at ht; omega
    have hf : (cfg.win w).flush ⟨t.val - 1, Nat.lt_of_le_of_lt (Nat.sub_le _ _) t.isLt⟩ = false := by
      rw [Bool.eq_false_iff]; intro h; have := (hflush _).mp h; have : (t.val - 1) % 6 = 5 := this; omega
    rw [dat.before_of_pos w t h0 ((cfg.win w).fetch_out hw t), hf, if_neg Bool.false_ne_true]
    unfold Dat.left
    rw [hidle, decide_eq_false (show ¬(t.val - 1) % 6 = j by omega)]
    show dat.before w _ d = _
    rw [ih ⟨t.val - 1, _⟩ (by show (t.val - 1) % 6 = j + 1 + n; omega) d]
    exact hafter _ _ (by show (t.val - 1) / 6 = t.val / 6; omega)

include hw hclip hidle hflush hafter in
/-- At a tile that does not store it, the block is handed back as found. -/
theorem pass (hj : j < 6) (t : Fin cfg.N) (ht : t.val % 6 ≠ j) :
    (iprop(∃ d, owns (c : Thread nD τ) ((cfg.win w).stage (cfg.slots t w)) fullShare (dat.before w t d)) : sProp 𝕄) ⊢ dat.leavesExact w t := by
  have hi : cfg.idle w (cfg.grid.coords t) = true := by rw [hidle, decide_eq_false ht]; rfl
  by_cases h5 : t.val % 6 = 5
  · unfold Dat.leavesExact
    rw [hi, (hflush t).mpr h5]
    iintro ⟨%d, H⟩
    rw [keep dat w hw hclip j hidle hflush hafter (5 - j - 1) t (by omega) d]
    iexact H
  · have hf : (cfg.win w).flush t = false := by
      rw [Bool.eq_false_iff]; intro h; exact h5 ((hflush t).mp h)
    rw [Dat.leavesExact_idle dat w t hi hf]

include hidle in
/-- At the tile that stores it, the block is left at what is stored. -/
theorem leave (t : Fin cfg.N) (ht : t.val % 6 = j) :
    (owns (c : Thread nD τ) ((cfg.win w).stage (cfg.slots t w)) fullShare (dat.after w t) : sProp 𝕄) ⊢ dat.leavesExact w t := by
  have hi : cfg.idle w (cfg.grid.coords t) = false := by rw [hidle, decide_eq_true ht]; rfl
  unfold Dat.leavesExact
  rw [hi]

/-- What the two facts above say of a window that tile `j` stores: it is handed back as found at the other tiles, and
    what tile `j` leaves in it is `v`. -/
def Kept (v : (t : Fin cfg.N) → (cfg.win w).block.Idx → Val (cfg.win w).elt) : Prop :=
  (∀ t : Fin cfg.N, t.val % 6 ≠ j →
    (iprop(∃ d, owns (c : Thread nD τ) ((cfg.win w).stage (cfg.slots t w)) fullShare (dat.before w t d)) : sProp 𝕄) ⊢ dat.leavesExact w t)
  ∧ ∀ t : Fin cfg.N, t.val % 6 = j →
    (owns (c : Thread nD τ) ((cfg.win w).stage (cfg.slots t w)) fullShare (v t) : sProp 𝕄) ⊢ dat.leavesExact w t

/-- The point of the row block of `t` at column tile `k`. -/
def row {N n : ℕ} (hN : N = n * 6) (t : Fin N) (k : Fin 6) : Fin N :=
  ⟨t.val / 6 * 6 + k.val, by have := t.isLt; have := k.isLt; omega⟩

theorem row_self {N n : ℕ} (hN : N = n * 6) (t : Fin N) (k : Fin 6) (h : t.val % 6 = k.val) : row hN t k = t :=
  Fin.ext (by show t.val / 6 * 6 + k.val = t.val; omega)

theorem row_congr {N n : ℕ} (hN : N = n * 6) (t t' : Fin N) (k : Fin 6) (h : t.val / 6 = t'.val / 6) : row hN t k = row hN t' k :=
  Fin.ext (by show t.val / 6 * 6 + k.val = t'.val / 6 * 6 + k.val; rw [h])

include hw hclip in
theorem kept_of {b : Fin cfg.N → BitVec 1} (k : Fin 6) (hb : ∀ t : Fin cfg.N, b t = 1#1 ↔ t.val % 6 = k.val)
    (hid : ∀ t : Fin cfg.N, cfg.idle w (cfg.grid.coords t) = !(b t == 1#1))
    (hflush : ∀ t : Fin cfg.N, (cfg.win w).flush t = true ↔ t.val % 6 = 5)
    (v : (t : Fin cfg.N) → (cfg.win w).block.Idx → Val (cfg.win w).elt) {n : ℕ} (hN : cfg.N = n * 6)
    (hv : ∀ t, dat.after w t = v (row hN t k)) : Kept dat w k.val v := by
  have hidle : ∀ t : Fin cfg.N, cfg.idle w (cfg.grid.coords t) = !(decide (t.val % 6 = k.val)) :=
    fun t => (hid t).trans (idle_of (hb t))
  refine ⟨fun t ht => ?_, fun t ht => ?_⟩
  · exact pass dat w hw hclip k.val hidle hflush (fun t t' h => by rw [hv, hv, row_congr hN t t' k h]) k.isLt t ht
  · have h := leave dat w k.val hidle t ht
    rw [hv, row_self hN t k ht] at h
    exact h
end Keep

/-! ## A position within a block, axis by axis -/

theorem within {q x i : ℕ} (b : ℕ) (e : x = q) (h : q * b ≤ i ∧ i < q * b + b) : x * b ≤ i ∧ i < x * b + b := by
  rw [e]; exact h

theorem all2 {p : Fin 2 → Prop} (h0 : p 0) (h1 : p 1) : ∀ a, p a
  | ⟨0, _⟩ => h0
  | ⟨1, _⟩ => h1

theorem all3 {p : Fin 3 → Prop} (h0 : p 0) (h1 : p 1) (h2 : p 2) : ∀ a, p a
  | ⟨0, _⟩ => h0
  | ⟨1, _⟩ => h1
  | ⟨2, _⟩ => h2

end Cert.InPK

end
-- ==== Proof.InP.InProjIdeal.Frame.lean ====
/-
  The frame of the input projection (`Cert.InProjIdeal`). A result's block is stored at one of the six grid points of a row
  block and written back at the last; in between the body leaves it as it is. So the proof data name the contents by
  the row block alone, whichever of its points one is at.
-/
module

public import proofs.«01_k».proof.Proof.InP.InProjIdeal.Body
public import proofs.«01_k».proof.Proof.InP.Keep

@[expose] public section

set_option maxRecDepth 16384

noncomputable section

namespace Cert.InP.InProjIdeal

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕋" => Thread nD τ
local notation "𝕄" => MT nD τ sig Unit (Elt F) ℕ (UR sig nD τ) ℕ

open Cert.InPK

variable (m : (ℓ : Loc nD τ sig) → Buf (Elt F) ℓ) (ρ : Dev nD → PrngReg)

/-! ## The grid -/

theorem N_eq : cfg0.N = 32 * 6 := N_0

/-- The point of the row block of `t` at column tile `j`. -/
abbrev pt (t : Fin cfg0.N) (j : Fin 6) : Fin cfg0.N := row (n := 32) N_eq t j

set_option maxRecDepth 100000 in
/-- Which tile a point is at. -/
theorem cond_facts : ∀ t : Fin cfg0.N,
    (k0_cond1 (grid0.coords t) = 1#1 ↔ t.val % 6 = 0) ∧ (k0_cond2 (grid0.coords t) = 1#1 ↔ t.val % 6 = 1) ∧ (k0_cond3 (grid0.coords t) = 1#1 ↔ t.val % 6 = 2)
    ∧ (k0_cond4 (grid0.coords t) = 1#1 ↔ t.val % 6 = 3) ∧ (k0_cond5 (grid0.coords t) = 1#1 ↔ t.val % 6 = 4) ∧ (k0_cond6 (grid0.coords t) = 1#1 ↔ t.val % 6 = 5) :=
  (by decide +kernel : ∀ t : Fin grid0.N, _)

/-! ## The proof data -/

variable (c : Dev nD) (t : Fin cfg0.N)

abbrev b8 := o8 (iblk m c 0 t) (iblk m c 1 t)
abbrev b9 := o9 (iblk m c 0 t) (iblk m c 1 t)
abbrev b10 := o10 (iblk m c 0 t) (iblk m c 1 t)
abbrev b11 := o11 (iblk m c 0 t) (iblk m c 1 t)
abbrev b12 := o12 (iblk m c 0 t) (iblk m c 1 t)
abbrev b13 := o13 (iblk m c 0 t) (iblk m c 1 t) (iblk m c 2 t) (iblk m c 3 t) (iblk m c 4 t)
abbrev b14 := o14 (iblk m c 0 t) (iblk m c 1 t) (iblk m c 5 t) (iblk m c 6 t) (iblk m c 7 t)
abbrev b15 := o15 (iblk m c 0 t) (iblk m c 1 t) (iblk m c 2 t) (iblk m c 3 t) (iblk m c 4 t)
abbrev b16 := o16 (iblk m c 0 t) (iblk m c 1 t) (iblk m c 2 t) (iblk m c 3 t) (iblk m c 4 t)
abbrev b17 := o17 (iblk m c 0 t) (iblk m c 1 t)
abbrev b18 := o18 (iblk m c 0 t) (iblk m c 1 t)
abbrev b19 := o19 (iblk m c 0 t) (iblk m c 1 t) (iblk m c 5 t) (iblk m c 6 t) (iblk m c 7 t)
abbrev b20 := o20 (iblk m c 0 t) (iblk m c 1 t) (iblk m c 5 t) (iblk m c 6 t) (iblk m c 7 t)
abbrev b21 := o21 (iblk m c 0 t) (iblk m c 1 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => b8 m c (pt t 0)
    | ⟨9, _⟩ => b9 m c (pt t 1)
    | ⟨10, _⟩ => b10 m c (pt t 1)
    | ⟨11, _⟩ => b11 m c (pt t 2)
    | ⟨12, _⟩ => b12 m c (pt t 2)
    | ⟨13, _⟩ => b13 m c (pt t 3)
    | ⟨14, _⟩ => b14 m c (pt t 4)
    | ⟨15, _⟩ => b15 m c (pt t 5)
    | ⟨16, _⟩ => b16 m c (pt t 5)
    | ⟨17, _⟩ => b17 m c (pt t 5)
    | ⟨18, _⟩ => b18 m c (pt t 5)
    | ⟨19, _⟩ => b19 m c (pt t 5)
    | ⟨20, _⟩ => b20 m c (pt t 5)
    | ⟨21, _⟩ => b21 m c (pt t 5)
    | ⟨n + 22, h⟩ => absurd (show n + 22 < 22 from h) (by omega)
  Φ _ := Pipeline.ΦA spec0 c
  q _ := fullShare
  owed _ := 0

theorem A_eq (w : Fin cfg0.W) : (dats m 0 c).A w = V m c (Pipeline.arrRef spec0 w) := by
  dsimp only [dats]

theorem after0_0 : (dats m 0 c).after 0 t = iblk m c 0 t := by dsimp only [dats] <;> rfl
theorem after0_1 : (dats m 0 c).after 1 t = iblk m c 1 t := by dsimp only [dats] <;> rfl
theorem after0_2 : (dats m 0 c).after 2 t = iblk m c 2 t := by dsimp only [dats] <;> rfl
theorem after0_3 : (dats m 0 c).after 3 t = iblk m c 3 t := by dsimp only [dats] <;> rfl
theorem after0_4 : (dats m 0 c).after 4 t = iblk m c 4 t := by dsimp only [dats] <;> rfl
theorem after0_5 : (dats m 0 c).after 5 t = iblk m c 5 t := by dsimp only [dats] <;> rfl
theorem after0_6 : (dats m 0 c).after 6 t = iblk m c 6 t := by dsimp only [dats] <;> rfl
theorem after0_7 : (dats m 0 c).after 7 t = iblk m c 7 t := by dsimp only [dats] <;> rfl
theorem after0_8 : (dats m 0 c).after 8 t = b8 m c (pt t 0) := by dsimp only [dats] <;> rfl
theorem after0_9 : (dats m 0 c).after 9 t = b9 m c (pt t 1) := by dsimp only [dats] <;> rfl
theorem after0_10 : (dats m 0 c).after 10 t = b10 m c (pt t 1) := by dsimp only [dats] <;> rfl
theorem after0_11 : (dats m 0 c).after 11 t = b11 m c (pt t 2) := by dsimp only [dats] <;> rfl
theorem after0_12 : (dats m 0 c).after 12 t = b12 m c (pt t 2) := by dsimp only [dats] <;> rfl
theorem after0_13 : (dats m 0 c).after 13 t = b13 m c (pt t 3) := by dsimp only [dats] <;> rfl
theorem after0_14 : (dats m 0 c).after 14 t = b14 m c (pt t 4) := by dsimp only [dats] <;> rfl
theorem after0_15 : (dats m 0 c).after 15 t = b15 m c (pt t 5) := by dsimp only [dats] <;> rfl
theorem after0_16 : (dats m 0 c).after 16 t = b16 m c (pt t 5) := by dsimp only [dats] <;> rfl
theorem after0_17 : (dats m 0 c).after 17 t = b17 m c (pt t 5) := by dsimp only [dats] <;> rfl
theorem after0_18 : (dats m 0 c).after 18 t = b18 m c (pt t 5) := by dsimp only [dats] <;> rfl
theorem after0_19 : (dats m 0 c).after 19 t = b19 m c (pt t 5) := by dsimp only [dats] <;> rfl
theorem after0_20 : (dats m 0 c).after 20 t = b20 m c (pt t 5) := by dsimp only [dats] <;> rfl
theorem after0_21 : (dats m 0 c).after 21 t = b21 m c (pt t 5) := by dsimp only [dats] <;> rfl
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem k8 : Kept (dats m 0 c) 8 0 (b8 m c) := kept_of _ 8 rfl (fun _ _ => rfl) 0 (fun t => (cond_facts t).1) (fun _ => rfl) flush0_8 _ N_eq (after0_8 m c)
theorem k9 : Kept (dats m 0 c) 9 1 (b9 m c) := kept_of _ 9 rfl (fun _ _ => rfl) 1 (fun t => (cond_facts t).2.1) (fun _ => rfl) flush0_9 _ N_eq (after0_9 m c)
theorem k10 : Kept (dats m 0 c) 10 1 (b10 m c) := kept_of _ 10 rfl (fun _ _ => rfl) 1 (fun t => (cond_facts t).2.1) (fun _ => rfl) flush0_10 _ N_eq (after0_10 m c)
theorem k11 : Kept (dats m 0 c) 11 2 (b11 m c) := kept_of _ 11 rfl (fun _ _ => rfl) 2 (fun t => (cond_facts t).2.2.1) (fun _ => rfl) flush0_11 _ N_eq (after0_11 m c)
theorem k12 : Kept (dats m 0 c) 12 2 (b12 m c) := kept_of _ 12 rfl (fun _ _ => rfl) 2 (fun t => (cond_facts t).2.2.1) (fun _ => rfl) flush0_12 _ N_eq (after0_12 m c)
theorem k13 : Kept (dats m 0 c) 13 3 (b13 m c) := kept_of _ 13 rfl (fun _ _ => rfl) 3 (fun t => (cond_facts t).2.2.2.1) (fun _ => rfl) flush0_13 _ N_eq (after0_13 m c)
theorem k14 : Kept (dats m 0 c) 14 4 (b14 m c) := kept_of _ 14 rfl (fun _ _ => rfl) 4 (fun t => (cond_facts t).2.2.2.2.1) (fun _ => rfl) flush0_14 _ N_eq (after0_14 m c)
theorem k15 : Kept (dats m 0 c) 15 5 (b15 m c) := kept_of _ 15 rfl (fun _ _ => rfl) 5 (fun t => (cond_facts t).2.2.2.2.2) (fun _ => rfl) flush0_15 _ N_eq (after0_15 m c)
theorem k16 : Kept (dats m 0 c) 16 5 (b16 m c) := kept_of _ 16 rfl (fun _ _ => rfl) 5 (fun t => (cond_facts t).2.2.2.2.2) (fun _ => rfl) flush0_16 _ N_eq (after0_16 m c)
theorem k17 : Kept (dats m 0 c) 17 5 (b17 m c) := kept_of _ 17 rfl (fun _ _ => rfl) 5 (fun t => (cond_facts t).2.2.2.2.2) (fun _ => rfl) flush0_17 _ N_eq (after0_17 m c)
theorem k18 : Kept (dats m 0 c) 18 5 (b18 m c) := kept_of _ 18 rfl (fun _ _ => rfl) 5 (fun t => (cond_facts t).2.2.2.2.2) (fun _ => rfl) flush0_18 _ N_eq (after0_18 m c)
theorem k19 : Kept (dats m 0 c) 19 5 (b19 m c) := kept_of _ 19 rfl (fun _ _ => rfl) 5 (fun t => (cond_facts t).2.2.2.2.2) (fun _ => rfl) flush0_19 _ N_eq (after0_19 m c)
theorem k20 : Kept (dats m 0 c) 20 5 (b20 m c) := kept_of _ 20 rfl (fun _ _ => rfl) 5 (fun t => (cond_facts t).2.2.2.2.2) (fun _ => rfl) flush0_20 _ N_eq (after0_20 m c)
theorem k21 : Kept (dats m 0 c) 21 5 (b21 m c) := kept_of _ 21 rfl (fun _ _ => rfl) 5 (fun t => (cond_facts t).2.2.2.2.2) (fun _ => rfl) flush0_21 _ N_eq (after0_21 m c)

/-! ## The body obligation -/

/-- Window `w`'s buffer as the body finds it. -/
abbrev found (w : Fin cfg0.W) : sProp 𝕄 :=
  iprop(∃ d, owns (c : 𝕋) ((cfg0.win w).stage (cfg0.slots t w)) fullShare ((dats m 0 c).before w t d))

/-- Window `w`'s buffer at the contents the proof data name. -/
abbrev done (w : Fin cfg0.W) : sProp 𝕄 :=
  owns (c : 𝕋) ((cfg0.win w).stage (cfg0.slots t w)) fullShare ((dats m 0 c).after w t)

def bodyPre : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7 ∗ found m c t 8 ∗ found m c t 9 ∗ found m c t 10 ∗ found m c t 11 ∗ found m c t 12 ∗ found m c t 13 ∗ found m c t 14 ∗ found m c t 15 ∗ found m c t 16 ∗ found m c t 17 ∗ found m c t 18 ∗ found m c t 19 ∗ found m c t 20 ∗ found m c t 21)

def bodyPost : sProp 𝕄 :=
  iprop((dats m 0 c).Φ t.succ ∗ (dats m 0 c).owesAt () t.succ
    ∗ done m c t 0 ∗ done m c t 1 ∗ done m c t 2 ∗ done m c t 3 ∗ done m c t 4 ∗ done m c t 5 ∗ done m c t 6 ∗ done m c t 7 ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)

set_option maxHeartbeats 2000000 in
theorem body_0 (ht : t.val % 6 = 0) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15, H16, H17, H18, H19, H20, H21⟩
  iapply (run_0 c (grid0.coords t) ((cond_facts t).1.mpr ht) (off (cond_facts t).2.1 (by omega)) (off (cond_facts t).2.2.1 (by omega)) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H8]; · iexists _; iexact H8
  iintro ⟨H0, H1, H8⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).2 t ht); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_1 (ht : t.val % 6 = 1) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, ⟨%d10, H10⟩, H11, H12, H13, H14, H15, H16, H17, H18, H19, H20, H21⟩
  iapply (run_1 c (grid0.coords t) (off (cond_facts t).1 (by omega)) ((cond_facts t).2.1.mpr ht) (off (cond_facts t).2.2.1 (by omega)) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H9]; · iexists _; iexact H9
  isplitl [H10]; · iexists _; iexact H10
  iintro ⟨H0, H1, H9, H10⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).2 t ht); iexact H9
  isplitl [H10]; · iapply ((k10 m c).2 t ht); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_2 (ht : t.val % 6 = 2) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, ⟨%d11, H11⟩, ⟨%d12, H12⟩, H13, H14, H15, H16, H17, H18, H19, H20, H21⟩
  iapply (run_2 c (grid0.coords t) (off (cond_facts t).1 (by omega)) (off (cond_facts t).2.1 (by omega)) ((cond_facts t).2.2.1.mpr ht) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H11]; · iexists _; iexact H11
  isplitl [H12]; · iexists _; iexact H12
  iintro ⟨H0, H1, H11, H12⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).2 t ht); iexact H11
  isplitl [H12]; · iapply ((k12 m c).2 t ht); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_3 (ht : t.val % 6 = 3) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, ⟨%d13, H13⟩, H14, H15, H16, H17, H18, H19, H20, H21⟩
  iapply (run_3 c (grid0.coords t) (off (cond_facts t).1 (by omega)) (off (cond_facts t).2.1 (by omega)) (off (cond_facts t).2.2.1 (by omega)) ((cond_facts t).2.2.2.1.mpr ht) (off (cond_facts t).2.2.2.2.1 (by omega)) (off (cond_facts t).2.2.2.2.2 (by omega)) (iblk m c 0 t) (iblk m c 1 t) (iblk m c 2 t) (iblk m c 3 t) (iblk m c 4 t) _ _ rfl)
  isplitl [H0]; · iexact H0
  isplitl [H1]; · iexact H1
  isplitl [H2]; · iexact H2
  isplitl [H3]; · iexact H3
  isplitl [H4]; · iexact H4
  isplitl [H13]; · iexists _; iexact H13
  iintro ⟨H0, H1, H2, H3, H4, H13⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).2 t ht); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_4 (ht : t.val % 6 = 4) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, ⟨%d14, H14⟩, H15, H16, H17, H18, H19, H20, H21⟩
  iapply (run_4 c (grid0.coords t) (off (cond_facts t).1 (by omega)) (off (cond_facts t).2.1 (by omega)) (off (cond_facts t).2.2.1 (by omega)) (off (cond_facts t).2.2.2.1 (by omega)) ((cond_facts t).2.2.2.2.1.mpr ht) (off (cond_facts t).2.2.2.2.2 (by omega)) (iblk m c 0 t) (iblk m c 1 t) (iblk m c 5 t) (iblk m c 6 t) (iblk m c 7 t) _ _ rfl)
  isplitl [H0]; · iexact H0
  isplitl [H1]; · iexact H1
  isplitl [H5]; · iexact H5
  isplitl [H6]; · iexact H6
  isplitl [H7]; · iexact H7
  isplitl [H14]; · iexists _; iexact H14
  iintro ⟨H0, H1, H5, H6, H7, H14⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).2 t ht); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_5 (ht : t.val % 6 = 5) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14, ⟨%d15, H15⟩, ⟨%d16, H16⟩, ⟨%d17, H17⟩, ⟨%d18, H18⟩, ⟨%d19, H19⟩, ⟨%d20, H20⟩, ⟨%d21, H21⟩⟩
  iapply (run_5 c (grid0.coords t) (off (cond_facts t).1 (by omega)) (off (cond_facts t).2.1 (by omega)) (off (cond_facts t).2.2.1 (by omega)) (off (cond_facts t).2.2.2.1 (by omega)) (off (cond_facts t).2.2.2.2.1 (by omega)) ((cond_facts t).2.2.2.2.2.mpr ht) (iblk m c 0 t) (iblk m c 1 t) (iblk m c 2 t) (iblk m c 3 t) (iblk m c 4 t) (iblk m c 5 t) (iblk m c 6 t) (iblk m c 7 t) _ _ rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H15, H16, H17, H18, H19, H20, H21⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).2 t ht); iexact H15
  isplitl [H16]; · iapply ((k16 m c).2 t ht); iexact H16
  isplitl [H17]; · iapply ((k17 m c).2 t ht); iexact H17
  isplitl [H18]; · iapply ((k18 m c).2 t ht); iexact H18
  isplitl [H19]; · iapply ((k19 m c).2 t ht); iexact H19
  isplitl [H20]; · iapply ((k20 m c).2 t ht); iexact H20
  iapply ((k21 m c).2 t ht); iexact H21

theorem sound_body :
    bodyPre m c t ⊢ wp frame (wpE (defs₀ (F := F)) Variants.none (c : 𝕋) none) Set.univ (bodyAt0 t) (fun _ => bodyPost m c t) := by
  have h6 : t.val % 6 < 6 := Nat.mod_lt _ (by decide)
  obtain h | h | h | h | h | h : t.val % 6 = 0 ∨ t.val % 6 = 1 ∨ t.val % 6 = 2 ∨ t.val % 6 = 3 ∨ t.val % 6 = 4 ∨ t.val % 6 = 5 := by omega
  · exact body_0 m c t h
  · exact body_1 m c t h
  · exact body_2 m c t h
  · exact body_3 m c t h
  · exact body_4 m c t h
  · exact body_5 m c t h

theorem defs₀_row :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 1600000 in
/-- The run: every array of the pipeline at what the proof data give, every other buffer as the region found it, every
    semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.InP.InProjIdeal

end
-- ==== Proof.InP.Blocks.lean ====
/- The blocks of the input projection read off the arguments: the product of a tile and the rotation's tables, by the
   row and column of the whole. -/
module

public import proofs.«01_k».proof.Proof.InP.Host
public import proofs.«01_k».proof.Proof.InP.Pay
public import proofs.«01_k».proof.Proof.InP.InProjIdeal.Frame

@[expose] public section

set_option maxRecDepth 16384

noncomputable section

open Idealize.ShloMosaic Idealize.ShloMosaic.TcCoe Idealize.ShloMosaic.Pipeline Idealize.SL.Sem

namespace Cert.InPV
open Cert.InProjIdeal Cert.InProjIdeal.Gen Cert.InP.InProjIdeal

variable (m : (ℓ : Loc nD τ sig) → Buf (Elt Ideal) ℓ)

/-! ## The index maps over the grid -/

theorem idx_0 : ∀ t : Fin cfg0.N, win0_0.index t (0 : Fin 2) = t.val / 6 ∧ win0_0.index t (1 : Fin 2) = 0 :=
  (by decide +kernel : ∀ t : Fin grid0.N, _)
theorem idx_1 : ∀ t : Fin cfg0.N, win0_1.index t (0 : Fin 3) = t.val % 6 ∧ win0_1.index t (1 : Fin 3) = 0 ∧ win0_1.index t (2 : Fin 3) = 0 :=
  (by decide +kernel : ∀ t : Fin grid0.N, _)
theorem idx_2 : ∀ t : Fin cfg0.N, win0_2.index t (0 : Fin 2) = t.val / 6 % 16 ∧ win0_2.index t (1 : Fin 2) = 0 :=
  (by decide +kernel : ∀ t : Fin grid0.N, _)
theorem idx_3 : ∀ t : Fin cfg0.N, win0_3.index t (0 : Fin 2) = t.val / 6 % 16 ∧ win0_3.index t (1 : Fin 2) = 0 :=
  (by decide +kernel : ∀ t : Fin grid0.N, _)
theorem idx_4 : ∀ t : Fin cfg0.N, win0_4.index t (0 : Fin 2) = t.val / 6 % 16 ∧ win0_4.index t (1 : Fin 2) = 0 :=
  (by decide +kernel : ∀ t : Fin grid0.N, _)
theorem idx_5 : ∀ t : Fin cfg0.N, win0_5.index t (0 : Fin 2) = t.val / 6 % 16 ∧ win0_5.index t (1 : Fin 2) = 0 :=
  (by decide +kernel : ∀ t : Fin grid0.N, _)
theorem idx_6 : ∀ t : Fin cfg0.N, win0_6.index t (0 : Fin 2) = t.val / 6 % 16 ∧ win0_6.index t (1 : Fin 2) = 0 :=
  (by decide +kernel : ∀ t : Fin grid0.N, _)
theorem idx_7 : ∀ t : Fin cfg0.N, win0_7.index t (0 : Fin 2) = t.val / 6 % 16 ∧ win0_7.index t (1 : Fin 2) = 0 :=
  (by decide +kernel : ∀ t : Fin grid0.N, _)

/-! ## The blocks -/

theorem blk0 (c : Dev nD) (t : Fin cfg0.N) (r : Fin 512) (k : Fin 2048) : iblk m c 0 t (ix2 r k)
    = m ((c : Thread nD τ).loc main_arg0) (ix2 ⟨t.val / 6 * 512 + r.val, by have := lt_of_lt_of_eq t.isLt N_eq; omega⟩ k) := by
  obtain ⟨e0, e1⟩ := idx_0 t
  unfold iblk
  rw [show V m c (Pipeline.arrRef spec0 0) = _ from V_main_arg0 m c]
  refine congrArg (m ((c : Thread nD τ).loc main_arg0)) (funext fun a => Fin.ext ?_)
  match a with
  | ⟨0, _⟩ => show win0_0.index t (0 : Fin 2) * 512 + 1 * r.val = t.val / 6 * 512 + r.val; rw [e0]; omega
  | ⟨1, _⟩ => show win0_0.index t (1 : Fin 2) * 2048 + 1 * k.val = k.val; rw [e1]; omega

theorem blk1 (c : Dev nD) (t : Fin cfg0.N) (k : Fin 2048) (l : Fin 1024) : iblk m c 1 t (ix3 0 k l)
    = V m c main_v20 (ix3 ⟨t.val % 6, by omega⟩ k l) := by
  obtain ⟨e0, e1, e2⟩ := idx_1 t
  unfold iblk
  refine congrArg (V m c main_v20) (funext fun a => Fin.ext ?_)
  match a with
  | ⟨0, _⟩ => show win0_1.index t (0 : Fin 3) * 1 + 1 * 0 = t.val % 6; rw [e0]; omega
  | ⟨1, _⟩ => show win0_1.index t (1 : Fin 3) * 2048 + 1 * k.val = k.val; rw [e1]; omega
  | ⟨2, _⟩ => show win0_1.index t (2 : Fin 3) * 1024 + 1 * l.val = l.val; rw [e2]; omega

theorem pt_div (t : Fin cfg0.N) (j : Fin 6) : (pt t j).val / 6 = t.val / 6 := by
  show (t.val / 6 * 6 + j.val) / 6 = _
  omega

theorem pt_mod (t : Fin cfg0.N) (j : Fin 6) : (pt t j).val % 6 = j.val := by
  show (t.val / 6 * 6 + j.val) % 6 = _
  omega

theorem row_mod (t : Fin cfg0.N) (r : Fin 512) : t.val / 6 % 16 * 512 + r.val = (t.val / 6 * 512 + r.val) % 8192 := by omega

/-- The product of the two arguments. -/
abbrev P (c : Dev nD) : (⟨2, ![16384, 9808]⟩ : Shape).Idx → EReal :=
  prod (m ((c.tc : Thread nD τ).loc main_arg0)) (m ((c.tc : Thread nD τ).loc main_arg1))

/-- Row `r`, lane `q` of tile `j`'s product is the product's entry at that row and the tile's column. -/
theorem acc_eq (c : Dev nD) (t : Fin cfg0.N) (j : Fin 6) (r : Fin 512) (q col : ℕ) (hq : q < 1024) (hcol : col < 9808)
    (hW : ∀ k : Fin 2048, (V m c main_v20 (ix3 j k ⟨q, hq⟩) : EReal) = at2 (R := 2048) (C := 9808) (m ((c.tc : Thread nD τ).loc main_arg1)) k.val col) :
    acc (iblk m c 0 (pt t j)) (iblk m c 1 (pt t j)) r q = at2 (P m c) (t.val / 6 * 512 + r.val) col := by
  have hN := lt_of_lt_of_eq t.isLt N_eq
  rw [acc, dif_pos hq]
  refine Eq.trans ?_ (at2_of (P m c) ⟨t.val / 6 * 512 + r.val, by omega⟩ ⟨col, hcol⟩ _ _ rfl rfl)
  unfold P prod
  refine Finset.sum_congr rfl fun k _ => congrArg₂ (fun a b : EReal => a * b) ?_ ?_
  · refine (blk0 m c (pt t j) r k).trans (congrArg (m ((c : Thread nD τ).loc main_arg0)) (funext fun a => Fin.ext ?_))
    match a with
    | ⟨0, _⟩ => show (pt t j).val / 6 * 512 + r.val = t.val / 6 * 512 + r.val; rw [pt_div]
    | ⟨1, _⟩ => rfl
  · rw [blk1 m c (pt t j) k ⟨q, hq⟩, show (⟨(pt t j).val % 6, _⟩ : Fin 6) = j from Fin.ext (pt_mod t j), hW k]
    exact (at2_of (R := 2048) (C := 9808) _ k ⟨col, hcol⟩ _ _ rfl rfl).symm

theorem acc_0 (c : Dev nD) (t : Fin cfg0.N) (r : Fin 512) (q : ℕ) (hq : q < 1024) :
    acc (iblk m c 0 (pt t 0)) (iblk m c 1 (pt t 0)) r q = at2 (P m c) (t.val / 6 * 512 + r.val) (0 + q) :=
  acc_eq m c t 0 r q _ hq (by omega) fun k => Host.V_w0 m c k ⟨q, hq⟩

theorem acc_1 (c : Dev nD) (t : Fin cfg0.N) (r : Fin 512) (q : ℕ) (hq : q < 1024) :
    acc (iblk m c 0 (pt t 1)) (iblk m c 1 (pt t 1)) r q = at2 (P m c) (t.val / 6 * 512 + r.val) (1024 + q) :=
  acc_eq m c t 1 r q _ hq (by omega) fun k => Host.V_w1 m c k ⟨q, hq⟩

theorem acc_2 (c : Dev nD) (t : Fin cfg0.N) (r : Fin 512) (q : ℕ) (hq : q < 1024) :
    acc (iblk m c 0 (pt t 2)) (iblk m c 1 (pt t 2)) r q = at2 (P m c) (t.val / 6 * 512 + r.val) (2048 + q) :=
  acc_eq m c t 2 r q _ hq (by omega) fun k => Host.V_w2 m c k ⟨q, hq⟩

theorem acc_3 (c : Dev nD) (t : Fin cfg0.N) (r : Fin 512) (q : ℕ) (hq : q < 1024) :
    acc (iblk m c 0 (pt t 3)) (iblk m c 1 (pt t 3)) r q = at2 (P m c) (t.val / 6 * 512 + r.val) (3072 + q) :=
  acc_eq m c t 3 r q _ hq (by omega) fun k => Host.V_w3 m c k ⟨q, hq⟩

theorem acc_4 (c : Dev nD) (t : Fin cfg0.N) (r : Fin 512) (q : ℕ) (hq : q < 1024) :
    acc (iblk m c 0 (pt t 4)) (iblk m c 1 (pt t 4)) r q = at2 (P m c) (t.val / 6 * 512 + r.val) (4608 + q) :=
  acc_eq m c t 4 r q _ hq (by omega) fun k => Host.V_w4 m c k ⟨q, hq⟩

theorem acc_5a (c : Dev nD) (t : Fin cfg0.N) (r : Fin 512) (q : ℕ) (h0 : 0 ≤ q) (h1 : q < 512) :
    acc (iblk m c 0 (pt t 5)) (iblk m c 1 (pt t 5)) r q = at2 (P m c) (t.val / 6 * 512 + r.val) (4096 + (q - 0)) :=
  acc_eq m c t 5 r q _ (by omega) (by omega) fun k => Host.V_w5a m c k ⟨q, by omega⟩ h0 h1

theorem acc_5b (c : Dev nD) (t : Fin cfg0.N) (r : Fin 512) (q : ℕ) (h0 : 512 ≤ q) (h1 : q < 576) :
    acc (iblk m c 0 (pt t 5)) (iblk m c 1 (pt t 5)) r q = at2 (P m c) (t.val / 6 * 512 + r.val) (5632 + (q - 512)) :=
  acc_eq m c t 5 r q _ (by omega) (by omega) fun k => Host.V_w5b m c k ⟨q, by omega⟩ h0 h1

theorem acc_5c (c : Dev nD) (t : Fin cfg0.N) (r : Fin 512) (q : ℕ) (h0 : 640 ≤ q) (h1 : q < 656) :
    acc (iblk m c 0 (pt t 5)) (iblk m c 1 (pt t 5)) r q = at2 (P m c) (t.val / 6 * 512 + r.val) (5696 + (q - 640)) :=
  acc_eq m c t 5 r q _ (by omega) (by omega) fun k => Host.V_w5c m c k ⟨q, by omega⟩ h0 h1

theorem tab_2 (c : Dev nD) (t : Fin cfg0.N) (j : Fin 6) (r : Fin 512) (l : Fin 128) : (iblk m c 2 (pt t j) (ix2 r l) : EReal)
    = tabC 16 128 (fun k => Ideal.cos (angle 1107296256#32 ((t.val / 6 * 512 + r.val) % 8192) k)) l.val := by
  obtain ⟨e0, e1⟩ := idx_2 (pt t j)
  rw [← row_mod]
  refine Eq.trans ?_ (Host.V_v44 m c ⟨t.val / 6 % 16 * 512 + r.val, by omega⟩ l)
  unfold iblk
  refine congrArg (V m c main_v44) (funext fun a => Fin.ext ?_)
  match a with
  | ⟨0, _⟩ => show win0_2.index (pt t j) (0 : Fin 2) * 512 + 1 * r.val = t.val / 6 % 16 * 512 + r.val; rw [e0, pt_div]; omega
  | ⟨1, _⟩ => show win0_2.index (pt t j) (1 : Fin 2) * 128 + 1 * l.val = l.val; rw [e1]; omega

theorem tab_3 (c : Dev nD) (t : Fin cfg0.N) (j : Fin 6) (r : Fin 512) (l : Fin 128) : (iblk m c 3 (pt t j) (ix2 r l) : EReal)
    = tabL 16 128 (fun k => Ideal.sin (angle 1107296256#32 ((t.val / 6 * 512 + r.val) % 8192) k)) l.val := by
  obtain ⟨e0, e1⟩ := idx_3 (pt t j)
  rw [← row_mod]
  refine Eq.trans ?_ (Host.V_v51 m c ⟨t.val / 6 % 16 * 512 + r.val, by omega⟩ l)
  unfold iblk
  refine congrArg (V m c main_v51) (funext fun a => Fin.ext ?_)
  match a with
  | ⟨0, _⟩ => show win0_3.index (pt t j) (0 : Fin 2) * 512 + 1 * r.val = t.val / 6 % 16 * 512 + r.val; rw [e0, pt_div]; omega
  | ⟨1, _⟩ => show win0_3.index (pt t j) (1 : Fin 2) * 128 + 1 * l.val = l.val; rw [e1]; omega

theorem tab_4 (c : Dev nD) (t : Fin cfg0.N) (j : Fin 6) (r : Fin 512) (l : Fin 128) : (iblk m c 4 (pt t j) (ix2 r l) : EReal)
    = tabH 16 128 (fun k => Ideal.sin (angle 1107296256#32 ((t.val / 6 * 512 + r.val) % 8192) k)) l.val := by
  obtain ⟨e0, e1⟩ := idx_4 (pt t j)
  rw [← row_mod]
  refine Eq.trans ?_ (Host.V_v57 m c ⟨t.val / 6 % 16 * 512 + r.val, by omega⟩ l)
  unfold iblk
  refine congrArg (V m c main_v57) (funext fun a => Fin.ext ?_)
  match a with
  | ⟨0, _⟩ => show win0_4.index (pt t j) (0 : Fin 2) * 512 + 1 * r.val = t.val / 6 % 16 * 512 + r.val; rw [e0, pt_div]; omega
  | ⟨1, _⟩ => show win0_4.index (pt t j) (1 : Fin 2) * 128 + 1 * l.val = l.val; rw [e1]; omega

theorem tab_5 (c : Dev nD) (t : Fin cfg0.N) (j : Fin 6) (r : Fin 512) (l : Fin 128) : (iblk m c 5 (pt t j) (ix2 r l) : EReal)
    = tabC 8 64 (fun k => Ideal.cos (angle 1098907648#32 ((t.val / 6 * 512 + r.val) % 8192) k)) l.val := by
  obtain ⟨e0, e1⟩ := idx_5 (pt t j)
  rw [← row_mod]
  refine Eq.trans ?_ (Host.V_v80 m c ⟨t.val / 6 % 16 * 512 + r.val, by omega⟩ l)
  unfold iblk
  refine congrArg (V m c main_v80) (funext fun a => Fin.ext ?_)
  match a with
  | ⟨0, _⟩ => show win0_5.index (pt t j) (0 : Fin 2) * 512 + 1 * r.val = t.val / 6 % 16 * 512 + r.val; rw [e0, pt_div]; omega
  | ⟨1, _⟩ => show win0_5.index (pt t j) (1 : Fin 2) * 128 + 1 * l.val = l.val; rw [e1]; omega

theorem tab_6 (c : Dev nD) (t : Fin cfg0.N) (j : Fin 6) (r : Fin 512) (l : Fin 128) : (iblk m c 6 (pt t j) (ix2 r l) : EReal)
    = tabL 8 64 (fun k => Ideal.sin (angle 1098907648#32 ((t.val / 6 * 512 + r.val) % 8192) k)) l.val := by
  obtain ⟨e0, e1⟩ := idx_6 (pt t j)
  rw [← row_mod]
  refine Eq.trans ?_ (Host.V_v87 m c ⟨t.val / 6 % 16 * 512 + r.val, by omega⟩ l)
  unfold iblk
  refine congrArg (V m c main_v87) (funext fun a => Fin.ext ?_)
  match a with
  | ⟨0, _⟩ => show win0_6.index (pt t j) (0 : Fin 2) * 512 + 1 * r.val = t.val / 6 % 16 * 512 + r.val; rw [e0, pt_div]; omega
  | ⟨1, _⟩ => show win0_6.index (pt t j) (1 : Fin 2) * 128 + 1 * l.val = l.val; rw [e1]; omega

theorem tab_7 (c : Dev nD) (t : Fin cfg0.N) (j : Fin 6) (r : Fin 512) (l : Fin 128) : (iblk m c 7 (pt t j) (ix2 r l) : EReal)
    = tabH 8 64 (fun k => Ideal.sin (angle 1098907648#32 ((t.val / 6 * 512 + r.val) % 8192) k)) l.val := by
  obtain ⟨e0, e1⟩ := idx_7 (pt t j)
  rw [← row_mod]
  refine Eq.trans ?_ (Host.V_v93 m c ⟨t.val / 6 % 16 * 512 + r.val, by omega⟩ l)
  unfold iblk
  refine congrArg (V m c main_v93) (funext fun a => Fin.ext ?_)
  match a with
  | ⟨0, _⟩ => show win0_7.index (pt t j) (0 : Fin 2) * 512 + 1 * r.val = t.val / 6 % 16 * 512 + r.val; rw [e0, pt_div]; omega
  | ⟨1, _⟩ => show win0_7.index (pt t j) (1 : Fin 2) * 128 + 1 * l.val = l.val; rw [e1]; omega

end Cert.InPV

end
-- ==== Proof.InP.Ref.lean ====
/- What the reference of the input projection computes, result by result, at an index. -/
module

public import proofs.«01_k».proof.Proof.InP.Math
public import proofs.«01_k».proof.Proof.Gen.InProjRefIdeal.Run
public import proofs.«01_k».proof.Proof.Gen.InProjRefIdeal.Read

@[expose] public section

set_option maxRecDepth 16384

noncomputable section

open Idealize.ShloMosaic Idealize.ShloMosaic.TcCoe Idealize.SL.Sem

namespace Cert.InPV.Ref
open Cert.InProjRefIdeal Cert.InProjRefIdeal.Gen Cert.InProjRefIdeal.Read Cert.InPV

variable (x0 : (⟨S16384x2048, .bf16⟩ : BufTy).Contents (Elt Ideal)) (x1 : (⟨S2048x9808, .f32⟩ : BufTy).Contents (Elt Ideal))

theorem v1_eq : val_main_v1 (F := Ideal) x0 x1 = prod x0 x1 := by
  funext y
  unfold val_main_v1 val_main_v0 prod
  pointwise

theorem v30_eq : val_main_v30 (F := Ideal) = fun y : S8192x16.Idx => Ideal.cos (angle 1107296256#32 (y 0).val (y 1).val) := by
  funext y
  unfold val_main_v30 val_main_v29 val_main_v28 val_main_v27 val_main_v26 val_main_v25 val_main_v24 val_main_v23 val_main_v22 val_main_v21 val_main_v20 val_main_v19 val_main_v18 val_main_v17 val_main_v16 val_main_v15 val_main_v13 angle
  pointwise [val_main_cst, val_main_cst_0, val_main_cst_1, val_main_cst_2]

theorem v32_eq : val_main_v32 (F := Ideal) = fun y : S8192x16.Idx => Ideal.sin (angle 1107296256#32 (y 0).val (y 1).val) := by
  funext y
  unfold val_main_v32 val_main_v29 val_main_v28 val_main_v27 val_main_v26 val_main_v25 val_main_v24 val_main_v23 val_main_v22 val_main_v21 val_main_v20 val_main_v19 val_main_v18 val_main_v17 val_main_v16 val_main_v15 val_main_v13 angle
  pointwise [val_main_cst, val_main_cst_0, val_main_cst_1, val_main_cst_2]

theorem v69_eq : val_main_v69 (F := Ideal) = fun y : S8192x16.Idx => Ideal.cos (angle 1107296256#32 (y 0).val (y 1).val) := by
  funext y
  unfold val_main_v69 val_main_v68 val_main_v67 val_main_v66 val_main_v65 val_main_v64 val_main_v63 val_main_v62 val_main_v61 val_main_v60 val_main_v59 val_main_v58 val_main_v57 val_main_v56 val_main_v55 val_main_v54 val_main_v13 angle
  pointwise [val_main_cst_3, val_main_cst_4, val_main_cst_5, val_main_cst_6]

theorem v71_eq : val_main_v71 (F := Ideal) = fun y : S8192x16.Idx => Ideal.sin (angle 1107296256#32 (y 0).val (y 1).val) := by
  funext y
  unfold val_main_v71 val_main_v68 val_main_v67 val_main_v66 val_main_v65 val_main_v64 val_main_v63 val_main_v62 val_main_v61 val_main_v60 val_main_v59 val_main_v58 val_main_v57 val_main_v56 val_main_v55 val_main_v54 val_main_v13 angle
  pointwise [val_main_cst_3, val_main_cst_4, val_main_cst_5, val_main_cst_6]

theorem v108_eq : val_main_v108 (F := Ideal) = fun y : S8192x8.Idx => Ideal.cos (angle 1098907648#32 (y 0).val (y 1).val) := by
  funext y
  unfold val_main_v108 val_main_v107 val_main_v106 val_main_v105 val_main_v104 val_main_v103 val_main_v102 val_main_v101 val_main_v100 val_main_v99 val_main_v98 val_main_v97 val_main_v96 val_main_v95 val_main_v94 val_main_v93 val_main_v13 angle
  pointwise [val_main_cst_7, val_main_cst_8, val_main_cst_9, val_main_cst_10]

theorem v110_eq : val_main_v110 (F := Ideal) = fun y : S8192x8.Idx => Ideal.sin (angle 1098907648#32 (y 0).val (y 1).val) := by
  funext y
  unfold val_main_v110 val_main_v107 val_main_v106 val_main_v105 val_main_v104 val_main_v103 val_main_v102 val_main_v101 val_main_v100 val_main_v99 val_main_v98 val_main_v97 val_main_v96 val_main_v95 val_main_v94 val_main_v93 val_main_v13 angle
  pointwise [val_main_cst_7, val_main_cst_8, val_main_cst_9, val_main_cst_10]

theorem v147_eq : val_main_v147 (F := Ideal) = fun y : S8192x8.Idx => Ideal.cos (angle 1098907648#32 (y 0).val (y 1).val) := by
  funext y
  unfold val_main_v147 val_main_v146 val_main_v145 val_main_v144 val_main_v143 val_main_v142 val_main_v141 val_main_v140 val_main_v139 val_main_v138 val_main_v137 val_main_v136 val_main_v135 val_main_v134 val_main_v133 val_main_v132 val_main_v13 angle
  pointwise [val_main_cst_11, val_main_cst_12, val_main_cst_13, val_main_cst_14]

theorem v149_eq : val_main_v149 (F := Ideal) = fun y : S8192x8.Idx => Ideal.sin (angle 1098907648#32 (y 0).val (y 1).val) := by
  funext y
  unfold val_main_v149 val_main_v146 val_main_v145 val_main_v144 val_main_v143 val_main_v142 val_main_v141 val_main_v140 val_main_v139 val_main_v138 val_main_v137 val_main_v136 val_main_v135 val_main_v134 val_main_v133 val_main_v132 val_main_v13 angle
  pointwise [val_main_cst_11, val_main_cst_12, val_main_cst_13, val_main_cst_14]

theorem v52_eq : val_main_v52 (F := Ideal) x0 x1 = (ropes (· % 8192) 16 128 1107296256#32 3072 (prod x0 x1) : S16384x1024.Idx → EReal) := by
  funext y
  have h0 : (y 0).val < 16384 := (y 0).isLt
  have h1 : (y 1).val < 1024 := (y 1).isLt
  rw [val_main_v52_apply]
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v31
  rw [v30_eq, v32_eq]
  unfold val_main_v14 val_main_v5
  rw [v1_eq]
  unfold ropes
  generalize prod x0 x1 = X
  pointwise
  split
  · exact ropeAt_lo (· % 8192) 16 128 1107296256#32 3072 X (y 0).val (y 1).val (by (try dsimp only) <;> omega) _ _ _ _ _ rfl (by (try dsimp only) <;> omega) (by (try dsimp only) <;> omega) (by (try dsimp only) <;> omega) (by (try dsimp only) <;> omega)
  · split
    · exact ropeAt_mid (· % 8192) 16 128 1107296256#32 3072 X (y 0).val (y 1).val (by (try dsimp only) <;> omega) (by (try dsimp only) <;> omega) _ _ _ _ _ rfl (by (try dsimp only) <;> omega) (by (try dsimp only) <;> omega) (by (try dsimp only) <;> omega) (by (try dsimp only) <;> omega)
    · exact ropeAt_hi (· % 8192) 16 128 1107296256#32 3072 X (y 0).val (y 1).val (by (try dsimp only) <;> omega) (by (try dsimp only) <;> omega) _ _ rfl (by (try dsimp only) <;> omega)

theorem v91_eq : val_main_v91 (F := Ideal) x0 x1 = (ropes (· % 8192) 16 128 1107296256#32 4096 (prod x0 x1) : S16384x256.Idx → EReal) := by
  funext y
  have h0 : (y 0).val < 16384 := (y 0).isLt
  have h1 : (y 1).val < 256 := (y 1).isLt
  rw [val_main_v91_apply]
  unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v70
  rw [v69_eq, v71_eq]
  unfold val_main_v53 val_main_v6
  rw [v1_eq]
  unfold ropes
  generalize prod x0 x1 = X
  pointwise
  split
  · exact ropeAt_lo (· % 8192) 16 128 1107296256#32 4096 X (y 0).val (y 1).val (by (try dsimp only) <;> omega) _ _ _ _ _ rfl (by (try dsimp only) <;> omega) (by (try dsimp only) <;> omega) (by (try dsimp only) <;> omega) (by (try dsimp only) <;> omega)
  · split
    · exact ropeAt_mid (· % 8192) 16 128 1107296256#32 4096 X (y 0).val (y 1).val (by (try dsimp only) <;> omega) (by (try dsimp only) <;> omega) _ _ _ _ _ rfl (by (try dsimp only) <;> omega) (by (try dsimp only) <;> omega) (by (try dsimp only) <;> omega) (by (try dsimp only) <;> omega)
    · exact ropeAt_hi (· % 8192) 16 128 1107296256#32 4096 X (y 0).val (y 1).val (by (try dsimp only) <;> omega) (by (try dsimp only) <;> omega) _ _ rfl (by (try dsimp only) <;> omega)

theorem v130_eq : val_main_v130 (F := Ideal) x0 x1 = (ropes (· % 8192) 8 64 1098907648#32 4608 (prod x0 x1) : S16384x1024.Idx → EReal) := by
  funext y
  have h0 : (y 0).val < 16384 := (y 0).isLt
  have h1 : (y 1).val < 1024 := (y 1).isLt
  rw [val_main_v130_apply]
  unfold val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v109
  rw [v108_eq, v110_eq]
  unfold val_main_v92 val_main_v8
  rw [v1_eq]
  unfold ropes
  generalize prod x0 x1 = X
  pointwise
  split
  · exact ropeAt_lo (· % 8192) 8 64 1098907648#32 4608 X (y 0).val (y 1).val (by (try dsimp only) <;> omega) _ _ _ _ _ rfl (by (try dsimp only) <;> omega) (by (try dsimp only) <;> omega) (by (try dsimp only) <;> omega) (by (try dsimp only) <;> omega)
  · split
    · exact ropeAt_mid (· % 8192) 8 64 1098907648#32 4608 X (y 0).val (y 1).val (by (try dsimp only) <;> omega) (by (try dsimp only) <;> omega) _ _ _ _ _ rfl (by (try dsimp only) <;> omega) (by (try dsimp only) <;> omega) (by (try dsimp only) <;> omega) (by (try dsimp only) <;> omega)
    · exact ropeAt_hi (· % 8192) 8 64 1098907648#32 4608 X (y 0).val (y 1).val (by (try dsimp only) <;> omega) (by (try dsimp only) <;> omega) _ _ rfl (by (try dsimp only) <;> omega)

theorem v169_eq : val_main_v169 (F := Ideal) x0 x1 = (ropes (· % 8192) 8 64 1098907648#32 5632 (prod x0 x1) : S16384x64.Idx → EReal) := by
  funext y
  have h0 : (y 0).val < 16384 := (y 0).isLt
  have h1 : (y 1).val < 64 := (y 1).isLt
  rw [val_main_v169_apply]
  unfold val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v148
  rw [v147_eq, v149_eq]
  unfold val_main_v131 val_main_v9
  rw [v1_eq]
  unfold ropes
  generalize prod x0 x1 = X
  pointwise
  split
  · exact ropeAt_lo (· % 8192) 8 64 1098907648#32 5632 X (y 0).val (y 1).val (by (try dsimp only) <;> omega) _ _ _ _ _ rfl (by (try dsimp only) <;> omega) (by (try dsimp only) <;> omega) (by (try dsimp only) <;> omega) (by (try dsimp only) <;> omega)
  · split
    · exact ropeAt_mid (· % 8192) 8 64 1098907648#32 5632 X (y 0).val (y 1).val (by (try dsimp only) <;> omega) (by (try dsimp only) <;> omega) _ _ _ _ _ rfl (by (try dsimp only) <;> omega) (by (try dsimp only) <;> omega) (by (try dsimp only) <;> omega) (by (try dsimp only) <;> omega)
    · exact ropeAt_hi (· % 8192) 8 64 1098907648#32 5632 X (y 0).val (y 1).val (by (try dsimp only) <;> omega) (by (try dsimp only) <;> omega) _ _ rfl (by (try dsimp only) <;> omega)

theorem v3_eq : val_main_v3 (F := Ideal) x0 x1 = (cols 1024 (prod x0 x1) : S16384x1024.Idx → EReal) := by
  funext y
  unfold val_main_v3
  rw [v1_eq]
  unfold cols
  generalize prod x0 x1 = X
  pointwise
  exact at2_of X _ _ _ _ rfl rfl

theorem v4_eq : val_main_v4 (F := Ideal) x0 x1 = (cols 2048 (prod x0 x1) : S16384x1024.Idx → EReal) := by
  funext y
  unfold val_main_v4
  rw [v1_eq]
  unfold cols
  generalize prod x0 x1 = X
  pointwise
  exact at2_of X _ _ _ _ rfl rfl

theorem v172_eq : val_main_v172 (F := Ideal) x0 x1 = (cols 0 (prod x0 x1) : S16384x1024.Idx → EReal) := by
  funext y
  unfold val_main_v172 val_main_v2
  rw [v1_eq]
  unfold cols
  generalize prod x0 x1 = X
  pointwise
  exact at2_of X _ _ _ _ rfl rfl

theorem v173_eq : val_main_v173 (F := Ideal) x0 x1 = (cols 1024 (prod x0 x1) : S16384x1024.Idx → EReal) := by
  funext y
  unfold val_main_v173 val_main_v3
  rw [v1_eq]
  unfold cols
  generalize prod x0 x1 = X
  pointwise
  exact at2_of X _ _ _ _ rfl rfl

theorem v174_eq : val_main_v174 (F := Ideal) x0 x1 = (cols 2048 (prod x0 x1) : S16384x1024.Idx → EReal) := by
  funext y
  unfold val_main_v174 val_main_v4
  rw [v1_eq]
  unfold cols
  generalize prod x0 x1 = X
  pointwise
  exact at2_of X _ _ _ _ rfl rfl

theorem v7_eq : val_main_v7 (F := Ideal) x0 x1 = (cols 4352 (prod x0 x1) : S16384x256.Idx → EReal) := by
  funext y
  unfold val_main_v7
  rw [v1_eq]
  unfold cols
  generalize prod x0 x1 = X
  pointwise
  exact at2_of X _ _ _ _ rfl rfl

theorem v180_eq : val_main_v180 (F := Ideal) x0 x1 = (colsB (prod x0 x1) : S32x256x512.Idx → EReal) := by
  funext y
  unfold val_main_v180 val_main_v171 val_main_v170 val_main_v7
  rw [v1_eq]
  unfold colsB
  generalize prod x0 x1 = X
  pointwise
  exact at2_of X _ _ _ _ rfl rfl

theorem v182_eq : val_main_v182 (F := Ideal) x0 x1 = (colsT 5696 (prod x0 x1) : S16x16384.Idx → EReal) := by
  funext y
  unfold val_main_v182 val_main_v10
  rw [v1_eq]
  unfold colsT
  generalize prod x0 x1 = X
  pointwise
  exact at2_of X _ _ _ _ rfl rfl

theorem v176_eq : val_main_v176 (F := Ideal) x0 x1 = (ropesT (· % 8192) 16 128 1107296256#32 3072 (prod x0 x1) : S1024x16384.Idx → EReal) := by
  funext y
  unfold val_main_v176 val_main_v175
  rw [v52_eq]
  unfold ropes ropesT
  pointwise

theorem v178_eq : val_main_v178 (F := Ideal) x0 x1 = (ropesT (· % 8192) 8 64 1098907648#32 4608 (prod x0 x1) : S1024x16384.Idx → EReal) := by
  funext y
  unfold val_main_v178 val_main_v177
  rw [v130_eq]
  unfold ropes ropesT
  pointwise

theorem v179_eq : val_main_v179 (F := Ideal) x0 x1 = (ropes (· % 8192) 16 128 1107296256#32 4096 (prod x0 x1) : S16384x256.Idx → EReal) := by
  funext y
  unfold val_main_v179
  rw [v91_eq]
  unfold ropes
  pointwise

theorem v181_eq : val_main_v181 (F := Ideal) x0 x1 = (ropes (· % 8192) 8 64 1098907648#32 5632 (prod x0 x1) : S16384x64.Idx → EReal) := by
  funext y
  unfold val_main_v181
  rw [v169_eq]
  unfold ropes
  pointwise

end Cert.InPV.Ref

end
-- ==== Proof.InP.Value.lean ====
/- The kernel's results after its run, and the claim that they are the reference's. -/
module

public import proofs.«01_k».proof.Proof.InP.Blocks
public import proofs.«01_k».proof.Proof.InP.Ref
public import proofs.«01_k».proof.Proof.InP.InProj.Frame
public import proofs.«01_k».proof.Defs

@[expose] public section

set_option maxRecDepth 16384

noncomputable section

open Idealize.ShloMosaic Idealize.ShloMosaic.TcCoe Idealize.ShloMosaic.Pipeline Idealize.SL.Sem

namespace Cert.InPV

section Ker
open Cert.InPK Cert.InProjIdeal Cert.InProjIdeal.Gen Cert.InP.InProjIdeal

variable (m : (ℓ : Loc nD τ sig) → Buf (Elt Ideal) ℓ) (ρ : Dev nD → PrngReg)

theorem last (q : Fin 32) : ∃ t : Fin cfg0.N, t.val % 6 = 5 ∧ t.val / 6 = q.val :=
  ⟨⟨q.val * 6 + 5, lt_of_lt_of_eq (by omega : q.val * 6 + 5 < 192) N_0.symm⟩, by dsimp only; omega, by dsimp only; omega⟩

/-! ## Result 0 -/

abbrev res8 (c : Dev nD) : S16384x1024.Idx → EReal := cols 0 (P m c)

theorem idx_8 : ∀ t : Fin cfg0.N, win0_8.index t (0 : Fin 2) = t.val / 6 ∧ win0_8.index t (1 : Fin 2) = 0 :=
  (by decide +kernel : ∀ t : Fin grid0.N, _)

theorem flushed8 (c : Dev nD) (t : Fin cfg0.N) :
    (dats m 0 c).flushed 8 t = ((cfg0.win 8).blk t).view.read (Elt Ideal) (res8 m c) := by
  show (cfg0.win 8).cut (grid0.coords t) ((dats m 0 c).after 8 t) = _
  rw [after0_8]
  obtain ⟨e0, e1⟩ := idx_8 t
  funext y
  have h0 : (y 0).val < 512 := (y 0).isLt
  have h1 : (y 1).val < 1024 := (y 1).isLt
  refine (o8_apply _ _ y).trans ?_
  refine (acc_0 m c t (y 0) (y 1).val h1).trans ?_
  show _ = at2 (P m c) (win0_8.index t (0 : Fin 2) * 512 + 1 * (y 0).val) (0 + (win0_8.index t (1 : Fin 2) * 1024 + 1 * (y 1).val))
  rw [e0, e1]
  exact congrArg₂ (at2 (P m c)) (by omega) (by omega)

theorem final8 (c : Dev nD) : (dats m 0 c).arrAt 8 cfg0.N = res8 m c :=
  (dats m 0 c).arrAt_eq_of_cover 8 _ (fun t _ => flushed8 m c t) (fun i => by
    have h0 : (i 0).val < 16384 := (i 0).isLt
    have h1 : (i 1).val < 1024 := (i 1).isLt
    obtain ⟨t, h5, ht⟩ := last ⟨(i 0).val / 512, by omega⟩
    dsimp only at ht
    obtain ⟨e0, e1⟩ := idx_8 t
    refine ⟨t, (flush0_8 t).mpr h5, ?_⟩
    show i ∈ ((View.whole main_v94_0).slice (win0_8.rect t)).set
    rw [View.set_slice_whole, Rect.mem_set_unit]
    exact all2 (within 512 e0 (by omega)) (within 1024 e1 (by omega)))

/-! ## Result 1 -/

abbrev res9 (c : Dev nD) : S16384x1024.Idx → EReal := cols 1024 (P m c)

theorem idx_9 : ∀ t : Fin cfg0.N, win0_9.index t (0 : Fin 2) = t.val / 6 ∧ win0_9.index t (1 : Fin 2) = 0 :=
  (by decide +kernel : ∀ t : Fin grid0.N, _)

theorem flushed9 (c : Dev nD) (t : Fin cfg0.N) :
    (dats m 0 c).flushed 9 t = ((cfg0.win 9).blk t).view.read (Elt Ideal) (res9 m c) := by
  show (cfg0.win 9).cut (grid0.coords t) ((dats m 0 c).after 9 t) = _
  rw [after0_9]
  obtain ⟨e0, e1⟩ := idx_9 t
  funext y
  have h0 : (y 0).val < 512 := (y 0).isLt
  have h1 : (y 1).val < 1024 := (y 1).isLt
  refine (o9_apply _ _ y).trans ?_
  refine (acc_1 m c t (y 0) (y 1).val h1).trans ?_
  show _ = at2 (P m c) (win0_9.index t (0 : Fin 2) * 512 + 1 * (y 0).val) (1024 + (win0_9.index t (1 : Fin 2) * 1024 + 1 * (y 1).val))
  rw [e0, e1]
  exact congrArg₂ (at2 (P m c)) (by omega) (by omega)

theorem final9 (c : Dev nD) : (dats m 0 c).arrAt 9 cfg0.N = res9 m c :=
  (dats m 0 c).arrAt_eq_of_cover 9 _ (fun t _ => flushed9 m c t) (fun i => by
    have h0 : (i 0).val < 16384 := (i 0).isLt
    have h1 : (i 1).val < 1024 := (i 1).isLt
    obtain ⟨t, h5, ht⟩ := last ⟨(i 0).val / 512, by omega⟩
    dsimp only at ht
    obtain ⟨e0, e1⟩ := idx_9 t
    refine ⟨t, (flush0_9 t).mpr h5, ?_⟩
    show i ∈ ((View.whole main_v94_1).slice (win0_9.rect t)).set
    rw [View.set_slice_whole, Rect.mem_set_unit]
    exact all2 (within 512 e0 (by omega)) (within 1024 e1 (by omega)))

/-! ## Result 2 -/

abbrev res10 (c : Dev nD) : S16384x1024.Idx → EReal := cols 1024 (P m c)

theorem idx_10 : ∀ t : Fin cfg0.N, win0_10.index t (0 : Fin 2) = t.val / 6 ∧ win0_10.index t (1 : Fin 2) = 0 :=
  (by decide +kernel : ∀ t : Fin grid0.N, _)

theorem flushed10 (c : Dev nD) (t : Fin cfg0.N) :
    (dats m 0 c).flushed 10 t = ((cfg0.win 10).blk t).view.read (Elt Ideal) (res10 m c) := by
  show (cfg0.win 10).cut (grid0.coords t) ((dats m 0 c).after 10 t) = _
  rw [after0_10]
  obtain ⟨e0, e1⟩ := idx_10 t
  funext y
  have h0 : (y 0).val < 512 := (y 0).isLt
  have h1 : (y 1).val < 1024 := (y 1).isLt
  refine (o10_apply _ _ y).trans ?_
  refine (acc_1 m c t (y 0) (y 1).val h1).trans ?_
  show _ = at2 (P m c) (win0_10.index t (0 : Fin 2) * 512 + 1 * (y 0).val) (1024 + (win0_10.index t (1 : Fin 2) * 1024 + 1 * (y 1).val))
  rw [e0, e1]
  exact congrArg₂ (at2 (P m c)) (by omega) (by omega)

theorem final10 (c : Dev nD) : (dats m 0 c).arrAt 10 cfg0.N = res10 m c :=
  (dats m 0 c).arrAt_eq_of_cover 10 _ (fun t _ => flushed10 m c t) (fun i => by
    have h0 : (i 0).val < 16384 := (i 0).isLt
    have h1 : (i 1).val < 1024 := (i 1).isLt
    obtain ⟨t, h5, ht⟩ := last ⟨(i 0).val / 512, by omega⟩
    dsimp only at ht
    obtain ⟨e0, e1⟩ := idx_10 t
    refine ⟨t, (flush0_10 t).mpr h5, ?_⟩
    show i ∈ ((View.whole main_v94_2).slice (win0_10.rect t)).set
    rw [View.set_slice_whole, Rect.mem_set_unit]
    exact all2 (within 512 e0 (by omega)) (within 1024 e1 (by omega)))

/-! ## Result 3 -/

abbrev res11 (c : Dev nD) : S16384x1024.Idx → EReal := cols 2048 (P m c)

theorem idx_11 : ∀ t : Fin cfg0.N, win0_11.index t (0 : Fin 2) = t.val / 6 ∧ win0_11.index t (1 : Fin 2) = 0 :=
  (by decide +kernel : ∀ t : Fin grid0.N, _)

theorem flushed11 (c : Dev nD) (t : Fin cfg0.N) :
    (dats m 0 c).flushed 11 t = ((cfg0.win 11).blk t).view.read (Elt Ideal) (res11 m c) := by
  show (cfg0.win 11).cut (grid0.coords t) ((dats m 0 c).after 11 t) = _
  rw [after0_11]
  obtain ⟨e0, e1⟩ := idx_11 t
  funext y
  have h0 : (y 0).val < 512 := (y 0).isLt
  have h1 : (y 1).val < 1024 := (y 1).isLt
  refine (o11_apply _ _ y).trans ?_
  refine (acc_2 m c t (y 0) (y 1).val h1).trans ?_
  show _ = at2 (P m c) (win0_11.index t (0 : Fin 2) * 512 + 1 * (y 0).val) (2048 + (win0_11.index t (1 : Fin 2) * 1024 + 1 * (y 1).val))
  rw [e0, e1]
  exact congrArg₂ (at2 (P m c)) (by omega) (by omega)

theorem final11 (c : Dev nD) : (dats m 0 c).arrAt 11 cfg0.N = res11 m c :=
  (dats m 0 c).arrAt_eq_of_cover 11 _ (fun t _ => flushed11 m c t) (fun i => by
    have h0 : (i 0).val < 16384 := (i 0).isLt
    have h1 : (i 1).val < 1024 := (i 1).isLt
    obtain ⟨t, h5, ht⟩ := last ⟨(i 0).val / 512, by omega⟩
    dsimp only at ht
    obtain ⟨e0, e1⟩ := idx_11 t
    refine ⟨t, (flush0_11 t).mpr h5, ?_⟩
    show i ∈ ((View.whole main_v94_3).slice (win0_11.rect t)).set
    rw [View.set_slice_whole, Rect.mem_set_unit]
    exact all2 (within 512 e0 (by omega)) (within 1024 e1 (by omega)))

/-! ## Result 4 -/

abbrev res12 (c : Dev nD) : S16384x1024.Idx → EReal := cols 2048 (P m c)

theorem idx_12 : ∀ t : Fin cfg0.N, win0_12.index t (0 : Fin 2) = t.val / 6 ∧ win0_12.index t (1 : Fin 2) = 0 :=
  (by decide +kernel : ∀ t : Fin grid0.N, _)

theorem flushed12 (c : Dev nD) (t : Fin cfg0.N) :
    (dats m 0 c).flushed 12 t = ((cfg0.win 12).blk t).view.read (Elt Ideal) (res12 m c) := by
  show (cfg0.win 12).cut (grid0.coords t) ((dats m 0 c).after 12 t) = _
  rw [after0_12]
  obtain ⟨e0, e1⟩ := idx_12 t
  funext y
  have h0 : (y 0).val < 512 := (y 0).isLt
  have h1 : (y 1).val < 1024 := (y 1).isLt
  refine (o12_apply _ _ y).trans ?_
  refine (acc_2 m c t (y 0) (y 1).val h1).trans ?_
  show _ = at2 (P m c) (win0_12.index t (0 : Fin 2) * 512 + 1 * (y 0).val) (2048 + (win0_12.index t (1 : Fin 2) * 1024 + 1 * (y 1).val))
  rw [e0, e1]
  exact congrArg₂ (at2 (P m c)) (by omega) (by omega)

theorem final12 (c : Dev nD) : (dats m 0 c).arrAt 12 cfg0.N = res12 m c :=
  (dats m 0 c).arrAt_eq_of_cover 12 _ (fun t _ => flushed12 m c t) (fun i => by
    have h0 : (i 0).val < 16384 := (i 0).isLt
    have h1 : (i 1).val < 1024 := (i 1).isLt
    obtain ⟨t, h5, ht⟩ := last ⟨(i 0).val / 512, by omega⟩
    dsimp only at ht
    obtain ⟨e0, e1⟩ := idx_12 t
    refine ⟨t, (flush0_12 t).mpr h5, ?_⟩
    show i ∈ ((View.whole main_v94_4).slice (win0_12.rect t)).set
    rw [View.set_slice_whole, Rect.mem_set_unit]
    exact all2 (within 512 e0 (by omega)) (within 1024 e1 (by omega)))

/-! ## Result 5 -/

abbrev res13 (c : Dev nD) : S1024x16384.Idx → EReal := ropesT (· % 8192) 16 128 1107296256#32 3072 (P m c)

theorem idx_13 : ∀ t : Fin cfg0.N, win0_13.index t (0 : Fin 2) = 0 ∧ win0_13.index t (1 : Fin 2) = t.val / 6 :=
  (by decide +kernel : ∀ t : Fin grid0.N, _)

theorem flushed13 (c : Dev nD) (t : Fin cfg0.N) :
    (dats m 0 c).flushed 13 t = ((cfg0.win 13).blk t).view.read (Elt Ideal) (res13 m c) := by
  show (cfg0.win 13).cut (grid0.coords t) ((dats m 0 c).after 13 t) = _
  rw [after0_13]
  obtain ⟨e0, e1⟩ := idx_13 t
  funext y
  have h0 : (y 0).val < 1024 := (y 0).isLt
  have h1 : (y 1).val < 512 := (y 1).isLt
  refine (o13_apply _ _ _ _ _ y).trans ?_
  refine (rot_rope (· % 8192) 16 128 (by decide) (by decide) 1107296256#32 3072 (P m c) (t.val / 6 * 512 + (y 1).val) _ _ _ _ _ 0 (y 0).val (by omega) (by decide)
    (fun l => tab_2 m c t 3 (y 1) l) (fun l => tab_3 m c t 3 (y 1) l) (fun l => tab_4 m c t 3 (y 1) l)
    (fun l hl => (acc_3 m c t (y 1) _ (by omega)).trans (congrArg (at2 (P m c) _) (by omega)))).trans ?_
  show _ = ropeAt (· % 8192) 16 128 1107296256#32 3072 (P m c) (win0_13.index t (1 : Fin 2) * 512 + 1 * (y 1).val) (win0_13.index t (0 : Fin 2) * 1024 + 1 * (y 0).val)
  rw [e0, e1]
  exact congrArg₂ (ropeAt (· % 8192) 16 128 1107296256#32 3072 (P m c)) (by omega) (by omega)

theorem final13 (c : Dev nD) : (dats m 0 c).arrAt 13 cfg0.N = res13 m c :=
  (dats m 0 c).arrAt_eq_of_cover 13 _ (fun t _ => flushed13 m c t) (fun i => by
    have h0 : (i 0).val < 1024 := (i 0).isLt
    have h1 : (i 1).val < 16384 := (i 1).isLt
    obtain ⟨t, h5, ht⟩ := last ⟨(i 1).val / 512, by omega⟩
    dsimp only at ht
    obtain ⟨e0, e1⟩ := idx_13 t
    refine ⟨t, (flush0_13 t).mpr h5, ?_⟩
    show i ∈ ((View.whole main_v94_5).slice (win0_13.rect t)).set
    rw [View.set_slice_whole, Rect.mem_set_unit]
    exact all2 (within 1024 e0 (by omega)) (within 512 e1 (by omega)))

/-! ## Result 6 -/

abbrev res14 (c : Dev nD) : S1024x16384.Idx → EReal := ropesT (· % 8192) 8 64 1098907648#32 4608 (P m c)

theorem idx_14 : ∀ t : Fin cfg0.N, win0_14.index t (0 : Fin 2) = 0 ∧ win0_14.index t (1 : Fin 2) = t.val / 6 :=
  (by decide +kernel : ∀ t : Fin grid0.N, _)

theorem flushed14 (c : Dev nD) (t : Fin cfg0.N) :
    (dats m 0 c).flushed 14 t = ((cfg0.win 14).blk t).view.read (Elt Ideal) (res14 m c) := by
  show (cfg0.win 14).cut (grid0.coords t) ((dats m 0 c).after 14 t) = _
  rw [after0_14]
  obtain ⟨e0, e1⟩ := idx_14 t
  funext y
  have h0 : (y 0).val < 1024 := (y 0).isLt
  have h1 : (y 1).val < 512 := (y 1).isLt
  refine (o14_apply _ _ _ _ _ y).trans ?_
  refine (rot_rope (· % 8192) 8 64 (by decide) (by decide) 1098907648#32 4608 (P m c) (t.val / 6 * 512 + (y 1).val) _ _ _ _ _ 0 (y 0).val (by omega) (by decide)
    (fun l => tab_5 m c t 4 (y 1) l) (fun l => tab_6 m c t 4 (y 1) l) (fun l => tab_7 m c t 4 (y 1) l)
    (fun l hl => (acc_4 m c t (y 1) _ (by omega)).trans (congrArg (at2 (P m c) _) (by omega)))).trans ?_
  show _ = ropeAt (· % 8192) 8 64 1098907648#32 4608 (P m c) (win0_14.index t (1 : Fin 2) * 512 + 1 * (y 1).val) (win0_14.index t (0 : Fin 2) * 1024 + 1 * (y 0).val)
  rw [e0, e1]
  exact congrArg₂ (ropeAt (· % 8192) 8 64 1098907648#32 4608 (P m c)) (by omega) (by omega)

theorem final14 (c : Dev nD) : (dats m 0 c).arrAt 14 cfg0.N = res14 m c :=
  (dats m 0 c).arrAt_eq_of_cover 14 _ (fun t _ => flushed14 m c t) (fun i => by
    have h0 : (i 0).val < 1024 := (i 0).isLt
    have h1 : (i 1).val < 16384 := (i 1).isLt
    obtain ⟨t, h5, ht⟩ := last ⟨(i 1).val / 512, by omega⟩
    dsimp only at ht
    obtain ⟨e0, e1⟩ := idx_14 t
    refine ⟨t, (flush0_14 t).mpr h5, ?_⟩
    show i ∈ ((View.whole main_v94_6).slice (win0_14.rect t)).set
    rw [View.set_slice_whole, Rect.mem_set_unit]
    exact all2 (within 1024 e0 (by omega)) (within 512 e1 (by omega)))

/-! ## Result 7 -/

abbrev res15 (c : Dev nD) : S16384x256.Idx → EReal := ropes (· % 8192) 16 128 1107296256#32 4096 (P m c)

theorem idx_15 : ∀ t : Fin cfg0.N, win0_15.index t (0 : Fin 2) = t.val / 6 ∧ win0_15.index t (1 : Fin 2) = 0 :=
  (by decide +kernel : ∀ t : Fin grid0.N, _)

theorem flushed15 (c : Dev nD) (t : Fin cfg0.N) :
    (dats m 0 c).flushed 15 t = ((cfg0.win 15).blk t).view.read (Elt Ideal) (res15 m c) := by
  show (cfg0.win 15).cut (grid0.coords t) ((dats m 0 c).after 15 t) = _
  rw [after0_15]
  obtain ⟨e0, e1⟩ := idx_15 t
  funext y
  have h0 : (y 0).val < 512 := (y 0).isLt
  have h1 : (y 1).val < 256 := (y 1).isLt
  refine (o15_apply _ _ _ _ _ y).trans ?_
  refine (rot_rope (· % 8192) 16 128 (by decide) (by decide) 1107296256#32 4096 (P m c) (t.val / 6 * 512 + (y 0).val) _ _ _ _ _ 0 (y 1).val (by omega) (by decide)
    (fun l => tab_2 m c t 5 (y 0) l) (fun l => tab_3 m c t 5 (y 0) l) (fun l => tab_4 m c t 5 (y 0) l)
    (fun l hl => (acc_5a m c t (y 0) _ (by omega) (by omega)).trans (congrArg (at2 (P m c) _) (by omega)))).trans ?_
  show _ = ropeAt (· % 8192) 16 128 1107296256#32 4096 (P m c) (win0_15.index t (0 : Fin 2) * 512 + 1 * (y 0).val) (win0_15.index t (1 : Fin 2) * 256 + 1 * (y 1).val)
  rw [e0, e1]
  exact congrArg₂ (ropeAt (· % 8192) 16 128 1107296256#32 4096 (P m c)) (by omega) (by omega)

theorem final15 (c : Dev nD) : (dats m 0 c).arrAt 15 cfg0.N = res15 m c :=
  (dats m 0 c).arrAt_eq_of_cover 15 _ (fun t _ => flushed15 m c t) (fun i => by
    have h0 : (i 0).val < 16384 := (i 0).isLt
    have h1 : (i 1).val < 256 := (i 1).isLt
    obtain ⟨t, h5, ht⟩ := last ⟨(i 0).val / 512, by omega⟩
    dsimp only at ht
    obtain ⟨e0, e1⟩ := idx_15 t
    refine ⟨t, (flush0_15 t).mpr h5, ?_⟩
    show i ∈ ((View.whole main_v94_7).slice (win0_15.rect t)).set
    rw [View.set_slice_whole, Rect.mem_set_unit]
    exact all2 (within 512 e0 (by omega)) (within 256 e1 (by omega)))

/-! ## Result 8 -/

abbrev res16 (c : Dev nD) : S16384x256.Idx → EReal := ropes (· % 8192) 16 128 1107296256#32 4096 (P m c)

theorem idx_16 : ∀ t : Fin cfg0.N, win0_16.index t (0 : Fin 2) = t.val / 6 ∧ win0_16.index t (1 : Fin 2) = 0 :=
  (by decide +kernel : ∀ t : Fin grid0.N, _)

theorem flushed16 (c : Dev nD) (t : Fin cfg0.N) :
    (dats m 0 c).flushed 16 t = ((cfg0.win 16).blk t).view.read (Elt Ideal) (res16 m c) := by
  show (cfg0.win 16).cut (grid0.coords t) ((dats m 0 c).after 16 t) = _
  rw [after0_16]
  obtain ⟨e0, e1⟩ := idx_16 t
  funext y
  have h0 : (y 0).val < 512 := (y 0).isLt
  have h1 : (y 1).val < 256 := (y 1).isLt
  refine (o16_apply _ _ _ _ _ y).trans ?_
  refine (rot_rope (· % 8192) 16 128 (by decide) (by decide) 1107296256#32 4096 (P m c) (t.val / 6 * 512 + (y 0).val) _ _ _ _ _ 0 (y 1).val (by omega) (by decide)
    (fun l => tab_2 m c t 5 (y 0) l) (fun l => tab_3 m c t 5 (y 0) l) (fun l => tab_4 m c t 5 (y 0) l)
    (fun l hl => (acc_5a m c t (y 0) _ (by omega) (by omega)).trans (congrArg (at2 (P m c) _) (by omega)))).trans ?_
  show _ = ropeAt (· % 8192) 16 128 1107296256#32 4096 (P m c) (win0_16.index t (0 : Fin 2) * 512 + 1 * (y 0).val) (win0_16.index t (1 : Fin 2) * 256 + 1 * (y 1).val)
  rw [e0, e1]
  exact congrArg₂ (ropeAt (· % 8192) 16 128 1107296256#32 4096 (P m c)) (by omega) (by omega)

theorem final16 (c : Dev nD) : (dats m 0 c).arrAt 16 cfg0.N = res16 m c :=
  (dats m 0 c).arrAt_eq_of_cover 16 _ (fun t _ => flushed16 m c t) (fun i => by
    have h0 : (i 0).val < 16384 := (i 0).isLt
    have h1 : (i 1).val < 256 := (i 1).isLt
    obtain ⟨t, h5, ht⟩ := last ⟨(i 0).val / 512, by omega⟩
    dsimp only at ht
    obtain ⟨e0, e1⟩ := idx_16 t
    refine ⟨t, (flush0_16 t).mpr h5, ?_⟩
    show i ∈ ((View.whole main_v94_8).slice (win0_16.rect t)).set
    rw [View.set_slice_whole, Rect.mem_set_unit]
    exact all2 (within 512 e0 (by omega)) (within 256 e1 (by omega)))

/-! ## Result 9 -/

abbrev res17 (c : Dev nD) : S16384x256.Idx → EReal := cols 4352 (P m c)

theorem idx_17 : ∀ t : Fin cfg0.N, win0_17.index t (0 : Fin 2) = t.val / 6 ∧ win0_17.index t (1 : Fin 2) = 0 :=
  (by decide +kernel : ∀ t : Fin grid0.N, _)

theorem flushed17 (c : Dev nD) (t : Fin cfg0.N) :
    (dats m 0 c).flushed 17 t = ((cfg0.win 17).blk t).view.read (Elt Ideal) (res17 m c) := by
  show (cfg0.win 17).cut (grid0.coords t) ((dats m 0 c).after 17 t) = _
  rw [after0_17]
  obtain ⟨e0, e1⟩ := idx_17 t
  funext y
  have h0 : (y 0).val < 512 := (y 0).isLt
  have h1 : (y 1).val < 256 := (y 1).isLt
  refine (o17_apply _ _ y).trans ?_
  refine (acc_5a m c t (y 0) (256 + (y 1).val) (by omega) (by omega)).trans ?_
  show _ = at2 (P m c) (win0_17.index t (0 : Fin 2) * 512 + 1 * (y 0).val) (4352 + (win0_17.index t (1 : Fin 2) * 256 + 1 * (y 1).val))
  rw [e0, e1]
  exact congrArg₂ (at2 (P m c)) (by omega) (by omega)

theorem final17 (c : Dev nD) : (dats m 0 c).arrAt 17 cfg0.N = res17 m c :=
  (dats m 0 c).arrAt_eq_of_cover 17 _ (fun t _ => flushed17 m c t) (fun i => by
    have h0 : (i 0).val < 16384 := (i 0).isLt
    have h1 : (i 1).val < 256 := (i 1).isLt
    obtain ⟨t, h5, ht⟩ := last ⟨(i 0).val / 512, by omega⟩
    dsimp only at ht
    obtain ⟨e0, e1⟩ := idx_17 t
    refine ⟨t, (flush0_17 t).mpr h5, ?_⟩
    show i ∈ ((View.whole main_v94_9).slice (win0_17.rect t)).set
    rw [View.set_slice_whole, Rect.mem_set_unit]
    exact all2 (within 512 e0 (by omega)) (within 256 e1 (by omega)))

/-! ## Result 10 -/

abbrev res18 (c : Dev nD) : S32x256x512.Idx → EReal := colsB (P m c)

theorem idx_18 : ∀ t : Fin cfg0.N, win0_18.index t (0 : Fin 3) = t.val / 6 ∧ win0_18.index t (1 : Fin 3) = 0 ∧ win0_18.index t (2 : Fin 3) = 0 :=
  (by decide +kernel : ∀ t : Fin grid0.N, _)

theorem flushed18 (c : Dev nD) (t : Fin cfg0.N) :
    (dats m 0 c).flushed 18 t = ((cfg0.win 18).blk t).view.read (Elt Ideal) (res18 m c) := by
  show (cfg0.win 18).cut (grid0.coords t) ((dats m 0 c).after 18 t) = _
  rw [after0_18]
  obtain ⟨e0, e1, e2⟩ := idx_18 t
  funext y
  have h0 : (y 0).val < 1 := (y 0).isLt
  have h1 : (y 1).val < 256 := (y 1).isLt
  have h2 : (y 2).val < 512 := (y 2).isLt
  refine (o18_apply _ _ y).trans ?_
  refine (acc_5a m c t (y 2) (256 + (y 1).val) (by omega) (by omega)).trans ?_
  show _ = at2 (P m c) ((win0_18.index t (0 : Fin 3) * 1 + 1 * (y 0).val) * 512 + (win0_18.index t (2 : Fin 3) * 512 + 1 * (y 2).val)) (4352 + (win0_18.index t (1 : Fin 3) * 256 + 1 * (y 1).val))
  rw [e0, e1, e2]
  exact congrArg₂ (at2 (P m c)) (by omega) (by omega)

theorem final18 (c : Dev nD) : (dats m 0 c).arrAt 18 cfg0.N = res18 m c :=
  (dats m 0 c).arrAt_eq_of_cover 18 _ (fun t _ => flushed18 m c t) (fun i => by
    have h0 : (i 0).val < 32 := (i 0).isLt
    have h1 : (i 1).val < 256 := (i 1).isLt
    have h2 : (i 2).val < 512 := (i 2).isLt
    obtain ⟨t, h5, ht⟩ := last ⟨(i 0).val, by omega⟩
    dsimp only at ht
    obtain ⟨e0, e1, e2⟩ := idx_18 t
    refine ⟨t, (flush0_18 t).mpr h5, ?_⟩
    show i ∈ ((View.whole main_v94_10).slice (win0_18.rect t)).set
    rw [View.set_slice_whole, Rect.mem_set_unit]
    exact all3 (within 1 e0 (by omega)) (within 256 e1 (by omega)) (within 512 e2 (by omega)))

/-! ## Result 11 -/

abbrev res19 (c : Dev nD) : S16384x64.Idx → EReal := ropes (· % 8192) 8 64 1098907648#32 5632 (P m c)

theorem idx_19 : ∀ t : Fin cfg0.N, win0_19.index t (0 : Fin 2) = t.val / 6 ∧ win0_19.index t (1 : Fin 2) = 0 :=
  (by decide +kernel : ∀ t : Fin grid0.N, _)

theorem flushed19 (c : Dev nD) (t : Fin cfg0.N) :
    (dats m 0 c).flushed 19 t = ((cfg0.win 19).blk t).view.read (Elt Ideal) (res19 m c) := by
  show (cfg0.win 19).cut (grid0.coords t) ((dats m 0 c).after 19 t) = _
  rw [after0_19]
  obtain ⟨e0, e1⟩ := idx_19 t
  funext y
  have h0 : (y 0).val < 512 := (y 0).isLt
  have h1 : (y 1).val < 64 := (y 1).isLt
  refine (o19_apply _ _ _ _ _ y).trans ?_
  refine (rot_rope (· % 8192) 8 64 (by decide) (by decide) 1098907648#32 5632 (P m c) (t.val / 6 * 512 + (y 0).val) _ _ _ _ _ 512 (y 1).val (by omega) (by decide)
    (fun l => tab_5 m c t 5 (y 0) l) (fun l => tab_6 m c t 5 (y 0) l) (fun l => tab_7 m c t 5 (y 0) l)
    (fun l hl => (acc_5b m c t (y 0) _ (by omega) (by omega)).trans (congrArg (at2 (P m c) _) (by omega)))).trans ?_
  show _ = ropeAt (· % 8192) 8 64 1098907648#32 5632 (P m c) (win0_19.index t (0 : Fin 2) * 512 + 1 * (y 0).val) (win0_19.index t (1 : Fin 2) * 64 + 1 * (y 1).val)
  rw [e0, e1]
  exact congrArg₂ (ropeAt (· % 8192) 8 64 1098907648#32 5632 (P m c)) (by omega) (by omega)

theorem final19 (c : Dev nD) : (dats m 0 c).arrAt 19 cfg0.N = res19 m c :=
  (dats m 0 c).arrAt_eq_of_cover 19 _ (fun t _ => flushed19 m c t) (fun i => by
    have h0 : (i 0).val < 16384 := (i 0).isLt
    have h1 : (i 1).val < 64 := (i 1).isLt
    obtain ⟨t, h5, ht⟩ := last ⟨(i 0).val / 512, by omega⟩
    dsimp only at ht
    obtain ⟨e0, e1⟩ := idx_19 t
    refine ⟨t, (flush0_19 t).mpr h5, ?_⟩
    show i ∈ ((View.whole main_v94_11).slice (win0_19.rect t)).set
    rw [View.set_slice_whole, Rect.mem_set_unit]
    exact all2 (within 512 e0 (by omega)) (within 64 e1 (by omega)))

/-! ## Result 12 -/

abbrev res20 (c : Dev nD) : S16384x64.Idx → EReal := ropes (· % 8192) 8 64 1098907648#32 5632 (P m c)

theorem idx_20 : ∀ t : Fin cfg0.N, win0_20.index t (0 : Fin 2) = t.val / 6 ∧ win0_20.index t (1 : Fin 2) = 0 :=
  (by decide +kernel : ∀ t : Fin grid0.N, _)

theorem flushed20 (c : Dev nD) (t : Fin cfg0.N) :
    (dats m 0 c).flushed 20 t = ((cfg0.win 20).blk t).view.read (Elt Ideal) (res20 m c) := by
  show (cfg0.win 20).cut (grid0.coords t) ((dats m 0 c).after 20 t) = _
  rw [after0_20]
  obtain ⟨e0, e1⟩ := idx_20 t
  funext y
  have h0 : (y 0).val < 512 := (y 0).isLt
  have h1 : (y 1).val < 64 := (y 1).isLt
  refine (o20_apply _ _ _ _ _ y).trans ?_
  refine (rot_rope (· % 8192) 8 64 (by decide) (by decide) 1098907648#32 5632 (P m c) (t.val / 6 * 512 + (y 0).val) _ _ _ _ _ 512 (y 1).val (by omega) (by decide)
    (fun l => tab_5 m c t 5 (y 0) l) (fun l => tab_6 m c t 5 (y 0) l) (fun l => tab_7 m c t 5 (y 0) l)
    (fun l hl => (acc_5b m c t (y 0) _ (by omega) (by omega)).trans (congrArg (at2 (P m c) _) (by omega)))).trans ?_
  show _ = ropeAt (· % 8192) 8 64 1098907648#32 5632 (P m c) (win0_20.index t (0 : Fin 2) * 512 + 1 * (y 0).val) (win0_20.index t (1 : Fin 2) * 64 + 1 * (y 1).val)
  rw [e0, e1]
  exact congrArg₂ (ropeAt (· % 8192) 8 64 1098907648#32 5632 (P m c)) (by omega) (by omega)

theorem final20 (c : Dev nD) : (dats m 0 c).arrAt 20 cfg0.N = res20 m c :=
  (dats m 0 c).arrAt_eq_of_cover 20 _ (fun t _ => flushed20 m c t) (fun i => by
    have h0 : (i 0).val < 16384 := (i 0).isLt
    have h1 : (i 1).val < 64 := (i 1).isLt
    obtain ⟨t, h5, ht⟩ := last ⟨(i 0).val / 512, by omega⟩
    dsimp only at ht
    obtain ⟨e0, e1⟩ := idx_20 t
    refine ⟨t, (flush0_20 t).mpr h5, ?_⟩
    show i ∈ ((View.whole main_v94_12).slice (win0_20.rect t)).set
    rw [View.set_slice_whole, Rect.mem_set_unit]
    exact all2 (within 512 e0 (by omega)) (within 64 e1 (by omega)))

/-! ## Result 13 -/

abbrev res21 (c : Dev nD) : S16x16384.Idx → EReal := colsT 5696 (P m c)

theorem idx_21 : ∀ t : Fin cfg0.N, win0_21.index t (0 : Fin 2) = 0 ∧ win0_21.index t (1 : Fin 2) = t.val / 6 :=
  (by decide +kernel : ∀ t : Fin grid0.N, _)

theorem flushed21 (c : Dev nD) (t : Fin cfg0.N) :
    (dats m 0 c).flushed 21 t = ((cfg0.win 21).blk t).view.read (Elt Ideal) (res21 m c) := by
  show (cfg0.win 21).cut (grid0.coords t) ((dats m 0 c).after 21 t) = _
  rw [after0_21]
  obtain ⟨e0, e1⟩ := idx_21 t
  funext y
  have h0 : (y 0).val < 16 := (y 0).isLt
  have h1 : (y 1).val < 512 := (y 1).isLt
  refine (o21_apply _ _ y).trans ?_
  refine (acc_5c m c t (y 1) (640 + (y 0).val) (by omega) (by omega)).trans ?_
  show _ = at2 (P m c) (win0_21.index t (1 : Fin 2) * 512 + 1 * (y 1).val) (5696 + (win0_21.index t (0 : Fin 2) * 16 + 1 * (y 0).val))
  rw [e0, e1]
  exact congrArg₂ (at2 (P m c)) (by omega) (by omega)

theorem final21 (c : Dev nD) : (dats m 0 c).arrAt 21 cfg0.N = res21 m c :=
  (dats m 0 c).arrAt_eq_of_cover 21 _ (fun t _ => flushed21 m c t) (fun i => by
    have h0 : (i 0).val < 16 := (i 0).isLt
    have h1 : (i 1).val < 16384 := (i 1).isLt
    obtain ⟨t, h5, ht⟩ := last ⟨(i 1).val / 512, by omega⟩
    dsimp only at ht
    obtain ⟨e0, e1⟩ := idx_21 t
    refine ⟨t, (flush0_21 t).mpr h5, ?_⟩
    show i ∈ ((View.whole main_v94_13).slice (win0_21.rect t)).set
    rw [View.set_slice_whole, Rect.mem_set_unit]
    exact all2 (within 16 e0 (by omega)) (within 512 e1 (by omega)))

set_option maxHeartbeats 4000000 in
/-- The kernel's run: its results and its arguments. -/
theorem run_result : θ_run defs (onTc (τ := τ) (main (F := Ideal))) ⟨m, fun _ => 0, ρ⟩ fun r => ∀ c : Dev nD,
      r.2.mem ((c.tc : Thread nD τ).loc main_v94_0) = res8 m c
      ∧ r.2.mem ((c.tc : Thread nD τ).loc main_v94_1) = res9 m c
      ∧ r.2.mem ((c.tc : Thread nD τ).loc main_v94_2) = res10 m c
      ∧ r.2.mem ((c.tc : Thread nD τ).loc main_v94_3) = res11 m c
      ∧ r.2.mem ((c.tc : Thread nD τ).loc main_v94_4) = res12 m c
      ∧ r.2.mem ((c.tc : Thread nD τ).loc main_v94_5) = res13 m c
      ∧ r.2.mem ((c.tc : Thread nD τ).loc main_v94_6) = res14 m c
      ∧ r.2.mem ((c.tc : Thread nD τ).loc main_v94_7) = res15 m c
      ∧ r.2.mem ((c.tc : Thread nD τ).loc main_v94_8) = res16 m c
      ∧ r.2.mem ((c.tc : Thread nD τ).loc main_v94_9) = res17 m c
      ∧ r.2.mem ((c.tc : Thread nD τ).loc main_v94_10) = res18 m c
      ∧ r.2.mem ((c.tc : Thread nD τ).loc main_v94_11) = res19 m c
      ∧ r.2.mem ((c.tc : Thread nD τ).loc main_v94_12) = res20 m c
      ∧ r.2.mem ((c.tc : Thread nD τ).loc main_v94_13) = res21 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).1 8).trans (final8 m c),
      ((h.1 c).1 9).trans (final9 m c),
      ((h.1 c).1 10).trans (final10 m c),
      ((h.1 c).1 11).trans (final11 m c),
      ((h.1 c).1 12).trans (final12 m c),
      ((h.1 c).1 13).trans (final13 m c),
      ((h.1 c).1 14).trans (final14 m c),
      ((h.1 c).1 15).trans (final15 m c),
      ((h.1 c).1 16).trans (final16 m c),
      ((h.1 c).1 17).trans (final17 m c),
      ((h.1 c).1 18).trans (final18 m c),
      ((h.1 c).1 19).trans (final19 m c),
      ((h.1 c).1 20).trans (final20 m c),
      ((h.1 c).1 21).trans (final21 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_main m ρ)

end Ker

theorem prod_congr {h h' : (⟨2, ![16384, 2048]⟩ : Shape).Idx → EReal} {w w' : (⟨2, ![2048, 9808]⟩ : Shape).Idx → EReal} (e : h' = h) (e' : w' = w) :
    prod h' w' = prod h w := by rw [e, e']

set_option maxHeartbeats 4000000 in
/-- The claim: from arguments that agree the kernel and the reference end with the same fourteen results. -/
theorem algebraic : Cert.algebraic_InProjIdeal_InProjRefIdeal := by
  intro m g m' g' _ hagree
  refine ⟨fun c => res8 m c, fun c => res9 m c, fun c => res10 m c, fun c => res11 m c, fun c => res12 m c, fun c => res13 m c, fun c => res14 m c, fun c => res15 m c, fun c => res16 m c, fun c => res17 m c, fun c => res18 m c, fun c => res19 m c, fun c => res20 m c, fun c => res21 m c, run_result m g, ?_⟩
  refine (θ_run _ _ _).mono (fun r h c => ?_) (InProjRefIdeal.Value.run m' g')
  have e := prod_congr (hagree c).1 (hagree c).2
  obtain ⟨r8, r9, r10, r11, r12, r13, r14, r15, r16, r17, r18, r19, r20, r21, ra, rb⟩ := h c
  exact ⟨r8.trans ((InProjRefIdeal.Read.val_main_v172_eq _).trans ((Ref.v172_eq _ _).trans (congrArg (cols 0) e))),
    r9.trans ((InProjRefIdeal.Read.val_main_v3_eq _).trans ((Ref.v3_eq _ _).trans (congrArg (cols 1024) e))),
    r10.trans ((InProjRefIdeal.Read.val_main_v173_eq _).trans ((Ref.v173_eq _ _).trans (congrArg (cols 1024) e))),
    r11.trans ((InProjRefIdeal.Read.val_main_v4_eq _).trans ((Ref.v4_eq _ _).trans (congrArg (cols 2048) e))),
    r12.trans ((InProjRefIdeal.Read.val_main_v174_eq _).trans ((Ref.v174_eq _ _).trans (congrArg (cols 2048) e))),
    r13.trans ((InProjRefIdeal.Read.val_main_v176_eq _).trans ((Ref.v176_eq _ _).trans (congrArg (ropesT (· % 8192) 16 128 1107296256#32 3072) e))),
    r14.trans ((InProjRefIdeal.Read.val_main_v178_eq _).trans ((Ref.v178_eq _ _).trans (congrArg (ropesT (· % 8192) 8 64 1098907648#32 4608) e))),
    r15.trans ((InProjRefIdeal.Read.val_main_v91_eq _).trans ((Ref.v91_eq _ _).trans (congrArg (ropes (· % 8192) 16 128 1107296256#32 4096) e))),
    r16.trans ((InProjRefIdeal.Read.val_main_v179_eq _).trans ((Ref.v179_eq _ _).trans (congrArg (ropes (· % 8192) 16 128 1107296256#32 4096) e))),
    r17.trans ((InProjRefIdeal.Read.val_main_v7_eq _).trans ((Ref.v7_eq _ _).trans (congrArg (cols 4352) e))),
    r18.trans ((InProjRefIdeal.Read.val_main_v180_eq _).trans ((Ref.v180_eq _ _).trans (congrArg colsB e))),
    r19.trans ((InProjRefIdeal.Read.val_main_v169_eq _).trans ((Ref.v169_eq _ _).trans (congrArg (ropes (· % 8192) 8 64 1098907648#32 5632) e))),
    r20.trans ((InProjRefIdeal.Read.val_main_v181_eq _).trans ((Ref.v181_eq _ _).trans (congrArg (ropes (· % 8192) 8 64 1098907648#32 5632) e))),
    r21.trans ((InProjRefIdeal.Read.val_main_v182_eq _).trans ((Ref.v182_eq _ _).trans (congrArg (colsT 5696) e))), ra, rb⟩

end Cert.InPV

end
-- ==== Proof.InS.InProjSIdeal.Body.lean ====
/-
  The input projection (`Cert.InProjSIdeal`): what the body leaves in each result's block, by the column tile the grid point is
  at, and the body's triple at each of the six tiles. Each tile stores into its own results and leaves the others alone.
-/
module

public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import Idealize.ShloMosaic.Lib.Claim
public import Idealize.ShloMosaic.Lib.Pipeline.FrameBody
public import Idealize.ShloMosaic.Lib.Pipeline.Frame
public import Idealize.ShloMosaic.Lib.Ring
public import Idealize.ShloMosaic.Lib.Tactic

@[expose] public section

set_option maxRecDepth 16384

noncomputable section

namespace Cert.InS.InProjSIdeal

open Cert.InProjSIdeal Cert.InProjSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕋" => Thread nD τ
local notation "𝕄" => MT nD τ sig Unit (Elt F) ℕ (UR sig nD τ) ℕ

abbrev rH : Rect S32x2048 := Rect.unit (s := S32x2048) ![0, 0] S32x2048.size inb_S32x2048_S32x2048_0_0
abbrev rW : Rect S1x2048x1024 := Rect.unit (s := S1x2048x1024) ![0, 0, 0] S1x2048x1024.size inb_S1x2048x1024_S1x2048x1024_0_0_0
abbrev rT : Rect S32x128 := Rect.unit (s := S32x128) ![0, 0] S32x128.size inb_S32x128_S32x128_0_0
abbrev rM : Rect S32x1024 := Rect.unit (s := S32x1024) ![0, 0] S32x1024.size inb_S32x1024_S32x1024_0_0
abbrev rV : Rect S32x256 := Rect.unit (s := S32x256) ![0, 0] S32x256.size inb_S32x256_S32x256_0_0
abbrev rI : Rect S32x64 := Rect.unit (s := S32x64) ![0, 0] S32x64.size inb_S32x64_S32x64_0_0
abbrev rG : Rect S32x16 := Rect.unit (s := S32x16) ![0, 0] S32x16.size inb_S32x16_S32x16_0_0

/-! ## The blocks of the results -/

def o8 (x0 : Vec F S32x2048 .bf16) (x1 : Vec F S1x2048x1024 .bf16) : Vec F S32x1024 .bf16 := View.canon [⟨rM, k0_pay2 (View.ld x0 rH) (View.ld x1 rW)⟩]
def o9 (x0 : Vec F S32x2048 .bf16) (x1 : Vec F S1x2048x1024 .bf16) : Vec F S32x1024 .f32 := View.canon [⟨rM, k0_pay1 (View.ld x0 rH) (View.ld x1 rW)⟩]
def o10 (x0 : Vec F S32x2048 .bf16) (x1 : Vec F S1x2048x1024 .bf16) : Vec F S32x1024 .bf16 := View.canon [⟨rM, k0_pay3 (View.ld x0 rH) (View.ld x1 rW)⟩]
def o11 (x0 : Vec F S32x2048 .bf16) (x1 : Vec F S1x2048x1024 .bf16) : Vec F S32x1024 .f32 := View.canon [⟨rM, k0_pay1 (View.ld x0 rH) (View.ld x1 rW)⟩]
def o12 (x0 : Vec F S32x2048 .bf16) (x1 : Vec F S1x2048x1024 .bf16) : Vec F S32x1024 .bf16 := View.canon [⟨rM, k0_pay4 (View.ld x0 rH) (View.ld x1 rW)⟩]
def o13 (x0 : Vec F S32x2048 .bf16) (x1 : Vec F S1x2048x1024 .bf16) (x2 : Vec F S32x128 .f32) (x3 : Vec F S32x128 .f32) (x4 : Vec F S32x128 .f32) : Vec F S32x1024 .bf16 := View.canon [⟨rM, k0_pay5 (View.ld x0 rH) (View.ld x1 rW) (k0_pay11 (View.ld x2 rT)) (k0_pay12 (View.ld x3 rT)) (k0_pay13 (View.ld x4 rT)) (k0_pay14 (k0_pay1 (View.ld x0 rH) (View.ld x1 rW)) (View.ld x2 rT) (View.ld x3 rT) (View.ld x4 rT)) (k0_pay15 (k0_pay1 (View.ld x0 rH) (View.ld x1 rW)) (View.ld x2 rT) (View.ld x3 rT) (View.ld x4 rT)) (k0_pay16 (k0_pay1 (View.ld x0 rH) (View.ld x1 rW)) (View.ld x2 rT) (View.ld x3 rT) (View.ld x4 rT)) (k0_pay17 (k0_pay1 (View.ld x0 rH) (View.ld x1 rW)) (View.ld x2 rT) (View.ld x3 rT) (View.ld x4 rT)) (k0_pay19 (k0_pay1 (View.ld x0 rH) (View.ld x1 rW)) (View.ld x2 rT) (View.ld x3 rT)) (k0_pay20 (k0_pay1 (View.ld x0 rH) (View.ld x1 rW)))⟩]
def o14 (x0 : Vec F S32x2048 .bf16) (x1 : Vec F S1x2048x1024 .bf16) (x5 : Vec F S32x128 .f32) (x6 : Vec F S32x128 .f32) (x7 : Vec F S32x128 .f32) : Vec F S32x1024 .bf16 := View.canon [⟨rM, k0_pay6 (View.ld x0 rH) (View.ld x1 rW) (k0_pay21 (View.ld x5 rT)) (k0_pay22 (View.ld x6 rT)) (k0_pay23 (View.ld x7 rT)) (k0_pay24 (k0_pay1 (View.ld x0 rH) (View.ld x1 rW)) (View.ld x5 rT) (View.ld x6 rT) (View.ld x7 rT)) (k0_pay25 (k0_pay1 (View.ld x0 rH) (View.ld x1 rW)) (View.ld x5 rT) (View.ld x6 rT) (View.ld x7 rT)) (k0_pay26 (k0_pay1 (View.ld x0 rH) (View.ld x1 rW)) (View.ld x5 rT) (View.ld x6 rT) (View.ld x7 rT)) (k0_pay27 (k0_pay1 (View.ld x0 rH) (View.ld x1 rW)) (View.ld x5 rT) (View.ld x6 rT) (View.ld x7 rT)) (k0_pay29 (k0_pay1 (View.ld x0 rH) (View.ld x1 rW)) (View.ld x5 rT) (View.ld x6 rT)) (k0_pay30 (k0_pay1 (View.ld x0 rH) (View.ld x1 rW)))⟩]
def o15 (x0 : Vec F S32x2048 .bf16) (x1 : Vec F S1x2048x1024 .bf16) (x2 : Vec F S32x128 .f32) (x3 : Vec F S32x128 .f32) (x4 : Vec F S32x128 .f32) : Vec F S32x256 .f32 := View.canon [⟨rV, k0_pay31 (k0_pay1 (View.ld x0 rH) (View.ld x1 rW)) (View.ld x2 rT) (View.ld x3 rT) (View.ld x4 rT)⟩]
def o16 (x0 : Vec F S32x2048 .bf16) (x1 : Vec F S1x2048x1024 .bf16) (x2 : Vec F S32x128 .f32) (x3 : Vec F S32x128 .f32) (x4 : Vec F S32x128 .f32) : Vec F S32x256 .bf16 := View.canon [⟨rV, k0_pay32 (k0_pay1 (View.ld x0 rH) (View.ld x1 rW)) (View.ld x2 rT) (View.ld x3 rT) (View.ld x4 rT)⟩]
def o17 (x0 : Vec F S32x2048 .bf16) (x1 : Vec F S1x2048x1024 .bf16) : Vec F S32x256 .f32 := View.canon [⟨rV, k0_pay33 (k0_pay1 (View.ld x0 rH) (View.ld x1 rW))⟩]
def o18 (x0 : Vec F S32x2048 .bf16) (x1 : Vec F S1x2048x1024 .bf16) : Vec F S32x256 .bf16 := View.canon [⟨rV, k0_pay9 (k0_pay33 (k0_pay1 (View.ld x0 rH) (View.ld x1 rW)))⟩]
def o19 (x0 : Vec F S32x2048 .bf16) (x1 : Vec F S1x2048x1024 .bf16) (x5 : Vec F S32x128 .f32) (x6 : Vec F S32x128 .f32) (x7 : Vec F S32x128 .f32) : Vec F S32x64 .f32 := View.canon [⟨rI, k0_pay7 (k0_pay34 (k0_pay1 (View.ld x0 rH) (View.ld x1 rW))) (k0_pay35 (View.ld x5 rT)) (k0_pay36 (View.ld x6 rT)) (View.ld x7 rT)⟩]
def o20 (x0 : Vec F S32x2048 .bf16) (x1 : Vec F S1x2048x1024 .bf16) (x5 : Vec F S32x128 .f32) (x6 : Vec F S32x128 .f32) (x7 : Vec F S32x128 .f32) : Vec F S32x64 .bf16 := View.canon [⟨rI, k0_pay8 (k0_pay34 (k0_pay1 (View.ld x0 rH) (View.ld x1 rW))) (k0_pay35 (View.ld x5 rT)) (k0_pay36 (View.ld x6 rT)) (View.ld x7 rT)⟩]
def o21 (x0 : Vec F S32x2048 .bf16) (x1 : Vec F S1x2048x1024 .bf16) : Vec F S32x16 .f32 := View.canon [⟨rG, k0_pay10 (View.ld x0 rH) (View.ld x1 rW)⟩]

theorem cover_rM {e : EltTy} (p : Vec F S32x1024 e) (y : S32x1024.Idx) : ∃ pc ∈ ([⟨rM, p⟩] : List (View.Piece (Elt F) S32x1024 e)), y ∈ pc.1.set :=
  View.cover_of_tiled [⟨rM, p⟩] S32x1024.size (by rfl) y

theorem cover_rV {e : EltTy} (p : Vec F S32x256 e) (y : S32x256.Idx) : ∃ pc ∈ ([⟨rV, p⟩] : List (View.Piece (Elt F) S32x256 e)), y ∈ pc.1.set :=
  View.cover_of_tiled [⟨rV, p⟩] S32x256.size (by rfl) y

theorem cover_rI {e : EltTy} (p : Vec F S32x64 e) (y : S32x64.Idx) : ∃ pc ∈ ([⟨rI, p⟩] : List (View.Piece (Elt F) S32x64 e)), y ∈ pc.1.set :=
  View.cover_of_tiled [⟨rI, p⟩] S32x64.size (by rfl) y

theorem cover_rG {e : EltTy} (p : Vec F S32x16 e) (y : S32x16.Idx) : ∃ pc ∈ ([⟨rG, p⟩] : List (View.Piece (Elt F) S32x16 e)), y ∈ pc.1.set :=
  View.cover_of_tiled [⟨rG, p⟩] S32x16.size (by rfl) y

/-- The whole of a block held by the core. -/
abbrev own (c : Dev nD) {sp : Space} {s : Shape} {e : EltTy} (a : Memref sig .tc sp s e) (v : Vec F s e) : sProp 𝕄 :=
  owns (c : 𝕋) a fullShare v

/-! ## The body at each column tile -/

variable (c : Dev nD) (i : grid0.Coords) {arg2 : Memref sig .tc .vmem S32x2048 .bf16} {harg2 : arg2.IsWhole} {arg3 : Memref sig .tc .vmem S1x2048x1024 .bf16} {harg3 : arg3.IsWhole} {arg4 : Memref sig .tc .vmem S32x128 .f32} {harg4 : arg4.IsWhole} {arg5 : Memref sig .tc .vmem S32x128 .f32} {harg5 : arg5.IsWhole} {arg6 : Memref sig .tc .vmem S32x128 .f32} {harg6 : arg6.IsWhole} {arg7 : Memref sig .tc .vmem S32x128 .f32} {harg7 : arg7.IsWhole} {arg8 : Memref sig .tc .vmem S32x128 .f32} {harg8 : arg8.IsWhole} {arg9 : Memref sig .tc .vmem S32x128 .f32} {harg9 : arg9.IsWhole} {arg10 : Memref sig .tc .vmem S32x1024 .bf16} {harg10 : arg10.IsWhole} {arg11 : Memref sig .tc .vmem S32x1024 .f32} {harg11 : arg11.IsWhole} {arg12 : Memref sig .tc .vmem S32x1024 .bf16} {harg12 : arg12.IsWhole} {arg13 : Memref sig .tc .vmem S32x1024 .f32} {harg13 : arg13.IsWhole} {arg14 : Memref sig .tc .vmem S32x1024 .bf16} {harg14 : arg14.IsWhole} {arg15 : Memref sig .tc .vmem S32x1024 .bf16} {harg15 : arg15.IsWhole} {arg16 : Memref sig .tc .vmem S32x1024 .bf16} {harg16 : arg16.IsWhole} {arg17 : Memref sig .tc .vmem S32x256 .f32} {harg17 : arg17.IsWhole} {arg18 : Memref sig .tc .vmem S32x256 .bf16} {harg18 : arg18.IsWhole} {arg19 : Memref sig .tc .vmem S32x256 .f32} {harg19 : arg19.IsWhole} {arg20 : Memref sig .tc .vmem S32x256 .bf16} {harg20 : arg20.IsWhole} {arg21 : Memref sig .tc .vmem S32x64 .f32} {harg21 : arg21.IsWhole} {arg22 : Memref sig .tc .vmem S32x64 .bf16} {harg22 : arg22.IsWhole} {arg23 : Memref sig .tc .vmem S32x16 .f32} {harg23 : arg23.IsWhole}

set_option maxHeartbeats 4000000 in
/-- Column tile 0. -/
theorem run_0
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1)
    (x0 : Vec F S32x2048 .bf16) (x1 : Vec F S1x2048x1024 .bf16) (K : PUnit → sProp 𝕄) (P : sProp 𝕄)
    (hP : iprop(own c arg2 x0 ∗ own c arg3 x1 ∗ own c arg10 (o8 x0 x1)) = P) :
    iprop(own c arg2 x0 ∗ own c arg3 x1 ∗ (∃ d, own c arg10 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d10, %g10, -, G10⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  · iexists _; isplitr
    swap; · iexact G10
    ipureintro; exact View.read_writes_eq_canon _ _ _ (cover_rM _)

set_option maxHeartbeats 4000000 in
/-- Column tile 1. -/
theorem run_1
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x0 : Vec F S32x2048 .bf16) (x1 : Vec F S1x2048x1024 .bf16) (K : PUnit → sProp 𝕄) (P : sProp 𝕄)
    (hP : iprop(own c arg2 x0 ∗ own c arg3 x1 ∗ own c arg11 (o9 x0 x1) ∗ own c arg12 (o10 x0 x1)) = P) :
    iprop(own c arg2 x0 ∗ own c arg3 x1 ∗ (∃ d, own c arg11 d) ∗ (∃ d, own c arg12 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d11, %g11, -, G11⟩, ⟨%d12, %g12, -, G12⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [G11]
  · iexists _; isplitr
    swap; · iexact G11
    ipureintro; exact View.read_writes_eq_canon _ _ _ (cover_rM _)
  · iexists _; isplitr
    swap; · iexact G12
    ipureintro; exact View.read_writes_eq_canon _ _ _ (cover_rM _)

set_option maxHeartbeats 4000000 in
/-- Column tile 2. -/
theorem run_2
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1)
    (x0 : Vec F S32x2048 .bf16) (x1 : Vec F S1x2048x1024 .bf16) (K : PUnit → sProp 𝕄) (P : sProp 𝕄)
    (hP : iprop(own c arg2 x0 ∗ own c arg3 x1 ∗ own c arg13 (o11 x0 x1) ∗ own c arg14 (o12 x0 x1)) = P) :
    iprop(own c arg2 x0 ∗ own c arg3 x1 ∗ (∃ d, own c arg13 d) ∗ (∃ d, own c arg14 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%d13, %g13, -, G13⟩, ⟨%d14, %g14, -, G14⟩, Hk⟩
  subst hf0 hf1
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [G13]
  · iexists _; isplitr
    swap; · iexact G13
    ipureintro; exact View.read_writes_eq_canon _ _ _ (cover_rM _)
  · iexists _; isplitr
    swap; · iexact G14
    ipureintro; exact View.read_writes_eq_canon _ _ _ (cover_rM _)

set_option maxHeartbeats 4000000 in
/-- Column tile 3. -/
theorem run_3
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1)
    (x0 : Vec F S32x2048 .bf16) (x1 : Vec F S1x2048x1024 .bf16) (x2 : Vec F S32x128 .f32) (x3 : Vec F S32x128 .f32) (x4 : Vec F S32x128 .f32) (K : PUnit → sProp 𝕄) (P : sProp 𝕄)
    (hP : iprop(own c arg2 x0 ∗ own c arg3 x1 ∗ own c arg4 x2 ∗ own c arg5 x3 ∗ own c arg6 x4 ∗ own c arg15 (o13 x0 x1 x2 x3 x4)) = P) :
    iprop(own c arg2 x0 ∗ own c arg3 x1 ∗ own c arg4 x2 ∗ own c arg5 x3 ∗ own c arg6 x4 ∗ (∃ d, own c arg15 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%d15, %g15, -, G15⟩, Hk⟩
  subst hf0 hf1 hf2 hf3 hf4
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  · iexists _; isplitr
    swap; · iexact G15
    ipureintro; exact View.read_writes_eq_canon _ _ _ (cover_rM _)

set_option maxHeartbeats 4000000 in
/-- Column tile 4. -/
theorem run_4
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1)
    (x0 : Vec F S32x2048 .bf16) (x1 : Vec F S1x2048x1024 .bf16) (x5 : Vec F S32x128 .f32) (x6 : Vec F S32x128 .f32) (x7 : Vec F S32x128 .f32) (K : PUnit → sProp 𝕄) (P : sProp 𝕄)
    (hP : iprop(own c arg2 x0 ∗ own c arg3 x1 ∗ own c arg7 x5 ∗ own c arg8 x6 ∗ own c arg9 x7 ∗ own c arg16 (o14 x0 x1 x5 x6 x7)) = P) :
    iprop(own c arg2 x0 ∗ own c arg3 x1 ∗ own c arg7 x5 ∗ own c arg8 x6 ∗ own c arg9 x7 ∗ (∃ d, own c arg16 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f5, %hf5, H5⟩, ⟨%f6, %hf6, H6⟩, ⟨%f7, %hf7, H7⟩, ⟨%d16, %g16, -, G16⟩, Hk⟩
  subst hf0 hf1 hf5 hf6 hf7
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  · iexists _; isplitr
    swap; · iexact G16
    ipureintro; exact View.read_writes_eq_canon _ _ _ (cover_rM _)

set_option maxHeartbeats 4000000 in
/-- Column tile 5. -/
theorem run_5
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1)
    (x0 : Vec F S32x2048 .bf16) (x1 : Vec F S1x2048x1024 .bf16) (x2 : Vec F S32x128 .f32) (x3 : Vec F S32x128 .f32) (x4 : Vec F S32x128 .f32) (x5 : Vec F S32x128 .f32) (x6 : Vec F S32x128 .f32) (x7 : Vec F S32x128 .f32) (K : PUnit → sProp 𝕄) (P : sProp 𝕄)
    (hP : iprop(own c arg2 x0 ∗ own c arg3 x1 ∗ own c arg4 x2 ∗ own c arg5 x3 ∗ own c arg6 x4 ∗ own c arg7 x5 ∗ own c arg8 x6 ∗ own c arg9 x7 ∗ own c arg17 (o15 x0 x1 x2 x3 x4) ∗ own c arg18 (o16 x0 x1 x2 x3 x4) ∗ own c arg19 (o17 x0 x1) ∗ own c arg20 (o18 x0 x1) ∗ own c arg21 (o19 x0 x1 x5 x6 x7) ∗ own c arg22 (o20 x0 x1 x5 x6 x7) ∗ own c arg23 (o21 x0 x1)) = P) :
    iprop(own c arg2 x0 ∗ own c arg3 x1 ∗ own c arg4 x2 ∗ own c arg5 x3 ∗ own c arg6 x4 ∗ own c arg7 x5 ∗ own c arg8 x6 ∗ own c arg9 x7 ∗ (∃ d, own c arg17 d) ∗ (∃ d, own c arg18 d) ∗ (∃ d, own c arg19 d) ∗ (∃ d, own c arg20 d) ∗ (∃ d, own c arg21 d) ∗ (∃ d, own c arg22 d) ∗ (∃ d, own c arg23 d)
        ∗ (P -∗ K ⟨⟩))
      ⊢ wp frame (wpE (defs₀ (F := F)) Variants.none (c : 𝕋) none) Set.univ
          (cc0__inproj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__inproj_kernel_eq_skeleton]; unfold cc0__inproj_kernel_skel
  simp only [k0_part1_eq_skeleton, k0_part2_eq_skeleton, k0_part3_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d17, %g17, -, G17⟩, ⟨%d18, %g18, -, G18⟩, ⟨%d19, %g19, -, G19⟩, ⟨%d20, %g20, -, G20⟩, ⟨%d21, %g21, -, G21⟩, ⟨%d22, %g22, -, G22⟩, ⟨%d23, %g23, -, G23⟩, Hk⟩
  subst hf0 hf1 hf2 hf3 hf4 hf5 hf6 hf7
  sl_exec (disch := first | sl_exact hc1 | sl_exact hc2 | sl_exact hc3 | sl_exact hc4 | sl_exact hc5 | sl_exact hc6)
  sl_step
  iapply Hk
  rw [← hP]
  unfold own owns
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [G17]
  · iexists _; isplitr
    swap; · iexact G17
    ipureintro; exact View.read_writes_eq_canon _ _ _ (cover_rV _)
  isplitl [G18]
  · iexists _; isplitr
    swap; · iexact G18
    ipureintro; exact View.read_writes_eq_canon _ _ _ (cover_rV _)
  isplitl [G19]
  · iexists _; isplitr
    swap; · iexact G19
    ipureintro; exact View.read_writes_eq_canon _ _ _ (cover_rV _)
  isplitl [G20]
  · iexists _; isplitr
    swap; · iexact G20
    ipureintro; exact View.read_writes_eq_canon _ _ _ (cover_rV _)
  isplitl [G21]
  · iexists _; isplitr
    swap; · iexact G21
    ipureintro; exact View.read_writes_eq_canon _ _ _ (cover_rI _)
  isplitl [G22]
  · iexists _; isplitr
    swap; · iexact G22
    ipureintro; exact View.read_writes_eq_canon _ _ _ (cover_rI _)
  · iexists _; isplitr
    swap; · iexact G23
    ipureintro; exact View.read_writes_eq_canon _ _ _ (cover_rG _)

end Cert.InS.InProjSIdeal

end
-- ==== Proof.InS.Host.lean ====
/- What the host arrays of the sample's input projection hold: the tiles of the weights and the six tables of the rotations. -/
module

public import proofs.«01_k».proof.Proof.InP.Math
public import proofs.«01_k».proof.Proof.InS.InProjSIdeal.Body
public import Idealize.ShloMosaic.Lib.StableHlo.ReadAt
public import Idealize.ShloMosaic.Lib.ValueIdxCore

@[expose] public section

set_option maxRecDepth 16384

noncomputable section

open Idealize.ShloMosaic Idealize.ShloMosaic.TcCoe Idealize.SL.Sem

namespace Cert.InSV.Host
open Cert.InPV
open Cert.InProjSIdeal Cert.InProjSIdeal.Gen

variable (m : (ℓ : Loc nD τ sig) → Buf (Elt Ideal) ℓ)

/-! ## The weight tiles -/

set_option maxHeartbeats 4000000 in
/-- Tile 0: columns 0 to 1024. -/
theorem V_w0 (c : Dev nD) (k : Fin 2048) (l : Fin 1024) :
    (V m c main_v20 (ix3 (⟨0, by decide⟩ : Fin 6) k l) : EReal) = at2 (R := 2048) (C := 9808) (m ((c.tc : Thread nD τ).loc main_arg1)) k.val (0 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 1: columns 1024 to 2048. -/
theorem V_w1 (c : Dev nD) (k : Fin 2048) (l : Fin 1024) :
    (V m c main_v20 (ix3 (⟨1, by decide⟩ : Fin 6) k l) : EReal) = at2 (R := 2048) (C := 9808) (m ((c.tc : Thread nD τ).loc main_arg1)) k.val (1024 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 2: columns 2048 to 3072. -/
theorem V_w2 (c : Dev nD) (k : Fin 2048) (l : Fin 1024) :
    (V m c main_v20 (ix3 (⟨2, by decide⟩ : Fin 6) k l) : EReal) = at2 (R := 2048) (C := 9808) (m ((c.tc : Thread nD τ).loc main_arg1)) k.val (2048 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 3: columns 3072 to 4096. -/
theorem V_w3 (c : Dev nD) (k : Fin 2048) (l : Fin 1024) :
    (V m c main_v20 (ix3 (⟨3, by decide⟩ : Fin 6) k l) : EReal) = at2 (R := 2048) (C := 9808) (m ((c.tc : Thread nD τ).loc main_arg1)) k.val (3072 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 4: columns 4608 to 5632. -/
theorem V_w4 (c : Dev nD) (k : Fin 2048) (l : Fin 1024) :
    (V m c main_v20 (ix3 (⟨4, by decide⟩ : Fin 6) k l) : EReal) = at2 (R := 2048) (C := 9808) (m ((c.tc : Thread nD τ).loc main_arg1)) k.val (4608 + l.val) := by
  unfold V
  after_reads_at
  repeat (first | rw [dif_neg (by decide)] | rw [dif_pos (by decide)])
  after_reads_at
  exact at2_of _ _ _ _ _ rfl (by (try dsimp only) <;> omega)

set_option maxHeartbeats 4000000 in
/-- Tile 5, lanes 0 to 512: columns from 4096 on. -/
theorem V_w5a (c : Dev nD) (k : Fin 2048) (l : Fin 1024) (h0 : 0 ≤ l.val) (h1 : l.val < 512) :
    (V m c main_v20 (ix3 (⟨5, by decide⟩ : Fin 6) k l) : EReal) = at2 (R := 2048) (C := 9808) (m ((c.tc : Thread nD τ).loc main_arg1)) k.val (4096 + (l.val - 0)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

set_option maxHeartbeats 4000000 in
/-- Tile 5, lanes 512 to 576: columns from 5632 on. -/
theorem V_w5b (c : Dev nD) (k : Fin 2048) (l : Fin 1024) (h0 : 512 ≤ l.val) (h1 : l.val < 576) :
    (V m c main_v20 (ix3 (⟨5, by decide⟩ : Fin 6) k l) : EReal) = at2 (R := 2048) (C := 9808) (m ((c.tc : Thread nD τ).loc main_arg1)) k.val (5632 + (l.val - 512)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

set_option maxHeartbeats 4000000 in
/-- Tile 5, lanes 640 to 656: columns from 5696 on. -/
theorem V_w5c (c : Dev nD) (k : Fin 2048) (l : Fin 1024) (h0 : 640 ≤ l.val) (h1 : l.val < 656) :
    (V m c main_v20 (ix3 (⟨5, by decide⟩ : Fin 6) k l) : EReal) = at2 (R := 2048) (C := 9808) (m ((c.tc : Thread nD τ).loc main_arg1)) k.val (5696 + (l.val - 640)) := by
  obtain ⟨l, hl⟩ := l
  dsimp only at h0 h1
  unfold V
  after_reads_at
  repeat (first | rw [dif_neg (by decide)] | rw [dif_pos (by decide)])
  after_reads_at
  repeat (first | rw [dif_neg (by dsimp only; omega)] | rw [dif_pos (by dsimp only; omega)] | split)
  all_goals after_reads_at
  all_goals repeat' split
  all_goals first | (exfalso; omega) | exact at2_of _ _ _ _ _ rfl (by (try dsimp only) <;> omega)

/-! ## The tables -/

section Tables

variable {α : Type}

theorem gather16 (x : S32x16.Idx → α) (idx : IVec S128x1 32) (p : Fin 32) (l : Fin 128) :
    Host.gather gather_S32x16_S128x1_S32x128_0_1_n_n_1_1_321 x idx (ix2 p l) = x (ix2 p ⟨min (idx (ix2 l 0)).toInt.toNat 15, by omega⟩) :=
  gather_columns (by decide) gather_S32x16_S128x1_S32x128_0_1_n_n_1_1_321.wf x idx (ix2 p l)

theorem gather8 (x : S32x8.Idx → α) (idx : IVec S128x1 32) (p : Fin 32) (l : Fin 128) :
    Host.gather gather_S32x8_S128x1_S32x128_0_1_n_n_1_1_321 x idx (ix2 p l) = x (ix2 p ⟨min (idx (ix2 l 0)).toInt.toNat 7, by omega⟩) :=
  gather_columns (by decide) gather_S32x8_S128x1_S32x128_0_1_n_n_1_1_321.wf x idx (ix2 p l)

theorem one_id : id (constant (F := Ideal) S_ FTy.f32 1065353216#32) ix0 = (1 : EReal) := Ideal.ofBits_one_f32
theorem zero_id : id (constant (F := Ideal) S_ FTy.f32 0#32) ix0 = (0 : EReal) := Ideal.ofBits_zero_f32

theorem idx16 : ∀ l : Fin 128, min (lit0 (S128.rowMajor (ix1 l))).toInt.toNat 15
    = if l.val % 128 < 16 then l.val % 128 else if l.val % 128 < 2 * 16 then l.val % 128 - 16 else 0 := by decide +kernel
theorem idx8 : ∀ l : Fin 128, min (lit4 (S128.rowMajor (ix1 l))).toInt.toNat 7
    = if l.val % 64 < 8 then l.val % 64 else if l.val % 64 < 2 * 8 then l.val % 64 - 8 else 0 := by decide +kernel
theorem m1 : ∀ l : Fin 128, lit1 (S128.rowMajor (ix1 l)) = if l.val % 128 < 16 then 1#1 else if l.val % 128 < 2 * 16 then 1#1 else 0#1 := by decide +kernel
theorem m2 : ∀ l : Fin 128, lit2 (S128.rowMajor (ix1 l)) = if l.val % 128 < 16 then 1#1 else 0#1 := by decide +kernel
theorem m3 : ∀ l : Fin 128, lit3 (S128.rowMajor (ix1 l)) = if l.val % 128 < 16 then 0#1 else if l.val % 128 < 2 * 16 then 1#1 else 0#1 := by decide +kernel
theorem m5 : ∀ l : Fin 128, lit5 (S128.rowMajor (ix1 l)) = if l.val % 64 < 8 then 1#1 else if l.val % 64 < 2 * 8 then 1#1 else 0#1 := by decide +kernel
theorem m6 : ∀ l : Fin 128, lit6 (S128.rowMajor (ix1 l)) = if l.val % 64 < 8 then 1#1 else 0#1 := by decide +kernel
theorem m7 : ∀ l : Fin 128, lit7 (S128.rowMajor (ix1 l)) = if l.val % 64 < 8 then 0#1 else if l.val % 64 < 2 * 8 then 1#1 else 0#1 := by decide +kernel

set_option maxHeartbeats 4000000 in
/-- The table `v44`. -/
theorem V_v44 (c : Dev nD) (p : Fin 32) (l : Fin 128) :
    (V m c main_v44 (ix2 p l) : EReal) = tabC 16 128 (fun k => Ideal.cos (angle 1107296256#32 16384 k)) l.val := by
  unfold V
  after_reads_at
  rw [gather16]
  pointwise
  rw [idx16, m1, one_id]
  unfold tabC angle
  split_ifs <;> first | rfl | exact if_pos rfl | exact if_neg (by decide)

set_option maxHeartbeats 4000000 in
/-- The table `v51`. -/
theorem V_v51 (c : Dev nD) (p : Fin 32) (l : Fin 128) :
    (V m c main_v51 (ix2 p l) : EReal) = tabL 16 128 (fun k => Ideal.sin (angle 1107296256#32 16384 k)) l.val := by
  unfold V
  after_reads_at
  rw [gather16]
  pointwise
  rw [idx16, m2, zero_id]
  unfold tabL angle
  split_ifs <;> first | rfl | exact if_pos rfl | exact if_neg (by decide)

set_option maxHeartbeats 4000000 in
/-- The table `v57`. -/
theorem V_v57 (c : Dev nD) (p : Fin 32) (l : Fin 128) :
    (V m c main_v57 (ix2 p l) : EReal) = tabH 16 128 (fun k => Ideal.sin (angle 1107296256#32 16384 k)) l.val := by
  unfold V
  after_reads_at
  rw [gather16]
  pointwise
  rw [idx16, m3, zero_id]
  unfold tabH angle
  split_ifs <;> first | rfl | exact if_pos rfl | exact if_neg (by decide)

set_option maxHeartbeats 4000000 in
/-- The table `v80`. -/
theorem V_v80 (c : Dev nD) (p : Fin 32) (l : Fin 128) :
    (V m c main_v80 (ix2 p l) : EReal) = tabC 8 64 (fun k => Ideal.cos (angle 1098907648#32 16384 k)) l.val := by
  unfold V
  after_reads_at
  rw [gather8]
  pointwise
  rw [idx8, m5, one_id]
  unfold tabC angle
  split_ifs <;> first | rfl | exact if_pos rfl | exact if_neg (by decide)

set_option maxHeartbeats 4000000 in
/-- The table `v87`. -/
theorem V_v87 (c : Dev nD) (p : Fin 32) (l : Fin 128) :
    (V m c main_v87 (ix2 p l) : EReal) = tabL 8 64 (fun k => Ideal.sin (angle 1098907648#32 16384 k)) l.val := by
  unfold V
  after_reads_at
  rw [gather8]
  pointwise
  rw [idx8, m6, zero_id]
  unfold tabL angle
  split_ifs <;> first | rfl | exact if_pos rfl | exact if_neg (by decide)

set_option maxHeartbeats 4000000 in
/-- The table `v93`. -/
theorem V_v93 (c : Dev nD) (p : Fin 32) (l : Fin 128) :
    (V m c main_v93 (ix2 p l) : EReal) = tabH 8 64 (fun k => Ideal.sin (angle 1098907648#32 16384 k)) l.val := by
  unfold V
  after_reads_at
  rw [gather8]
  pointwise
  rw [idx8, m7, zero_id]
  unfold tabH angle
  split_ifs <;> first | rfl | exact if_pos rfl | exact if_neg (by decide)

end Tables

end Cert.InSV.Host

end
-- ==== Proof.InS.Pay.lean ====
/- The blocks the body stores, at an index of the block, over the extended reals: each is a dot product of a row of `h`
   and a column of the weight tile, or the rotation of three such by the tables. -/
module

public import proofs.«01_k».proof.Proof.InS.InProjSIdeal.Body
public import proofs.«01_k».proof.Proof.InP.Math

@[expose] public section

set_option maxRecDepth 16384

noncomputable section

open Idealize.ShloMosaic Idealize.ShloMosaic.TcCoe Idealize.SL.Sem

namespace Cert.InSV
open Cert.InPV
open Cert.InProjSIdeal Cert.InProjSIdeal.Gen Cert.InS.InProjSIdeal

theorem ldH (x0 : Vec Ideal S32x2048 .bf16) : View.ld x0 rH = x0 := by funext y; pointwise [rH]
theorem ldW (x1 : Vec Ideal S1x2048x1024 .bf16) : View.ld x1 rW = x1 := by
  funext y
  pointwise [rW]
  refine congrArg x1 (funext fun a => Fin.ext ?_)
  match a with
  | ⟨0, _⟩ => show 0 = (y 0).val; have h : (y 0).val < 1 := (y 0).isLt; omega
  | ⟨1, _⟩ => rfl
  | ⟨2, _⟩ => rfl
theorem ldT (x : Vec Ideal S32x128 .f32) : View.ld x rT = x := by funext y; pointwise [rT]

/-- The product of row `r` of the block of `h` and column `q` of the tile. -/
def acc (x0 : Vec Ideal S32x2048 .bf16) (x1 : Vec Ideal S1x2048x1024 .bf16) (r : Fin 32) (q : ℕ) : EReal :=
  if h : q < 1024 then ∑ k : Fin 2048, x0 (ix2 r k) * x1 (ix3 (0 : Fin 1) k ⟨q, h⟩) else 0

theorem pay1_eq (x0 : Vec Ideal S32x2048 .bf16) (x1 : Vec Ideal S1x2048x1024 .bf16) :
    k0_pay1 x0 x1 = fun y => acc x0 x1 (y 0) (y 1).val := by
  funext y
  refine Eq.trans ?_ (dif_pos (c := (y 1).val < 1024) (y 1).isLt).symm
  pointwise [k0_pay1]

theorem o8_apply (x0 : Vec Ideal S32x2048 .bf16) (x1 : Vec Ideal S1x2048x1024 .bf16) (y : S32x1024.Idx) : o8 x0 x1 y = acc x0 x1 (y 0) (y 1).val := by
  unfold o8
  rw [canon_z (by funext a; fin_cases a <;> rfl), ldH, ldW]
  unfold k0_pay2
  rw [pay1_eq]
  pointwise []

theorem o10_apply (x0 : Vec Ideal S32x2048 .bf16) (x1 : Vec Ideal S1x2048x1024 .bf16) (y : S32x1024.Idx) : o10 x0 x1 y = acc x0 x1 (y 0) (y 1).val := by
  unfold o10
  rw [canon_z (by funext a; fin_cases a <;> rfl), ldH, ldW]
  unfold k0_pay3
  rw [pay1_eq]
  pointwise []

theorem o12_apply (x0 : Vec Ideal S32x2048 .bf16) (x1 : Vec Ideal S1x2048x1024 .bf16) (y : S32x1024.Idx) : o12 x0 x1 y = acc x0 x1 (y 0) (y 1).val := by
  unfold o12
  rw [canon_z (by funext a; fin_cases a <;> rfl), ldH, ldW]
  unfold k0_pay4
  rw [pay1_eq]
  pointwise []

theorem o9_apply (x0 : Vec Ideal S32x2048 .bf16) (x1 : Vec Ideal S1x2048x1024 .bf16) (y : S32x1024.Idx) : o9 x0 x1 y = acc x0 x1 (y 0) (y 1).val := by
  unfold o9
  rw [canon_z (by funext a; fin_cases a <;> rfl), ldH, ldW]
  rw [pay1_eq]

theorem o11_apply (x0 : Vec Ideal S32x2048 .bf16) (x1 : Vec Ideal S1x2048x1024 .bf16) (y : S32x1024.Idx) : o11 x0 x1 y = acc x0 x1 (y 0) (y 1).val := by
  unfold o11
  rw [canon_z (by funext a; fin_cases a <;> rfl), ldH, ldW]
  rw [pay1_eq]

theorem o13_apply (x0 : Vec Ideal S32x2048 .bf16) (x1 : Vec Ideal S1x2048x1024 .bf16) (x2 x3 x4 : Vec Ideal S32x128 .f32) (y : S32x1024.Idx) : o13 x0 x1 x2 x3 x4 y = rot 16 (acc x0 x1 (y 0)) (fun l => x2 (ix2 (y 0) l)) (fun l => x3 (ix2 (y 0) l)) (fun l => x4 (ix2 (y 0) l)) (y 1).val := by
  unfold o13
  rw [canon_z (by funext a; fin_cases a <;> rfl), ldH, ldW, ldT, ldT, ldT]
  unfold k0_pay5 k0_pay11 k0_pay12 k0_pay13 k0_pay14 k0_pay15 k0_pay16 k0_pay17 k0_pay19 k0_pay20 k0_pay18
  rw [pay1_eq]
  pointwise [k0_pay11, k0_pay12, k0_pay13]
  have hy : (y 1).val < 1024 := (y 1).isLt
  repeat' split
  all_goals exact rot_of 16 (acc x0 x1 (y 0)) (fun l => x2 (ix2 (y 0) l)) (fun l => x3 (ix2 (y 0) l)) (fun l => x4 (ix2 (y 0) l)) (y 1).val ((y 1).val / 128 * 128) _ _ _ _ (by omega) (by (try dsimp only) <;> omega) (by (try dsimp only) <;> omega) (by (try dsimp only) <;> omega) (by (try dsimp only) <;> omega)

theorem o14_apply (x0 : Vec Ideal S32x2048 .bf16) (x1 : Vec Ideal S1x2048x1024 .bf16) (x5 x6 x7 : Vec Ideal S32x128 .f32) (y : S32x1024.Idx) : o14 x0 x1 x5 x6 x7 y = rot 8 (acc x0 x1 (y 0)) (fun l => x5 (ix2 (y 0) l)) (fun l => x6 (ix2 (y 0) l)) (fun l => x7 (ix2 (y 0) l)) (y 1).val := by
  unfold o14
  rw [canon_z (by funext a; fin_cases a <;> rfl), ldH, ldW, ldT, ldT, ldT]
  unfold k0_pay6 k0_pay21 k0_pay22 k0_pay23 k0_pay24 k0_pay25 k0_pay26 k0_pay27 k0_pay29 k0_pay30 k0_pay28
  rw [pay1_eq]
  pointwise [k0_pay21, k0_pay22, k0_pay23]
  have hy : (y 1).val < 1024 := (y 1).isLt
  repeat' split
  all_goals exact rot_of 8 (acc x0 x1 (y 0)) (fun l => x5 (ix2 (y 0) l)) (fun l => x6 (ix2 (y 0) l)) (fun l => x7 (ix2 (y 0) l)) (y 1).val ((y 1).val / 128 * 128) _ _ _ _ (by omega) (by (try dsimp only) <;> omega) (by (try dsimp only) <;> omega) (by (try dsimp only) <;> omega) (by (try dsimp only) <;> omega)

theorem o15_apply (x0 : Vec Ideal S32x2048 .bf16) (x1 : Vec Ideal S1x2048x1024 .bf16) (x2 x3 x4 : Vec Ideal S32x128 .f32) (y : S32x256.Idx) : o15 x0 x1 x2 x3 x4 y = rot 16 (acc x0 x1 (y 0)) (fun l => x2 (ix2 (y 0) l)) (fun l => x3 (ix2 (y 0) l)) (fun l => x4 (ix2 (y 0) l)) (y 1).val := by
  unfold o15
  rw [canon_z (by funext a; fin_cases a <;> rfl), ldH, ldW, ldT, ldT, ldT]
  unfold k0_pay31
  rw [pay1_eq]
  pointwise []
  have hy : (y 1).val < 256 := (y 1).isLt
  repeat' split
  all_goals exact rot_of 16 (acc x0 x1 (y 0)) (fun l => x2 (ix2 (y 0) l)) (fun l => x3 (ix2 (y 0) l)) (fun l => x4 (ix2 (y 0) l)) (y 1).val ((y 1).val / 128 * 128) _ _ _ _ (by omega) (by (try dsimp only) <;> omega) (by (try dsimp only) <;> omega) (by (try dsimp only) <;> omega) (by (try dsimp only) <;> omega)

theorem o16_apply (x0 : Vec Ideal S32x2048 .bf16) (x1 : Vec Ideal S1x2048x1024 .bf16) (x2 x3 x4 : Vec Ideal S32x128 .f32) (y : S32x256.Idx) : o16 x0 x1 x2 x3 x4 y = rot 16 (acc x0 x1 (y 0)) (fun l => x2 (ix2 (y 0) l)) (fun l => x3 (ix2 (y 0) l)) (fun l => x4 (ix2 (y 0) l)) (y 1).val := by
  unfold o16
  rw [canon_z (by funext a; fin_cases a <;> rfl), ldH, ldW, ldT, ldT, ldT]
  unfold k0_pay32 k0_pay31
  rw [pay1_eq]
  pointwise []
  have hy : (y 1).val < 256 := (y 1).isLt
  repeat' split
  all_goals exact rot_of 16 (acc x0 x1 (y 0)) (fun l => x2 (ix2 (y 0) l)) (fun l => x3 (ix2 (y 0) l)) (fun l => x4 (ix2 (y 0) l)) (y 1).val ((y 1).val / 128 * 128) _ _ _ _ (by omega) (by (try dsimp only) <;> omega) (by (try dsimp only) <;> omega) (by (try dsimp only) <;> omega) (by (try dsimp only) <;> omega)

theorem o17_apply (x0 : Vec Ideal S32x2048 .bf16) (x1 : Vec Ideal S1x2048x1024 .bf16) (y : S32x256.Idx) : o17 x0 x1 y = acc x0 x1 (y 0) (256 + (y 1).val) := by
  unfold o17
  rw [canon_z (by funext a; fin_cases a <;> rfl), ldH, ldW]
  unfold k0_pay33
  rw [pay1_eq]
  pointwise []

theorem o18_apply (x0 : Vec Ideal S32x2048 .bf16) (x1 : Vec Ideal S1x2048x1024 .bf16) (y : S32x256.Idx) : o18 x0 x1 y = acc x0 x1 (y 0) (256 + (y 1).val) := by
  unfold o18
  rw [canon_z (by funext a; fin_cases a <;> rfl), ldH, ldW]
  unfold k0_pay9 k0_pay33
  rw [pay1_eq]
  pointwise []

theorem o19_apply (x0 : Vec Ideal S32x2048 .bf16) (x1 : Vec Ideal S1x2048x1024 .bf16) (x5 x6 x7 : Vec Ideal S32x128 .f32) (y : S32x64.Idx) : o19 x0 x1 x5 x6 x7 y = rot 8 (acc x0 x1 (y 0)) (fun l => x5 (ix2 (y 0) l)) (fun l => x6 (ix2 (y 0) l)) (fun l => x7 (ix2 (y 0) l)) (512 + (y 1).val) := by
  unfold o19
  rw [canon_z (by funext a; fin_cases a <;> rfl), ldH, ldW, ldT, ldT, ldT]
  unfold k0_pay7 k0_pay34 k0_pay35 k0_pay36
  rw [pay1_eq]
  pointwise []
  have hy : (y 1).val < 64 := (y 1).isLt
  exact rot_of 8 (acc x0 x1 (y 0)) (fun l => x5 (ix2 (y 0) l)) (fun l => x6 (ix2 (y 0) l)) (fun l => x7 (ix2 (y 0) l)) (512 + (y 1).val) 512 _ _ _ _ (by omega) (by (try dsimp only) <;> omega) (by (try dsimp only) <;> omega) (by (try dsimp only) <;> omega) (by (try dsimp only) <;> omega)

theorem o20_apply (x0 : Vec Ideal S32x2048 .bf16) (x1 : Vec Ideal S1x2048x1024 .bf16) (x5 x6 x7 : Vec Ideal S32x128 .f32) (y : S32x64.Idx) : o20 x0 x1 x5 x6 x7 y = rot 8 (acc x0 x1 (y 0)) (fun l => x5 (ix2 (y 0) l)) (fun l => x6 (ix2 (y 0) l)) (fun l => x7 (ix2 (y 0) l)) (512 + (y 1).val) := by
  unfold o20
  rw [canon_z (by funext a; fin_cases a <;> rfl), ldH, ldW, ldT, ldT, ldT]
  unfold k0_pay8 k0_pay7 k0_pay34 k0_pay35 k0_pay36
  rw [pay1_eq]
  pointwise []
  have hy : (y 1).val < 64 := (y 1).isLt
  exact rot_of 8 (acc x0 x1 (y 0)) (fun l => x5 (ix2 (y 0) l)) (fun l => x6 (ix2 (y 0) l)) (fun l => x7 (ix2 (y 0) l)) (512 + (y 1).val) 512 _ _ _ _ (by omega) (by (try dsimp only) <;> omega) (by (try dsimp only) <;> omega) (by (try dsimp only) <;> omega) (by (try dsimp only) <;> omega)

theorem o21_apply (x0 : Vec Ideal S32x2048 .bf16) (x1 : Vec Ideal S1x2048x1024 .bf16) (y : S32x16.Idx) : o21 x0 x1 y = acc x0 x1 (y 0) (640 + (y 1).val) := by
  unfold o21
  rw [canon_z (by funext a; fin_cases a <;> rfl), ldH, ldW]
  unfold k0_pay10
  rw [pay1_eq]
  pointwise []

end Cert.InSV

end
-- ==== Proof.InS.InProjSIdeal.Frame.lean ====
/-
  The frame of the input projection (`Cert.InProjSIdeal`). A result's block is stored at one of the six grid points of a row
  block and written back at the last; in between the body leaves it as it is. So the proof data name the contents by
  the row block alone, whichever of its points one is at.
-/
module

public import proofs.«01_k».proof.Proof.InS.InProjSIdeal.Body
public import proofs.«01_k».proof.Proof.InP.Keep

@[expose] public section

set_option maxRecDepth 16384

noncomputable section

namespace Cert.InS.InProjSIdeal

open Cert.InProjSIdeal Cert.InProjSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕋" => Thread nD τ
local notation "𝕄" => MT nD τ sig Unit (Elt F) ℕ (UR sig nD τ) ℕ

open Cert.InPK

variable (m : (ℓ : Loc nD τ sig) → Buf (Elt F) ℓ) (ρ : Dev nD → PrngReg)

/-! ## The grid -/

theorem N_eq : cfg0.N = 1 * 6 := N_0

/-- The point of the row block of `t` at column tile `j`. -/
abbrev pt (t : Fin cfg0.N) (j : Fin 6) : Fin cfg0.N := row (n := 1) N_eq t j

set_option maxRecDepth 100000 in
/-- Which tile a point is at. -/
theorem cond_facts : ∀ t : Fin cfg0.N,
    (k0_cond1 (grid0.coords t) = 1#1 ↔ t.val % 6 = 0) ∧ (k0_cond2 (grid0.coords t) = 1#1 ↔ t.val % 6 = 1) ∧ (k0_cond3 (grid0.coords t) = 1#1 ↔ t.val % 6 = 2)
    ∧ (k0_cond4 (grid0.coords t) = 1#1 ↔ t.val % 6 = 3) ∧ (k0_cond5 (grid0.coords t) = 1#1 ↔ t.val % 6 = 4) ∧ (k0_cond6 (grid0.coords t) = 1#1 ↔ t.val % 6 = 5) :=
  (by decide +kernel : ∀ t : Fin grid0.N, _)

/-! ## The proof data -/

variable (c : Dev nD) (t : Fin cfg0.N)

abbrev b8 := o8 (iblk m c 0 t) (iblk m c 1 t)
abbrev b9 := o9 (iblk m c 0 t) (iblk m c 1 t)
abbrev b10 := o10 (iblk m c 0 t) (iblk m c 1 t)
abbrev b11 := o11 (iblk m c 0 t) (iblk m c 1 t)
abbrev b12 := o12 (iblk m c 0 t) (iblk m c 1 t)
abbrev b13 := o13 (iblk m c 0 t) (iblk m c 1 t) (iblk m c 2 t) (iblk m c 3 t) (iblk m c 4 t)
abbrev b14 := o14 (iblk m c 0 t) (iblk m c 1 t) (iblk m c 5 t) (iblk m c 6 t) (iblk m c 7 t)
abbrev b15 := o15 (iblk m c 0 t) (iblk m c 1 t) (iblk m c 2 t) (iblk m c 3 t) (iblk m c 4 t)
abbrev b16 := o16 (iblk m c 0 t) (iblk m c 1 t) (iblk m c 2 t) (iblk m c 3 t) (iblk m c 4 t)
abbrev b17 := o17 (iblk m c 0 t) (iblk m c 1 t)
abbrev b18 := o18 (iblk m c 0 t) (iblk m c 1 t)
abbrev b19 := o19 (iblk m c 0 t) (iblk m c 1 t) (iblk m c 5 t) (iblk m c 6 t) (iblk m c 7 t)
abbrev b20 := o20 (iblk m c 0 t) (iblk m c 1 t) (iblk m c 5 t) (iblk m c 6 t) (iblk m c 7 t)
abbrev b21 := o21 (iblk m c 0 t) (iblk m c 1 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => b8 m c (pt t 0)
    | ⟨9, _⟩ => b9 m c (pt t 1)
    | ⟨10, _⟩ => b10 m c (pt t 1)
    | ⟨11, _⟩ => b11 m c (pt t 2)
    | ⟨12, _⟩ => b12 m c (pt t 2)
    | ⟨13, _⟩ => b13 m c (pt t 3)
    | ⟨14, _⟩ => b14 m c (pt t 4)
    | ⟨15, _⟩ => b15 m c (pt t 5)
    | ⟨16, _⟩ => b16 m c (pt t 5)
    | ⟨17, _⟩ => b17 m c (pt t 5)
    | ⟨18, _⟩ => b18 m c (pt t 5)
    | ⟨19, _⟩ => b19 m c (pt t 5)
    | ⟨20, _⟩ => b20 m c (pt t 5)
    | ⟨21, _⟩ => b21 m c (pt t 5)
    | ⟨n + 22, h⟩ => absurd (show n + 22 < 22 from h) (by omega)
  Φ _ := Pipeline.ΦA spec0 c
  q _ := fullShare
  owed _ := 0

theorem A_eq (w : Fin cfg0.W) : (dats m 0 c).A w = V m c (Pipeline.arrRef spec0 w) := by
  dsimp only [dats]

theorem after0_0 : (dats m 0 c).after 0 t = iblk m c 0 t := by dsimp only [dats] <;> rfl
theorem after0_1 : (dats m 0 c).after 1 t = iblk m c 1 t := by dsimp only [dats] <;> rfl
theorem after0_2 : (dats m 0 c).after 2 t = iblk m c 2 t := by dsimp only [dats] <;> rfl
theorem after0_3 : (dats m 0 c).after 3 t = iblk m c 3 t := by dsimp only [dats] <;> rfl
theorem after0_4 : (dats m 0 c).after 4 t = iblk m c 4 t := by dsimp only [dats] <;> rfl
theorem after0_5 : (dats m 0 c).after 5 t = iblk m c 5 t := by dsimp only [dats] <;> rfl
theorem after0_6 : (dats m 0 c).after 6 t = iblk m c 6 t := by dsimp only [dats] <;> rfl
theorem after0_7 : (dats m 0 c).after 7 t = iblk m c 7 t := by dsimp only [dats] <;> rfl
theorem after0_8 : (dats m 0 c).after 8 t = b8 m c (pt t 0) := by dsimp only [dats] <;> rfl
theorem after0_9 : (dats m 0 c).after 9 t = b9 m c (pt t 1) := by dsimp only [dats] <;> rfl
theorem after0_10 : (dats m 0 c).after 10 t = b10 m c (pt t 1) := by dsimp only [dats] <;> rfl
theorem after0_11 : (dats m 0 c).after 11 t = b11 m c (pt t 2) := by dsimp only [dats] <;> rfl
theorem after0_12 : (dats m 0 c).after 12 t = b12 m c (pt t 2) := by dsimp only [dats] <;> rfl
theorem after0_13 : (dats m 0 c).after 13 t = b13 m c (pt t 3) := by dsimp only [dats] <;> rfl
theorem after0_14 : (dats m 0 c).after 14 t = b14 m c (pt t 4) := by dsimp only [dats] <;> rfl
theorem after0_15 : (dats m 0 c).after 15 t = b15 m c (pt t 5) := by dsimp only [dats] <;> rfl
theorem after0_16 : (dats m 0 c).after 16 t = b16 m c (pt t 5) := by dsimp only [dats] <;> rfl
theorem after0_17 : (dats m 0 c).after 17 t = b17 m c (pt t 5) := by dsimp only [dats] <;> rfl
theorem after0_18 : (dats m 0 c).after 18 t = b18 m c (pt t 5) := by dsimp only [dats] <;> rfl
theorem after0_19 : (dats m 0 c).after 19 t = b19 m c (pt t 5) := by dsimp only [dats] <;> rfl
theorem after0_20 : (dats m 0 c).after 20 t = b20 m c (pt t 5) := by dsimp only [dats] <;> rfl
theorem after0_21 : (dats m 0 c).after 21 t = b21 m c (pt t 5) := by dsimp only [dats] <;> rfl
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem k8 : Kept (dats m 0 c) 8 0 (b8 m c) := kept_of _ 8 rfl (fun _ _ => rfl) 0 (fun t => (cond_facts t).1) (fun _ => rfl) flush0_8 _ N_eq (after0_8 m c)
theorem k9 : Kept (dats m 0 c) 9 1 (b9 m c) := kept_of _ 9 rfl (fun _ _ => rfl) 1 (fun t => (cond_facts t).2.1) (fun _ => rfl) flush0_9 _ N_eq (after0_9 m c)
theorem k10 : Kept (dats m 0 c) 10 1 (b10 m c) := kept_of _ 10 rfl (fun _ _ => rfl) 1 (fun t => (cond_facts t).2.1) (fun _ => rfl) flush0_10 _ N_eq (after0_10 m c)
theorem k11 : Kept (dats m 0 c) 11 2 (b11 m c) := kept_of _ 11 rfl (fun _ _ => rfl) 2 (fun t => (cond_facts t).2.2.1) (fun _ => rfl) flush0_11 _ N_eq (after0_11 m c)
theorem k12 : Kept (dats m 0 c) 12 2 (b12 m c) := kept_of _ 12 rfl (fun _ _ => rfl) 2 (fun t => (cond_facts t).2.2.1) (fun _ => rfl) flush0_12 _ N_eq (after0_12 m c)
theorem k13 : Kept (dats m 0 c) 13 3 (b13 m c) := kept_of _ 13 rfl (fun _ _ => rfl) 3 (fun t => (cond_facts t).2.2.2.1) (fun _ => rfl) flush0_13 _ N_eq (after0_13 m c)
theorem k14 : Kept (dats m 0 c) 14 4 (b14 m c) := kept_of _ 14 rfl (fun _ _ => rfl) 4 (fun t => (cond_facts t).2.2.2.2.1) (fun _ => rfl) flush0_14 _ N_eq (after0_14 m c)
theorem k15 : Kept (dats m 0 c) 15 5 (b15 m c) := kept_of _ 15 rfl (fun _ _ => rfl) 5 (fun t => (cond_facts t).2.2.2.2.2) (fun _ => rfl) flush0_15 _ N_eq (after0_15 m c)
theorem k16 : Kept (dats m 0 c) 16 5 (b16 m c) := kept_of _ 16 rfl (fun _ _ => rfl) 5 (fun t => (cond_facts t).2.2.2.2.2) (fun _ => rfl) flush0_16 _ N_eq (after0_16 m c)
theorem k17 : Kept (dats m 0 c) 17 5 (b17 m c) := kept_of _ 17 rfl (fun _ _ => rfl) 5 (fun t => (cond_facts t).2.2.2.2.2) (fun _ => rfl) flush0_17 _ N_eq (after0_17 m c)
theorem k18 : Kept (dats m 0 c) 18 5 (b18 m c) := kept_of _ 18 rfl (fun _ _ => rfl) 5 (fun t => (cond_facts t).2.2.2.2.2) (fun _ => rfl) flush0_18 _ N_eq (after0_18 m c)
theorem k19 : Kept (dats m 0 c) 19 5 (b19 m c) := kept_of _ 19 rfl (fun _ _ => rfl) 5 (fun t => (cond_facts t).2.2.2.2.2) (fun _ => rfl) flush0_19 _ N_eq (after0_19 m c)
theorem k20 : Kept (dats m 0 c) 20 5 (b20 m c) := kept_of _ 20 rfl (fun _ _ => rfl) 5 (fun t => (cond_facts t).2.2.2.2.2) (fun _ => rfl) flush0_20 _ N_eq (after0_20 m c)
theorem k21 : Kept (dats m 0 c) 21 5 (b21 m c) := kept_of _ 21 rfl (fun _ _ => rfl) 5 (fun t => (cond_facts t).2.2.2.2.2) (fun _ => rfl) flush0_21 _ N_eq (after0_21 m c)

/-! ## The body obligation -/

/-- Window `w`'s buffer as the body finds it. -/
abbrev found (w : Fin cfg0.W) : sProp 𝕄 :=
  iprop(∃ d, owns (c : 𝕋) ((cfg0.win w).stage (cfg0.slots t w)) fullShare ((dats m 0 c).before w t d))

/-- Window `w`'s buffer at the contents the proof data name. -/
abbrev done (w : Fin cfg0.W) : sProp 𝕄 :=
  owns (c : 𝕋) ((cfg0.win w).stage (cfg0.slots t w)) fullShare ((dats m 0 c).after w t)

def bodyPre : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7 ∗ found m c t 8 ∗ found m c t 9 ∗ found m c t 10 ∗ found m c t 11 ∗ found m c t 12 ∗ found m c t 13 ∗ found m c t 14 ∗ found m c t 15 ∗ found m c t 16 ∗ found m c t 17 ∗ found m c t 18 ∗ found m c t 19 ∗ found m c t 20 ∗ found m c t 21)

def bodyPost : sProp 𝕄 :=
  iprop((dats m 0 c).Φ t.succ ∗ (dats m 0 c).owesAt () t.succ
    ∗ done m c t 0 ∗ done m c t 1 ∗ done m c t 2 ∗ done m c t 3 ∗ done m c t 4 ∗ done m c t 5 ∗ done m c t 6 ∗ done m c t 7 ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)

set_option maxHeartbeats 2000000 in
theorem body_0 (ht : t.val % 6 = 0) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15, H16, H17, H18, H19, H20, H21⟩
  iapply (run_0 c (grid0.coords t) ((cond_facts t).1.mpr ht) (off (cond_facts t).2.1 (by omega)) (off (cond_facts t).2.2.1 (by omega)) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H8]; · iexists _; iexact H8
  iintro ⟨H0, H1, H8⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).2 t ht); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_1 (ht : t.val % 6 = 1) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, ⟨%d10, H10⟩, H11, H12, H13, H14, H15, H16, H17, H18, H19, H20, H21⟩
  iapply (run_1 c (grid0.coords t) (off (cond_facts t).1 (by omega)) ((cond_facts t).2.1.mpr ht) (off (cond_facts t).2.2.1 (by omega)) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H9]; · iexists _; iexact H9
  isplitl [H10]; · iexists _; iexact H10
  iintro ⟨H0, H1, H9, H10⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).2 t ht); iexact H9
  isplitl [H10]; · iapply ((k10 m c).2 t ht); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_2 (ht : t.val % 6 = 2) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, ⟨%d11, H11⟩, ⟨%d12, H12⟩, H13, H14, H15, H16, H17, H18, H19, H20, H21⟩
  iapply (run_2 c (grid0.coords t) (off (cond_facts t).1 (by omega)) (off (cond_facts t).2.1 (by omega)) ((cond_facts t).2.2.1.mpr ht) (off (cond_facts t).2.2.2.1 (by omega)) (off (cond_facts t).2.2.2.2.1 (by omega)) (off (cond_facts t).2.2.2.2.2 (by omega)) (iblk m c 0 t) (iblk m c 1 t) _ _ rfl)
  isplitl [H0]; · iexact H0
  isplitl [H1]; · iexact H1
  isplitl [H11]; · iexists _; iexact H11
  isplitl [H12]; · iexists _; iexact H12
  iintro ⟨H0, H1, H11, H12⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).2 t ht); iexact H11
  isplitl [H12]; · iapply ((k12 m c).2 t ht); iexact H12
  isplitl [H13]; · iapply ((k13 m c).1 t (by omega)); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_3 (ht : t.val % 6 = 3) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, ⟨%d13, H13⟩, H14, H15, H16, H17, H18, H19, H20, H21⟩
  iapply (run_3 c (grid0.coords t) (off (cond_facts t).1 (by omega)) (off (cond_facts t).2.1 (by omega)) (off (cond_facts t).2.2.1 (by omega)) ((cond_facts t).2.2.2.1.mpr ht) (off (cond_facts t).2.2.2.2.1 (by omega)) (off (cond_facts t).2.2.2.2.2 (by omega)) (iblk m c 0 t) (iblk m c 1 t) (iblk m c 2 t) (iblk m c 3 t) (iblk m c 4 t) _ _ rfl)
  isplitl [H0]; · iexact H0
  isplitl [H1]; · iexact H1
  isplitl [H2]; · iexact H2
  isplitl [H3]; · iexact H3
  isplitl [H4]; · iexact H4
  isplitl [H13]; · iexists _; iexact H13
  iintro ⟨H0, H1, H2, H3, H4, H13⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).2 t ht); iexact H13
  isplitl [H14]; · iapply ((k14 m c).1 t (by omega)); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_4 (ht : t.val % 6 = 4) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, ⟨%d14, H14⟩, H15, H16, H17, H18, H19, H20, H21⟩
  iapply (run_4 c (grid0.coords t) (off (cond_facts t).1 (by omega)) (off (cond_facts t).2.1 (by omega)) (off (cond_facts t).2.2.1 (by omega)) (off (cond_facts t).2.2.2.1 (by omega)) ((cond_facts t).2.2.2.2.1.mpr ht) (off (cond_facts t).2.2.2.2.2 (by omega)) (iblk m c 0 t) (iblk m c 1 t) (iblk m c 5 t) (iblk m c 6 t) (iblk m c 7 t) _ _ rfl)
  isplitl [H0]; · iexact H0
  isplitl [H1]; · iexact H1
  isplitl [H5]; · iexact H5
  isplitl [H6]; · iexact H6
  isplitl [H7]; · iexact H7
  isplitl [H14]; · iexists _; iexact H14
  iintro ⟨H0, H1, H5, H6, H7, H14⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).2 t ht); iexact H14
  isplitl [H15]; · iapply ((k15 m c).1 t (by omega)); iexact H15
  isplitl [H16]; · iapply ((k16 m c).1 t (by omega)); iexact H16
  isplitl [H17]; · iapply ((k17 m c).1 t (by omega)); iexact H17
  isplitl [H18]; · iapply ((k18 m c).1 t (by omega)); iexact H18
  isplitl [H19]; · iapply ((k19 m c).1 t (by omega)); iexact H19
  isplitl [H20]; · iapply ((k20 m c).1 t (by omega)); iexact H20
  iapply ((k21 m c).1 t (by omega)); iexact H21

set_option maxHeartbeats 2000000 in
theorem body_5 (ht : t.val % 6 = 5) :
    bodyPre m c t ⊢ wp frame (wpE (defs₀ (F := F)) Variants.none (c : 𝕋) none) Set.univ (bodyAt0 t) (fun _ => bodyPost m c t) := by
  unfold bodyPre bodyPost found done bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14, ⟨%d15, H15⟩, ⟨%d16, H16⟩, ⟨%d17, H17⟩, ⟨%d18, H18⟩, ⟨%d19, H19⟩, ⟨%d20, H20⟩, ⟨%d21, H21⟩⟩
  iapply (run_5 c (grid0.coords t) (off (cond_facts t).1 (by omega)) (off (cond_facts t).2.1 (by omega)) (off (cond_facts t).2.2.1 (by omega)) (off (cond_facts t).2.2.2.1 (by omega)) (off (cond_facts t).2.2.2.2.1 (by omega)) ((cond_facts t).2.2.2.2.2.mpr ht) (iblk m c 0 t) (iblk m c 1 t) (iblk m c 2 t) (iblk m c 3 t) (iblk m c 4 t) (iblk m c 5 t) (iblk m c 6 t) (iblk m c 7 t) _ _ rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H15, H16, H17, H18, H19, H20, H21⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply ((k8 m c).1 t (by omega)); iexact H8
  isplitl [H9]; · iapply ((k9 m c).1 t (by omega)); iexact H9
  isplitl [H10]; · iapply ((k10 m c).1 t (by omega)); iexact H10
  isplitl [H11]; · iapply ((k11 m c).1 t (by omega)); iexact H11
  isplitl [H12]; · iapply ((k12 m c).1 t (by omega)); iexact H12
  isplitl [H13]; · iapply ((k13 m c).1 t (by omega)); iexact H13
  isplitl [H14]; · iapply ((k14 m c).1 t (by omega)); iexact H14
  isplitl [H15]; · iapply ((k15 m c).2 t ht); iexact H15
  isplitl [H16]; · iapply ((k16 m c).2 t ht); iexact H16
  isplitl [H17]; · iapply ((k17 m c).2 t ht); iexact H17
  isplitl [H18]; · iapply ((k18 m c).2 t ht); iexact H18
  isplitl [H19]; · iapply ((k19 m c).2 t ht); iexact H19
  isplitl [H20]; · iapply ((k20 m c).2 t ht); iexact H20
  iapply ((k21 m c).2 t ht); iexact H21

theorem sound_body :
    bodyPre m c t ⊢ wp frame (wpE (defs₀ (F := F)) Variants.none (c : 𝕋) none) Set.univ (bodyAt0 t) (fun _ => bodyPost m c t) := by
  have h6 : t.val % 6 < 6 := Nat.mod_lt _ (by decide)
  obtain h | h | h | h | h | h : t.val % 6 = 0 ∨ t.val % 6 = 1 ∨ t.val % 6 = 2 ∨ t.val % 6 = 3 ∨ t.val % 6 = 4 ∨ t.val % 6 = 5 := by omega
  · exact body_0 m c t h
  · exact body_1 m c t h
  · exact body_2 m c t h
  · exact body_3 m c t h
  · exact body_4 m c t h
  · exact body_5 m c t h

theorem defs₀_row :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 1600000 in
/-- The run: every array of the pipeline at what the proof data give, every other buffer as the region found it, every
    semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.InS.InProjSIdeal

end
-- ==== Proof.InS.Blocks.lean ====
/- The blocks of the sample's input projection read off the arguments: the product of a tile and the rotation's tables, by the
   row and column of the whole. -/
module

public import proofs.«01_k».proof.Proof.InS.Host
public import proofs.«01_k».proof.Proof.InS.Pay
public import proofs.«01_k».proof.Proof.InS.InProjSIdeal.Frame

@[expose] public section

set_option maxRecDepth 16384

noncomputable section

open Idealize.ShloMosaic Idealize.ShloMosaic.TcCoe Idealize.ShloMosaic.Pipeline Idealize.SL.Sem

namespace Cert.InSV
open Cert.InPV
open Cert.InProjSIdeal Cert.InProjSIdeal.Gen Cert.InS.InProjSIdeal

variable (m : (ℓ : Loc nD τ sig) → Buf (Elt Ideal) ℓ)

/-! ## The index maps over the grid -/

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 3) = t.val % 6 ∧ win0_1.index t (1 : Fin 3) = 0 ∧ win0_1.index t (2 : Fin 3) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

/-! ## The blocks -/

theorem blk0 (c : Dev nD) (t : Fin cfg0.N) (r : Fin 32) (k : Fin 2048) : iblk m c 0 t (ix2 r k)
    = m ((c : Thread nD τ).loc main_arg0) (ix2 r k) := by
  obtain ⟨e0, e1⟩ := idx_0 t
  unfold iblk
  rw [show V m c (Pipeline.arrRef spec0 0) = _ from V_main_arg0 m c]
  refine congrArg (m ((c : Thread nD τ).loc main_arg0)) (funext fun a => Fin.ext ?_)
  match a with
  | ⟨0, _⟩ => show win0_0.index t (0 : Fin 2) * 32 + 1 * r.val = r.val; rw [e0]; omega
  | ⟨1, _⟩ => show win0_0.index t (1 : Fin 2) * 2048 + 1 * k.val = k.val; rw [e1]; omega

theorem blk1 (c : Dev nD) (t : Fin cfg0.N) (k : Fin 2048) (l : Fin 1024) : iblk m c 1 t (ix3 0 k l)
    = V m c main_v20 (ix3 ⟨t.val % 6, by omega⟩ k l) := by
  obtain ⟨e0, e1, e2⟩ := idx_1 t
  unfold iblk
  refine congrArg (V m c main_v20) (funext fun a => Fin.ext ?_)
  match a with
  | ⟨0, _⟩ => show win0_1.index t (0 : Fin 3) * 1 + 1 * 0 = t.val % 6; rw [e0]; omega
  | ⟨1, _⟩ => show win0_1.index t (1 : Fin 3) * 2048 + 1 * k.val = k.val; rw [e1]; omega
  | ⟨2, _⟩ => show win0_1.index t (2 : Fin 3) * 1024 + 1 * l.val = l.val; rw [e2]; omega

theorem pt_mod (t : Fin cfg0.N) (j : Fin 6) : (pt t j).val % 6 = j.val := by
  show (t.val / 6 * 6 + j.val) % 6 = _
  omega

/-- The product of the two arguments. -/
abbrev P (c : Dev nD) : (⟨2, ![32, 9808]⟩ : Shape).Idx → EReal :=
  prod (m ((c.tc : Thread nD τ).loc main_arg0)) (m ((c.tc : Thread nD τ).loc main_arg1))

/-- Row `r`, lane `q` of tile `j`'s product is the product's entry at that row and the tile's column. -/
theorem acc_eq (c : Dev nD) (t : Fin cfg0.N) (j : Fin 6) (r : Fin 32) (q col : ℕ) (hq : q < 1024) (hcol : col < 9808)
    (hW : ∀ k : Fin 2048, (V m c main_v20 (ix3 j k ⟨q, hq⟩) : EReal) = at2 (R := 2048) (C := 9808) (m ((c.tc : Thread nD τ).loc main_arg1)) k.val col) :
    acc (iblk m c 0 (pt t j)) (iblk m c 1 (pt t j)) r q = at2 (P m c) r.val col := by
  rw [acc, dif_pos hq]
  refine Eq.trans ?_ (at2_of (P m c) r ⟨col, hcol⟩ _ _ rfl rfl)
  unfold P prod
  refine Finset.sum_congr rfl fun k _ => congrArg₂ (fun a b : EReal => a * b) ?_ ?_
  · exact blk0 m c (pt t j) r k
  · rw [blk1 m c (pt t j) k ⟨q, hq⟩, show (⟨(pt t j).val % 6, _⟩ : Fin 6) = j from Fin.ext (pt_mod t j), hW k]
    exact (at2_of (R := 2048) (C := 9808) _ k ⟨col, hcol⟩ _ _ rfl rfl).symm

theorem acc_0 (c : Dev nD) (t : Fin cfg0.N) (r : Fin 32) (q : ℕ) (hq : q < 1024) :
    acc (iblk m c 0 (pt t 0)) (iblk m c 1 (pt t 0)) r q = at2 (P m c) r.val (0 + q) :=
  acc_eq m c t 0 r q _ hq (by omega) fun k => Host.V_w0 m c k ⟨q, hq⟩

theorem acc_1 (c : Dev nD) (t : Fin cfg0.N) (r : Fin 32) (q : ℕ) (hq : q < 1024) :
    acc (iblk m c 0 (pt t 1)) (iblk m c 1 (pt t 1)) r q = at2 (P m c) r.val (1024 + q) :=
  acc_eq m c t 1 r q _ hq (by omega) fun k => Host.V_w1 m c k ⟨q, hq⟩

theorem acc_2 (c : Dev nD) (t : Fin cfg0.N) (r : Fin 32) (q : ℕ) (hq : q < 1024) :
    acc (iblk m c 0 (pt t 2)) (iblk m c 1 (pt t 2)) r q = at2 (P m c) r.val (2048 + q) :=
  acc_eq m c t 2 r q _ hq (by omega) fun k => Host.V_w2 m c k ⟨q, hq⟩

theorem acc_3 (c : Dev nD) (t : Fin cfg0.N) (r : Fin 32) (q : ℕ) (hq : q < 1024) :
    acc (iblk m c 0 (pt t 3)) (iblk m c 1 (pt t 3)) r q = at2 (P m c) r.val (3072 + q) :=
  acc_eq m c t 3 r q _ hq (by omega) fun k => Host.V_w3 m c k ⟨q, hq⟩

theorem acc_4 (c : Dev nD) (t : Fin cfg0.N) (r : Fin 32) (q : ℕ) (hq : q < 1024) :
    acc (iblk m c 0 (pt t 4)) (iblk m c 1 (pt t 4)) r q = at2 (P m c) r.val (4608 + q) :=
  acc_eq m c t 4 r q _ hq (by omega) fun k => Host.V_w4 m c k ⟨q, hq⟩

theorem acc_5a (c : Dev nD) (t : Fin cfg0.N) (r : Fin 32) (q : ℕ) (h0 : 0 ≤ q) (h1 : q < 512) :
    acc (iblk m c 0 (pt t 5)) (iblk m c 1 (pt t 5)) r q = at2 (P m c) r.val (4096 + (q - 0)) :=
  acc_eq m c t 5 r q _ (by omega) (by omega) fun k => Host.V_w5a m c k ⟨q, by omega⟩ h0 h1

theorem acc_5b (c : Dev nD) (t : Fin cfg0.N) (r : Fin 32) (q : ℕ) (h0 : 512 ≤ q) (h1 : q < 576) :
    acc (iblk m c 0 (pt t 5)) (iblk m c 1 (pt t 5)) r q = at2 (P m c) r.val (5632 + (q - 512)) :=
  acc_eq m c t 5 r q _ (by omega) (by omega) fun k => Host.V_w5b m c k ⟨q, by omega⟩ h0 h1

theorem acc_5c (c : Dev nD) (t : Fin cfg0.N) (r : Fin 32) (q : ℕ) (h0 : 640 ≤ q) (h1 : q < 656) :
    acc (iblk m c 0 (pt t 5)) (iblk m c 1 (pt t 5)) r q = at2 (P m c) r.val (5696 + (q - 640)) :=
  acc_eq m c t 5 r q _ (by omega) (by omega) fun k => Host.V_w5c m c k ⟨q, by omega⟩ h0 h1

theorem tab_2 (c : Dev nD) (t : Fin cfg0.N) (j : Fin 6) (r : Fin 32) (l : Fin 128) : (iblk m c 2 (pt t j) (ix2 r l) : EReal)
    = tabC 16 128 (fun k => Ideal.cos (angle 1107296256#32 16384 k)) l.val := by
  obtain ⟨e0, e1⟩ := idx_2 (pt t j)
  refine Eq.trans ?_ (Host.V_v44 m c r l)
  unfold iblk
  refine congrArg (V m c main_v44) (funext fun a => Fin.ext ?_)
  match a with
  | ⟨0, _⟩ => show win0_2.index (pt t j) (0 : Fin 2) * 32 + 1 * r.val = r.val; rw [e0]; omega
  | ⟨1, _⟩ => show win0_2.index (pt t j) (1 : Fin 2) * 128 + 1 * l.val = l.val; rw [e1]; omega

theorem tab_3 (c : Dev nD) (t : Fin cfg0.N) (j : Fin 6) (r : Fin 32) (l : Fin 128) : (iblk m c 3 (pt t j) (ix2 r l) : EReal)
    = tabL 16 128 (fun k => Ideal.sin (angle 1107296256#32 16384 k)) l.val := by
  obtain ⟨e0, e1⟩ := idx_3 (pt t j)
  refine Eq.trans ?_ (Host.V_v51 m c r l)
  unfold iblk
  refine congrArg (V m c main_v51) (funext fun a => Fin.ext ?_)
  match a with
  | ⟨0, _⟩ => show win0_3.index (pt t j) (0 : Fin 2) * 32 + 1 * r.val = r.val; rw [e0]; omega
  | ⟨1, _⟩ => show win0_3.index (pt t j) (1 : Fin 2) * 128 + 1 * l.val = l.val; rw [e1]; omega

theorem tab_4 (c : Dev nD) (t : Fin cfg0.N) (j : Fin 6) (r : Fin 32) (l : Fin 128) : (iblk m c 4 (pt t j) (ix2 r l) : EReal)
    = tabH 16 128 (fun k => Ideal.sin (angle 1107296256#32 16384 k)) l.val := by
  obtain ⟨e0, e1⟩ := idx_4 (pt t j)
  refine Eq.trans ?_ (Host.V_v57 m c r l)
  unfold iblk
  refine congrArg (V m c main_v57) (funext fun a => Fin.ext ?_)
  match a with
  | ⟨0, _⟩ => show win0_4.index (pt t j) (0 : Fin 2) * 32 + 1 * r.val = r.val; rw [e0]; omega
  | ⟨1, _⟩ => show win0_4.index (pt t j) (1 : Fin 2) * 128 + 1 * l.val = l.val; rw [e1]; omega

theorem tab_5 (c : Dev nD) (t : Fin cfg0.N) (j : Fin 6) (r : Fin 32) (l : Fin 128) : (iblk m c 5 (pt t j) (ix2 r l) : EReal)
    = tabC 8 64 (fun k => Ideal.cos (angle 1098907648#32 16384 k)) l.val := by
  obtain ⟨e0, e1⟩ := idx_5 (pt t j)
  refine Eq.trans ?_ (Host.V_v80 m c r l)
  unfold iblk
  refine congrArg (V m c main_v80) (funext fun a => Fin.ext ?_)
  match a with
  | ⟨0, _⟩ => show win0_5.index (pt t j) (0 : Fin 2) * 32 + 1 * r.val = r.val; rw [e0]; omega
  | ⟨1, _⟩ => show win0_5.index (pt t j) (1 : Fin 2) * 128 + 1 * l.val = l.val; rw [e1]; omega

theorem tab_6 (c : Dev nD) (t : Fin cfg0.N) (j : Fin 6) (r : Fin 32) (l : Fin 128) : (iblk m c 6 (pt t j) (ix2 r l) : EReal)
    = tabL 8 64 (fun k => Ideal.sin (angle 1098907648#32 16384 k)) l.val := by
  obtain ⟨e0, e1⟩ := idx_6 (pt t j)
  refine Eq.trans ?_ (Host.V_v87 m c r l)
  unfold iblk
  refine congrArg (V m c main_v87) (funext fun a => Fin.ext ?_)
  match a with
  | ⟨0, _⟩ => show win0_6.index (pt t j) (0 : Fin 2) * 32 + 1 * r.val = r.val; rw [e0]; omega
  | ⟨1, _⟩ => show win0_6.index (pt t j) (1 : Fin 2) * 128 + 1 * l.val = l.val; rw [e1]; omega

theorem tab_7 (c : Dev nD) (t : Fin cfg0.N) (j : Fin 6) (r : Fin 32) (l : Fin 128) : (iblk m c 7 (pt t j) (ix2 r l) : EReal)
    = tabH 8 64 (fun k => Ideal.sin (angle 1098907648#32 16384 k)) l.val := by
  obtain ⟨e0, e1⟩ := idx_7 (pt t j)
  refine Eq.trans ?_ (Host.V_v93 m c r l)
  unfold iblk
  refine congrArg (V m c main_v93) (funext fun a => Fin.ext ?_)
  match a with
  | ⟨0, _⟩ => show win0_7.index (pt t j) (0 : Fin 2) * 32 + 1 * r.val = r.val; rw [e0]; omega
  | ⟨1, _⟩ => show win0_7.index (pt t j) (1 : Fin 2) * 128 + 1 * l.val = l.val; rw [e1]; omega

end Cert.InSV

end
-- ==== Proof.InS.Ref.lean ====
/- What the reference of the sample's input projection computes, result by result, at an index. -/
module

public import proofs.«01_k».proof.Proof.InP.Math
public import proofs.«01_k».proof.Proof.Gen.InProjSRefIdeal.Run
public import proofs.«01_k».proof.Proof.Gen.InProjSRefIdeal.Read

@[expose] public section

set_option maxRecDepth 16384

noncomputable section

open Idealize.ShloMosaic Idealize.ShloMosaic.TcCoe Idealize.SL.Sem

namespace Cert.InSV.Ref
open Cert.InProjSRefIdeal Cert.InProjSRefIdeal.Gen Cert.InProjSRefIdeal.Read Cert.InPV

variable (x0 : (⟨S32x2048, .bf16⟩ : BufTy).Contents (Elt Ideal)) (x1 : (⟨S2048x9808, .f32⟩ : BufTy).Contents (Elt Ideal))

theorem v1_eq : val_main_v1 (F := Ideal) x0 x1 = prod x0 x1 := by
  funext y
  unfold val_main_v1 val_main_v0 prod
  pointwise

theorem v31_eq : val_main_v31 (F := Ideal) = fun y : S1x16.Idx => Ideal.cos (angle 1107296256#32 16384 (y 1).val) := by
  funext y
  unfold val_main_v31 val_main_v30 val_main_v29 val_main_v28 val_main_v27 val_main_v26 val_main_v25 val_main_v24 val_main_v23 val_main_v22 val_main_v21 val_main_v20 val_main_v19 val_main_v18 val_main_v17 val_main_v15 val_main_v14 val_main_v13 angle
  pointwise [val_main_c, val_main_cst, val_main_cst_0, val_main_cst_1, val_main_cst_2]
  rw [show IntOp.addi 16384#32 0#32 = 16384#32 from by decide]

theorem v33_eq : val_main_v33 (F := Ideal) = fun y : S1x16.Idx => Ideal.sin (angle 1107296256#32 16384 (y 1).val) := by
  funext y
  unfold val_main_v33 val_main_v30 val_main_v29 val_main_v28 val_main_v27 val_main_v26 val_main_v25 val_main_v24 val_main_v23 val_main_v22 val_main_v21 val_main_v20 val_main_v19 val_main_v18 val_main_v17 val_main_v15 val_main_v14 val_main_v13 angle
  pointwise [val_main_c, val_main_cst, val_main_cst_0, val_main_cst_1, val_main_cst_2]
  rw [show IntOp.addi 16384#32 0#32 = 16384#32 from by decide]

theorem v69_eq : val_main_v69 (F := Ideal) = fun y : S1x16.Idx => Ideal.cos (angle 1107296256#32 16384 (y 1).val) := by
  funext y
  unfold val_main_v69 val_main_v68 val_main_v67 val_main_v66 val_main_v65 val_main_v64 val_main_v63 val_main_v62 val_main_v61 val_main_v60 val_main_v59 val_main_v58 val_main_v57 val_main_v56 val_main_v55 val_main_v15 val_main_v14 val_main_v13 angle
  pointwise [val_main_c, val_main_cst_3, val_main_cst_4, val_main_cst_5, val_main_cst_6]
  rw [show IntOp.addi 16384#32 0#32 = 16384#32 from by decide]

theorem v71_eq : val_main_v71 (F := Ideal) = fun y : S1x16.Idx => Ideal.sin (angle 1107296256#32 16384 (y 1).val) := by
  funext y
  unfold val_main_v71 val_main_v68 val_main_v67 val_main_v66 val_main_v65 val_main_v64 val_main_v63 val_main_v62 val_main_v61 val_main_v60 val_main_v59 val_main_v58 val_main_v57 val_main_v56 val_main_v55 val_main_v15 val_main_v14 val_main_v13 angle
  pointwise [val_main_c, val_main_cst_3, val_main_cst_4, val_main_cst_5, val_main_cst_6]
  rw [show IntOp.addi 16384#32 0#32 = 16384#32 from by decide]

theorem v107_eq : val_main_v107 (F := Ideal) = fun y : S1x8.Idx => Ideal.cos (angle 1098907648#32 16384 (y 1).val) := by
  funext y
  unfold val_main_v107 val_main_v106 val_main_v105 val_main_v104 val_main_v103 val_main_v102 val_main_v101 val_main_v100 val_main_v99 val_main_v98 val_main_v97 val_main_v96 val_main_v95 val_main_v94 val_main_v93 val_main_v15 val_main_v14 val_main_v13 angle
  pointwise [val_main_c, val_main_cst_7, val_main_cst_8, val_main_cst_9, val_main_cst_10]
  rw [show IntOp.addi 16384#32 0#32 = 16384#32 from by decide]

theorem v109_eq : val_main_v109 (F := Ideal) = fun y : S1x8.Idx => Ideal.sin (angle 1098907648#32 16384 (y 1).val) := by
  funext y
  unfold val_main_v109 val_main_v106 val_main_v105 val_main_v104 val_main_v103 val_main_v102 val_main_v101 val_main_v100 val_main_v99 val_main_v98 val_main_v97 val_main_v96 val_main_v95 val_main_v94 val_main_v93 val_main_v15 val_main_v14 val_main_v13 angle
  pointwise [val_main_c, val_main_cst_7, val_main_cst_8, val_main_cst_9, val_main_cst_10]
  rw [show IntOp.addi 16384#32 0#32 = 16384#32 from by decide]

theorem v145_eq : val_main_v145 (F := Ideal) = fun y : S1x8.Idx => Ideal.cos (angle 1098907648#32 16384 (y 1).val) := by
  funext y
  unfold val_main_v145 val_main_v144 val_main_v143 val_main_v142 val_main_v141 val_main_v140 val_main_v139 val_main_v138 val_main_v137 val_main_v136 val_main_v135 val_main_v134 val_main_v133 val_main_v132 val_main_v131 val_main_v15 val_main_v14 val_main_v13 angle
  pointwise [val_main_c, val_main_cst_11, val_main_cst_12, val_main_cst_13, val_main_cst_14]
  rw [show IntOp.addi 16384#32 0#32 = 16384#32 from by decide]

theorem v147_eq : val_main_v147 (F := Ideal) = fun y : S1x8.Idx => Ideal.sin (angle 1098907648#32 16384 (y 1).val) := by
  funext y
  unfold val_main_v147 val_main_v144 val_main_v143 val_main_v142 val_main_v141 val_main_v140 val_main_v139 val_main_v138 val_main_v137 val_main_v136 val_main_v135 val_main_v134 val_main_v133 val_main_v132 val_main_v131 val_main_v15 val_main_v14 val_main_v13 angle
  pointwise [val_main_c, val_main_cst_11, val_main_cst_12, val_main_cst_13, val_main_cst_14]
  rw [show IntOp.addi 16384#32 0#32 = 16384#32 from by decide]

theorem v53_eq : val_main_v53 (F := Ideal) x0 x1 = (ropes (fun _ => 16384) 16 128 1107296256#32 3072 (prod x0 x1) : S32x1024.Idx → EReal) := by
  funext y
  have h0 : (y 0).val < 32 := (y 0).isLt
  have h1 : (y 1).val < 1024 := (y 1).isLt
  rw [val_main_v53_apply]
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v32
  rw [v31_eq, v33_eq]
  unfold val_main_v16 val_main_v5
  rw [v1_eq]
  unfold ropes
  generalize prod x0 x1 = X
  pointwise
  split
  · exact ropeAt_lo (fun _ => 16384) 16 128 1107296256#32 3072 X (y 0).val (y 1).val (by (try dsimp only) <;> omega) _ _ _ _ _ (by (try dsimp only) <;> omega) (by (try dsimp only) <;> omega) (by (try dsimp only) <;> omega) rfl (by (try dsimp only) <;> omega)
  · split
    · exact ropeAt_mid (fun _ => 16384) 16 128 1107296256#32 3072 X (y 0).val (y 1).val (by (try dsimp only) <;> omega) (by (try dsimp only) <;> omega) _ _ _ _ _ (by (try dsimp only) <;> omega) (by (try dsimp only) <;> omega) (by (try dsimp only) <;> omega) rfl (by (try dsimp only) <;> omega)
    · exact ropeAt_hi (fun _ => 16384) 16 128 1107296256#32 3072 X (y 0).val (y 1).val (by (try dsimp only) <;> omega) (by (try dsimp only) <;> omega) _ _ (by (try dsimp only) <;> omega) (by (try dsimp only) <;> omega)

theorem v91_eq : val_main_v91 (F := Ideal) x0 x1 = (ropes (fun _ => 16384) 16 128 1107296256#32 4096 (prod x0 x1) : S32x256.Idx → EReal) := by
  funext y
  have h0 : (y 0).val < 32 := (y 0).isLt
  have h1 : (y 1).val < 256 := (y 1).isLt
  rw [val_main_v91_apply]
  unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v70
  rw [v69_eq, v71_eq]
  unfold val_main_v54 val_main_v6
  rw [v1_eq]
  unfold ropes
  generalize prod x0 x1 = X
  pointwise
  split
  · exact ropeAt_lo (fun _ => 16384) 16 128 1107296256#32 4096 X (y 0).val (y 1).val (by (try dsimp only) <;> omega) _ _ _ _ _ (by (try dsimp only) <;> omega) (by (try dsimp only) <;> omega) (by (try dsimp only) <;> omega) rfl (by (try dsimp only) <;> omega)
  · split
    · exact ropeAt_mid (fun _ => 16384) 16 128 1107296256#32 4096 X (y 0).val (y 1).val (by (try dsimp only) <;> omega) (by (try dsimp only) <;> omega) _ _ _ _ _ (by (try dsimp only) <;> omega) (by (try dsimp only) <;> omega) (by (try dsimp only) <;> omega) rfl (by (try dsimp only) <;> omega)
    · exact ropeAt_hi (fun _ => 16384) 16 128 1107296256#32 4096 X (y 0).val (y 1).val (by (try dsimp only) <;> omega) (by (try dsimp only) <;> omega) _ _ (by (try dsimp only) <;> omega) (by (try dsimp only) <;> omega)

theorem v129_eq : val_main_v129 (F := Ideal) x0 x1 = (ropes (fun _ => 16384) 8 64 1098907648#32 4608 (prod x0 x1) : S32x1024.Idx → EReal) := by
  funext y
  have h0 : (y 0).val < 32 := (y 0).isLt
  have h1 : (y 1).val < 1024 := (y 1).isLt
  rw [val_main_v129_apply]
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v108
  rw [v107_eq, v109_eq]
  unfold val_main_v92 val_main_v8
  rw [v1_eq]
  unfold ropes
  generalize prod x0 x1 = X
  pointwise
  split
  · exact ropeAt_lo (fun _ => 16384) 8 64 1098907648#32 4608 X (y 0).val (y 1).val (by (try dsimp only) <;> omega) _ _ _ _ _ (by (try dsimp only) <;> omega) (by (try dsimp only) <;> omega) (by (try dsimp only) <;> omega) rfl (by (try dsimp only) <;> omega)
  · split
    · exact ropeAt_mid (fun _ => 16384) 8 64 1098907648#32 4608 X (y 0).val (y 1).val (by (try dsimp only) <;> omega) (by (try dsimp only) <;> omega) _ _ _ _ _ (by (try dsimp only) <;> omega) (by (try dsimp only) <;> omega) (by (try dsimp only) <;> omega) rfl (by (try dsimp only) <;> omega)
    · exact ropeAt_hi (fun _ => 16384) 8 64 1098907648#32 4608 X (y 0).val (y 1).val (by (try dsimp only) <;> omega) (by (try dsimp only) <;> omega) _ _ (by (try dsimp only) <;> omega) (by (try dsimp only) <;> omega)

theorem v167_eq : val_main_v167 (F := Ideal) x0 x1 = (ropes (fun _ => 16384) 8 64 1098907648#32 5632 (prod x0 x1) : S32x64.Idx → EReal) := by
  funext y
  have h0 : (y 0).val < 32 := (y 0).isLt
  have h1 : (y 1).val < 64 := (y 1).isLt
  rw [val_main_v167_apply]
  unfold val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v146
  rw [v145_eq, v147_eq]
  unfold val_main_v130 val_main_v9
  rw [v1_eq]
  unfold ropes
  generalize prod x0 x1 = X
  pointwise
  split
  · exact ropeAt_lo (fun _ => 16384) 8 64 1098907648#32 5632 X (y 0).val (y 1).val (by (try dsimp only) <;> omega) _ _ _ _ _ (by (try dsimp only) <;> omega) (by (try dsimp only) <;> omega) (by (try dsimp only) <;> omega) rfl (by (try dsimp only) <;> omega)
  · split
    · exact ropeAt_mid (fun _ => 16384) 8 64 1098907648#32 5632 X (y 0).val (y 1).val (by (try dsimp only) <;> omega) (by (try dsimp only) <;> omega) _ _ _ _ _ (by (try dsimp only) <;> omega) (by (try dsimp only) <;> omega) (by (try dsimp only) <;> omega) rfl (by (try dsimp only) <;> omega)
    · exact ropeAt_hi (fun _ => 16384) 8 64 1098907648#32 5632 X (y 0).val (y 1).val (by (try dsimp only) <;> omega) (by (try dsimp only) <;> omega) _ _ (by (try dsimp only) <;> omega) (by (try dsimp only) <;> omega)

theorem v3_eq : val_main_v3 (F := Ideal) x0 x1 = (cols 1024 (prod x0 x1) : S32x1024.Idx → EReal) := by
  funext y
  unfold val_main_v3
  rw [v1_eq]
  unfold cols
  generalize prod x0 x1 = X
  pointwise
  exact at2_of X _ _ _ _ rfl rfl

theorem v4_eq : val_main_v4 (F := Ideal) x0 x1 = (cols 2048 (prod x0 x1) : S32x1024.Idx → EReal) := by
  funext y
  unfold val_main_v4
  rw [v1_eq]
  unfold cols
  generalize prod x0 x1 = X
  pointwise
  exact at2_of X _ _ _ _ rfl rfl

theorem v168_eq : val_main_v168 (F := Ideal) x0 x1 = (cols 0 (prod x0 x1) : S32x1024.Idx → EReal) := by
  funext y
  unfold val_main_v168 val_main_v2
  rw [v1_eq]
  unfold cols
  generalize prod x0 x1 = X
  pointwise
  exact at2_of X _ _ _ _ rfl rfl

theorem v169_eq : val_main_v169 (F := Ideal) x0 x1 = (cols 1024 (prod x0 x1) : S32x1024.Idx → EReal) := by
  funext y
  unfold val_main_v169 val_main_v3
  rw [v1_eq]
  unfold cols
  generalize prod x0 x1 = X
  pointwise
  exact at2_of X _ _ _ _ rfl rfl

theorem v170_eq : val_main_v170 (F := Ideal) x0 x1 = (cols 2048 (prod x0 x1) : S32x1024.Idx → EReal) := by
  funext y
  unfold val_main_v170 val_main_v4
  rw [v1_eq]
  unfold cols
  generalize prod x0 x1 = X
  pointwise
  exact at2_of X _ _ _ _ rfl rfl

theorem v7_eq : val_main_v7 (F := Ideal) x0 x1 = (cols 4352 (prod x0 x1) : S32x256.Idx → EReal) := by
  funext y
  unfold val_main_v7
  rw [v1_eq]
  unfold cols
  generalize prod x0 x1 = X
  pointwise
  exact at2_of X _ _ _ _ rfl rfl

theorem v174_eq : val_main_v174 (F := Ideal) x0 x1 = (cols 4352 (prod x0 x1) : S32x256.Idx → EReal) := by
  funext y
  unfold val_main_v174 val_main_v7
  rw [v1_eq]
  unfold cols
  generalize prod x0 x1 = X
  pointwise
  exact at2_of X _ _ _ _ rfl rfl

theorem v10_eq : val_main_v10 (F := Ideal) x0 x1 = (cols 5696 (prod x0 x1) : S32x16.Idx → EReal) := by
  funext y
  unfold val_main_v10
  rw [v1_eq]
  unfold cols
  generalize prod x0 x1 = X
  pointwise
  exact at2_of X _ _ _ _ rfl rfl

theorem v171_eq : val_main_v171 (F := Ideal) x0 x1 = (ropes (fun _ => 16384) 16 128 1107296256#32 3072 (prod x0 x1) : S32x1024.Idx → EReal) := by
  funext y
  unfold val_main_v171
  rw [v53_eq]
  unfold ropes
  pointwise

theorem v172_eq : val_main_v172 (F := Ideal) x0 x1 = (ropes (fun _ => 16384) 8 64 1098907648#32 4608 (prod x0 x1) : S32x1024.Idx → EReal) := by
  funext y
  unfold val_main_v172
  rw [v129_eq]
  unfold ropes
  pointwise

theorem v173_eq : val_main_v173 (F := Ideal) x0 x1 = (ropes (fun _ => 16384) 16 128 1107296256#32 4096 (prod x0 x1) : S32x256.Idx → EReal) := by
  funext y
  unfold val_main_v173
  rw [v91_eq]
  unfold ropes
  pointwise

theorem v175_eq : val_main_v175 (F := Ideal) x0 x1 = (ropes (fun _ => 16384) 8 64 1098907648#32 5632 (prod x0 x1) : S32x64.Idx → EReal) := by
  funext y
  unfold val_main_v175
  rw [v167_eq]
  unfold ropes
  pointwise

end Cert.InSV.Ref

end
-- ==== Proof.InS.Value.lean ====
/- The results of the sample's input projection after its run, and the claim that they are the reference's. Every result is
   one block, written back at the last point. -/
module

public import proofs.«01_k».proof.Proof.InS.Blocks
public import proofs.«01_k».proof.Proof.InS.Ref
public import proofs.«01_k».proof.Proof.InS.InProjS.Frame
public import proofs.«01_k».proof.Defs

@[expose] public section

set_option maxRecDepth 16384

noncomputable section

open Idealize.ShloMosaic Idealize.ShloMosaic.TcCoe Idealize.ShloMosaic.Pipeline Idealize.SL.Sem

namespace Cert.InSV
open Cert.InPV

section Ker
open Cert.InPK Cert.InProjSIdeal Cert.InProjSIdeal.Gen Cert.InS.InProjSIdeal

variable (m : (ℓ : Loc nD τ sig) → Buf (Elt Ideal) ℓ) (ρ : Dev nD → PrngReg)

/-! ## Result 0 -/

abbrev res8 (c : Dev nD) : S32x1024.Idx → EReal := cols 0 (P m c)

theorem idx_8 : ∀ t : Fin cfg0.N, win0_8.index t (0 : Fin 2) = 0 ∧ win0_8.index t (1 : Fin 2) = 0 :=
  (by decide +kernel : ∀ t : Fin grid0.N, _)

theorem flushed8 (c : Dev nD) (t : Fin cfg0.N) :
    (dats m 0 c).flushed 8 t = ((cfg0.win 8).blk t).view.read (Elt Ideal) (res8 m c) := by
  show (cfg0.win 8).cut (grid0.coords t) ((dats m 0 c).after 8 t) = _
  rw [after0_8]
  obtain ⟨e0, e1⟩ := idx_8 t
  funext y
  have h0 : (y 0).val < 32 := (y 0).isLt
  have h1 : (y 1).val < 1024 := (y 1).isLt
  refine (o8_apply _ _ y).trans ?_
  refine (acc_0 m c t (y 0) (y 1).val h1).trans ?_
  show _ = at2 (P m c) (win0_8.index t (0 : Fin 2) * 32 + 1 * (y 0).val) (0 + (win0_8.index t (1 : Fin 2) * 1024 + 1 * (y 1).val))
  rw [e0, e1]
  exact congrArg₂ (at2 (P m c)) (by omega) (by omega)

theorem final8 (c : Dev nD) : (dats m 0 c).arrAt 8 cfg0.N = res8 m c :=
  (dats m 0 c).arrAt_eq_of_cover 8 _ (fun t _ => flushed8 m c t) (fun i => by
    have h0 : (i 0).val < 32 := (i 0).isLt
    have h1 : (i 1).val < 1024 := (i 1).isLt
    obtain ⟨e0, e1⟩ := idx_8 t0_5
    refine ⟨t0_5, (flush0_8 t0_5).mpr (by decide), ?_⟩
    show i ∈ ((View.whole main_v94_0).slice (win0_8.rect t0_5)).set
    rw [View.set_slice_whole, Rect.mem_set_unit]
    exact all2 (within 32 e0 (by omega)) (within 1024 e1 (by omega)))

/-! ## Result 1 -/

abbrev res9 (c : Dev nD) : S32x1024.Idx → EReal := cols 1024 (P m c)

theorem idx_9 : ∀ t : Fin cfg0.N, win0_9.index t (0 : Fin 2) = 0 ∧ win0_9.index t (1 : Fin 2) = 0 :=
  (by decide +kernel : ∀ t : Fin grid0.N, _)

theorem flushed9 (c : Dev nD) (t : Fin cfg0.N) :
    (dats m 0 c).flushed 9 t = ((cfg0.win 9).blk t).view.read (Elt Ideal) (res9 m c) := by
  show (cfg0.win 9).cut (grid0.coords t) ((dats m 0 c).after 9 t) = _
  rw [after0_9]
  obtain ⟨e0, e1⟩ := idx_9 t
  funext y
  have h0 : (y 0).val < 32 := (y 0).isLt
  have h1 : (y 1).val < 1024 := (y 1).isLt
  refine (o9_apply _ _ y).trans ?_
  refine (acc_1 m c t (y 0) (y 1).val h1).trans ?_
  show _ = at2 (P m c) (win0_9.index t (0 : Fin 2) * 32 + 1 * (y 0).val) (1024 + (win0_9.index t (1 : Fin 2) * 1024 + 1 * (y 1).val))
  rw [e0, e1]
  exact congrArg₂ (at2 (P m c)) (by omega) (by omega)

theorem final9 (c : Dev nD) : (dats m 0 c).arrAt 9 cfg0.N = res9 m c :=
  (dats m 0 c).arrAt_eq_of_cover 9 _ (fun t _ => flushed9 m c t) (fun i => by
    have h0 : (i 0).val < 32 := (i 0).isLt
    have h1 : (i 1).val < 1024 := (i 1).isLt
    obtain ⟨e0, e1⟩ := idx_9 t0_5
    refine ⟨t0_5, (flush0_9 t0_5).mpr (by decide), ?_⟩
    show i ∈ ((View.whole main_v94_1).slice (win0_9.rect t0_5)).set
    rw [View.set_slice_whole, Rect.mem_set_unit]
    exact all2 (within 32 e0 (by omega)) (within 1024 e1 (by omega)))

/-! ## Result 2 -/

abbrev res10 (c : Dev nD) : S32x1024.Idx → EReal := cols 1024 (P m c)

theorem idx_10 : ∀ t : Fin cfg0.N, win0_10.index t (0 : Fin 2) = 0 ∧ win0_10.index t (1 : Fin 2) = 0 :=
  (by decide +kernel : ∀ t : Fin grid0.N, _)

theorem flushed10 (c : Dev nD) (t : Fin cfg0.N) :
    (dats m 0 c).flushed 10 t = ((cfg0.win 10).blk t).view.read (Elt Ideal) (res10 m c) := by
  show (cfg0.win 10).cut (grid0.coords t) ((dats m 0 c).after 10 t) = _
  rw [after0_10]
  obtain ⟨e0, e1⟩ := idx_10 t
  funext y
  have h0 : (y 0).val < 32 := (y 0).isLt
  have h1 : (y 1).val < 1024 := (y 1).isLt
  refine (o10_apply _ _ y).trans ?_
  refine (acc_1 m c t (y 0) (y 1).val h1).trans ?_
  show _ = at2 (P m c) (win0_10.index t (0 : Fin 2) * 32 + 1 * (y 0).val) (1024 + (win0_10.index t (1 : Fin 2) * 1024 + 1 * (y 1).val))
  rw [e0, e1]
  exact congrArg₂ (at2 (P m c)) (by omega) (by omega)

theorem final10 (c : Dev nD) : (dats m 0 c).arrAt 10 cfg0.N = res10 m c :=
  (dats m 0 c).arrAt_eq_of_cover 10 _ (fun t _ => flushed10 m c t) (fun i => by
    have h0 : (i 0).val < 32 := (i 0).isLt
    have h1 : (i 1).val < 1024 := (i 1).isLt
    obtain ⟨e0, e1⟩ := idx_10 t0_5
    refine ⟨t0_5, (flush0_10 t0_5).mpr (by decide), ?_⟩
    show i ∈ ((View.whole main_v94_2).slice (win0_10.rect t0_5)).set
    rw [View.set_slice_whole, Rect.mem_set_unit]
    exact all2 (within 32 e0 (by omega)) (within 1024 e1 (by omega)))

/-! ## Result 3 -/

abbrev res11 (c : Dev nD) : S32x1024.Idx → EReal := cols 2048 (P m c)

theorem idx_11 : ∀ t : Fin cfg0.N, win0_11.index t (0 : Fin 2) = 0 ∧ win0_11.index t (1 : Fin 2) = 0 :=
  (by decide +kernel : ∀ t : Fin grid0.N, _)

theorem flushed11 (c : Dev nD) (t : Fin cfg0.N) :
    (dats m 0 c).flushed 11 t = ((cfg0.win 11).blk t).view.read (Elt Ideal) (res11 m c) := by
  show (cfg0.win 11).cut (grid0.coords t) ((dats m 0 c).after 11 t) = _
  rw [after0_11]
  obtain ⟨e0, e1⟩ := idx_11 t
  funext y
  have h0 : (y 0).val < 32 := (y 0).isLt
  have h1 : (y 1).val < 1024 := (y 1).isLt
  refine (o11_apply _ _ y).trans ?_
  refine (acc_2 m c t (y 0) (y 1).val h1).trans ?_
  show _ = at2 (P m c) (win0_11.index t (0 : Fin 2) * 32 + 1 * (y 0).val) (2048 + (win0_11.index t (1 : Fin 2) * 1024 + 1 * (y 1).val))
  rw [e0, e1]
  exact congrArg₂ (at2 (P m c)) (by omega) (by omega)

theorem final11 (c : Dev nD) : (dats m 0 c).arrAt 11 cfg0.N = res11 m c :=
  (dats m 0 c).arrAt_eq_of_cover 11 _ (fun t _ => flushed11 m c t) (fun i => by
    have h0 : (i 0).val < 32 := (i 0).isLt
    have h1 : (i 1).val < 1024 := (i 1).isLt
    obtain ⟨e0, e1⟩ := idx_11 t0_5
    refine ⟨t0_5, (flush0_11 t0_5).mpr (by decide), ?_⟩
    show i ∈ ((View.whole main_v94_3).slice (win0_11.rect t0_5)).set
    rw [View.set_slice_whole, Rect.mem_set_unit]
    exact all2 (within 32 e0 (by omega)) (within 1024 e1 (by omega)))

/-! ## Result 4 -/

abbrev res12 (c : Dev nD) : S32x1024.Idx → EReal := cols 2048 (P m c)

theorem idx_12 : ∀ t : Fin cfg0.N, win0_12.index t (0 : Fin 2) = 0 ∧ win0_12.index t (1 : Fin 2) = 0 :=
  (by decide +kernel : ∀ t : Fin grid0.N, _)

theorem flushed12 (c : Dev nD) (t : Fin cfg0.N) :
    (dats m 0 c).flushed 12 t = ((cfg0.win 12).blk t).view.read (Elt Ideal) (res12 m c) := by
  show (cfg0.win 12).cut (grid0.coords t) ((dats m 0 c).after 12 t) = _
  rw [after0_12]
  obtain ⟨e0, e1⟩ := idx_12 t
  funext y
  have h0 : (y 0).val < 32 := (y 0).isLt
  have h1 : (y 1).val < 1024 := (y 1).isLt
  refine (o12_apply _ _ y).trans ?_
  refine (acc_2 m c t (y 0) (y 1).val h1).trans ?_
  show _ = at2 (P m c) (win0_12.index t (0 : Fin 2) * 32 + 1 * (y 0).val) (2048 + (win0_12.index t (1 : Fin 2) * 1024 + 1 * (y 1).val))
  rw [e0, e1]
  exact congrArg₂ (at2 (P m c)) (by omega) (by omega)

theorem final12 (c : Dev nD) : (dats m 0 c).arrAt 12 cfg0.N = res12 m c :=
  (dats m 0 c).arrAt_eq_of_cover 12 _ (fun t _ => flushed12 m c t) (fun i => by
    have h0 : (i 0).val < 32 := (i 0).isLt
    have h1 : (i 1).val < 1024 := (i 1).isLt
    obtain ⟨e0, e1⟩ := idx_12 t0_5
    refine ⟨t0_5, (flush0_12 t0_5).mpr (by decide), ?_⟩
    show i ∈ ((View.whole main_v94_4).slice (win0_12.rect t0_5)).set
    rw [View.set_slice_whole, Rect.mem_set_unit]
    exact all2 (within 32 e0 (by omega)) (within 1024 e1 (by omega)))

/-! ## Result 5 -/

abbrev res13 (c : Dev nD) : S32x1024.Idx → EReal := ropes (fun _ => 16384) 16 128 1107296256#32 3072 (P m c)

theorem idx_13 : ∀ t : Fin cfg0.N, win0_13.index t (0 : Fin 2) = 0 ∧ win0_13.index t (1 : Fin 2) = 0 :=
  (by decide +kernel : ∀ t : Fin grid0.N, _)

theorem flushed13 (c : Dev nD) (t : Fin cfg0.N) :
    (dats m 0 c).flushed 13 t = ((cfg0.win 13).blk t).view.read (Elt Ideal) (res13 m c) := by
  show (cfg0.win 13).cut (grid0.coords t) ((dats m 0 c).after 13 t) = _
  rw [after0_13]
  obtain ⟨e0, e1⟩ := idx_13 t
  funext y
  have h0 : (y 0).val < 32 := (y 0).isLt
  have h1 : (y 1).val < 1024 := (y 1).isLt
  refine (o13_apply _ _ _ _ _ y).trans ?_
  refine (rot_rope (fun _ => 16384) 16 128 (by decide) (by decide) 1107296256#32 3072 (P m c) (y 0).val _ _ _ _ _ 0 (y 1).val (by omega) (by decide)
    (fun l => tab_2 m c t 3 (y 0) l) (fun l => tab_3 m c t 3 (y 0) l) (fun l => tab_4 m c t 3 (y 0) l)
    (fun l hl => (acc_3 m c t (y 0) _ (by omega)).trans (congrArg (at2 (P m c) _) (by omega)))).trans ?_
  show _ = ropeAt (fun _ => 16384) 16 128 1107296256#32 3072 (P m c) (win0_13.index t (0 : Fin 2) * 32 + 1 * (y 0).val) (win0_13.index t (1 : Fin 2) * 1024 + 1 * (y 1).val)
  rw [e0, e1]
  exact congrArg₂ (ropeAt (fun _ => 16384) 16 128 1107296256#32 3072 (P m c)) (by omega) (by omega)

theorem final13 (c : Dev nD) : (dats m 0 c).arrAt 13 cfg0.N = res13 m c :=
  (dats m 0 c).arrAt_eq_of_cover 13 _ (fun t _ => flushed13 m c t) (fun i => by
    have h0 : (i 0).val < 32 := (i 0).isLt
    have h1 : (i 1).val < 1024 := (i 1).isLt
    obtain ⟨e0, e1⟩ := idx_13 t0_5
    refine ⟨t0_5, (flush0_13 t0_5).mpr (by decide), ?_⟩
    show i ∈ ((View.whole main_v94_5).slice (win0_13.rect t0_5)).set
    rw [View.set_slice_whole, Rect.mem_set_unit]
    exact all2 (within 32 e0 (by omega)) (within 1024 e1 (by omega)))

/-! ## Result 6 -/

abbrev res14 (c : Dev nD) : S32x1024.Idx → EReal := ropes (fun _ => 16384) 8 64 1098907648#32 4608 (P m c)

theorem idx_14 : ∀ t : Fin cfg0.N, win0_14.index t (0 : Fin 2) = 0 ∧ win0_14.index t (1 : Fin 2) = 0 :=
  (by decide +kernel : ∀ t : Fin grid0.N, _)

theorem flushed14 (c : Dev nD) (t : Fin cfg0.N) :
    (dats m 0 c).flushed 14 t = ((cfg0.win 14).blk t).view.read (Elt Ideal) (res14 m c) := by
  show (cfg0.win 14).cut (grid0.coords t) ((dats m 0 c).after 14 t) = _
  rw [after0_14]
  obtain ⟨e0, e1⟩ := idx_14 t
  funext y
  have h0 : (y 0).val < 32 := (y 0).isLt
  have h1 : (y 1).val < 1024 := (y 1).isLt
  refine (o14_apply _ _ _ _ _ y).trans ?_
  refine (rot_rope (fun _ => 16384) 8 64 (by decide) (by decide) 1098907648#32 4608 (P m c) (y 0).val _ _ _ _ _ 0 (y 1).val (by omega) (by decide)
    (fun l => tab_5 m c t 4 (y 0) l) (fun l => tab_6 m c t 4 (y 0) l) (fun l => tab_7 m c t 4 (y 0) l)
    (fun l hl => (acc_4 m c t (y 0) _ (by omega)).trans (congrArg (at2 (P m c) _) (by omega)))).trans ?_
  show _ = ropeAt (fun _ => 16384) 8 64 1098907648#32 4608 (P m c) (win0_14.index t (0 : Fin 2) * 32 + 1 * (y 0).val) (win0_14.index t (1 : Fin 2) * 1024 + 1 * (y 1).val)
  rw [e0, e1]
  exact congrArg₂ (ropeAt (fun _ => 16384) 8 64 1098907648#32 4608 (P m c)) (by omega) (by omega)

theorem final14 (c : Dev nD) : (dats m 0 c).arrAt 14 cfg0.N = res14 m c :=
  (dats m 0 c).arrAt_eq_of_cover 14 _ (fun t _ => flushed14 m c t) (fun i => by
    have h0 : (i 0).val < 32 := (i 0).isLt
    have h1 : (i 1).val < 1024 := (i 1).isLt
    obtain ⟨e0, e1⟩ := idx_14 t0_5
    refine ⟨t0_5, (flush0_14 t0_5).mpr (by decide), ?_⟩
    show i ∈ ((View.whole main_v94_6).slice (win0_14.rect t0_5)).set
    rw [View.set_slice_whole, Rect.mem_set_unit]
    exact all2 (within 32 e0 (by omega)) (within 1024 e1 (by omega)))

/-! ## Result 7 -/

abbrev res15 (c : Dev nD) : S32x256.Idx → EReal := ropes (fun _ => 16384) 16 128 1107296256#32 4096 (P m c)

theorem idx_15 : ∀ t : Fin cfg0.N, win0_15.index t (0 : Fin 2) = 0 ∧ win0_15.index t (1 : Fin 2) = 0 :=
  (by decide +kernel : ∀ t : Fin grid0.N, _)

theorem flushed15 (c : Dev nD) (t : Fin cfg0.N) :
    (dats m 0 c).flushed 15 t = ((cfg0.win 15).blk t).view.read (Elt Ideal) (res15 m c) := by
  show (cfg0.win 15).cut (grid0.coords t) ((dats m 0 c).after 15 t) = _
  rw [after0_15]
  obtain ⟨e0, e1⟩ := idx_15 t
  funext y
  have h0 : (y 0).val < 32 := (y 0).isLt
  have h1 : (y 1).val < 256 := (y 1).isLt
  refine (o15_apply _ _ _ _ _ y).trans ?_
  refine (rot_rope (fun _ => 16384) 16 128 (by decide) (by decide) 1107296256#32 4096 (P m c) (y 0).val _ _ _ _ _ 0 (y 1).val (by omega) (by decide)
    (fun l => tab_2 m c t 5 (y 0) l) (fun l => tab_3 m c t 5 (y 0) l) (fun l => tab_4 m c t 5 (y 0) l)
    (fun l hl => (acc_5a m c t (y 0) _ (by omega) (by omega)).trans (congrArg (at2 (P m c) _) (by omega)))).trans ?_
  show _ = ropeAt (fun _ => 16384) 16 128 1107296256#32 4096 (P m c) (win0_15.index t (0 : Fin 2) * 32 + 1 * (y 0).val) (win0_15.index t (1 : Fin 2) * 256 + 1 * (y 1).val)
  rw [e0, e1]
  exact congrArg₂ (ropeAt (fun _ => 16384) 16 128 1107296256#32 4096 (P m c)) (by omega) (by omega)

theorem final15 (c : Dev nD) : (dats m 0 c).arrAt 15 cfg0.N = res15 m c :=
  (dats m 0 c).arrAt_eq_of_cover 15 _ (fun t _ => flushed15 m c t) (fun i => by
    have h0 : (i 0).val < 32 := (i 0).isLt
    have h1 : (i 1).val < 256 := (i 1).isLt
    obtain ⟨e0, e1⟩ := idx_15 t0_5
    refine ⟨t0_5, (flush0_15 t0_5).mpr (by decide), ?_⟩
    show i ∈ ((View.whole main_v94_7).slice (win0_15.rect t0_5)).set
    rw [View.set_slice_whole, Rect.mem_set_unit]
    exact all2 (within 32 e0 (by omega)) (within 256 e1 (by omega)))

/-! ## Result 8 -/

abbrev res16 (c : Dev nD) : S32x256.Idx → EReal := ropes (fun _ => 16384) 16 128 1107296256#32 4096 (P m c)

theorem idx_16 : ∀ t : Fin cfg0.N, win0_16.index t (0 : Fin 2) = 0 ∧ win0_16.index t (1 : Fin 2) = 0 :=
  (by decide +kernel : ∀ t : Fin grid0.N, _)

theorem flushed16 (c : Dev nD) (t : Fin cfg0.N) :
    (dats m 0 c).flushed 16 t = ((cfg0.win 16).blk t).view.read (Elt Ideal) (res16 m c) := by
  show (cfg0.win 16).cut (grid0.coords t) ((dats m 0 c).after 16 t) = _
  rw [after0_16]
  obtain ⟨e0, e1⟩ := idx_16 t
  funext y
  have h0 : (y 0).val < 32 := (y 0).isLt
  have h1 : (y 1).val < 256 := (y 1).isLt
  refine (o16_apply _ _ _ _ _ y).trans ?_
  refine (rot_rope (fun _ => 16384) 16 128 (by decide) (by decide) 1107296256#32 4096 (P m c) (y 0).val _ _ _ _ _ 0 (y 1).val (by omega) (by decide)
    (fun l => tab_2 m c t 5 (y 0) l) (fun l => tab_3 m c t 5 (y 0) l) (fun l => tab_4 m c t 5 (y 0) l)
    (fun l hl => (acc_5a m c t (y 0) _ (by omega) (by omega)).trans (congrArg (at2 (P m c) _) (by omega)))).trans ?_
  show _ = ropeAt (fun _ => 16384) 16 128 1107296256#32 4096 (P m c) (win0_16.index t (0 : Fin 2) * 32 + 1 * (y 0).val) (win0_16.index t (1 : Fin 2) * 256 + 1 * (y 1).val)
  rw [e0, e1]
  exact congrArg₂ (ropeAt (fun _ => 16384) 16 128 1107296256#32 4096 (P m c)) (by omega) (by omega)

theorem final16 (c : Dev nD) : (dats m 0 c).arrAt 16 cfg0.N = res16 m c :=
  (dats m 0 c).arrAt_eq_of_cover 16 _ (fun t _ => flushed16 m c t) (fun i => by
    have h0 : (i 0).val < 32 := (i 0).isLt
    have h1 : (i 1).val < 256 := (i 1).isLt
    obtain ⟨e0, e1⟩ := idx_16 t0_5
    refine ⟨t0_5, (flush0_16 t0_5).mpr (by decide), ?_⟩
    show i ∈ ((View.whole main_v94_8).slice (win0_16.rect t0_5)).set
    rw [View.set_slice_whole, Rect.mem_set_unit]
    exact all2 (within 32 e0 (by omega)) (within 256 e1 (by omega)))

/-! ## Result 9 -/

abbrev res17 (c : Dev nD) : S32x256.Idx → EReal := cols 4352 (P m c)

theorem idx_17 : ∀ t : Fin cfg0.N, win0_17.index t (0 : Fin 2) = 0 ∧ win0_17.index t (1 : Fin 2) = 0 :=
  (by decide +kernel : ∀ t : Fin grid0.N, _)

theorem flushed17 (c : Dev nD) (t : Fin cfg0.N) :
    (dats m 0 c).flushed 17 t = ((cfg0.win 17).blk t).view.read (Elt Ideal) (res17 m c) := by
  show (cfg0.win 17).cut (grid0.coords t) ((dats m 0 c).after 17 t) = _
  rw [after0_17]
  obtain ⟨e0, e1⟩ := idx_17 t
  funext y
  have h0 : (y 0).val < 32 := (y 0).isLt
  have h1 : (y 1).val < 256 := (y 1).isLt
  refine (o17_apply _ _ y).trans ?_
  refine (acc_5a m c t (y 0) (256 + (y 1).val) (by omega) (by omega)).trans ?_
  show _ = at2 (P m c) (win0_17.index t (0 : Fin 2) * 32 + 1 * (y 0).val) (4352 + (win0_17.index t (1 : Fin 2) * 256 + 1 * (y 1).val))
  rw [e0, e1]
  exact congrArg₂ (at2 (P m c)) (by omega) (by omega)

theorem final17 (c : Dev nD) : (dats m 0 c).arrAt 17 cfg0.N = res17 m c :=
  (dats m 0 c).arrAt_eq_of_cover 17 _ (fun t _ => flushed17 m c t) (fun i => by
    have h0 : (i 0).val < 32 := (i 0).isLt
    have h1 : (i 1).val < 256 := (i 1).isLt
    obtain ⟨e0, e1⟩ := idx_17 t0_5
    refine ⟨t0_5, (flush0_17 t0_5).mpr (by decide), ?_⟩
    show i ∈ ((View.whole main_v94_9).slice (win0_17.rect t0_5)).set
    rw [View.set_slice_whole, Rect.mem_set_unit]
    exact all2 (within 32 e0 (by omega)) (within 256 e1 (by omega)))

/-! ## Result 10 -/

abbrev res18 (c : Dev nD) : S32x256.Idx → EReal := cols 4352 (P m c)

theorem idx_18 : ∀ t : Fin cfg0.N, win0_18.index t (0 : Fin 2) = 0 ∧ win0_18.index t (1 : Fin 2) = 0 :=
  (by decide +kernel : ∀ t : Fin grid0.N, _)

theorem flushed18 (c : Dev nD) (t : Fin cfg0.N) :
    (dats m 0 c).flushed 18 t = ((cfg0.win 18).blk t).view.read (Elt Ideal) (res18 m c) := by
  show (cfg0.win 18).cut (grid0.coords t) ((dats m 0 c).after 18 t) = _
  rw [after0_18]
  obtain ⟨e0, e1⟩ := idx_18 t
  funext y
  have h0 : (y 0).val < 32 := (y 0).isLt
  have h1 : (y 1).val < 256 := (y 1).isLt
  refine (o18_apply _ _ y).trans ?_
  refine (acc_5a m c t (y 0) (256 + (y 1).val) (by omega) (by omega)).trans ?_
  show _ = at2 (P m c) (win0_18.index t (0 : Fin 2) * 32 + 1 * (y 0).val) (4352 + (win0_18.index t (1 : Fin 2) * 256 + 1 * (y 1).val))
  rw [e0, e1]
  exact congrArg₂ (at2 (P m c)) (by omega) (by omega)

theorem final18 (c : Dev nD) : (dats m 0 c).arrAt 18 cfg0.N = res18 m c :=
  (dats m 0 c).arrAt_eq_of_cover 18 _ (fun t _ => flushed18 m c t) (fun i => by
    have h0 : (i 0).val < 32 := (i 0).isLt
    have h1 : (i 1).val < 256 := (i 1).isLt
    obtain ⟨e0, e1⟩ := idx_18 t0_5
    refine ⟨t0_5, (flush0_18 t0_5).mpr (by decide), ?_⟩
    show i ∈ ((View.whole main_v94_10).slice (win0_18.rect t0_5)).set
    rw [View.set_slice_whole, Rect.mem_set_unit]
    exact all2 (within 32 e0 (by omega)) (within 256 e1 (by omega)))

/-! ## Result 11 -/

abbrev res19 (c : Dev nD) : S32x64.Idx → EReal := ropes (fun _ => 16384) 8 64 1098907648#32 5632 (P m c)

theorem idx_19 : ∀ t : Fin cfg0.N, win0_19.index t (0 : Fin 2) = 0 ∧ win0_19.index t (1 : Fin 2) = 0 :=
  (by decide +kernel : ∀ t : Fin grid0.N, _)

theorem flushed19 (c : Dev nD) (t : Fin cfg0.N) :
    (dats m 0 c).flushed 19 t = ((cfg0.win 19).blk t).view.read (Elt Ideal) (res19 m c) := by
  show (cfg0.win 19).cut (grid0.coords t) ((dats m 0 c).after 19 t) = _
  rw [after0_19]
  obtain ⟨e0, e1⟩ := idx_19 t
  funext y
  have h0 : (y 0).val < 32 := (y 0).isLt
  have h1 : (y 1).val < 64 := (y 1).isLt
  refine (o19_apply _ _ _ _ _ y).trans ?_
  refine (rot_rope (fun _ => 16384) 8 64 (by decide) (by decide) 1098907648#32 5632 (P m c) (y 0).val _ _ _ _ _ 512 (y 1).val (by omega) (by decide)
    (fun l => tab_5 m c t 5 (y 0) l) (fun l => tab_6 m c t 5 (y 0) l) (fun l => tab_7 m c t 5 (y 0) l)
    (fun l hl => (acc_5b m c t (y 0) _ (by omega) (by omega)).trans (congrArg (at2 (P m c) _) (by omega)))).trans ?_
  show _ = ropeAt (fun _ => 16384) 8 64 1098907648#32 5632 (P m c) (win0_19.index t (0 : Fin 2) * 32 + 1 * (y 0).val) (win0_19.index t (1 : Fin 2) * 64 + 1 * (y 1).val)
  rw [e0, e1]
  exact congrArg₂ (ropeAt (fun _ => 16384) 8 64 1098907648#32 5632 (P m c)) (by omega) (by omega)

theorem final19 (c : Dev nD) : (dats m 0 c).arrAt 19 cfg0.N = res19 m c :=
  (dats m 0 c).arrAt_eq_of_cover 19 _ (fun t _ => flushed19 m c t) (fun i => by
    have h0 : (i 0).val < 32 := (i 0).isLt
    have h1 : (i 1).val < 64 := (i 1).isLt
    obtain ⟨e0, e1⟩ := idx_19 t0_5
    refine ⟨t0_5, (flush0_19 t0_5).mpr (by decide), ?_⟩
    show i ∈ ((View.whole main_v94_11).slice (win0_19.rect t0_5)).set
    rw [View.set_slice_whole, Rect.mem_set_unit]
    exact all2 (within 32 e0 (by omega)) (within 64 e1 (by omega)))

/-! ## Result 12 -/

abbrev res20 (c : Dev nD) : S32x64.Idx → EReal := ropes (fun _ => 16384) 8 64 1098907648#32 5632 (P m c)

theorem idx_20 : ∀ t : Fin cfg0.N, win0_20.index t (0 : Fin 2) = 0 ∧ win0_20.index t (1 : Fin 2) = 0 :=
  (by decide +kernel : ∀ t : Fin grid0.N, _)

theorem flushed20 (c : Dev nD) (t : Fin cfg0.N) :
    (dats m 0 c).flushed 20 t = ((cfg0.win 20).blk t).view.read (Elt Ideal) (res20 m c) := by
  show (cfg0.win 20).cut (grid0.coords t) ((dats m 0 c).after 20 t) = _
  rw [after0_20]
  obtain ⟨e0, e1⟩ := idx_20 t
  funext y
  have h0 : (y 0).val < 32 := (y 0).isLt
  have h1 : (y 1).val < 64 := (y 1).isLt
  refine (o20_apply _ _ _ _ _ y).trans ?_
  refine (rot_rope (fun _ => 16384) 8 64 (by decide) (by decide) 1098907648#32 5632 (P m c) (y 0).val _ _ _ _ _ 512 (y 1).val (by omega) (by decide)
    (fun l => tab_5 m c t 5 (y 0) l) (fun l => tab_6 m c t 5 (y 0) l) (fun l => tab_7 m c t 5 (y 0) l)
    (fun l hl => (acc_5b m c t (y 0) _ (by omega) (by omega)).trans (congrArg (at2 (P m c) _) (by omega)))).trans ?_
  show _ = ropeAt (fun _ => 16384) 8 64 1098907648#32 5632 (P m c) (win0_20.index t (0 : Fin 2) * 32 + 1 * (y 0).val) (win0_20.index t (1 : Fin 2) * 64 + 1 * (y 1).val)
  rw [e0, e1]
  exact congrArg₂ (ropeAt (fun _ => 16384) 8 64 1098907648#32 5632 (P m c)) (by omega) (by omega)

theorem final20 (c : Dev nD) : (dats m 0 c).arrAt 20 cfg0.N = res20 m c :=
  (dats m 0 c).arrAt_eq_of_cover 20 _ (fun t _ => flushed20 m c t) (fun i => by
    have h0 : (i 0).val < 32 := (i 0).isLt
    have h1 : (i 1).val < 64 := (i 1).isLt
    obtain ⟨e0, e1⟩ := idx_20 t0_5
    refine ⟨t0_5, (flush0_20 t0_5).mpr (by decide), ?_⟩
    show i ∈ ((View.whole main_v94_12).slice (win0_20.rect t0_5)).set
    rw [View.set_slice_whole, Rect.mem_set_unit]
    exact all2 (within 32 e0 (by omega)) (within 64 e1 (by omega)))

/-! ## Result 13 -/

abbrev res21 (c : Dev nD) : S32x16.Idx → EReal := cols 5696 (P m c)

theorem idx_21 : ∀ t : Fin cfg0.N, win0_21.index t (0 : Fin 2) = 0 ∧ win0_21.index t (1 : Fin 2) = 0 :=
  (by decide +kernel : ∀ t : Fin grid0.N, _)

theorem flushed21 (c : Dev nD) (t : Fin cfg0.N) :
    (dats m 0 c).flushed 21 t = ((cfg0.win 21).blk t).view.read (Elt Ideal) (res21 m c) := by
  show (cfg0.win 21).cut (grid0.coords t) ((dats m 0 c).after 21 t) = _
  rw [after0_21]
  obtain ⟨e0, e1⟩ := idx_21 t
  funext y
  have h0 : (y 0).val < 32 := (y 0).isLt
  have h1 : (y 1).val < 16 := (y 1).isLt
  refine (o21_apply _ _ y).trans ?_
  refine (acc_5c m c t (y 0) (640 + (y 1).val) (by omega) (by omega)).trans ?_
  show _ = at2 (P m c) (win0_21.index t (0 : Fin 2) * 32 + 1 * (y 0).val) (5696 + (win0_21.index t (1 : Fin 2) * 16 + 1 * (y 1).val))
  rw [e0, e1]
  exact congrArg₂ (at2 (P m c)) (by omega) (by omega)

theorem final21 (c : Dev nD) : (dats m 0 c).arrAt 21 cfg0.N = res21 m c :=
  (dats m 0 c).arrAt_eq_of_cover 21 _ (fun t _ => flushed21 m c t) (fun i => by
    have h0 : (i 0).val < 32 := (i 0).isLt
    have h1 : (i 1).val < 16 := (i 1).isLt
    obtain ⟨e0, e1⟩ := idx_21 t0_5
    refine ⟨t0_5, (flush0_21 t0_5).mpr (by decide), ?_⟩
    show i ∈ ((View.whole main_v94_13).slice (win0_21.rect t0_5)).set
    rw [View.set_slice_whole, Rect.mem_set_unit]
    exact all2 (within 32 e0 (by omega)) (within 16 e1 (by omega)))

set_option maxHeartbeats 4000000 in
/-- The kernel's run: its results and its arguments. -/
theorem run_result : θ_run defs (onTc (τ := τ) (main (F := Ideal))) ⟨m, fun _ => 0, ρ⟩ fun r => ∀ c : Dev nD,
      r.2.mem ((c.tc : Thread nD τ).loc main_v94_0) = res8 m c
      ∧ r.2.mem ((c.tc : Thread nD τ).loc main_v94_1) = res9 m c
      ∧ r.2.mem ((c.tc : Thread nD τ).loc main_v94_2) = res10 m c
      ∧ r.2.mem ((c.tc : Thread nD τ).loc main_v94_3) = res11 m c
      ∧ r.2.mem ((c.tc : Thread nD τ).loc main_v94_4) = res12 m c
      ∧ r.2.mem ((c.tc : Thread nD τ).loc main_v94_5) = res13 m c
      ∧ r.2.mem ((c.tc : Thread nD τ).loc main_v94_6) = res14 m c
      ∧ r.2.mem ((c.tc : Thread nD τ).loc main_v94_7) = res15 m c
      ∧ r.2.mem ((c.tc : Thread nD τ).loc main_v94_8) = res16 m c
      ∧ r.2.mem ((c.tc : Thread nD τ).loc main_v94_9) = res17 m c
      ∧ r.2.mem ((c.tc : Thread nD τ).loc main_v94_10) = res18 m c
      ∧ r.2.mem ((c.tc : Thread nD τ).loc main_v94_11) = res19 m c
      ∧ r.2.mem ((c.tc : Thread nD τ).loc main_v94_12) = res20 m c
      ∧ r.2.mem ((c.tc : Thread nD τ).loc main_v94_13) = res21 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).1 8).trans (final8 m c),
      ((h.1 c).1 9).trans (final9 m c),
      ((h.1 c).1 10).trans (final10 m c),
      ((h.1 c).1 11).trans (final11 m c),
      ((h.1 c).1 12).trans (final12 m c),
      ((h.1 c).1 13).trans (final13 m c),
      ((h.1 c).1 14).trans (final14 m c),
      ((h.1 c).1 15).trans (final15 m c),
      ((h.1 c).1 16).trans (final16 m c),
      ((h.1 c).1 17).trans (final17 m c),
      ((h.1 c).1 18).trans (final18 m c),
      ((h.1 c).1 19).trans (final19 m c),
      ((h.1 c).1 20).trans (final20 m c),
      ((h.1 c).1 21).trans (final21 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_main m ρ)

end Ker

theorem prod_congr {h h' : (⟨2, ![32, 2048]⟩ : Shape).Idx → EReal} {w w' : (⟨2, ![2048, 9808]⟩ : Shape).Idx → EReal} (e : h' = h) (e' : w' = w) :
    prod h' w' = prod h w := by rw [e, e']

set_option maxHeartbeats 4000000 in
/-- The claim: from arguments that agree the kernel and the reference end with the same fourteen results. -/
theorem algebraic : Cert.algebraic_InProjSIdeal_InProjSRefIdeal := by
  intro m g m' g' _ hagree
  refine ⟨fun c => res8 m c, fun c => res9 m c, fun c => res10 m c, fun c => res11 m c, fun c => res12 m c, fun c => res13 m c, fun c => res14 m c, fun c => res15 m c, fun c => res16 m c, fun c => res17 m c, fun c => res18 m c, fun c => res19 m c, fun c => res20 m c, fun c => res21 m c, run_result m g, ?_⟩
  refine (θ_run _ _ _).mono (fun r h c => ?_) (InProjSRefIdeal.Value.run m' g')
  have e := prod_congr (hagree c).1 (hagree c).2
  obtain ⟨r8, r9, r10, r11, r12, r13, r14, r15, r16, r17, r18, r19, r20, r21, ra, rb⟩ := h c
  exact ⟨r8.trans ((InProjSRefIdeal.Read.val_main_v168_eq _).trans ((Ref.v168_eq _ _).trans (congrArg (cols 0) e))),
    r9.trans ((InProjSRefIdeal.Read.val_main_v3_eq _).trans ((Ref.v3_eq _ _).trans (congrArg (cols 1024) e))),
    r10.trans ((InProjSRefIdeal.Read.val_main_v169_eq _).trans ((Ref.v169_eq _ _).trans (congrArg (cols 1024) e))),
    r11.trans ((InProjSRefIdeal.Read.val_main_v4_eq _).trans ((Ref.v4_eq _ _).trans (congrArg (cols 2048) e))),
    r12.trans ((InProjSRefIdeal.Read.val_main_v170_eq _).trans ((Ref.v170_eq _ _).trans (congrArg (cols 2048) e))),
    r13.trans ((InProjSRefIdeal.Read.val_main_v171_eq _).trans ((Ref.v171_eq _ _).trans (congrArg (ropes (fun _ => 16384) 16 128 1107296256#32 3072) e))),
    r14.trans ((InProjSRefIdeal.Read.val_main_v172_eq _).trans ((Ref.v172_eq _ _).trans (congrArg (ropes (fun _ => 16384) 8 64 1098907648#32 4608) e))),
    r15.trans ((InProjSRefIdeal.Read.val_main_v91_eq _).trans ((Ref.v91_eq _ _).trans (congrArg (ropes (fun _ => 16384) 16 128 1107296256#32 4096) e))),
    r16.trans ((InProjSRefIdeal.Read.val_main_v173_eq _).trans ((Ref.v173_eq _ _).trans (congrArg (ropes (fun _ => 16384) 16 128 1107296256#32 4096) e))),
    r17.trans ((InProjSRefIdeal.Read.val_main_v7_eq _).trans ((Ref.v7_eq _ _).trans (congrArg (cols 4352) e))),
    r18.trans ((InProjSRefIdeal.Read.val_main_v174_eq _).trans ((Ref.v174_eq _ _).trans (congrArg (cols 4352) e))),
    r19.trans ((InProjSRefIdeal.Read.val_main_v167_eq _).trans ((Ref.v167_eq _ _).trans (congrArg (ropes (fun _ => 16384) 8 64 1098907648#32 5632) e))),
    r20.trans ((InProjSRefIdeal.Read.val_main_v175_eq _).trans ((Ref.v175_eq _ _).trans (congrArg (ropes (fun _ => 16384) 8 64 1098907648#32 5632) e))),
    r21.trans ((InProjSRefIdeal.Read.val_main_v10_eq _).trans ((Ref.v10_eq _ _).trans (congrArg (cols 5696) e))), ra, rb⟩

end Cert.InSV

end
-- ==== Proof.lean ====
/- The claims put together: the frames of the calls, the two named constants, and the value claim of each call. -/
module

public import proofs.«01_k».proof.Defs
public import proofs.«01_k».proof.Proof.SB.Kernel.Frame
public import proofs.«01_k».proof.Proof.SB.KernelIdeal.Frame
public import proofs.«01_k».proof.Proof.Ffn.Value
public import proofs.«01_k».proof.Proof.FfnA.Value
public import proofs.«01_k».proof.Proof.Gates.Value
public import proofs.«01_k».proof.Proof.Merge.Value
public import proofs.«01_k».proof.Proof.Gen.Ffn.Frame
public import proofs.«01_k».proof.Proof.Gen.FfnA.Frame
public import proofs.«01_k».proof.Proof.Gen.Gates.Frame
public import proofs.«01_k».proof.Proof.Gen.Merge.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.SB.Value
public import proofs.«01_k».proof.Proof.InP.Value
public import proofs.«01_k».proof.Proof.InS.Value
public import proofs.«01_k».proof.Proof.InS.InProjS.Frame
public import proofs.«01_k».proof.Proof.InP.InProj.Frame
public import Idealize.ShloMosaic.Lib.Quiescent

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnA.Gen.facts, Cert.FfnAIdeal.Gen.facts, Cert.FfnARefIdeal.Gen.facts, Cert.Gates.Gen.facts, Cert.GatesIdeal.Gen.facts, Cert.GatesRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.InProjS.Gen.facts, Cert.InProjSIdeal.Gen.facts, Cert.InProjSRefIdeal.Gen.facts, Cert.SBV.pre_facts,
    fun m ρ _ => Cert.SB.Kernel.frame_run m ρ,
    fun m ρ _ => Cert.SB.KernelIdeal.frame_run m ρ,
    fun m ρ _ => Cert.SB.KernelIdeal.frame_run m ρ,
    fun m g _ => (θ_run _ _ _).mono (fun r h => ⟨fun c => (h c).2, sem_eq_zero_of_no_sems rfl _⟩) (Cert.ReferenceIdeal.Value.run m g),
    fun m g _ => (θ_run _ _ _).mono (fun r h => ⟨fun c => (h c).2, sem_eq_zero_of_no_sems rfl _⟩) (Cert.ReferenceIdeal.Value.run m g),
    fun m ρ _ => Cert.Ffn.Gen.frame m ρ,
    fun m ρ _ => Cert.FfnIdeal.Gen.frame m ρ,
    fun m g _ => (θ_run _ _ _).mono (fun r h => ⟨fun c => (h c).2, sem_eq_zero_of_no_sems rfl _⟩) (Cert.FfnRefIdeal.Value.run m g),
    fun m ρ _ => Cert.FfnA.Gen.frame m ρ,
    fun m ρ _ => Cert.FfnAIdeal.Gen.frame m ρ,
    fun m g _ => (θ_run _ _ _).mono (fun r h => ⟨fun c => (h c).2.2, sem_eq_zero_of_no_sems rfl _⟩) (Cert.FfnARefIdeal.Value.run m g),
    fun m ρ _ => Cert.Gates.Gen.frame m ρ,
    fun m ρ _ => Cert.GatesIdeal.Gen.frame m ρ,
    fun m g _ => (θ_run _ _ _).mono (fun r h => ⟨fun c => (h c).2, sem_eq_zero_of_no_sems rfl _⟩) (Cert.GatesRefIdeal.Value.run m g),
    fun m ρ _ => Cert.Merge.Gen.frame m ρ,
    fun m ρ _ => Cert.MergeIdeal.Gen.frame m ρ,
    fun m g _ => (θ_run _ _ _).mono (fun r h => ⟨fun c => (h c).2.2, sem_eq_zero_of_no_sems rfl _⟩) (Cert.MergeRefIdeal.Value.run m g),
    fun m ρ _ => Cert.InP.InProj.frame_run m ρ,
    fun m ρ _ => Cert.InP.InProjIdeal.frame_run m ρ,
    fun m g _ => (θ_run _ _ _).mono (fun r h => ⟨fun c => (h c).2.2.2.2.2.2.2.2.2.2.2.2.2.2, sem_eq_zero_of_no_sems rfl _⟩) (Cert.InProjRefIdeal.Value.run m g),
    fun m ρ _ => Cert.InS.InProjS.frame_run m ρ,
    fun m ρ _ => Cert.InS.InProjSIdeal.frame_run m ρ,
    fun m g _ => (θ_run _ _ _).mono (fun r h => ⟨fun c => (h c).2.2.2.2.2.2.2.2.2.2.2.2.2.2, sem_eq_zero_of_no_sems rfl _⟩) (Cert.InProjSRefIdeal.Value.run m g),
    IdealRules.named_const.statement Cert.KernelIdeal.κ "log_zero" .f32 0xC2DC0000#32 ⊥ rfl,
    @Cert.SBV.algebraic Cert.SBV.pre_facts,
    trivial,
    Cert.FfnV.algebraic,
    trivial,
    Cert.FfnAV.algebraic,
    trivial,
    Cert.GatesV.algebraic,
    trivial,
    Cert.MergeV.algebraic,
    trivial,
    Cert.InPV.algebraic,
    trivial,
    Cert.InSV.algebraic⟩

end Cert.Proof

end
